-- ==== Defs.lean ====
def Pre_Kernel [hPre_finite_paged : Cert.Pre_finite_paged.Facts] (m : (ℓ : Loc Cert.Kernel.nD Cert.Kernel.τ Cert.Kernel.sig) → Buf (Elt Bits) ℓ) : Prop :=
  ∀ c : Dev Cert.Kernel.nD,
    (Cert.Pre_finite_paged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_paged : Cert.Pre_finite_paged.Facts] (m : (ℓ : Loc Cert.KernelIdeal.nD Cert.KernelIdeal.τ Cert.KernelIdeal.sig) → Buf (Elt Ideal) ℓ) : Prop :=
  ∀ c : Dev Cert.KernelIdeal.nD,
    (Cert.Pre_finite_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_paged : Cert.Pre_finite_paged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_FinishSample (m : (ℓ : Loc Cert.FinishSample.nD Cert.FinishSample.τ Cert.FinishSample.sig) → Buf (Elt Bits) ℓ) : Prop :=
  True

def Pre_FinishSampleIdeal (m : (ℓ : Loc Cert.FinishSampleIdeal.nD Cert.FinishSampleIdeal.τ Cert.FinishSampleIdeal.sig) → Buf (Elt Ideal) ℓ) : Prop :=
  True

def Pre_FinishSampleReferenceIdeal (m : (ℓ : Loc Cert.FinishSampleReferenceIdeal.nD Cert.FinishSampleReferenceIdeal.τ Cert.FinishSampleReferenceIdeal.sig) → Buf (Elt Ideal) ℓ) : Prop :=
  True

def Pre_AttendSample [hPre_finite_selected : Cert.Pre_finite_selected.Facts] (m : (ℓ : Loc Cert.AttendSample.nD Cert.AttendSample.τ Cert.AttendSample.sig) → Buf (Elt Bits) ℓ) : Prop :=
  ∀ c : Dev Cert.AttendSample.nD,
    (Cert.Pre_finite_selected.fn (F := Bits) (m ((c.tc : Thread Cert.AttendSample.nD Cert.AttendSample.τ).loc Cert.AttendSample.main_arg0)) (m ((c.tc : Thread Cert.AttendSample.nD Cert.AttendSample.τ).loc Cert.AttendSample.main_arg1)) (m ((c.tc : Thread Cert.AttendSample.nD Cert.AttendSample.τ).loc Cert.AttendSample.main_arg2)) (m ((c.tc : Thread Cert.AttendSample.nD Cert.AttendSample.τ).loc Cert.AttendSample.main_arg3)) (m ((c.tc : Thread Cert.AttendSample.nD Cert.AttendSample.τ).loc Cert.AttendSample.main_arg4)) (m ((c.tc : Thread Cert.AttendSample.nD Cert.AttendSample.τ).loc Cert.AttendSample.main_arg5)) (m ((c.tc : Thread Cert.AttendSample.nD Cert.AttendSample.τ).loc Cert.AttendSample.main_arg6)) (m ((c.tc : Thread Cert.AttendSample.nD Cert.AttendSample.τ).loc Cert.AttendSample.main_arg7)) (m ((c.tc : Thread Cert.AttendSample.nD Cert.AttendSample.τ).loc Cert.AttendSample.main_arg8))) = (fun _ => 1#1)

def Pre_AttendSampleIdeal [hPre_finite_selected : Cert.Pre_finite_selected.Facts] (m : (ℓ : Loc Cert.AttendSampleIdeal.nD Cert.AttendSampleIdeal.τ Cert.AttendSampleIdeal.sig) → Buf (Elt Ideal) ℓ) : Prop :=
  ∀ c : Dev Cert.AttendSampleIdeal.nD,
    (Cert.Pre_finite_selected.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5)) (m ((c.tc : Thread Cert.AttendSampleIdeal.nD Cert.AttendSampleIdeal.τ).loc Cert.AttendSampleIdeal.main_arg6)) (m ((c.tc : Thread Cert.AttendSampleIdeal.nD Cert.AttendSampleIdeal.τ).loc Cert.AttendSampleIdeal.main_arg7)) (m ((c.tc : Thread Cert.AttendSampleIdeal.nD Cert.AttendSampleIdeal.τ).loc Cert.AttendSampleIdeal.main_arg8))) = (fun _ => 1#1)

def Pre_AttendSampleReferenceIdeal [hPre_finite_selected : Cert.Pre_finite_selected.Facts] (m : (ℓ : Loc Cert.AttendSampleReferenceIdeal.nD Cert.AttendSampleReferenceIdeal.τ Cert.AttendSampleReferenceIdeal.sig) → Buf (Elt Ideal) ℓ) : Prop :=
  ∀ c : Dev Cert.AttendSampleReferenceIdeal.nD,
    (Cert.Pre_finite_selected.fn (F := Ideal) (m ((c.tc : Thread Cert.AttendSampleReferenceIdeal.nD Cert.AttendSampleReferenceIdeal.τ).loc Cert.AttendSampleReferenceIdeal.main_arg0)) (m ((c.tc : Thread Cert.AttendSampleReferenceIdeal.nD Cert.AttendSampleReferenceIdeal.τ).loc Cert.AttendSampleReferenceIdeal.main_arg1)) (m ((c.tc : Thread Cert.AttendSampleReferenceIdeal.nD Cert.AttendSampleReferenceIdeal.τ).loc Cert.AttendSampleReferenceIdeal.main_arg2)) (m ((c.tc : Thread Cert.AttendSampleReferenceIdeal.nD Cert.AttendSampleReferenceIdeal.τ).loc Cert.AttendSampleReferenceIdeal.main_arg3)) (m ((c.tc : Thread Cert.AttendSampleReferenceIdeal.nD Cert.AttendSampleReferenceIdeal.τ).loc Cert.AttendSampleReferenceIdeal.main_arg4)) (m ((c.tc : Thread Cert.AttendSampleReferenceIdeal.nD Cert.AttendSampleReferenceIdeal.τ).loc Cert.AttendSampleReferenceIdeal.main_arg5)) (m ((c.tc : Thread Cert.AttendSampleReferenceIdeal.nD Cert.AttendSampleReferenceIdeal.τ).loc Cert.AttendSampleReferenceIdeal.main_arg6)) (m ((c.tc : Thread Cert.AttendSampleReferenceIdeal.nD Cert.AttendSampleReferenceIdeal.τ).loc Cert.AttendSampleReferenceIdeal.main_arg7)) (m ((c.tc : Thread Cert.AttendSampleReferenceIdeal.nD Cert.AttendSampleReferenceIdeal.τ).loc Cert.AttendSampleReferenceIdeal.main_arg8))) = (fun _ => 1#1)

def quiescent_Kernel [hKernel : Cert.Kernel.Facts] [hPre_finite_paged : Cert.Pre_finite_paged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite_paged : Cert.Pre_finite_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite_paged : Cert.Pre_finite_paged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7))
      ∧ r.2.sem = fun _ => 0)

def quiescent_FinishSample [hFinishSample : Cert.FinishSample.Facts] : Prop :=
  ∀ (m : (ℓ : Loc Cert.FinishSample.nD Cert.FinishSample.τ Cert.FinishSample.sig) → Buf (Elt Bits) ℓ) (g : Dev Cert.FinishSample.nD → PrngReg), Pre_FinishSample m →
    θ_run (Cert.FinishSample.defs (F := Bits)) (onTc (τ := Cert.FinishSample.τ) (Cert.FinishSample.main (F := Bits))) ⟨m, fun _ => 0, g⟩ (fun r => (∀ c : Dev Cert.FinishSample.nD,
      r.2.mem ((c.tc : Thread Cert.FinishSample.nD Cert.FinishSample.τ).loc Cert.FinishSample.main_arg0) = m ((c.tc : Thread Cert.FinishSample.nD Cert.FinishSample.τ).loc Cert.FinishSample.main_arg0)
      ∧ r.2.mem ((c.tc : Thread Cert.FinishSample.nD Cert.FinishSample.τ).loc Cert.FinishSample.main_arg1) = m ((c.tc : Thread Cert.FinishSample.nD Cert.FinishSample.τ).loc Cert.FinishSample.main_arg1)
      ∧ r.2.mem ((c.tc : Thread Cert.FinishSample.nD Cert.FinishSample.τ).loc Cert.FinishSample.main_arg2) = m ((c.tc : Thread Cert.FinishSample.nD Cert.FinishSample.τ).loc Cert.FinishSample.main_arg2)
      ∧ r.2.mem ((c.tc : Thread Cert.FinishSample.nD Cert.FinishSample.τ).loc Cert.FinishSample.main_arg3) = m ((c.tc : Thread Cert.FinishSample.nD Cert.FinishSample.τ).loc Cert.FinishSample.main_arg3)
      ∧ r.2.mem ((c.tc : Thread Cert.FinishSample.nD Cert.FinishSample.τ).loc Cert.FinishSample.main_arg4) = m ((c.tc : Thread Cert.FinishSample.nD Cert.FinishSample.τ).loc Cert.FinishSample.main_arg4)
      ∧ r.2.mem ((c.tc : Thread Cert.FinishSample.nD Cert.FinishSample.τ).loc Cert.FinishSample.main_arg5) = m ((c.tc : Thread Cert.FinishSample.nD Cert.FinishSample.τ).loc Cert.FinishSample.main_arg5)
      ∧ r.2.mem ((c.tc : Thread Cert.FinishSample.nD Cert.FinishSample.τ).loc Cert.FinishSample.main_arg6) = m ((c.tc : Thread Cert.FinishSample.nD Cert.FinishSample.τ).loc Cert.FinishSample.main_arg6)
      ∧ r.2.mem ((c.tc : Thread Cert.FinishSample.nD Cert.FinishSample.τ).loc Cert.FinishSample.main_arg7) = m ((c.tc : Thread Cert.FinishSample.nD Cert.FinishSample.τ).loc Cert.FinishSample.main_arg7)
      ∧ r.2.mem ((c.tc : Thread Cert.FinishSample.nD Cert.FinishSample.τ).loc Cert.FinishSample.main_arg8) = m ((c.tc : Thread Cert.FinishSample.nD Cert.FinishSample.τ).loc Cert.FinishSample.main_arg8)
      ∧ r.2.mem ((c.tc : Thread Cert.FinishSample.nD Cert.FinishSample.τ).loc Cert.FinishSample.main_arg9) = m ((c.tc : Thread Cert.FinishSample.nD Cert.FinishSample.τ).loc Cert.FinishSample.main_arg9))
      ∧ r.2.sem = fun _ => 0)

def quiescent_FinishSampleIdeal [hFinishSampleIdeal : Cert.FinishSampleIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg), Pre_FinishSampleIdeal m →
    θ_run (Cert.FinishSampleIdeal.defs (F := Ideal)) (onTc (τ := Cert.FinishSampleIdeal.τ) (Cert.FinishSampleIdeal.main (F := Ideal))) ⟨m, fun _ => 0, g⟩ (fun r => (∀ c : Dev Cert.FinishSampleIdeal.nD,
      r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
      ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
      ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
      ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
      ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
      ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
      ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
      ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7)
      ∧ r.2.mem ((c.tc : Thread Cert.FinishSampleIdeal.nD Cert.FinishSampleIdeal.τ).loc Cert.FinishSampleIdeal.main_arg8) = m ((c.tc : Thread Cert.FinishSampleIdeal.nD Cert.FinishSampleIdeal.τ).loc Cert.FinishSampleIdeal.main_arg8)
      ∧ r.2.mem ((c.tc : Thread Cert.FinishSampleIdeal.nD Cert.FinishSampleIdeal.τ).loc Cert.FinishSampleIdeal.main_arg9) = m ((c.tc : Thread Cert.FinishSampleIdeal.nD Cert.FinishSampleIdeal.τ).loc Cert.FinishSampleIdeal.main_arg9))
      ∧ r.2.sem = fun _ => 0)

def quiescent_FinishSampleReferenceIdeal [hFinishSampleReferenceIdeal : Cert.FinishSampleReferenceIdeal.Facts] : Prop :=
  ∀ (m : (ℓ : Loc Cert.FinishSampleReferenceIdeal.nD Cert.FinishSampleReferenceIdeal.τ Cert.FinishSampleReferenceIdeal.sig) → Buf (Elt Ideal) ℓ) (g : Dev Cert.FinishSampleReferenceIdeal.nD → PrngReg), Pre_FinishSampleReferenceIdeal m →
    θ_run (Cert.FinishSampleReferenceIdeal.defs (F := Ideal)) (onTc (τ := Cert.FinishSampleReferenceIdeal.τ) (Cert.FinishSampleReferenceIdeal.main (F := Ideal))) ⟨m, fun _ => 0, g⟩ (fun r => (∀ c : Dev Cert.FinishSampleReferenceIdeal.nD,
      r.2.mem ((c.tc : Thread Cert.FinishSampleReferenceIdeal.nD Cert.FinishSampleReferenceIdeal.τ).loc Cert.FinishSampleReferenceIdeal.main_arg0) = m ((c.tc : Thread Cert.FinishSampleReferenceIdeal.nD Cert.FinishSampleReferenceIdeal.τ).loc Cert.FinishSampleReferenceIdeal.main_arg0)
      ∧ r.2.mem ((c.tc : Thread Cert.FinishSampleReferenceIdeal.nD Cert.FinishSampleReferenceIdeal.τ).loc Cert.FinishSampleReferenceIdeal.main_arg1) = m ((c.tc : Thread Cert.FinishSampleReferenceIdeal.nD Cert.FinishSampleReferenceIdeal.τ).loc Cert.FinishSampleReferenceIdeal.main_arg1)
      ∧ r.2.mem ((c.tc : Thread Cert.FinishSampleReferenceIdeal.nD Cert.FinishSampleReferenceIdeal.τ).loc Cert.FinishSampleReferenceIdeal.main_arg2) = m ((c.tc : Thread Cert.FinishSampleReferenceIdeal.nD Cert.FinishSampleReferenceIdeal.τ).loc Cert.FinishSampleReferenceIdeal.main_arg2)
      ∧ r.2.mem ((c.tc : Thread Cert.FinishSampleReferenceIdeal.nD Cert.FinishSampleReferenceIdeal.τ).loc Cert.FinishSampleReferenceIdeal.main_arg3) = m ((c.tc : Thread Cert.FinishSampleReferenceIdeal.nD Cert.FinishSampleReferenceIdeal.τ).loc Cert.FinishSampleReferenceIdeal.main_arg3)
      ∧ r.2.mem ((c.tc : Thread Cert.FinishSampleReferenceIdeal.nD Cert.FinishSampleReferenceIdeal.τ).loc Cert.FinishSampleReferenceIdeal.main_arg4) = m ((c.tc : Thread Cert.FinishSampleReferenceIdeal.nD Cert.FinishSampleReferenceIdeal.τ).loc Cert.FinishSampleReferenceIdeal.main_arg4)
      ∧ r.2.mem ((c.tc : Thread Cert.FinishSampleReferenceIdeal.nD Cert.FinishSampleReferenceIdeal.τ).loc Cert.FinishSampleReferenceIdeal.main_arg5) = m ((c.tc : Thread Cert.FinishSampleReferenceIdeal.nD Cert.FinishSampleReferenceIdeal.τ).loc Cert.FinishSampleReferenceIdeal.main_arg5)
      ∧ r.2.mem ((c.tc : Thread Cert.FinishSampleReferenceIdeal.nD Cert.FinishSampleReferenceIdeal.τ).loc Cert.FinishSampleReferenceIdeal.main_arg6) = m ((c.tc : Thread Cert.FinishSampleReferenceIdeal.nD Cert.FinishSampleReferenceIdeal.τ).loc Cert.FinishSampleReferenceIdeal.main_arg6)
      ∧ r.2.mem ((c.tc : Thread Cert.FinishSampleReferenceIdeal.nD Cert.FinishSampleReferenceIdeal.τ).loc Cert.FinishSampleReferenceIdeal.main_arg7) = m ((c.tc : Thread Cert.FinishSampleReferenceIdeal.nD Cert.FinishSampleReferenceIdeal.τ).loc Cert.FinishSampleReferenceIdeal.main_arg7)
      ∧ r.2.mem ((c.tc : Thread Cert.FinishSampleReferenceIdeal.nD Cert.FinishSampleReferenceIdeal.τ).loc Cert.FinishSampleReferenceIdeal.main_arg8) = m ((c.tc : Thread Cert.FinishSampleReferenceIdeal.nD Cert.FinishSampleReferenceIdeal.τ).loc Cert.FinishSampleReferenceIdeal.main_arg8)
      ∧ r.2.mem ((c.tc : Thread Cert.FinishSampleReferenceIdeal.nD Cert.FinishSampleReferenceIdeal.τ).loc Cert.FinishSampleReferenceIdeal.main_arg9) = m ((c.tc : Thread Cert.FinishSampleReferenceIdeal.nD Cert.FinishSampleReferenceIdeal.τ).loc Cert.FinishSampleReferenceIdeal.main_arg9))
      ∧ r.2.sem = fun _ => 0)

def quiescent_AttendSample [hAttendSample : Cert.AttendSample.Facts] [hPre_finite_selected : Cert.Pre_finite_selected.Facts] : Prop :=
  ∀ (m : (ℓ : Loc Cert.AttendSample.nD Cert.AttendSample.τ Cert.AttendSample.sig) → Buf (Elt Bits) ℓ) (g : Dev Cert.AttendSample.nD → PrngReg), Pre_AttendSample m →
    θ_run (Cert.AttendSample.defs (F := Bits)) (onTc (τ := Cert.AttendSample.τ) (Cert.AttendSample.main (F := Bits))) ⟨m, fun _ => 0, g⟩ (fun r => (∀ c : Dev Cert.AttendSample.nD,
      r.2.mem ((c.tc : Thread Cert.AttendSample.nD Cert.AttendSample.τ).loc Cert.AttendSample.main_arg0) = m ((c.tc : Thread Cert.AttendSample.nD Cert.AttendSample.τ).loc Cert.AttendSample.main_arg0)
      ∧ r.2.mem ((c.tc : Thread Cert.AttendSample.nD Cert.AttendSample.τ).loc Cert.AttendSample.main_arg1) = m ((c.tc : Thread Cert.AttendSample.nD Cert.AttendSample.τ).loc Cert.AttendSample.main_arg1)
      ∧ r.2.mem ((c.tc : Thread Cert.AttendSample.nD Cert.AttendSample.τ).loc Cert.AttendSample.main_arg2) = m ((c.tc : Thread Cert.AttendSample.nD Cert.AttendSample.τ).loc Cert.AttendSample.main_arg2)
      ∧ r.2.mem ((c.tc : Thread Cert.AttendSample.nD Cert.AttendSample.τ).loc Cert.AttendSample.main_arg3) = m ((c.tc : Thread Cert.AttendSample.nD Cert.AttendSample.τ).loc Cert.AttendSample.main_arg3)
      ∧ r.2.mem ((c.tc : Thread Cert.AttendSample.nD Cert.AttendSample.τ).loc Cert.AttendSample.main_arg4) = m ((c.tc : Thread Cert.AttendSample.nD Cert.AttendSample.τ).loc Cert.AttendSample.main_arg4)
      ∧ r.2.mem ((c.tc : Thread Cert.AttendSample.nD Cert.AttendSample.τ).loc Cert.AttendSample.main_arg5) = m ((c.tc : Thread Cert.AttendSample.nD Cert.AttendSample.τ).loc Cert.AttendSample.main_arg5)
      ∧ r.2.mem ((c.tc : Thread Cert.AttendSample.nD Cert.AttendSample.τ).loc Cert.AttendSample.main_arg6) = m ((c.tc : Thread Cert.AttendSample.nD Cert.AttendSample.τ).loc Cert.AttendSample.main_arg6)
      ∧ r.2.mem ((c.tc : Thread Cert.AttendSample.nD Cert.AttendSample.τ).loc Cert.AttendSample.main_arg7) = m ((c.tc : Thread Cert.AttendSample.nD Cert.AttendSample.τ).loc Cert.AttendSample.main_arg7)
      ∧ r.2.mem ((c.tc : Thread Cert.AttendSample.nD Cert.AttendSample.τ).loc Cert.AttendSample.main_arg8) = m ((c.tc : Thread Cert.AttendSample.nD Cert.AttendSample.τ).loc Cert.AttendSample.main_arg8))
      ∧ r.2.sem = fun _ => 0)

def quiescent_AttendSampleIdeal [hAttendSampleIdeal : Cert.AttendSampleIdeal.Facts] [hPre_finite_selected : Cert.Pre_finite_selected.Facts] : Prop :=
  ∀ (m : (ℓ : Loc Cert.AttendSampleIdeal.nD Cert.AttendSampleIdeal.τ Cert.AttendSampleIdeal.sig) → Buf (Elt Ideal) ℓ) (g : Dev Cert.AttendSampleIdeal.nD → PrngReg), Pre_AttendSampleIdeal m →
    θ_run (Cert.AttendSampleIdeal.defs (F := Ideal)) (onTc (τ := Cert.AttendSampleIdeal.τ) (Cert.AttendSampleIdeal.main (F := Ideal))) ⟨m, fun _ => 0, g⟩ (fun r => (∀ c : Dev Cert.AttendSampleIdeal.nD,
      r.2.mem ((c.tc : Thread Cert.AttendSampleIdeal.nD Cert.AttendSampleIdeal.τ).loc Cert.AttendSampleIdeal.main_arg0) = m ((c.tc : Thread Cert.AttendSampleIdeal.nD Cert.AttendSampleIdeal.τ).loc Cert.AttendSampleIdeal.main_arg0)
      ∧ r.2.mem ((c.tc : Thread Cert.AttendSampleIdeal.nD Cert.AttendSampleIdeal.τ).loc Cert.AttendSampleIdeal.main_arg1) = m ((c.tc : Thread Cert.AttendSampleIdeal.nD Cert.AttendSampleIdeal.τ).loc Cert.AttendSampleIdeal.main_arg1)
      ∧ r.2.mem ((c.tc : Thread Cert.AttendSampleIdeal.nD Cert.AttendSampleIdeal.τ).loc Cert.AttendSampleIdeal.main_arg2) = m ((c.tc : Thread Cert.AttendSampleIdeal.nD Cert.AttendSampleIdeal.τ).loc Cert.AttendSampleIdeal.main_arg2)
      ∧ r.2.mem ((c.tc : Thread Cert.AttendSampleIdeal.nD Cert.AttendSampleIdeal.τ).loc Cert.AttendSampleIdeal.main_arg3) = m ((c.tc : Thread Cert.AttendSampleIdeal.nD Cert.AttendSampleIdeal.τ).loc Cert.AttendSampleIdeal.main_arg3)
      ∧ r.2.mem ((c.tc : Thread Cert.AttendSampleIdeal.nD Cert.AttendSampleIdeal.τ).loc Cert.AttendSampleIdeal.main_arg4) = m ((c.tc : Thread Cert.AttendSampleIdeal.nD Cert.AttendSampleIdeal.τ).loc Cert.AttendSampleIdeal.main_arg4)
      ∧ r.2.mem ((c.tc : Thread Cert.AttendSampleIdeal.nD Cert.AttendSampleIdeal.τ).loc Cert.AttendSampleIdeal.main_arg5) = m ((c.tc : Thread Cert.AttendSampleIdeal.nD Cert.AttendSampleIdeal.τ).loc Cert.AttendSampleIdeal.main_arg5)
      ∧ r.2.mem ((c.tc : Thread Cert.AttendSampleIdeal.nD Cert.AttendSampleIdeal.τ).loc Cert.AttendSampleIdeal.main_arg6) = m ((c.tc : Thread Cert.AttendSampleIdeal.nD Cert.AttendSampleIdeal.τ).loc Cert.AttendSampleIdeal.main_arg6)
      ∧ r.2.mem ((c.tc : Thread Cert.AttendSampleIdeal.nD Cert.AttendSampleIdeal.τ).loc Cert.AttendSampleIdeal.main_arg7) = m ((c.tc : Thread Cert.AttendSampleIdeal.nD Cert.AttendSampleIdeal.τ).loc Cert.AttendSampleIdeal.main_arg7)
      ∧ r.2.mem ((c.tc : Thread Cert.AttendSampleIdeal.nD Cert.AttendSampleIdeal.τ).loc Cert.AttendSampleIdeal.main_arg8) = m ((c.tc : Thread Cert.AttendSampleIdeal.nD Cert.AttendSampleIdeal.τ).loc Cert.AttendSampleIdeal.main_arg8))
      ∧ r.2.sem = fun _ => 0)

def quiescent_AttendSampleReferenceIdeal [hAttendSampleReferenceIdeal : Cert.AttendSampleReferenceIdeal.Facts] [hPre_finite_selected : Cert.Pre_finite_selected.Facts] : Prop :=
  ∀ (m : (ℓ : Loc Cert.AttendSampleReferenceIdeal.nD Cert.AttendSampleReferenceIdeal.τ Cert.AttendSampleReferenceIdeal.sig) → Buf (Elt Ideal) ℓ) (g : Dev Cert.AttendSampleReferenceIdeal.nD → PrngReg), Pre_AttendSampleReferenceIdeal m →
    θ_run (Cert.AttendSampleReferenceIdeal.defs (F := Ideal)) (onTc (τ := Cert.AttendSampleReferenceIdeal.τ) (Cert.AttendSampleReferenceIdeal.main (F := Ideal))) ⟨m, fun _ => 0, g⟩ (fun r => (∀ c : Dev Cert.AttendSampleReferenceIdeal.nD,
      r.2.mem ((c.tc : Thread Cert.AttendSampleReferenceIdeal.nD Cert.AttendSampleReferenceIdeal.τ).loc Cert.AttendSampleReferenceIdeal.main_arg0) = m ((c.tc : Thread Cert.AttendSampleReferenceIdeal.nD Cert.AttendSampleReferenceIdeal.τ).loc Cert.AttendSampleReferenceIdeal.main_arg0)
      ∧ r.2.mem ((c.tc : Thread Cert.AttendSampleReferenceIdeal.nD Cert.AttendSampleReferenceIdeal.τ).loc Cert.AttendSampleReferenceIdeal.main_arg1) = m ((c.tc : Thread Cert.AttendSampleReferenceIdeal.nD Cert.AttendSampleReferenceIdeal.τ).loc Cert.AttendSampleReferenceIdeal.main_arg1)
      ∧ r.2.mem ((c.tc : Thread Cert.AttendSampleReferenceIdeal.nD Cert.AttendSampleReferenceIdeal.τ).loc Cert.AttendSampleReferenceIdeal.main_arg2) = m ((c.tc : Thread Cert.AttendSampleReferenceIdeal.nD Cert.AttendSampleReferenceIdeal.τ).loc Cert.AttendSampleReferenceIdeal.main_arg2)
      ∧ r.2.mem ((c.tc : Thread Cert.AttendSampleReferenceIdeal.nD Cert.AttendSampleReferenceIdeal.τ).loc Cert.AttendSampleReferenceIdeal.main_arg3) = m ((c.tc : Thread Cert.AttendSampleReferenceIdeal.nD Cert.AttendSampleReferenceIdeal.τ).loc Cert.AttendSampleReferenceIdeal.main_arg3)
      ∧ r.2.mem ((c.tc : Thread Cert.AttendSampleReferenceIdeal.nD Cert.AttendSampleReferenceIdeal.τ).loc Cert.AttendSampleReferenceIdeal.main_arg4) = m ((c.tc : Thread Cert.AttendSampleReferenceIdeal.nD Cert.AttendSampleReferenceIdeal.τ).loc Cert.AttendSampleReferenceIdeal.main_arg4)
      ∧ r.2.mem ((c.tc : Thread Cert.AttendSampleReferenceIdeal.nD Cert.AttendSampleReferenceIdeal.τ).loc Cert.AttendSampleReferenceIdeal.main_arg5) = m ((c.tc : Thread Cert.AttendSampleReferenceIdeal.nD Cert.AttendSampleReferenceIdeal.τ).loc Cert.AttendSampleReferenceIdeal.main_arg5)
      ∧ r.2.mem ((c.tc : Thread Cert.AttendSampleReferenceIdeal.nD Cert.AttendSampleReferenceIdeal.τ).loc Cert.AttendSampleReferenceIdeal.main_arg6) = m ((c.tc : Thread Cert.AttendSampleReferenceIdeal.nD Cert.AttendSampleReferenceIdeal.τ).loc Cert.AttendSampleReferenceIdeal.main_arg6)
      ∧ r.2.mem ((c.tc : Thread Cert.AttendSampleReferenceIdeal.nD Cert.AttendSampleReferenceIdeal.τ).loc Cert.AttendSampleReferenceIdeal.main_arg7) = m ((c.tc : Thread Cert.AttendSampleReferenceIdeal.nD Cert.AttendSampleReferenceIdeal.τ).loc Cert.AttendSampleReferenceIdeal.main_arg7)
      ∧ r.2.mem ((c.tc : Thread Cert.AttendSampleReferenceIdeal.nD Cert.AttendSampleReferenceIdeal.τ).loc Cert.AttendSampleReferenceIdeal.main_arg8) = m ((c.tc : Thread Cert.AttendSampleReferenceIdeal.nD Cert.AttendSampleReferenceIdeal.τ).loc Cert.AttendSampleReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_own_half [hKernelIdeal : Cert.KernelIdeal.Facts] [hReferenceIdeal : Cert.ReferenceIdeal.Facts] [hPre_finite_paged : Cert.Pre_finite_paged.Facts] [hOn_own_half : Cert.On_own_half.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 8, 128]⟩ : Shape).Idx, (Cert.On_own_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v34_0) i = v0 c i)
          ∧ (∀ i : (⟨3, ![128, 8, 128]⟩ : Shape).Idx, (Cert.On_own_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v34_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 8, 128]⟩ : Shape).Idx, (Cert.On_own_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v95) i = v0 c i)
          ∧ (∀ i : (⟨3, ![128, 8, 128]⟩ : Shape).Idx, (Cert.On_own_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v96) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v10_0)) (v1 : (c : Dev Cert.ProjectIdeal.nD) → Buf (Elt Ideal) ((c.tc : Thread Cert.ProjectIdeal.nD Cert.ProjectIdeal.τ).loc Cert.ProjectIdeal.main_v10_2)) (v2 : (c : Dev Cert.ProjectIdeal.nD) → Buf (Elt Ideal) ((c.tc : Thread Cert.ProjectIdeal.nD Cert.ProjectIdeal.τ).loc Cert.ProjectIdeal.main_v10_3)) (v3 : (c : Dev Cert.ProjectIdeal.nD) → Buf (Elt Ideal) ((c.tc : Thread Cert.ProjectIdeal.nD Cert.ProjectIdeal.τ).loc Cert.ProjectIdeal.main_v10_4)) (v4 : (c : Dev Cert.ProjectIdeal.nD) → Buf (Elt Ideal) ((c.tc : Thread Cert.ProjectIdeal.nD Cert.ProjectIdeal.τ).loc Cert.ProjectIdeal.main_v10_9)) (v5 : (c : Dev Cert.ProjectIdeal.nD) → Buf (Elt Ideal) ((c.tc : Thread Cert.ProjectIdeal.nD Cert.ProjectIdeal.τ).loc Cert.ProjectIdeal.main_v10_10)) (v6 : (c : Dev Cert.ProjectIdeal.nD) → Buf (Elt Ideal) ((c.tc : Thread Cert.ProjectIdeal.nD Cert.ProjectIdeal.τ).loc Cert.ProjectIdeal.main_v10_11)) (v7 : (c : Dev Cert.ProjectIdeal.nD) → Buf (Elt Ideal) ((c.tc : Thread Cert.ProjectIdeal.nD Cert.ProjectIdeal.τ).loc Cert.ProjectIdeal.main_v10_12)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v10_0) = v0 c
          ∧ r.2.mem ((c.tc : Thread Cert.ProjectIdeal.nD Cert.ProjectIdeal.τ).loc Cert.ProjectIdeal.main_v10_2) = v1 c
          ∧ r.2.mem ((c.tc : Thread Cert.ProjectIdeal.nD Cert.ProjectIdeal.τ).loc Cert.ProjectIdeal.main_v10_3) = v2 c
          ∧ r.2.mem ((c.tc : Thread Cert.ProjectIdeal.nD Cert.ProjectIdeal.τ).loc Cert.ProjectIdeal.main_v10_4) = v3 c
          ∧ r.2.mem ((c.tc : Thread Cert.ProjectIdeal.nD Cert.ProjectIdeal.τ).loc Cert.ProjectIdeal.main_v10_9) = v4 c
          ∧ r.2.mem ((c.tc : Thread Cert.ProjectIdeal.nD Cert.ProjectIdeal.τ).loc Cert.ProjectIdeal.main_v10_10) = v5 c
          ∧ r.2.mem ((c.tc : Thread Cert.ProjectIdeal.nD Cert.ProjectIdeal.τ).loc Cert.ProjectIdeal.main_v10_11) = v6 c
          ∧ r.2.mem ((c.tc : Thread Cert.ProjectIdeal.nD Cert.ProjectIdeal.τ).loc Cert.ProjectIdeal.main_v10_12) = v7 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v27) = v0 c
          ∧ r.2.mem ((c.tc : Thread Cert.ProjectReferenceIdeal.nD Cert.ProjectReferenceIdeal.τ).loc Cert.ProjectReferenceIdeal.main_v28) = v1 c
          ∧ r.2.mem ((c.tc : Thread Cert.ProjectReferenceIdeal.nD Cert.ProjectReferenceIdeal.τ).loc Cert.ProjectReferenceIdeal.main_v29) = v2 c
          ∧ r.2.mem ((c.tc : Thread Cert.ProjectReferenceIdeal.nD Cert.ProjectReferenceIdeal.τ).loc Cert.ProjectReferenceIdeal.main_v30) = v3 c
          ∧ r.2.mem ((c.tc : Thread Cert.ProjectReferenceIdeal.nD Cert.ProjectReferenceIdeal.τ).loc Cert.ProjectReferenceIdeal.main_v41) = v4 c
          ∧ r.2.mem ((c.tc : Thread Cert.ProjectReferenceIdeal.nD Cert.ProjectReferenceIdeal.τ).loc Cert.ProjectReferenceIdeal.main_v43) = v5 c
          ∧ r.2.mem ((c.tc : Thread Cert.ProjectReferenceIdeal.nD Cert.ProjectReferenceIdeal.τ).loc Cert.ProjectReferenceIdeal.main_v44) = v6 c
          ∧ r.2.mem ((c.tc : Thread Cert.ProjectReferenceIdeal.nD Cert.ProjectReferenceIdeal.τ).loc Cert.ProjectReferenceIdeal.main_v46) = v7 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)) →
    ∃ (v0 : (c : Dev Cert.ProjectSampleIdeal.nD) → Buf (Elt Ideal) ((c.tc : Thread Cert.ProjectSampleIdeal.nD Cert.ProjectSampleIdeal.τ).loc Cert.ProjectSampleIdeal.main_v10_0)) (v1 : (c : Dev Cert.ProjectSampleIdeal.nD) → Buf (Elt Ideal) ((c.tc : Thread Cert.ProjectSampleIdeal.nD Cert.ProjectSampleIdeal.τ).loc Cert.ProjectSampleIdeal.main_v10_2)) (v2 : (c : Dev Cert.ProjectSampleIdeal.nD) → Buf (Elt Ideal) ((c.tc : Thread Cert.ProjectSampleIdeal.nD Cert.ProjectSampleIdeal.τ).loc Cert.ProjectSampleIdeal.main_v10_3)) (v3 : (c : Dev Cert.ProjectSampleIdeal.nD) → Buf (Elt Ideal) ((c.tc : Thread Cert.ProjectSampleIdeal.nD Cert.ProjectSampleIdeal.τ).loc Cert.ProjectSampleIdeal.main_v10_4)) (v4 : (c : Dev Cert.ProjectSampleIdeal.nD) → Buf (Elt Ideal) ((c.tc : Thread Cert.ProjectSampleIdeal.nD Cert.ProjectSampleIdeal.τ).loc Cert.ProjectSampleIdeal.main_v10_9)) (v5 : (c : Dev Cert.ProjectSampleIdeal.nD) → Buf (Elt Ideal) ((c.tc : Thread Cert.ProjectSampleIdeal.nD Cert.ProjectSampleIdeal.τ).loc Cert.ProjectSampleIdeal.main_v10_10)) (v6 : (c : Dev Cert.ProjectSampleIdeal.nD) → Buf (Elt Ideal) ((c.tc : Thread Cert.ProjectSampleIdeal.nD Cert.ProjectSampleIdeal.τ).loc Cert.ProjectSampleIdeal.main_v10_11)) (v7 : (c : Dev Cert.ProjectSampleIdeal.nD) → Buf (Elt Ideal) ((c.tc : Thread Cert.ProjectSampleIdeal.nD Cert.ProjectSampleIdeal.τ).loc Cert.ProjectSampleIdeal.main_v10_12)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v10_0) = v0 c
          ∧ r.2.mem ((c.tc : Thread Cert.ProjectSampleIdeal.nD Cert.ProjectSampleIdeal.τ).loc Cert.ProjectSampleIdeal.main_v10_2) = v1 c
          ∧ r.2.mem ((c.tc : Thread Cert.ProjectSampleIdeal.nD Cert.ProjectSampleIdeal.τ).loc Cert.ProjectSampleIdeal.main_v10_3) = v2 c
          ∧ r.2.mem ((c.tc : Thread Cert.ProjectSampleIdeal.nD Cert.ProjectSampleIdeal.τ).loc Cert.ProjectSampleIdeal.main_v10_4) = v3 c
          ∧ r.2.mem ((c.tc : Thread Cert.ProjectSampleIdeal.nD Cert.ProjectSampleIdeal.τ).loc Cert.ProjectSampleIdeal.main_v10_9) = v4 c
          ∧ r.2.mem ((c.tc : Thread Cert.ProjectSampleIdeal.nD Cert.ProjectSampleIdeal.τ).loc Cert.ProjectSampleIdeal.main_v10_10) = v5 c
          ∧ r.2.mem ((c.tc : Thread Cert.ProjectSampleIdeal.nD Cert.ProjectSampleIdeal.τ).loc Cert.ProjectSampleIdeal.main_v10_11) = v6 c
          ∧ r.2.mem ((c.tc : Thread Cert.ProjectSampleIdeal.nD Cert.ProjectSampleIdeal.τ).loc Cert.ProjectSampleIdeal.main_v10_12) = v7 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v27) = v0 c
          ∧ r.2.mem ((c.tc : Thread Cert.ProjectSampleReferenceIdeal.nD Cert.ProjectSampleReferenceIdeal.τ).loc Cert.ProjectSampleReferenceIdeal.main_v28) = v1 c
          ∧ r.2.mem ((c.tc : Thread Cert.ProjectSampleReferenceIdeal.nD Cert.ProjectSampleReferenceIdeal.τ).loc Cert.ProjectSampleReferenceIdeal.main_v29) = v2 c
          ∧ r.2.mem ((c.tc : Thread Cert.ProjectSampleReferenceIdeal.nD Cert.ProjectSampleReferenceIdeal.τ).loc Cert.ProjectSampleReferenceIdeal.main_v30) = v3 c
          ∧ r.2.mem ((c.tc : Thread Cert.ProjectSampleReferenceIdeal.nD Cert.ProjectSampleReferenceIdeal.τ).loc Cert.ProjectSampleReferenceIdeal.main_v41) = v4 c
          ∧ r.2.mem ((c.tc : Thread Cert.ProjectSampleReferenceIdeal.nD Cert.ProjectSampleReferenceIdeal.τ).loc Cert.ProjectSampleReferenceIdeal.main_v43) = v5 c
          ∧ r.2.mem ((c.tc : Thread Cert.ProjectSampleReferenceIdeal.nD Cert.ProjectSampleReferenceIdeal.τ).loc Cert.ProjectSampleReferenceIdeal.main_v44) = v6 c
          ∧ r.2.mem ((c.tc : Thread Cert.ProjectSampleReferenceIdeal.nD Cert.ProjectSampleReferenceIdeal.τ).loc Cert.ProjectSampleReferenceIdeal.main_v46) = v7 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)) →
    ∃ (v0 : (c : Dev Cert.FinishIdeal.nD) → Buf (Elt Ideal) ((c.tc : Thread Cert.FinishIdeal.nD Cert.FinishIdeal.τ).loc Cert.FinishIdeal.main_v5)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v5) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v78) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7))

def preserves_FinishSample_FinishSampleIdeal : Prop :=
  True

def algebraic_FinishSampleIdeal_FinishSampleReferenceIdeal [hFinishSampleIdeal : Cert.FinishSampleIdeal.Facts] [hFinishSampleReferenceIdeal : Cert.FinishSampleReferenceIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg)
    (m' : (ℓ : Loc Cert.FinishSampleReferenceIdeal.nD Cert.FinishSampleReferenceIdeal.τ Cert.FinishSampleReferenceIdeal.sig) → Buf (Elt Ideal) ℓ) (g' : Dev Cert.FinishSampleReferenceIdeal.nD → PrngReg), Pre_FinishSampleIdeal m →
    (∀ c : Dev Cert.FinishSampleIdeal.nD,
      m' ((c.tc : Thread Cert.FinishSampleReferenceIdeal.nD Cert.FinishSampleReferenceIdeal.τ).loc Cert.FinishSampleReferenceIdeal.main_arg0) = m ((c.tc : Thread Cert.FinishSampleIdeal.nD Cert.FinishSampleIdeal.τ).loc Cert.FinishSampleIdeal.main_arg0)
      ∧ m' ((c.tc : Thread Cert.FinishSampleReferenceIdeal.nD Cert.FinishSampleReferenceIdeal.τ).loc Cert.FinishSampleReferenceIdeal.main_arg1) = m ((c.tc : Thread Cert.FinishSampleIdeal.nD Cert.FinishSampleIdeal.τ).loc Cert.FinishSampleIdeal.main_arg1)
      ∧ m' ((c.tc : Thread Cert.FinishSampleReferenceIdeal.nD Cert.FinishSampleReferenceIdeal.τ).loc Cert.FinishSampleReferenceIdeal.main_arg2) = m ((c.tc : Thread Cert.FinishSampleIdeal.nD Cert.FinishSampleIdeal.τ).loc Cert.FinishSampleIdeal.main_arg2)
      ∧ m' ((c.tc : Thread Cert.FinishSampleReferenceIdeal.nD Cert.FinishSampleReferenceIdeal.τ).loc Cert.FinishSampleReferenceIdeal.main_arg3) = m ((c.tc : Thread Cert.FinishSampleIdeal.nD Cert.FinishSampleIdeal.τ).loc Cert.FinishSampleIdeal.main_arg3)
      ∧ m' ((c.tc : Thread Cert.FinishSampleReferenceIdeal.nD Cert.FinishSampleReferenceIdeal.τ).loc Cert.FinishSampleReferenceIdeal.main_arg4) = m ((c.tc : Thread Cert.FinishSampleIdeal.nD Cert.FinishSampleIdeal.τ).loc Cert.FinishSampleIdeal.main_arg4)
      ∧ m' ((c.tc : Thread Cert.FinishSampleReferenceIdeal.nD Cert.FinishSampleReferenceIdeal.τ).loc Cert.FinishSampleReferenceIdeal.main_arg5) = m ((c.tc : Thread Cert.FinishSampleIdeal.nD Cert.FinishSampleIdeal.τ).loc Cert.FinishSampleIdeal.main_arg5)
      ∧ m' ((c.tc : Thread Cert.FinishSampleReferenceIdeal.nD Cert.FinishSampleReferenceIdeal.τ).loc Cert.FinishSampleReferenceIdeal.main_arg6) = m ((c.tc : Thread Cert.FinishSampleIdeal.nD Cert.FinishSampleIdeal.τ).loc Cert.FinishSampleIdeal.main_arg6)
      ∧ m' ((c.tc : Thread Cert.FinishSampleReferenceIdeal.nD Cert.FinishSampleReferenceIdeal.τ).loc Cert.FinishSampleReferenceIdeal.main_arg7) = m ((c.tc : Thread Cert.FinishSampleIdeal.nD Cert.FinishSampleIdeal.τ).loc Cert.FinishSampleIdeal.main_arg7)
      ∧ m' ((c.tc : Thread Cert.FinishSampleReferenceIdeal.nD Cert.FinishSampleReferenceIdeal.τ).loc Cert.FinishSampleReferenceIdeal.main_arg8) = m ((c.tc : Thread Cert.FinishSampleIdeal.nD Cert.FinishSampleIdeal.τ).loc Cert.FinishSampleIdeal.main_arg8)
      ∧ m' ((c.tc : Thread Cert.FinishSampleReferenceIdeal.nD Cert.FinishSampleReferenceIdeal.τ).loc Cert.FinishSampleReferenceIdeal.main_arg9) = m ((c.tc : Thread Cert.FinishSampleIdeal.nD Cert.FinishSampleIdeal.τ).loc Cert.FinishSampleIdeal.main_arg9)) →
    ∃ (v0 : (c : Dev Cert.FinishSampleIdeal.nD) → Buf (Elt Ideal) ((c.tc : Thread Cert.FinishSampleIdeal.nD Cert.FinishSampleIdeal.τ).loc Cert.FinishSampleIdeal.main_v13)) (v1 : (c : Dev Cert.FinishSampleIdeal.nD) → Buf (Elt Ideal) ((c.tc : Thread Cert.FinishSampleIdeal.nD Cert.FinishSampleIdeal.τ).loc Cert.FinishSampleIdeal.main_v11)),
      θ_run (Cert.FinishSampleIdeal.defs (F := Ideal)) (onTc (τ := Cert.FinishSampleIdeal.τ) (Cert.FinishSampleIdeal.main (F := Ideal))) ⟨m, fun _ => 0, g⟩ (fun r => ∀ c : Dev Cert.FinishSampleIdeal.nD,
          r.2.mem ((c.tc : Thread Cert.FinishSampleIdeal.nD Cert.FinishSampleIdeal.τ).loc Cert.FinishSampleIdeal.main_v13) = v0 c
          ∧ r.2.mem ((c.tc : Thread Cert.FinishSampleIdeal.nD Cert.FinishSampleIdeal.τ).loc Cert.FinishSampleIdeal.main_v11) = v1 c
          ∧ r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
          ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
          ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
          ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
          ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
          ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
          ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
          ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7)
          ∧ r.2.mem ((c.tc : Thread Cert.FinishSampleIdeal.nD Cert.FinishSampleIdeal.τ).loc Cert.FinishSampleIdeal.main_arg8) = m ((c.tc : Thread Cert.FinishSampleIdeal.nD Cert.FinishSampleIdeal.τ).loc Cert.FinishSampleIdeal.main_arg8)
          ∧ r.2.mem ((c.tc : Thread Cert.FinishSampleIdeal.nD Cert.FinishSampleIdeal.τ).loc Cert.FinishSampleIdeal.main_arg9) = m ((c.tc : Thread Cert.FinishSampleIdeal.nD Cert.FinishSampleIdeal.τ).loc Cert.FinishSampleIdeal.main_arg9))
      ∧ θ_run (Cert.FinishSampleReferenceIdeal.defs (F := Ideal)) (onTc (τ := Cert.FinishSampleReferenceIdeal.τ) (Cert.FinishSampleReferenceIdeal.main (F := Ideal))) ⟨m', fun _ => 0, g'⟩ (fun r => ∀ c : Dev Cert.FinishSampleReferenceIdeal.nD,
          r.2.mem ((c.tc : Thread Cert.FinishSampleReferenceIdeal.nD Cert.FinishSampleReferenceIdeal.τ).loc Cert.FinishSampleReferenceIdeal.main_v92) = v0 c
          ∧ r.2.mem ((c.tc : Thread Cert.FinishSampleReferenceIdeal.nD Cert.FinishSampleReferenceIdeal.τ).loc Cert.FinishSampleReferenceIdeal.main_v94) = v1 c
          ∧ r.2.mem ((c.tc : Thread Cert.FinishSampleReferenceIdeal.nD Cert.FinishSampleReferenceIdeal.τ).loc Cert.FinishSampleReferenceIdeal.main_arg0) = m' ((c.tc : Thread Cert.FinishSampleReferenceIdeal.nD Cert.FinishSampleReferenceIdeal.τ).loc Cert.FinishSampleReferenceIdeal.main_arg0)
          ∧ r.2.mem ((c.tc : Thread Cert.FinishSampleReferenceIdeal.nD Cert.FinishSampleReferenceIdeal.τ).loc Cert.FinishSampleReferenceIdeal.main_arg1) = m' ((c.tc : Thread Cert.FinishSampleReferenceIdeal.nD Cert.FinishSampleReferenceIdeal.τ).loc Cert.FinishSampleReferenceIdeal.main_arg1)
          ∧ r.2.mem ((c.tc : Thread Cert.FinishSampleReferenceIdeal.nD Cert.FinishSampleReferenceIdeal.τ).loc Cert.FinishSampleReferenceIdeal.main_arg2) = m' ((c.tc : Thread Cert.FinishSampleReferenceIdeal.nD Cert.FinishSampleReferenceIdeal.τ).loc Cert.FinishSampleReferenceIdeal.main_arg2)
          ∧ r.2.mem ((c.tc : Thread Cert.FinishSampleReferenceIdeal.nD Cert.FinishSampleReferenceIdeal.τ).loc Cert.FinishSampleReferenceIdeal.main_arg3) = m' ((c.tc : Thread Cert.FinishSampleReferenceIdeal.nD Cert.FinishSampleReferenceIdeal.τ).loc Cert.FinishSampleReferenceIdeal.main_arg3)
          ∧ r.2.mem ((c.tc : Thread Cert.FinishSampleReferenceIdeal.nD Cert.FinishSampleReferenceIdeal.τ).loc Cert.FinishSampleReferenceIdeal.main_arg4) = m' ((c.tc : Thread Cert.FinishSampleReferenceIdeal.nD Cert.FinishSampleReferenceIdeal.τ).loc Cert.FinishSampleReferenceIdeal.main_arg4)
          ∧ r.2.mem ((c.tc : Thread Cert.FinishSampleReferenceIdeal.nD Cert.FinishSampleReferenceIdeal.τ).loc Cert.FinishSampleReferenceIdeal.main_arg5) = m' ((c.tc : Thread Cert.FinishSampleReferenceIdeal.nD Cert.FinishSampleReferenceIdeal.τ).loc Cert.FinishSampleReferenceIdeal.main_arg5)
          ∧ r.2.mem ((c.tc : Thread Cert.FinishSampleReferenceIdeal.nD Cert.FinishSampleReferenceIdeal.τ).loc Cert.FinishSampleReferenceIdeal.main_arg6) = m' ((c.tc : Thread Cert.FinishSampleReferenceIdeal.nD Cert.FinishSampleReferenceIdeal.τ).loc Cert.FinishSampleReferenceIdeal.main_arg6)
          ∧ r.2.mem ((c.tc : Thread Cert.FinishSampleReferenceIdeal.nD Cert.FinishSampleReferenceIdeal.τ).loc Cert.FinishSampleReferenceIdeal.main_arg7) = m' ((c.tc : Thread Cert.FinishSampleReferenceIdeal.nD Cert.FinishSampleReferenceIdeal.τ).loc Cert.FinishSampleReferenceIdeal.main_arg7)
          ∧ r.2.mem ((c.tc : Thread Cert.FinishSampleReferenceIdeal.nD Cert.FinishSampleReferenceIdeal.τ).loc Cert.FinishSampleReferenceIdeal.main_arg8) = m' ((c.tc : Thread Cert.FinishSampleReferenceIdeal.nD Cert.FinishSampleReferenceIdeal.τ).loc Cert.FinishSampleReferenceIdeal.main_arg8)
          ∧ r.2.mem ((c.tc : Thread Cert.FinishSampleReferenceIdeal.nD Cert.FinishSampleReferenceIdeal.τ).loc Cert.FinishSampleReferenceIdeal.main_arg9) = m' ((c.tc : Thread Cert.FinishSampleReferenceIdeal.nD Cert.FinishSampleReferenceIdeal.τ).loc Cert.FinishSampleReferenceIdeal.main_arg9))

def preserves_AttendSample_AttendSampleIdeal : Prop :=
  IdealRules.named_const.Statement Cert.AttendSampleIdeal.κ "mask" .f32 0xF149F2CA#32 ⊥

def algebraic_AttendSampleIdeal_AttendSampleReferenceIdeal_on_own_lanes [hAttendSampleIdeal : Cert.AttendSampleIdeal.Facts] [hAttendSampleReferenceIdeal : Cert.AttendSampleReferenceIdeal.Facts] [hPre_finite_selected : Cert.Pre_finite_selected.Facts] [hOn_own_lanes : Cert.On_own_lanes.Facts] : Prop :=
  ∀ (m : (ℓ : Loc Cert.AttendSampleIdeal.nD Cert.AttendSampleIdeal.τ Cert.AttendSampleIdeal.sig) → Buf (Elt Ideal) ℓ) (g : Dev Cert.AttendSampleIdeal.nD → PrngReg)
    (m' : (ℓ : Loc Cert.AttendSampleReferenceIdeal.nD Cert.AttendSampleReferenceIdeal.τ Cert.AttendSampleReferenceIdeal.sig) → Buf (Elt Ideal) ℓ) (g' : Dev Cert.AttendSampleReferenceIdeal.nD → PrngReg), Pre_AttendSampleIdeal m →
    (∀ c : Dev Cert.AttendSampleIdeal.nD,
      m' ((c.tc : Thread Cert.AttendSampleReferenceIdeal.nD Cert.AttendSampleReferenceIdeal.τ).loc Cert.AttendSampleReferenceIdeal.main_arg0) = m ((c.tc : Thread Cert.AttendSampleIdeal.nD Cert.AttendSampleIdeal.τ).loc Cert.AttendSampleIdeal.main_arg0)
      ∧ m' ((c.tc : Thread Cert.AttendSampleReferenceIdeal.nD Cert.AttendSampleReferenceIdeal.τ).loc Cert.AttendSampleReferenceIdeal.main_arg1) = m ((c.tc : Thread Cert.AttendSampleIdeal.nD Cert.AttendSampleIdeal.τ).loc Cert.AttendSampleIdeal.main_arg1)
      ∧ m' ((c.tc : Thread Cert.AttendSampleReferenceIdeal.nD Cert.AttendSampleReferenceIdeal.τ).loc Cert.AttendSampleReferenceIdeal.main_arg2) = m ((c.tc : Thread Cert.AttendSampleIdeal.nD Cert.AttendSampleIdeal.τ).loc Cert.AttendSampleIdeal.main_arg2)
      ∧ m' ((c.tc : Thread Cert.AttendSampleReferenceIdeal.nD Cert.AttendSampleReferenceIdeal.τ).loc Cert.AttendSampleReferenceIdeal.main_arg3) = m ((c.tc : Thread Cert.AttendSampleIdeal.nD Cert.AttendSampleIdeal.τ).loc Cert.AttendSampleIdeal.main_arg3)
      ∧ m' ((c.tc : Thread Cert.AttendSampleReferenceIdeal.nD Cert.AttendSampleReferenceIdeal.τ).loc Cert.AttendSampleReferenceIdeal.main_arg4) = m ((c.tc : Thread Cert.AttendSampleIdeal.nD Cert.AttendSampleIdeal.τ).loc Cert.AttendSampleIdeal.main_arg4)
      ∧ m' ((c.tc : Thread Cert.AttendSampleReferenceIdeal.nD Cert.AttendSampleReferenceIdeal.τ).loc Cert.AttendSampleReferenceIdeal.main_arg5) = m ((c.tc : Thread Cert.AttendSampleIdeal.nD Cert.AttendSampleIdeal.τ).loc Cert.AttendSampleIdeal.main_arg5)
      ∧ m' ((c.tc : Thread Cert.AttendSampleReferenceIdeal.nD Cert.AttendSampleReferenceIdeal.τ).loc Cert.AttendSampleReferenceIdeal.main_arg6) = m ((c.tc : Thread Cert.AttendSampleIdeal.nD Cert.AttendSampleIdeal.τ).loc Cert.AttendSampleIdeal.main_arg6)
      ∧ m' ((c.tc : Thread Cert.AttendSampleReferenceIdeal.nD Cert.AttendSampleReferenceIdeal.τ).loc Cert.AttendSampleReferenceIdeal.main_arg7) = m ((c.tc : Thread Cert.AttendSampleIdeal.nD Cert.AttendSampleIdeal.τ).loc Cert.AttendSampleIdeal.main_arg7)
      ∧ m' ((c.tc : Thread Cert.AttendSampleReferenceIdeal.nD Cert.AttendSampleReferenceIdeal.τ).loc Cert.AttendSampleReferenceIdeal.main_arg8) = m ((c.tc : Thread Cert.AttendSampleIdeal.nD Cert.AttendSampleIdeal.τ).loc Cert.AttendSampleIdeal.main_arg8)) →
    ∃ (v0 : (c : Dev Cert.AttendSampleIdeal.nD) → Buf (Elt Ideal) ((c.tc : Thread Cert.AttendSampleIdeal.nD Cert.AttendSampleIdeal.τ).loc Cert.AttendSampleIdeal.main_v33_0)) (v1 : (c : Dev Cert.AttendSampleIdeal.nD) → Buf (Elt Ideal) ((c.tc : Thread Cert.AttendSampleIdeal.nD Cert.AttendSampleIdeal.τ).loc Cert.AttendSampleIdeal.main_v33_1)),
      θ_run (Cert.AttendSampleIdeal.defs (F := Ideal)) (onTc (τ := Cert.AttendSampleIdeal.τ) (Cert.AttendSampleIdeal.main (F := Ideal))) ⟨m, fun _ => 0, g⟩ (fun r => ∀ c : Dev Cert.AttendSampleIdeal.nD,
          (∀ i : (⟨3, ![128, 8, 128]⟩ : Shape).Idx, (Cert.On_own_lanes.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5)) (m ((c.tc : Thread Cert.AttendSampleIdeal.nD Cert.AttendSampleIdeal.τ).loc Cert.AttendSampleIdeal.main_arg6)) (m ((c.tc : Thread Cert.AttendSampleIdeal.nD Cert.AttendSampleIdeal.τ).loc Cert.AttendSampleIdeal.main_arg7)) (m ((c.tc : Thread Cert.AttendSampleIdeal.nD Cert.AttendSampleIdeal.τ).loc Cert.AttendSampleIdeal.main_arg8))).1 i = 1#1 → r.2.mem ((c.tc : Thread Cert.AttendSampleIdeal.nD Cert.AttendSampleIdeal.τ).loc Cert.AttendSampleIdeal.main_v33_0) i = v0 c i)
          ∧ (∀ i : (⟨3, ![128, 256, 512]⟩ : Shape).Idx, (Cert.On_own_lanes.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5)) (m ((c.tc : Thread Cert.AttendSampleIdeal.nD Cert.AttendSampleIdeal.τ).loc Cert.AttendSampleIdeal.main_arg6)) (m ((c.tc : Thread Cert.AttendSampleIdeal.nD Cert.AttendSampleIdeal.τ).loc Cert.AttendSampleIdeal.main_arg7)) (m ((c.tc : Thread Cert.AttendSampleIdeal.nD Cert.AttendSampleIdeal.τ).loc Cert.AttendSampleIdeal.main_arg8))).2 i = 1#1 → r.2.mem ((c.tc : Thread Cert.AttendSampleIdeal.nD Cert.AttendSampleIdeal.τ).loc Cert.AttendSampleIdeal.main_v33_1) i = v1 c i)
          ∧ r.2.mem ((c.tc : Thread Cert.AttendSampleIdeal.nD Cert.AttendSampleIdeal.τ).loc Cert.AttendSampleIdeal.main_arg0) = m ((c.tc : Thread Cert.AttendSampleIdeal.nD Cert.AttendSampleIdeal.τ).loc Cert.AttendSampleIdeal.main_arg0)
          ∧ r.2.mem ((c.tc : Thread Cert.AttendSampleIdeal.nD Cert.AttendSampleIdeal.τ).loc Cert.AttendSampleIdeal.main_arg1) = m ((c.tc : Thread Cert.AttendSampleIdeal.nD Cert.AttendSampleIdeal.τ).loc Cert.AttendSampleIdeal.main_arg1)
          ∧ r.2.mem ((c.tc : Thread Cert.AttendSampleIdeal.nD Cert.AttendSampleIdeal.τ).loc Cert.AttendSampleIdeal.main_arg2) = m ((c.tc : Thread Cert.AttendSampleIdeal.nD Cert.AttendSampleIdeal.τ).loc Cert.AttendSampleIdeal.main_arg2)
          ∧ r.2.mem ((c.tc : Thread Cert.AttendSampleIdeal.nD Cert.AttendSampleIdeal.τ).loc Cert.AttendSampleIdeal.main_arg3) = m ((c.tc : Thread Cert.AttendSampleIdeal.nD Cert.AttendSampleIdeal.τ).loc Cert.AttendSampleIdeal.main_arg3)
          ∧ r.2.mem ((c.tc : Thread Cert.AttendSampleIdeal.nD Cert.AttendSampleIdeal.τ).loc Cert.AttendSampleIdeal.main_arg4) = m ((c.tc : Thread Cert.AttendSampleIdeal.nD Cert.AttendSampleIdeal.τ).loc Cert.AttendSampleIdeal.main_arg4)
          ∧ r.2.mem ((c.tc : Thread Cert.AttendSampleIdeal.nD Cert.AttendSampleIdeal.τ).loc Cert.AttendSampleIdeal.main_arg5) = m ((c.tc : Thread Cert.AttendSampleIdeal.nD Cert.AttendSampleIdeal.τ).loc Cert.AttendSampleIdeal.main_arg5)
          ∧ r.2.mem ((c.tc : Thread Cert.AttendSampleIdeal.nD Cert.AttendSampleIdeal.τ).loc Cert.AttendSampleIdeal.main_arg6) = m ((c.tc : Thread Cert.AttendSampleIdeal.nD Cert.AttendSampleIdeal.τ).loc Cert.AttendSampleIdeal.main_arg6)
          ∧ r.2.mem ((c.tc : Thread Cert.AttendSampleIdeal.nD Cert.AttendSampleIdeal.τ).loc Cert.AttendSampleIdeal.main_arg7) = m ((c.tc : Thread Cert.AttendSampleIdeal.nD Cert.AttendSampleIdeal.τ).loc Cert.AttendSampleIdeal.main_arg7)
          ∧ r.2.mem ((c.tc : Thread Cert.AttendSampleIdeal.nD Cert.AttendSampleIdeal.τ).loc Cert.AttendSampleIdeal.main_arg8) = m ((c.tc : Thread Cert.AttendSampleIdeal.nD Cert.AttendSampleIdeal.τ).loc Cert.AttendSampleIdeal.main_arg8))
      ∧ θ_run (Cert.AttendSampleReferenceIdeal.defs (F := Ideal)) (onTc (τ := Cert.AttendSampleReferenceIdeal.τ) (Cert.AttendSampleReferenceIdeal.main (F := Ideal))) ⟨m', fun _ => 0, g'⟩ (fun r => ∀ c : Dev Cert.AttendSampleReferenceIdeal.nD,
          (∀ i : (⟨3, ![128, 8, 128]⟩ : Shape).Idx, (Cert.On_own_lanes.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5)) (m ((c.tc : Thread Cert.AttendSampleIdeal.nD Cert.AttendSampleIdeal.τ).loc Cert.AttendSampleIdeal.main_arg6)) (m ((c.tc : Thread Cert.AttendSampleIdeal.nD Cert.AttendSampleIdeal.τ).loc Cert.AttendSampleIdeal.main_arg7)) (m ((c.tc : Thread Cert.AttendSampleIdeal.nD Cert.AttendSampleIdeal.τ).loc Cert.AttendSampleIdeal.main_arg8))).1 i = 1#1 → r.2.mem ((c.tc : Thread Cert.AttendSampleReferenceIdeal.nD Cert.AttendSampleReferenceIdeal.τ).loc Cert.AttendSampleReferenceIdeal.main_v85) i = v0 c i)
          ∧ (∀ i : (⟨3, ![128, 256, 512]⟩ : Shape).Idx, (Cert.On_own_lanes.fn (F := Ideal) (m ((c.tc : Thread Cert.AttendSampleIdeal.nD Cert.AttendSampleIdeal.τ).loc Cert.AttendSampleIdeal.main_arg0)) (m ((c.tc : Thread Cert.AttendSampleIdeal.nD Cert.AttendSampleIdeal.τ).loc Cert.AttendSampleIdeal.main_arg1)) (m ((c.tc : Thread Cert.AttendSampleIdeal.nD Cert.AttendSampleIdeal.τ).loc Cert.AttendSampleIdeal.main_arg2)) (m ((c.tc : Thread Cert.AttendSampleIdeal.nD Cert.AttendSampleIdeal.τ).loc Cert.AttendSampleIdeal.main_arg3)) (m ((c.tc : Thread Cert.AttendSampleIdeal.nD Cert.AttendSampleIdeal.τ).loc Cert.AttendSampleIdeal.main_arg4)) (m ((c.tc : Thread Cert.AttendSampleIdeal.nD Cert.AttendSampleIdeal.τ).loc Cert.AttendSampleIdeal.main_arg5)) (m ((c.tc : Thread Cert.AttendSampleIdeal.nD Cert.AttendSampleIdeal.τ).loc Cert.AttendSampleIdeal.main_arg6)) (m ((c.tc : Thread Cert.AttendSampleIdeal.nD Cert.AttendSampleIdeal.τ).loc Cert.AttendSampleIdeal.main_arg7)) (m ((c.tc : Thread Cert.AttendSampleIdeal.nD Cert.AttendSampleIdeal.τ).loc Cert.AttendSampleIdeal.main_arg8))).2 i = 1#1 → r.2.mem ((c.tc : Thread Cert.AttendSampleReferenceIdeal.nD Cert.AttendSampleReferenceIdeal.τ).loc Cert.AttendSampleReferenceIdeal.main_v87) i = v1 c i)
          ∧ r.2.mem ((c.tc : Thread Cert.AttendSampleReferenceIdeal.nD Cert.AttendSampleReferenceIdeal.τ).loc Cert.AttendSampleReferenceIdeal.main_arg0) = m' ((c.tc : Thread Cert.AttendSampleReferenceIdeal.nD Cert.AttendSampleReferenceIdeal.τ).loc Cert.AttendSampleReferenceIdeal.main_arg0)
          ∧ r.2.mem ((c.tc : Thread Cert.AttendSampleReferenceIdeal.nD Cert.AttendSampleReferenceIdeal.τ).loc Cert.AttendSampleReferenceIdeal.main_arg1) = m' ((c.tc : Thread Cert.AttendSampleReferenceIdeal.nD Cert.AttendSampleReferenceIdeal.τ).loc Cert.AttendSampleReferenceIdeal.main_arg1)
          ∧ r.2.mem ((c.tc : Thread Cert.AttendSampleReferenceIdeal.nD Cert.AttendSampleReferenceIdeal.τ).loc Cert.AttendSampleReferenceIdeal.main_arg2) = m' ((c.tc : Thread Cert.AttendSampleReferenceIdeal.nD Cert.AttendSampleReferenceIdeal.τ).loc Cert.AttendSampleReferenceIdeal.main_arg2)
          ∧ r.2.mem ((c.tc : Thread Cert.AttendSampleReferenceIdeal.nD Cert.AttendSampleReferenceIdeal.τ).loc Cert.AttendSampleReferenceIdeal.main_arg3) = m' ((c.tc : Thread Cert.AttendSampleReferenceIdeal.nD Cert.AttendSampleReferenceIdeal.τ).loc Cert.AttendSampleReferenceIdeal.main_arg3)
          ∧ r.2.mem ((c.tc : Thread Cert.AttendSampleReferenceIdeal.nD Cert.AttendSampleReferenceIdeal.τ).loc Cert.AttendSampleReferenceIdeal.main_arg4) = m' ((c.tc : Thread Cert.AttendSampleReferenceIdeal.nD Cert.AttendSampleReferenceIdeal.τ).loc Cert.AttendSampleReferenceIdeal.main_arg4)
          ∧ r.2.mem ((c.tc : Thread Cert.AttendSampleReferenceIdeal.nD Cert.AttendSampleReferenceIdeal.τ).loc Cert.AttendSampleReferenceIdeal.main_arg5) = m' ((c.tc : Thread Cert.AttendSampleReferenceIdeal.nD Cert.AttendSampleReferenceIdeal.τ).loc Cert.AttendSampleReferenceIdeal.main_arg5)
          ∧ r.2.mem ((c.tc : Thread Cert.AttendSampleReferenceIdeal.nD Cert.AttendSampleReferenceIdeal.τ).loc Cert.AttendSampleReferenceIdeal.main_arg6) = m' ((c.tc : Thread Cert.AttendSampleReferenceIdeal.nD Cert.AttendSampleReferenceIdeal.τ).loc Cert.AttendSampleReferenceIdeal.main_arg6)
          ∧ r.2.mem ((c.tc : Thread Cert.AttendSampleReferenceIdeal.nD Cert.AttendSampleReferenceIdeal.τ).loc Cert.AttendSampleReferenceIdeal.main_arg7) = m' ((c.tc : Thread Cert.AttendSampleReferenceIdeal.nD Cert.AttendSampleReferenceIdeal.τ).loc Cert.AttendSampleReferenceIdeal.main_arg7)
          ∧ r.2.mem ((c.tc : Thread Cert.AttendSampleReferenceIdeal.nD Cert.AttendSampleReferenceIdeal.τ).loc Cert.AttendSampleReferenceIdeal.main_arg8) = m' ((c.tc : Thread Cert.AttendSampleReferenceIdeal.nD Cert.AttendSampleReferenceIdeal.τ).loc Cert.AttendSampleReferenceIdeal.main_arg8))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hFinish : Cert.Finish.Facts) (hFinishIdeal : Cert.FinishIdeal.Facts) (hFinishReferenceIdeal : Cert.FinishReferenceIdeal.Facts) (hFinishSample : Cert.FinishSample.Facts) (hFinishSampleIdeal : Cert.FinishSampleIdeal.Facts) (hFinishSampleReferenceIdeal : Cert.FinishSampleReferenceIdeal.Facts) (hAttendSample : Cert.AttendSample.Facts) (hAttendSampleIdeal : Cert.AttendSampleIdeal.Facts) (hAttendSampleReferenceIdeal : Cert.AttendSampleReferenceIdeal.Facts) (hPre_finite_paged : Cert.Pre_finite_paged.Facts) (hPre_finite_selected : Cert.Pre_finite_selected.Facts) (hOn_own_half : Cert.On_own_half.Facts) (hOn_own_lanes : Cert.On_own_lanes.Facts),
    quiescent_Kernel (hKernel := hKernel) (hPre_finite_paged := hPre_finite_paged)
    ∧ quiescent_KernelIdeal (hKernelIdeal := hKernelIdeal) (hPre_finite_paged := hPre_finite_paged)
    ∧ quiescent_ReferenceIdeal (hReferenceIdeal := hReferenceIdeal) (hPre_finite_paged := hPre_finite_paged)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_Finish (hFinish := hFinish)
    ∧ quiescent_FinishIdeal (hFinishIdeal := hFinishIdeal)
    ∧ quiescent_FinishReferenceIdeal (hFinishReferenceIdeal := hFinishReferenceIdeal)
    ∧ quiescent_FinishSample (hFinishSample := hFinishSample)
    ∧ quiescent_FinishSampleIdeal (hFinishSampleIdeal := hFinishSampleIdeal)
    ∧ quiescent_FinishSampleReferenceIdeal (hFinishSampleReferenceIdeal := hFinishSampleReferenceIdeal)
    ∧ quiescent_AttendSample (hAttendSample := hAttendSample) (hPre_finite_selected := hPre_finite_selected)
    ∧ quiescent_AttendSampleIdeal (hAttendSampleIdeal := hAttendSampleIdeal) (hPre_finite_selected := hPre_finite_selected)
    ∧ quiescent_AttendSampleReferenceIdeal (hAttendSampleReferenceIdeal := hAttendSampleReferenceIdeal) (hPre_finite_selected := hPre_finite_selected)
    ∧ preserves_Kernel_KernelIdeal
    ∧ algebraic_KernelIdeal_ReferenceIdeal_on_own_half (hKernelIdeal := hKernelIdeal) (hReferenceIdeal := hReferenceIdeal) (hPre_finite_paged := hPre_finite_paged) (hOn_own_half := hOn_own_half)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_Finish_FinishIdeal
    ∧ algebraic_FinishIdeal_FinishReferenceIdeal (hFinishIdeal := hFinishIdeal) (hFinishReferenceIdeal := hFinishReferenceIdeal)
    ∧ preserves_FinishSample_FinishSampleIdeal
    ∧ algebraic_FinishSampleIdeal_FinishSampleReferenceIdeal (hFinishSampleIdeal := hFinishSampleIdeal) (hFinishSampleReferenceIdeal := hFinishSampleReferenceIdeal)
    ∧ preserves_AttendSample_AttendSampleIdeal
    ∧ algebraic_AttendSampleIdeal_AttendSampleReferenceIdeal_on_own_lanes (hAttendSampleIdeal := hAttendSampleIdeal) (hAttendSampleReferenceIdeal := hAttendSampleReferenceIdeal) (hPre_finite_selected := hPre_finite_selected) (hOn_own_lanes := hOn_own_lanes)
-- ==== On_own_half.lean ====
abbrev S128x16 : Shape := ⟨2, ![128, 16]⟩
abbrev S1x2560x128x2x2x64 : Shape := ⟨6, ![1, 2560, 128, 2, 2, 64]⟩
abbrev S128x512 : Shape := ⟨2, ![128, 512]⟩
abbrev S1x2x32x64 : Shape := ⟨4, ![1, 2, 32, 64]⟩
abbrev S1x2x32x64x128 : Shape := ⟨5, ![1, 2, 32, 64, 128]⟩
abbrev S1x2x128x64 : Shape := ⟨4, ![1, 2, 128, 64]⟩
abbrev S128x8x128 : Shape := ⟨3, ![128, 8, 128]⟩
abbrev S_ : Shape := ⟨0, ![]⟩

class Facts : Prop where
  bcast_S_S128x8x128 : S_.BroadcastsInDim S128x8x128 (![] : Fin 0 → Fin S128x8x128.rank)

variable [Facts]

def fn {F : FTy → Type} [FloatOps F] (main_arg0 : IVec S128x16 32) (main_arg1 : FVec F S1x2560x128x2x2x64 .f32) (main_arg2 : FVec F S128x512 .bf16) (main_arg3 : FVec F S1x2x32x64 .f32) (main_arg4 : FVec F S1x2x32x64x128 .f32) (main_arg5 : FVec F S1x2x128x64 .f32) : IVec S128x8x128 1 × IVec S128x8x128 1 :=
  let main_v0 : IVec S128x8x128 32 := iotaInDim S128x8x128 32 1
  let main_v1 : IVec S128x8x128 32 := iotaInDim S128x8x128 32 2
  let main_c : IVec S_ 32 := constantI S_ 32 4#32
  let main_v2 : IVec S128x8x128 32 := broadcastInDim S128x8x128 ![] bcast_S_S128x8x128 main_c
  let main_v3 : IVec S128x8x128 1 := cmpi .sge main_v0 main_v2
  let main_c_0 : IVec S_ 32 := constantI S_ 32 64#32
  let main_v4 : IVec S128x8x128 32 := broadcastInDim S128x8x128 ![] bcast_S_S128x8x128 main_c_0
  let main_v5 : IVec S128x8x128 1 := cmpi .sge main_v1 main_v4
  let main_v6 : IVec S128x8x128 1 := cmpi .eq main_v3 main_v5
  let main_c_1 : IVec S_ 32 := constantI S_ 32 0#32
  let main_v7 : IVec S128x8x128 32 := broadcastInDim S128x8x128 ![] bcast_S_S128x8x128 main_c_1
  let main_v8 : IVec S128x8x128 1 := cmpi .sge main_v1 main_v7
  (main_v6, main_v8)
-- ==== On_own_lanes.lean ====
abbrev S128x16 : Shape := ⟨2, ![128, 16]⟩
abbrev S1x2560x128x2x2x64 : Shape := ⟨6, ![1, 2560, 128, 2, 2, 64]⟩
abbrev S1x128x512x2x2x64 : Shape := ⟨6, ![1, 128, 512, 2, 2, 64]⟩
abbrev S128x512 : Shape := ⟨2, ![128, 512]⟩
abbrev S256x128 : Shape := ⟨2, ![256, 128]⟩
abbrev S1x256x128 : Shape := ⟨3, ![1, 256, 128]⟩
abbrev S128x8x128 : Shape := ⟨3, ![128, 8, 128]⟩
abbrev S128x256 : Shape := ⟨2, ![128, 256]⟩
abbrev S128x256x512 : Shape := ⟨3, ![128, 256, 512]⟩
abbrev S_ : Shape := ⟨0, ![]⟩

class Facts : Prop where
  bcast_S_S128x256x512 : S_.BroadcastsInDim S128x256x512 (![] : Fin 0 → Fin S128x256x512.rank)
  bcast_S_S128x8x128 : S_.BroadcastsInDim S128x8x128 (![] : Fin 0 → Fin S128x8x128.rank)

variable [Facts]

def fn {F : FTy → Type} [FloatOps F] (main_arg0 : IVec S128x16 32) (main_arg1 : FVec F S1x2560x128x2x2x64 .f32) (main_arg2 : FVec F S1x128x512x2x2x64 .f32) (main_arg3 : FVec F S128x512 .bf16) (main_arg4 : FVec F S256x128 .f32) (main_arg5 : FVec F S1x256x128 .f32) (main_arg6 : FVec F S1x256x128 .f32) (main_arg7 : FVec F S128x8x128 .f32) (main_arg8 : FVec F S128x256 .f32) : IVec S128x8x128 1 × IVec S128x256x512 1 :=
  let main_v0 : IVec S128x8x128 32 := iotaInDim S128x8x128 32 1
  let main_v1 : IVec S128x8x128 32 := iotaInDim S128x8x128 32 2
  let main_v2 : IVec S128x256x512 32 := iotaInDim S128x256x512 32 0
  let main_c : IVec S_ 32 := constantI S_ 32 0#32
  let main_v3 : IVec S128x256x512 32 := broadcastInDim S128x256x512 ![] bcast_S_S128x256x512 main_c
  let main_v4 : IVec S128x256x512 1 := cmpi .sge main_v2 main_v3
  let main_c_0 : IVec S_ 32 := constantI S_ 32 4#32
  let main_v5 : IVec S128x8x128 32 := broadcastInDim S128x8x128 ![] bcast_S_S128x8x128 main_c_0
  let main_v6 : IVec S128x8x128 1 := cmpi .sge main_v0 main_v5
  let main_c_1 : IVec S_ 32 := constantI S_ 32 64#32
  let main_v7 : IVec S128x8x128 32 := broadcastInDim S128x8x128 ![] bcast_S_S128x8x128 main_c_1
  let main_v8 : IVec S128x8x128 1 := cmpi .sge main_v1 main_v7
  let main_v9 : IVec S128x8x128 1 := cmpi .eq main_v6 main_v8
  (main_v9, main_v4)
-- ==== Pre_finite_paged.lean ====
abbrev S128x16 : Shape := ⟨2, ![128, 16]⟩
abbrev S1x2560x128x2x2x64 : Shape := ⟨6, ![1, 2560, 128, 2, 2, 64]⟩
abbrev S128x512 : Shape := ⟨2, ![128, 512]⟩
abbrev S1x2x32x64 : Shape := ⟨4, ![1, 2, 32, 64]⟩
abbrev S1x2x32x64x128 : Shape := ⟨5, ![1, 2, 32, 64, 128]⟩
abbrev S1x2x128x64 : Shape := ⟨4, ![1, 2, 128, 64]⟩
abbrev S_ : Shape := ⟨0, ![]⟩

class Facts : Prop where
  bitsLt_bf16_f32 : FTy.bits .bf16 < FTy.bits .f32
  bcast_S_S128x16 : S_.BroadcastsInDim S128x16 (![] : Fin 0 → Fin S128x16.rank)
  bcast_S_S1x2560x128x2x2x64 : S_.BroadcastsInDim S1x2560x128x2x2x64 (![] : Fin 0 → Fin S1x2560x128x2x2x64.rank)
  reducesTo_S1x2560x128x2x2x64_S_d0_1_2_3_4_5 : S1x2560x128x2x2x64.ReducesTo [0, 1, 2, 3, 4, 5] S_
  h_S_ : 0 < S_.numel
  bcast_S_S128x512 : S_.BroadcastsInDim S128x512 (![] : Fin 0 → Fin S128x512.rank)
  reducesTo_S128x512_S_d0_1 : S128x512.ReducesTo [0, 1] S_
  bcast_S_S1x2x32x64 : S_.BroadcastsInDim S1x2x32x64 (![] : Fin 0 → Fin S1x2x32x64.rank)
  reducesTo_S1x2x32x64_S_d0_1_2_3 : S1x2x32x64.ReducesTo [0, 1, 2, 3] S_
  bcast_S_S1x2x32x64x128 : S_.BroadcastsInDim S1x2x32x64x128 (![] : Fin 0 → Fin S1x2x32x64x128.rank)
  reducesTo_S1x2x32x64x128_S_d0_1_2_3_4 : S1x2x32x64x128.ReducesTo [0, 1, 2, 3, 4] S_
  bcast_S_S1x2x128x64 : S_.BroadcastsInDim S1x2x128x64 (![] : Fin 0 → Fin S1x2x128x64.rank)
  reducesTo_S1x2x128x64_S_d0_1_2_3 : S1x2x128x64.ReducesTo [0, 1, 2, 3] S_

variable [Facts]

def fn_part1 {F : FTy → Type} [FloatOps F] (main_arg3 : FVec F S1x2x32x64 .f32) (main_arg4 : FVec F S1x2x32x64x128 .f32) (main_arg5 : FVec F S1x2x128x64 .f32) (main_v17 : IVec S128x16 1) : IVec S128x16 1 :=
  let main_v18 : FVec F S1x2x32x64 .f32 := Host.absf main_arg3
  let main_cst_4 : FVec F S_ .f32 := constant S_ .f32 0x7F800000#32
  let main_v19 : FVec F S1x2x32x64 .f32 := broadcastInDim S1x2x32x64 ![] bcast_S_S1x2x32x64 main_cst_4
  let main_v20 : IVec S1x2x32x64 1 := cmpf .olt main_v18 main_v19
  let main_c_5 : IVec S_ 1 := constantI S_ 1 1#1
  let main_v21 : IVec S_ 1 := (fun x v => Host.reduce IntOp.andi x v reducesTo_S1x2x32x64_S_d0_1_2_3 h_S_) main_v20 main_c_5
  let main_v22 : IVec S128x16 1 := broadcastInDim S128x16 ![] bcast_S_S128x16 main_v21
  let main_v23 : IVec S128x16 1 := andi main_v17 main_v22
  let main_v24 : FVec F S1x2x32x64x128 .f32 := Host.absf main_arg4
  let main_cst_6 : FVec F S_ .f32 := constant S_ .f32 0x7F800000#32
  let main_v25 : FVec F S1x2x32x64x128 .f32 := broadcastInDim S1x2x32x64x128 ![] bcast_S_S1x2x32x64x128 main_cst_6
  let main_v26 : IVec S1x2x32x64x128 1 := cmpf .olt main_v24 main_v25
  let main_c_7 : IVec S_ 1 := constantI S_ 1 1#1
  let main_v27 : IVec S_ 1 := (fun x v => Host.reduce IntOp.andi x v reducesTo_S1x2x32x64x128_S_d0_1_2_3_4 h_S_) main_v26 main_c_7
  let main_v28 : IVec S128x16 1 := broadcastInDim S128x16 ![] bcast_S_S128x16 main_v27
  let main_v29 : IVec S128x16 1 := andi main_v23 main_v28
  let main_v30 : FVec F S1x2x128x64 .f32 := Host.absf main_arg5
  let main_cst_8 : FVec F S_ .f32 := constant S_ .f32 0x7F800000#32
  let main_v31 : FVec F S1x2x128x64 .f32 := broadcastInDim S1x2x128x64 ![] bcast_S_S1x2x128x64 main_cst_8
  let main_v32 : IVec S1x2x128x64 1 := cmpf .olt main_v30 main_v31
  let main_c_9 : IVec S_ 1 := constantI S_ 1 1#1
  let main_v33 : IVec S_ 1 := (fun x v => Host.reduce IntOp.andi x v reducesTo_S1x2x128x64_S_d0_1_2_3 h_S_) main_v32 main_c_9
  let main_v34 : IVec S128x16 1 := broadcastInDim S128x16 ![] bcast_S_S128x16 main_v33
  let main_v35 : IVec S128x16 1 := andi main_v29 main_v34
  main_v35

def fn {F : FTy → Type} [FloatOps F] (main_arg0 : IVec S128x16 32) (main_arg1 : FVec F S1x2560x128x2x2x64 .f32) (main_arg2 : FVec F S128x512 .bf16) (main_arg3 : FVec F S1x2x32x64 .f32) (main_arg4 : FVec F S1x2x32x64x128 .f32) (main_arg5 : FVec F S1x2x128x64 .f32) : IVec S128x16 1 :=
  let main_v0 : FVec F S128x512 .f32 := (extf .f32 · bitsLt_bf16_f32) main_arg2
  let main_c : IVec S_ 32 := constantI S_ 32 0#32
  let main_v1 : IVec S128x16 32 := broadcastInDim S128x16 ![] bcast_S_S128x16 main_c
  let main_v2 : IVec S128x16 1 := cmpi .sge main_arg0 main_v1
  let main_c_0 : IVec S_ 32 := constantI S_ 32 2560#32
  let main_v3 : IVec S128x16 32 := broadcastInDim S128x16 ![] bcast_S_S128x16 main_c_0
  let main_v4 : IVec S128x16 1 := cmpi .slt main_arg0 main_v3
  let main_v5 : IVec S128x16 1 := andi main_v2 main_v4
  let main_v6 : FVec F S1x2560x128x2x2x64 .f32 := Host.absf main_arg1
  let main_cst : FVec F S_ .f32 := constant S_ .f32 0x7F800000#32
  let main_v7 : FVec F S1x2560x128x2x2x64 .f32 := broadcastInDim S1x2560x128x2x2x64 ![] bcast_S_S1x2560x128x2x2x64 main_cst
  let main_v8 : IVec S1x2560x128x2x2x64 1 := cmpf .olt main_v6 main_v7
  let main_c_1 : IVec S_ 1 := constantI S_ 1 1#1
  let main_v9 : IVec S_ 1 := (fun x v => Host.reduce IntOp.andi x v reducesTo_S1x2560x128x2x2x64_S_d0_1_2_3_4_5 h_S_) main_v8 main_c_1
  let main_v10 : IVec S128x16 1 := broadcastInDim S128x16 ![] bcast_S_S128x16 main_v9
  let main_v11 : IVec S128x16 1 := andi main_v5 main_v10
  let main_v12 : FVec F S128x512 .f32 := Host.absf main_v0
  let main_cst_2 : FVec F S_ .f32 := constant S_ .f32 0x7F800000#32
  let main_v13 : FVec F S128x512 .f32 := broadcastInDim S128x512 ![] bcast_S_S128x512 main_cst_2
  let main_v14 : IVec S128x512 1 := cmpf .olt main_v12 main_v13
  let main_c_3 : IVec S_ 1 := constantI S_ 1 1#1
  let main_v15 : IVec S_ 1 := (fun x v => Host.reduce IntOp.andi x v reducesTo_S128x512_S_d0_1 h_S_) main_v14 main_c_3
  let main_v16 : IVec S128x16 1 := broadcastInDim S128x16 ![] bcast_S_S128x16 main_v15
  let main_v17 : IVec S128x16 1 := andi main_v11 main_v16
  fn_part1 (F := F) main_arg3 main_arg4 main_arg5 main_v17
-- ==== Pre_finite_selected.lean ====
abbrev S128x16 : Shape := ⟨2, ![128, 16]⟩
abbrev S1x2560x128x2x2x64 : Shape := ⟨6, ![1, 2560, 128, 2, 2, 64]⟩
abbrev S1x128x512x2x2x64 : Shape := ⟨6, ![1, 128, 512, 2, 2, 64]⟩
abbrev S128x512 : Shape := ⟨2, ![128, 512]⟩
abbrev S256x128 : Shape := ⟨2, ![256, 128]⟩
abbrev S1x256x128 : Shape := ⟨3, ![1, 256, 128]⟩
abbrev S128x8x128 : Shape := ⟨3, ![128, 8, 128]⟩
abbrev S128x256 : Shape := ⟨2, ![128, 256]⟩
abbrev S_ : Shape := ⟨0, ![]⟩
abbrev S256x33 : Shape := ⟨2, ![256, 33]⟩
abbrev S256 : Shape := ⟨1, ![256]⟩

class Facts : Prop where
  bitsLt_bf16_f32 : FTy.bits .bf16 < FTy.bits .f32
  bcast_S_S128x16 : S_.BroadcastsInDim S128x16 (![] : Fin 0 → Fin S128x16.rank)
  slices_S256x128_S256x33_0_0 : S256x128.Slices ![0, 0] S256x33
  reducesTo_S256x33_S256_d1 : S256x33.ReducesTo [1] S256
  h_S_ : 0 < S_.numel
  bcast_S_S256 : S_.BroadcastsInDim S256 (![] : Fin 0 → Fin S256.rank)
  reducesTo_S256_S_d0 : S256.ReducesTo [0] S_
  bcast_S_S1x2560x128x2x2x64 : S_.BroadcastsInDim S1x2560x128x2x2x64 (![] : Fin 0 → Fin S1x2560x128x2x2x64.rank)
  reducesTo_S1x2560x128x2x2x64_S_d0_1_2_3_4_5 : S1x2560x128x2x2x64.ReducesTo [0, 1, 2, 3, 4, 5] S_
  bcast_S_S1x128x512x2x2x64 : S_.BroadcastsInDim S1x128x512x2x2x64 (![] : Fin 0 → Fin S1x128x512x2x2x64.rank)
  reducesTo_S1x128x512x2x2x64_S_d0_1_2_3_4_5 : S1x128x512x2x2x64.ReducesTo [0, 1, 2, 3, 4, 5] S_
  bcast_S_S128x512 : S_.BroadcastsInDim S128x512 (![] : Fin 0 → Fin S128x512.rank)
  reducesTo_S128x512_S_d0_1 : S128x512.ReducesTo [0, 1] S_
  bcast_S_S1x256x128 : S_.BroadcastsInDim S1x256x128 (![] : Fin 0 → Fin S1x256x128.rank)
  reducesTo_S1x256x128_S_d0_1_2 : S1x256x128.ReducesTo [0, 1, 2] S_

variable [Facts]

def fn_part2 {F : FTy → Type} [FloatOps F] (main_arg6 : FVec F S1x256x128 .f32) (main_v30 : IVec S128x16 1) (main_v34 : IVec S_ 1) : IVec S128x16 1 :=
  let main_v35 : IVec S128x16 1 := broadcastInDim S128x16 ![] bcast_S_S128x16 main_v34
  let main_v36 : IVec S128x16 1 := andi main_v30 main_v35
  let main_v37 : FVec F S1x256x128 .f32 := Host.absf main_arg6
  let main_cst_11 : FVec F S_ .f32 := constant S_ .f32 0x7F800000#32
  let main_v38 : FVec F S1x256x128 .f32 := broadcastInDim S1x256x128 ![] bcast_S_S1x256x128 main_cst_11
  let main_v39 : IVec S1x256x128 1 := cmpf .olt main_v37 main_v38
  let main_c_12 : IVec S_ 1 := constantI S_ 1 1#1
  let main_v40 : IVec S_ 1 := (fun x v => Host.reduce IntOp.andi x v reducesTo_S1x256x128_S_d0_1_2 h_S_) main_v39 main_c_12
  let main_v41 : IVec S128x16 1 := broadcastInDim S128x16 ![] bcast_S_S128x16 main_v40
  let main_v42 : IVec S128x16 1 := andi main_v36 main_v41
  main_v42

def fn_part1 {F : FTy → Type} [FloatOps F] (main_arg2 : FVec F S1x128x512x2x2x64 .f32) (main_arg5 : FVec F S1x256x128 .f32) (main_arg6 : FVec F S1x256x128 .f32) (main_v0 : FVec F S128x512 .f32) (main_v12 : IVec S128x16 1) (main_v16 : IVec S_ 1) : IVec S128x16 1 :=
  let main_v17 : IVec S128x16 1 := broadcastInDim S128x16 ![] bcast_S_S128x16 main_v16
  let main_v18 : IVec S128x16 1 := andi main_v12 main_v17
  let main_v19 : FVec F S1x128x512x2x2x64 .f32 := Host.absf main_arg2
  let main_cst_5 : FVec F S_ .f32 := constant S_ .f32 0x7F800000#32
  let main_v20 : FVec F S1x128x512x2x2x64 .f32 := broadcastInDim S1x128x512x2x2x64 ![] bcast_S_S1x128x512x2x2x64 main_cst_5
  let main_v21 : IVec S1x128x512x2x2x64 1 := cmpf .olt main_v19 main_v20
  let main_c_6 : IVec S_ 1 := constantI S_ 1 1#1
  let main_v22 : IVec S_ 1 := (fun x v => Host.reduce IntOp.andi x v reducesTo_S1x128x512x2x2x64_S_d0_1_2_3_4_5 h_S_) main_v21 main_c_6
  let main_v23 : IVec S128x16 1 := broadcastInDim S128x16 ![] bcast_S_S128x16 main_v22
  let main_v24 : IVec S128x16 1 := andi main_v18 main_v23
  let main_v25 : FVec F S128x512 .f32 := Host.absf main_v0
  let main_cst_7 : FVec F S_ .f32 := constant S_ .f32 0x7F800000#32
  let main_v26 : FVec F S128x512 .f32 := broadcastInDim S128x512 ![] bcast_S_S128x512 main_cst_7
  let main_v27 : IVec S128x512 1 := cmpf .olt main_v25 main_v26
  let main_c_8 : IVec S_ 1 := constantI S_ 1 1#1
  let main_v28 : IVec S_ 1 := (fun x v => Host.reduce IntOp.andi x v reducesTo_S128x512_S_d0_1 h_S_) main_v27 main_c_8
  let main_v29 : IVec S128x16 1 := broadcastInDim S128x16 ![] bcast_S_S128x16 main_v28
  let main_v30 : IVec S128x16 1 := andi main_v24 main_v29
  let main_v31 : FVec F S1x256x128 .f32 := Host.absf main_arg5
  let main_cst_9 : FVec F S_ .f32 := constant S_ .f32 0x7F800000#32
  let main_v32 : FVec F S1x256x128 .f32 := broadcastInDim S1x256x128 ![] bcast_S_S1x256x128 main_cst_9
  let main_v33 : IVec S1x256x128 1 := cmpf .olt main_v31 main_v32
  let main_c_10 : IVec S_ 1 := constantI S_ 1 1#1
  let main_v34 : IVec S_ 1 := (fun x v => Host.reduce IntOp.andi x v reducesTo_S1x256x128_S_d0_1_2 h_S_) main_v33 main_c_10
  fn_part2 (F := F) main_arg6 main_v30 main_v34

def fn {F : FTy → Type} [FloatOps F] (main_arg0 : IVec S128x16 32) (main_arg1 : FVec F S1x2560x128x2x2x64 .f32) (main_arg2 : FVec F S1x128x512x2x2x64 .f32) (main_arg3 : FVec F S128x512 .bf16) (main_arg4 : FVec F S256x128 .f32) (main_arg5 : FVec F S1x256x128 .f32) (main_arg6 : FVec F S1x256x128 .f32) (main_arg7 : FVec F S128x8x128 .f32) (main_arg8 : FVec F S128x256 .f32) : IVec S128x16 1 :=
  let main_v0 : FVec F S128x512 .f32 := (extf .f32 · bitsLt_bf16_f32) main_arg3
  let main_c : IVec S_ 32 := constantI S_ 32 0#32
  let main_v1 : IVec S128x16 32 := broadcastInDim S128x16 ![] bcast_S_S128x16 main_c
  let main_v2 : IVec S128x16 1 := cmpi .sge main_arg0 main_v1
  let main_c_0 : IVec S_ 32 := constantI S_ 32 2560#32
  let main_v3 : IVec S128x16 32 := broadcastInDim S128x16 ![] bcast_S_S128x16 main_c_0
  let main_v4 : IVec S128x16 1 := cmpi .slt main_arg0 main_v3
  let main_v5 : IVec S128x16 1 := andi main_v2 main_v4
  let main_v6 : FVec F S256x33 .f32 := (extractStridedSlice S256x33 ![0, 0] · slices_S256x128_S256x33_0_0) main_arg4
  let main_cst : FVec F S_ .f32 := constant S_ .f32 0x7F800000#32
  let main_v7 : FVec F S256 .f32 := (fun x v => Host.reduce FloatOps.minimumf x v reducesTo_S256x33_S256_d1 h_S_) main_v6 main_cst
  let main_cst_1 : FVec F S_ .f32 := constant S_ .f32 0x3F000000#32
  let main_v8 : FVec F S256 .f32 := broadcastInDim S256 ![] bcast_S_S256 main_cst_1
  let main_v9 : IVec S256 1 := cmpf .ole main_v7 main_v8
  let main_c_2 : IVec S_ 1 := constantI S_ 1 1#1
  let main_v10 : IVec S_ 1 := (fun x v => Host.reduce IntOp.andi x v reducesTo_S256_S_d0 h_S_) main_v9 main_c_2
  let main_v11 : IVec S128x16 1 := broadcastInDim S128x16 ![] bcast_S_S128x16 main_v10
  let main_v12 : IVec S128x16 1 := andi main_v5 main_v11
  let main_v13 : FVec F S1x2560x128x2x2x64 .f32 := Host.absf main_arg1
  let main_cst_3 : FVec F S_ .f32 := constant S_ .f32 0x7F800000#32
  let main_v14 : FVec F S1x2560x128x2x2x64 .f32 := broadcastInDim S1x2560x128x2x2x64 ![] bcast_S_S1x2560x128x2x2x64 main_cst_3
  let main_v15 : IVec S1x2560x128x2x2x64 1 := cmpf .olt main_v13 main_v14
  let main_c_4 : IVec S_ 1 := constantI S_ 1 1#1
  let main_v16 : IVec S_ 1 := (fun x v => Host.reduce IntOp.andi x v reducesTo_S1x2560x128x2x2x64_S_d0_1_2_3_4_5 h_S_) main_v15 main_c_4
  fn_part1 (F := F) main_arg2 main_arg5 main_arg6 main_v0 main_v12 main_v16
-- ==== Kernel.lean ====
abbrev S128x16 : Shape := ⟨2, ![128, 16]⟩
abbrev S1x2560x128x2x2x64 : Shape := ⟨6, ![1, 2560, 128, 2, 2, 64]⟩
abbrev S128x512 : Shape := ⟨2, ![128, 512]⟩
abbrev S1x2x32x64 : Shape := ⟨4, ![1, 2, 32, 64]⟩
abbrev S1x2x32x64x128 : Shape := ⟨5, ![1, 2, 32, 64, 128]⟩
abbrev S1x2x128x64 : Shape := ⟨4, ![1, 2, 128, 64]⟩
abbrev S2x32x64 : Shape := ⟨3, ![2, 32, 64]⟩
abbrev S2x32x64x128 : Shape := ⟨4, ![2, 32, 64, 128]⟩
abbrev S2x128x64 : Shape := ⟨3, ![2, 128, 64]⟩
abbrev S2x2x16x1x64 : Shape := ⟨5, ![2, 2, 16, 1, 64]⟩
abbrev S1x2x1x2x1x16x1x1x1x64 : Shape := ⟨10, ![1, 2, 1, 2, 1, 16, 1, 1, 1, 64]⟩
abbrev S1x2x1x2x1x16x1x1x2x64 : Shape := ⟨10, ![1, 2, 1, 2, 1, 16, 1, 1, 2, 64]⟩
abbrev S2x2x16x1x128 : Shape := ⟨5, ![2, 2, 16, 1, 128]⟩
abbrev S2x2x16x64x128 : Shape := ⟨5, ![2, 2, 16, 64, 128]⟩
abbrev S_ : Shape := ⟨0, ![]⟩
abbrev S2x2x16x64x256 : Shape := ⟨5, ![2, 2, 16, 64, 256]⟩
abbrev S2x2x16x128x256 : Shape := ⟨5, ![2, 2, 16, 128, 256]⟩
abbrev S2x2x2048x256 : Shape := ⟨4, ![2, 2, 2048, 256]⟩
abbrev S2x128x128 : Shape := ⟨3, ![2, 128, 128]⟩
abbrev S2x256x128 : Shape := ⟨3, ![2, 256, 128]⟩
abbrev S128x2x4x1x64 : Shape := ⟨5, ![128, 2, 4, 1, 64]⟩
abbrev S2x2 : Shape := ⟨2, ![2, 2]⟩
abbrev S1x2x1x2x1 : Shape := ⟨5, ![1, 2, 1, 2, 1]⟩
abbrev S128x2x4x2x64 : Shape := ⟨5, ![128, 2, 4, 2, 64]⟩
abbrev S128x8x128 : Shape := ⟨3, ![128, 8, 128]⟩
abbrev S2560x128x2x2x64 : Shape := ⟨5, ![2560, 128, 2, 2, 64]⟩
abbrev S2560x2x2x64x128 : Shape := ⟨5, ![2560, 2, 2, 64, 128]⟩
abbrev S2560x256x128 : Shape := ⟨3, ![2560, 256, 128]⟩
abbrev S1x256x128 : Shape := ⟨3, ![1, 256, 128]⟩
abbrev S1x1 : Shape := ⟨2, ![1, 1]⟩
abbrev S1x8x128 : Shape := ⟨3, ![1, 8, 128]⟩
abbrev S2x2048x128 : Shape := ⟨3, ![2, 2048, 128]⟩
abbrev S1x128x128 : Shape := ⟨3, ![1, 128, 128]⟩
abbrev S128x128 : Shape := ⟨2, ![128, 128]⟩
abbrev S1x1x1x1x128 : Shape := ⟨5, ![1, 1, 1, 1, 128]⟩
abbrev S1x128 : Shape := ⟨2, ![1, 128]⟩
abbrev S128x2048 : Shape := ⟨2, ![128, 2048]⟩
abbrev S1x1x2048x256 : Shape := ⟨4, ![1, 1, 2048, 256]⟩
abbrev S2048x256 : Shape := ⟨2, ![2048, 256]⟩
abbrev S128x256 : Shape := ⟨2, ![128, 256]⟩
abbrev S256x128 : Shape := ⟨2, ![256, 128]⟩
abbrev S8x128 : Shape := ⟨2, ![8, 128]⟩
abbrev S8 : Shape := ⟨1, ![8]⟩
abbrev S8x1 : Shape := ⟨2, ![8, 1]⟩

abbrev nBuf : Space → Nat
  | .hbm => 44
  | .vmem => 42
  | .smem => 1
  | _ => 0

abbrev bufTy : (tb : Table) → Fin (tcTables nBuf tb) → BufTy
  | .hbm, ⟨0, _⟩ => ⟨S1x2560x128x2x2x64, .f32⟩
  | .hbm, ⟨1, _⟩ => ⟨S128x512, .bf16⟩
  | .hbm, ⟨2, _⟩ => ⟨S1x2x32x64, .f32⟩
  | .hbm, ⟨3, _⟩ => ⟨S1x2x32x64x128, .f32⟩
  | .hbm, ⟨4, _⟩ => ⟨S1x2x128x64, .f32⟩
  | .hbm, ⟨5, _⟩ => ⟨S2x32x64, .f32⟩
  | .hbm, ⟨6, _⟩ => ⟨S2x32x64x128, .f32⟩
  | .hbm, ⟨7, _⟩ => ⟨S2x128x64, .f32⟩
  | .hbm, ⟨8, _⟩ => ⟨S2x2x16x1x64, .f32⟩
  | .hbm, ⟨9, _⟩ => ⟨S1x2x1x2x1x16x1x1x1x64, .f32⟩
  | .hbm, ⟨10, _⟩ => ⟨S1x2x1x2x1x16x1x1x2x64, .f32⟩
  | .hbm, ⟨11, _⟩ => ⟨S2x2x16x1x128, .f32⟩
  | .hbm, ⟨12, _⟩ => ⟨S2x2x16x64x128, .f32⟩
  | .hbm, ⟨13, _⟩ => ⟨S_, .f32⟩
  | .hbm, ⟨14, _⟩ => ⟨S2x2x16x64x128, .f32⟩
  | .hbm, ⟨15, _⟩ => ⟨S2x2x16x64x256, .f32⟩
  | .hbm, ⟨16, _⟩ => ⟨S2x2x16x64x256, .f32⟩
  | .hbm, ⟨17, _⟩ => ⟨S2x2x16x128x256, .f32⟩
  | .hbm, ⟨18, _⟩ => ⟨S2x2x2048x256, .f32⟩
  | .hbm, ⟨19, _⟩ => ⟨S2x2x2048x256, .bf16⟩
  | .hbm, ⟨20, _⟩ => ⟨S_, .f32⟩
  | .hbm, ⟨21, _⟩ => ⟨S2x128x64, .f32⟩
  | .hbm, ⟨22, _⟩ => ⟨S2x128x128, .f32⟩
  | .hbm, ⟨23, _⟩ => ⟨S2x128x128, .f32⟩
  | .hbm, ⟨24, _⟩ => ⟨S2x256x128, .f32⟩
  | .hbm, ⟨25, _⟩ => ⟨S2x256x128, .bf16⟩
  | .hbm, ⟨26, _⟩ => ⟨S128x2x4x1x64, .bf16⟩
  | .hbm, ⟨27, _⟩ => ⟨S2x2, .i32⟩
  | .hbm, ⟨28, _⟩ => ⟨S2x2, .i32⟩
  | .hbm, ⟨29, _⟩ => ⟨S_, .i32⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S2x2, .bf16⟩
  | .hbm, ⟨34, _⟩ => ⟨S1x2x1x2x1, .bf16⟩
  | .hbm, ⟨35, _⟩ => ⟨S128x2x4x2x64, .bf16⟩
  | .hbm, ⟨36, _⟩ => ⟨S128x2x4x2x64, .bf16⟩
  | .hbm, ⟨37, _⟩ => ⟨S128x2x4x2x64, .bf16⟩
  | .hbm, ⟨38, _⟩ => ⟨S128x8x128, .bf16⟩
  | .hbm, ⟨39, _⟩ => ⟨S2560x128x2x2x64, .f32⟩
  | .hbm, ⟨40, _⟩ => ⟨S2560x2x2x64x128, .f32⟩
  | .hbm, ⟨41, _⟩ => ⟨S2560x256x128, .f32⟩
  | .hbm, ⟨42, _⟩ => ⟨S128x8x128, .f32⟩
  | .hbm, ⟨43, _⟩ => ⟨S128x8x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x8x128, .bf16⟩
  | .local _ .vmem, ⟨33, _⟩ => ⟨S1x8x128, .bf16⟩
  | .local _ .vmem, ⟨34, _⟩ => ⟨S2x2x16x1x128, .f32⟩
  | .local _ .vmem, ⟨35, _⟩ => ⟨S2x2x2048x256, .bf16⟩
  | .local _ .vmem, ⟨36, _⟩ => ⟨S2x256x128, .bf16⟩
  | .local _ .vmem, ⟨37, _⟩ => ⟨S1x8x128, .f32⟩
  | .local _ .vmem, ⟨38, _⟩ => ⟨S1x8x128, .f32⟩
  | .local _ .vmem, ⟨39, _⟩ => ⟨S1x8x128, .f32⟩
  | .local _ .vmem, ⟨40, _⟩ => ⟨S1x8x128, .f32⟩
  | .local _ .vmem, ⟨41, _⟩ => ⟨S2x2048x128, .f32⟩
  | .local _ .smem, ⟨0, _⟩ => ⟨S128x16, .i32⟩
  | _, _ => ⟨S1x2560x128x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem19_0 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x2x16x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x2x2048x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S128x16 : Shape := ⟨2, ![128, 16]⟩
abbrev S1x2560x128x2x2x64 : Shape := ⟨6, ![1, 2560, 128, 2, 2, 64]⟩
abbrev S128x512 : Shape := ⟨2, ![128, 512]⟩
abbrev S1x2x32x64 : Shape := ⟨4, ![1, 2, 32, 64]⟩
abbrev S1x2x32x64x128 : Shape := ⟨5, ![1, 2, 32, 64, 128]⟩
abbrev S1x2x128x64 : Shape := ⟨4, ![1, 2, 128, 64]⟩
abbrev S2560x128x2x2x64 : Shape := ⟨5, ![2560, 128, 2, 2, 64]⟩
abbrev S_ : Shape := ⟨0, ![]⟩
abbrev S128x16x1 : Shape := ⟨3, ![128, 16, 1]⟩
abbrev S128x16x128x2x2x64 : Shape := ⟨6, ![128, 16, 128, 2, 2, 64]⟩
abbrev S128x2048x2x2x64 : Shape := ⟨5, ![128, 2048, 2, 2, 64]⟩
abbrev S128x2048x1x2x64 : Shape := ⟨5, ![128, 2048, 1, 2, 64]⟩
abbrev S128x2048x2x64 : Shape := ⟨4, ![128, 2048, 2, 64]⟩
abbrev S1x1x32x64 : Shape := ⟨4, ![1, 1, 32, 64]⟩
abbrev S32x64 : Shape := ⟨2, ![32, 64]⟩
abbrev S1x1x32x64x128 : Shape := ⟨5, ![1, 1, 32, 64, 128]⟩
abbrev S32x64x128 : Shape := ⟨3, ![32, 64, 128]⟩
abbrev S1x1x128x64 : Shape := ⟨4, ![1, 1, 128, 64]⟩
abbrev S128x64 : Shape := ⟨2, ![128, 64]⟩
abbrev S128x128x16x2x64 : Shape := ⟨5, ![128, 128, 16, 2, 64]⟩
abbrev S128x127x16x2x64 : Shape := ⟨5, ![128, 127, 16, 2, 64]⟩
abbrev S128x127x32x2x64 : Shape := ⟨5, ![128, 127, 32, 2, 64]⟩
abbrev S32x1x64 : Shape := ⟨3, ![32, 1, 64]⟩
abbrev S1x1x32x1x64 : Shape := ⟨5, ![1, 1, 32, 1, 64]⟩
abbrev S128x127x2x128 : Shape := ⟨4, ![128, 127, 2, 128]⟩
abbrev S128x127x2x64 : Shape := ⟨4, ![128, 127, 2, 64]⟩
abbrev S128x2x4x64 : Shape := ⟨4, ![128, 2, 4, 64]⟩
abbrev S127 : Shape := ⟨1, ![127]⟩
abbrev S128x2x4x127 : Shape := ⟨4, ![128, 2, 4, 127]⟩
abbrev S128x2x4 : Shape := ⟨3, ![128, 2, 4]⟩
abbrev S128x2x4x1 : Shape := ⟨4, ![128, 2, 4, 1]⟩
abbrev S128 : Shape := ⟨1, ![128]⟩
abbrev S127x1 : Shape := ⟨2, ![127, 1]⟩
abbrev S1x128 : Shape := ⟨2, ![1, 128]⟩
abbrev S127x128 : Shape := ⟨2, ![127, 128]⟩
abbrev S128x2x4x128 : Shape := ⟨4, ![128, 2, 4, 128]⟩
abbrev S128x8x1x64 : Shape := ⟨4, ![128, 8, 1, 64]⟩
abbrev S128x8x2x64 : Shape := ⟨4, ![128, 8, 2, 64]⟩
abbrev S128x8x128 : Shape := ⟨3, ![128, 8, 128]⟩

abbrev nBuf : Space → Nat
  | .hbm => 139
  | .vmem => 0
  | .smem => 0
  | _ => 0

abbrev hbmTy0_0 (i : Nat) : BufTy := match i % 128 with
  | 0 => ⟨S128x16, .i32⟩
  | 1 => ⟨S1x2560x128x2x2x64, .f32⟩
  | 2 => ⟨S128x512, .bf16⟩
  | 3 => ⟨S1x2x32x64, .f32⟩
  | 4 => ⟨S1x2x32x64x128, .f32⟩
  | 5 => ⟨S1x2x128x64, .f32⟩
  | 6 => ⟨S2560x128x2x2x64, .f32⟩
  | 7 => ⟨S_, .i32⟩
  | 8 => ⟨S128x16, .i32⟩
  | 9 => ⟨S128x16, .i1⟩
  | 10 => ⟨S_, .i32⟩
  | 11 => ⟨S128x16, .i32⟩
  | 12 => ⟨S128x16, .i32⟩
  | 13 => ⟨S128x16, .i32⟩
  | 14 => ⟨S128x16x1, .i32⟩
  | 15 => ⟨S128x16x128x2x2x64, .f32⟩
  | 16 => ⟨S128x2048x2x2x64, .f32⟩
  | 17 => ⟨S128x2048x1x2x64, .f32⟩
  | 18 => ⟨S128x2048x2x64, .f32⟩
  | 19 => ⟨S1x1x32x64, .f32⟩
  | 20 => ⟨S32x64, .f32⟩
  | 21 => ⟨S1x1x32x64x128, .f32⟩
  | 22 => ⟨S32x64x128, .f32⟩
  | 23 => ⟨S1x1x128x64, .f32⟩
  | 24 => ⟨S128x64, .f32⟩
  | 25 => ⟨S128x128x16x2x64, .f32⟩
  | 26 => ⟨S128x127x16x2x64, .f32⟩
  | 27 => ⟨S128x127x16x2x64, .f32⟩
  | 28 => ⟨S128x127x32x2x64, .f32⟩
  | 29 => ⟨S32x1x64, .f32⟩
  | 30 => ⟨S1x1x32x1x64, .f32⟩
  | 31 => ⟨S128x127x32x2x64, .f32⟩
  | 32 => ⟨S128x127x32x2x64, .f32⟩
  | 33 => ⟨S128x127x2x128, .f32⟩
  | 34 => ⟨S128x127x2x128, .f32⟩
  | 35 => ⟨S128x127x2x128, .f32⟩
  | 36 => ⟨S_, .f32⟩
  | 37 => ⟨S128x127x2x128, .f32⟩
  | 38 => ⟨S128x127x2x128, .f32⟩
  | 39 => ⟨S_, .f32⟩
  | 40 => ⟨S128x127x2x128, .f32⟩
  | 41 => ⟨S128x127x2x128, .f32⟩
  | 42 => ⟨S128x127x2x128, .f32⟩
  | 43 => ⟨S128x127x2x64, .f32⟩
  | 44 => ⟨S128x2048x1x2x64, .f32⟩
  | 45 => ⟨S128x2048x2x64, .f32⟩
  | 46 => ⟨S1x1x32x64, .f32⟩
  | 47 => ⟨S32x64, .f32⟩
  | 48 => ⟨S1x1x32x64x128, .f32⟩
  | 49 => ⟨S32x64x128, .f32⟩
  | 50 => ⟨S1x1x128x64, .f32⟩
  | 51 => ⟨S128x64, .f32⟩
  | 52 => ⟨S128x128x16x2x64, .f32⟩
  | 53 => ⟨S128x127x16x2x64, .f32⟩
  | 54 => ⟨S128x127x16x2x64, .f32⟩
  | 55 => ⟨S128x127x32x2x64, .f32⟩
  | 56 => ⟨S32x1x64, .f32⟩
  | 57 => ⟨S1x1x32x1x64, .f32⟩
  | 58 => ⟨S128x127x32x2x64, .f32⟩
  | 59 => ⟨S128x127x32x2x64, .f32⟩
  | 60 => ⟨S128x127x2x128, .f32⟩
  | 61 => ⟨S128x127x2x128, .f32⟩
  | 62 => ⟨S128x127x2x128, .f32⟩
  | 63 => ⟨S_, .f32⟩
  | 64 => ⟨S128x127x2x128, .f32⟩
  | 65 => ⟨S128x127x2x128, .f32⟩
  | 66 => ⟨S_, .f32⟩
  | 67 => ⟨S128x127x2x128, .f32⟩
  | 68 => ⟨S128x127x2x128, .f32⟩
  | 69 => ⟨S128x127x2x128, .f32⟩
  | 70 => ⟨S128x127x2x64, .f32⟩
  | 71 => ⟨S128x512, .f32⟩
  | 72 => ⟨S128x2x4x64, .f32⟩
  | 73 => ⟨S127, .i32⟩
  | 74 => ⟨S_, .i32⟩
  | 75 => ⟨S127, .i32⟩
  | 76 => ⟨S127, .i32⟩
  | 77 => ⟨S_, .i32⟩
  | 78 => ⟨S127, .i32⟩
  | 79 => ⟨S127, .i32⟩
  | 80 => ⟨S_, .i32⟩
  | 81 => ⟨S127, .i32⟩
  | 82 => ⟨S127, .i32⟩
  | 83 => ⟨S_, .i32⟩
  | 84 => ⟨S127, .i32⟩
  | 85 => ⟨S127, .i1⟩
  | 86 => ⟨S128x2x4x127, .f32⟩
  | 87 => ⟨S_, .f32⟩
  | 88 => ⟨S_, .f32⟩
  | 89 => ⟨S128x2x4x127, .i1⟩
  | 90 => ⟨S128x2x4x127, .f32⟩
  | 91 => ⟨S128x2x4x127, .f32⟩
  | 92 => ⟨S_, .f32⟩
  | 93 => ⟨S128x2x4, .f32⟩
  | 94 => ⟨S_, .f32⟩
  | 95 => ⟨S128x2x4, .f32⟩
  | 96 => ⟨S128x2x4, .f32⟩
  | 97 => ⟨S128x2x4x1, .f32⟩
  | 98 => ⟨S128x2x4x127, .f32⟩
  | 99 => ⟨S128x2x4x127, .f32⟩
  | 100 => ⟨S128x2x4x127, .f32⟩
  | 101 => ⟨S_, .f32⟩
  | 102 => ⟨S128x2x4, .f32⟩
  | 103 => ⟨S128x2x4x1, .f32⟩
  | 104 => ⟨S128x2x4x127, .f32⟩
  | 105 => ⟨S128x2x4x127, .f32⟩
  | 106 => ⟨S_, .f32⟩
  | 107 => ⟨S_, .f32⟩
  | 108 => ⟨S128x2x4x127, .i1⟩
  | 109 => ⟨S128x2x4x127, .f32⟩
  | 110 => ⟨S128x2x4x127, .f32⟩
  | 111 => ⟨S128x2x4x64, .f32⟩
  | 112 => ⟨S128, .i32⟩
  | 113 => ⟨S_, .i32⟩
  | 114 => ⟨S128, .i32⟩
  | 115 => ⟨S128, .i32⟩
  | 116 => ⟨S127x1, .i32⟩
  | 117 => ⟨S1x128, .i32⟩
  | 118 => ⟨S_, .i32⟩
  | 119 => ⟨S1x128, .i32⟩
  | 120 => ⟨S1x128, .i32⟩
  | 121 => ⟨S127x128, .i32⟩
  | 122 => ⟨S127x128, .i32⟩
  | 123 => ⟨S127x128, .i1⟩
  | 124 => ⟨S127x1, .i32⟩
  | 125 => ⟨S_, .i32⟩
  | 126 => ⟨S127x1, .i32⟩
  | 127 => ⟨S127x1, .i32⟩
  | _ => ⟨S128x16, .i32⟩

abbrev hbmTy0_1 (i : Nat) : BufTy := match i % 128 with
  | 0 => ⟨S1x128, .i32⟩
  | 1 => ⟨S127x128, .i32⟩
  | 2 => ⟨S127x128, .i32⟩
  | 3 => ⟨S127x128, .i1⟩
  | 4 => ⟨S127x128, .i1⟩
  | 5 => ⟨S127x128, .f32⟩
  | 6 => ⟨S128x2x4x128, .f32⟩
  | 7 => ⟨S128x8x1x64, .f32⟩
  | 8 => ⟨S128x8x2x64, .f32⟩
  | 9 => ⟨S128x8x128, .f32⟩
  | 10 => ⟨S128x8x128, .f32⟩
  | _ => ⟨S128x16, .i32⟩

abbrev hbmTy (i : Nat) : BufTy := match i / 128 with
  | 0 => hbmTy0_0 i
  | 1 => hbmTy0_1 i
  | _ => ⟨S128x16, .i32⟩

abbrev bufTy : (tb : Table) → Fin (tcTables nBuf tb) → BufTy
  | .hbm, ⟨i, _⟩ => hbmTy i
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_1 : Ref sig .tc := ⟨.hbm, 74, rfl⟩
abbrev main_v50 : Ref sig .tc := ⟨.hbm, 75, rfl⟩
abbrev main_v51 : Ref sig .tc := ⟨.hbm, 76, rfl⟩
abbrev main_c_2 : Ref sig .tc := ⟨.hbm, 77, rfl⟩
abbrev main_v52 : Ref sig .tc := ⟨.hbm, 78, rfl⟩
abbrev main_v53 : Ref sig .tc := ⟨.hbm, 79, rfl⟩
abbrev main_c_3 : Ref sig .tc := ⟨.hbm, 80, rfl⟩
abbrev main_v54 : Ref sig .tc := ⟨.hbm, 81, rfl⟩
abbrev main_v55 : Ref sig .tc := ⟨.hbm, 82, rfl⟩
abbrev main_c_4 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v59 : Ref sig .tc := ⟨.hbm, 91, rfl⟩
abbrev main_cst_5 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_8 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_10 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_11 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== Project.lean ====
abbrev S2x8192x1024 : Shape := ⟨3, ![2, 8192, 1024]⟩
abbrev S1x1024 : Shape := ⟨2, ![1, 1024]⟩
abbrev S1x1024x2840 : Shape := ⟨3, ![1, 1024, 2840]⟩
abbrev S1024x2840 : Shape := ⟨2, ![1024, 2840]⟩
abbrev S1024x24 : Shape := ⟨2, ![1024, 24]⟩
abbrev S1024x1536 : Shape := ⟨2, ![1024, 1536]⟩
abbrev S_ : Shape := ⟨0, ![]⟩
abbrev S1024x116 : Shape := ⟨2, ![1024, 116]⟩
abbrev S1024x1280 : Shape := ⟨2, ![1024, 1280]⟩
abbrev S1024x12 : Shape := ⟨2, ![1024, 12]⟩
abbrev S1024x3072 : Shape := ⟨2, ![1024, 3072]⟩
abbrev S16384x1024 : Shape := ⟨2, ![16384, 1024]⟩
abbrev S16384x512 : Shape := ⟨2, ![16384, 512]⟩
abbrev S2x16384x128 : Shape := ⟨3, ![2, 16384, 128]⟩
abbrev S2x256x8192 : Shape := ⟨3, ![2, 256, 8192]⟩
abbrev S2x128x128x128 : Shape := ⟨4, ![2, 128, 128, 128]⟩
abbrev S2x128x64x128 : Shape := ⟨4, ![2, 128, 64, 128]⟩
abbrev S16384x256 : Shape := ⟨2, ![16384, 256]⟩
abbrev S256x1024 : Shape := ⟨2, ![256, 1024]⟩
abbrev S256x512 : Shape := ⟨2, ![256, 512]⟩
abbrev S2x256x128 : Shape := ⟨3, ![2, 256, 128]⟩
abbrev S1x256x256 : Shape := ⟨3, ![1, 256, 256]⟩
abbrev S2x2x128x128 : Shape := ⟨4, ![2, 2, 128, 128]⟩
abbrev S2x2x64x128 : Shape := ⟨4, ![2, 2, 64, 128]⟩
abbrev S256x256 : Shape := ⟨2, ![256, 256]⟩
abbrev S256 : Shape := ⟨1, ![256]⟩
abbrev S256x1 : Shape := ⟨2, ![256, 1]⟩
abbrev S1024x512 : Shape := ⟨2, ![1024, 512]⟩
abbrev S1024x768 : Shape := ⟨2, ![1024, 768]⟩
abbrev S256x768 : Shape := ⟨2, ![256, 768]⟩
abbrev S256x128 : Shape := ⟨2, ![256, 128]⟩
abbrev S1x256x128 : Shape := ⟨3, ![1, 256, 128]⟩
abbrev S768x256 : Shape := ⟨2, ![768, 256]⟩
abbrev S64x256 : Shape := ⟨2, ![64, 256]⟩
abbrev S64x128 : Shape := ⟨2, ![64, 128]⟩
abbrev S1x1x64x128 : Shape := ⟨4, ![1, 1, 64, 128]⟩
abbrev S1024x256 : Shape := ⟨2, ![1024, 256]⟩

abbrev nBuf : Space → Nat
  | .hbm => 27
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2840, .f32⟩
  | .hbm, ⟨3, _⟩ => ⟨S1024x2840, .f32⟩
  | .hbm, ⟨4, _⟩ => ⟨S1024x24, .f32⟩
  | .hbm, ⟨5, _⟩ => ⟨S1024x1536, .f32⟩
  | .hbm, ⟨6, _⟩ => ⟨S_, .f32⟩
  | .hbm, ⟨7, _⟩ => ⟨S1024x116, .f32⟩
  | .hbm, ⟨8, _⟩ => ⟨S1024x1280, .f32⟩
  | .hbm, ⟨9, _⟩ => ⟨S1024x12, .f32⟩
  | .hbm, ⟨10, _⟩ => ⟨S1024x12, .f32⟩
  | .hbm, ⟨11, _⟩ => ⟨S1024x3072, .f32⟩
  | .hbm, ⟨12, _⟩ => ⟨S1024x3072, .bf16⟩
  | .hbm, ⟨13, _⟩ => ⟨S16384x1024, .f32⟩
  | .hbm, ⟨14, _⟩ => ⟨S16384x512, .bf16⟩
  | .hbm, ⟨15, _⟩ => ⟨S2x16384x128, .f32⟩
  | .hbm, ⟨16, _⟩ => ⟨S2x256x8192, .f32⟩
  | .hbm, ⟨17, _⟩ => ⟨S2x256x8192, .f32⟩
  | .hbm, ⟨18, _⟩ => ⟨S2x256x8192, .f32⟩
  | .hbm, ⟨19, _⟩ => ⟨S2x128x128x128, .bf16⟩
  | .hbm, ⟨20, _⟩ => ⟨S2x16384x128, .bf16⟩
  | .hbm, ⟨21, _⟩ => ⟨S2x128x64x128, .bf16⟩
  | .hbm, ⟨22, _⟩ => ⟨S2x16384x128, .bf16⟩
  | .hbm, ⟨23, _⟩ => ⟨S16384x256, .f32⟩
  | .hbm, ⟨24, _⟩ => ⟨S16384x512, .f32⟩
  | .hbm, ⟨25, _⟩ => ⟨S16384x512, .f32⟩
  | .hbm, ⟨26, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x512, .bf16⟩
  | .local _ .vmem, ⟨5, _⟩ => ⟨S256x512, .bf16⟩
  | .local _ .vmem, ⟨6, _⟩ => ⟨S2x256x128, .f32⟩
  | .local _ .vmem, ⟨7, _⟩ => ⟨S2x256x128, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S2x2x128x128, .bf16⟩
  | .local _ .vmem, ⟨15, _⟩ => ⟨S2x2x128x128, .bf16⟩
  | .local _ .vmem, ⟨16, _⟩ => ⟨S2x256x128, .bf16⟩
  | .local _ .vmem, ⟨17, _⟩ => ⟨S2x256x128, .bf16⟩
  | .local _ .vmem, ⟨18, _⟩ => ⟨S2x2x64x128, .bf16⟩
  | .local _ .vmem, ⟨19, _⟩ => ⟨S2x2x64x128, .bf16⟩
  | .local _ .vmem, ⟨20, _⟩ => ⟨S2x256x128, .bf16⟩
  | .local _ .vmem, ⟨21, _⟩ => ⟨S2x256x128, .bf16⟩
  | .local _ .vmem, ⟨22, _⟩ => ⟨S256x256, .f32⟩
  | .local _ .vmem, ⟨23, _⟩ => ⟨S256x256, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev main_v10_5 : Ref sig .tc := ⟨.hbm, 19, rfl⟩
abbrev main_v10_6 : Ref sig .tc := ⟨.hbm, 20, rfl⟩
abbrev main_v10_7 : Ref sig .tc := ⟨.hbm, 21, rfl⟩
abbrev main_v10_8 : Ref sig .tc := ⟨.hbm, 22, rfl⟩
abbrev main_v10_9 : Ref sig .tc := ⟨.hbm, 23, rfl⟩
abbrev main_v10_10 : Ref sig .tc := ⟨.hbm, 24, rfl⟩
abbrev main_v10_11 : Ref sig .tc := ⟨.hbm, 25, rfl⟩
abbrev main_v10_12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjectReferenceIdeal.lean ====
abbrev S2x8192x1024 : Shape := ⟨3, ![2, 8192, 1024]⟩
abbrev S1x1024 : Shape := ⟨2, ![1, 1024]⟩
abbrev S1x1024x2840 : Shape := ⟨3, ![1, 1024, 2840]⟩
abbrev S1024 : Shape := ⟨1, ![1024]⟩
abbrev S1024x2840 : Shape := ⟨2, ![1024, 2840]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2840 : Shape := ⟨3, ![2, 8192, 2840]⟩
abbrev S2x8192x512 : Shape := ⟨3, ![2, 8192, 512]⟩
abbrev S2x8192x256 : Shape := ⟨3, ![2, 8192, 256]⟩
abbrev S2x8192x24 : Shape := ⟨3, ![2, 8192, 24]⟩
abbrev S16384x512 : Shape := ⟨2, ![16384, 512]⟩
abbrev S2x256x8192 : Shape := ⟨3, ![2, 256, 8192]⟩
abbrev S16384x24 : Shape := ⟨2, ![16384, 24]⟩
abbrev S16384x2x12 : Shape := ⟨3, ![16384, 2, 12]⟩
abbrev S16384x2x116 : Shape := ⟨3, ![16384, 2, 116]⟩
abbrev S16384x2x128 : Shape := ⟨3, ![16384, 2, 128]⟩
abbrev S16384x256 : Shape := ⟨2, ![16384, 256]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2840, .f32⟩
  | .hbm, ⟨3, _⟩ => ⟨S1024, .f32⟩
  | .hbm, ⟨4, _⟩ => ⟨S1024x2840, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2840, .f32⟩
  | .hbm, ⟨22, _⟩ => ⟨S2x8192x512, .f32⟩
  | .hbm, ⟨23, _⟩ => ⟨S2x8192x256, .f32⟩
  | .hbm, ⟨24, _⟩ => ⟨S2x8192x256, .f32⟩
  | .hbm, ⟨25, _⟩ => ⟨S2x8192x256, .f32⟩
  | .hbm, ⟨26, _⟩ => ⟨S2x8192x24, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S_, .f32⟩
  | .hbm, ⟨31, _⟩ => ⟨S2x8192x512, .f32⟩
  | .hbm, ⟨32, _⟩ => ⟨S2x8192x512, .f32⟩
  | .hbm, ⟨33, _⟩ => ⟨S16384x512, .f32⟩
  | .hbm, ⟨34, _⟩ => ⟨S16384x512, .bf16⟩
  | .hbm, ⟨35, _⟩ => ⟨S2x256x8192, .f32⟩
  | .hbm, ⟨36, _⟩ => ⟨S2x256x8192, .f32⟩
  | .hbm, ⟨37, _⟩ => ⟨S2x256x8192, .f32⟩
  | .hbm, ⟨38, _⟩ => ⟨S16384x24, .f32⟩
  | .hbm, ⟨39, _⟩ => ⟨S16384x2x12, .f32⟩
  | .hbm, ⟨40, _⟩ => ⟨S_, .f32⟩
  | .hbm, ⟨41, _⟩ => ⟨S16384x2x116, .f32⟩
  | .hbm, ⟨42, _⟩ => ⟨S16384x2x128, .f32⟩
  | .hbm, ⟨43, _⟩ => ⟨S16384x2x128, .f32⟩
  | .hbm, ⟨44, _⟩ => ⟨S16384x2x128, .f32⟩
  | .hbm, ⟨45, _⟩ => ⟨S_, .f32⟩
  | .hbm, ⟨46, _⟩ => ⟨S16384x2x128, .f32⟩
  | .hbm, ⟨47, _⟩ => ⟨S16384x2x128, .f32⟩
  | .hbm, ⟨48, _⟩ => ⟨S_, .f32⟩
  | .hbm, ⟨49, _⟩ => ⟨S16384x2x128, .f32⟩
  | .hbm, ⟨50, _⟩ => ⟨S16384x2x128, .f32⟩
  | .hbm, ⟨51, _⟩ => ⟨S16384x256, .f32⟩
  | .hbm, ⟨52, _⟩ => ⟨S2x8192x512, .f32⟩
  | .hbm, ⟨53, _⟩ => ⟨S2x8192x512, .f32⟩
  | .hbm, ⟨54, _⟩ => ⟨S_, .f32⟩
  | .hbm, ⟨55, _⟩ => ⟨S2x8192x512, .f32⟩
  | .hbm, ⟨56, _⟩ => ⟨S2x8192x512, .f32⟩
  | .hbm, ⟨57, _⟩ => ⟨S_, .f32⟩
  | .hbm, ⟨58, _⟩ => ⟨S2x8192x512, .f32⟩
  | .hbm, ⟨59, _⟩ => ⟨S2x8192x512, .f32⟩
  | .hbm, ⟨60, _⟩ => ⟨S2x8192x512, .f32⟩
  | .hbm, ⟨61, _⟩ => ⟨S16384x512, .f32⟩
  | .hbm, ⟨62, _⟩ => ⟨S16384x512, .f32⟩
  | .hbm, ⟨63, _⟩ => ⟨S2x8192x512, .f32⟩
  | .hbm, ⟨64, _⟩ => ⟨S2x8192x512, .f32⟩
  | .hbm, ⟨65, _⟩ => ⟨S_, .f32⟩
  | .hbm, ⟨66, _⟩ => ⟨S2x8192x512, .f32⟩
  | .hbm, ⟨67, _⟩ => ⟨S2x8192x512, .f32⟩
  | .hbm, ⟨68, _⟩ => ⟨S_, .f32⟩
  | .hbm, ⟨69, _⟩ => ⟨S2x8192x512, .f32⟩
  | .hbm, ⟨70, _⟩ => ⟨S2x8192x512, .f32⟩
  | .hbm, ⟨71, _⟩ => ⟨S2x8192x512, .f32⟩
  | .hbm, ⟨72, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== ProjectSample.lean ====
abbrev S128x1x1024 : Shape := ⟨3, ![128, 1, 1024]⟩
abbrev S1x1024 : Shape := ⟨2, ![1, 1024]⟩
abbrev S1x1024x2840 : Shape := ⟨3, ![1, 1024, 2840]⟩
abbrev S1024x2840 : Shape := ⟨2, ![1024, 2840]⟩
abbrev S1024x24 : Shape := ⟨2, ![1024, 24]⟩
abbrev S1024x1536 : Shape := ⟨2, ![1024, 1536]⟩
abbrev S_ : Shape := ⟨0, ![]⟩
abbrev S1024x116 : Shape := ⟨2, ![1024, 116]⟩
abbrev S1024x1280 : Shape := ⟨2, ![1024, 1280]⟩
abbrev S1024x12 : Shape := ⟨2, ![1024, 12]⟩
abbrev S1024x3072 : Shape := ⟨2, ![1024, 3072]⟩
abbrev S128x1024 : Shape := ⟨2, ![128, 1024]⟩
abbrev S128x512 : Shape := ⟨2, ![128, 512]⟩
abbrev S2x128x128 : Shape := ⟨3, ![2, 128, 128]⟩
abbrev S1x256x128 : Shape := ⟨3, ![1, 256, 128]⟩
abbrev S2x1x128x128 : Shape := ⟨4, ![2, 1, 128, 128]⟩
abbrev S2x1x64x128 : Shape := ⟨4, ![2, 1, 64, 128]⟩
abbrev S128x256 : Shape := ⟨2, ![128, 256]⟩
abbrev S128 : Shape := ⟨1, ![128]⟩
abbrev S128x1 : Shape := ⟨2, ![128, 1]⟩
abbrev S1024x512 : Shape := ⟨2, ![1024, 512]⟩
abbrev S1024x768 : Shape := ⟨2, ![1024, 768]⟩
abbrev S128x768 : Shape := ⟨2, ![128, 768]⟩
abbrev S128x128 : Shape := ⟨2, ![128, 128]⟩
abbrev S1x128x128 : Shape := ⟨3, ![1, 128, 128]⟩
abbrev S768x128 : Shape := ⟨2, ![768, 128]⟩
abbrev S256x128 : Shape := ⟨2, ![256, 128]⟩
abbrev S64x128 : Shape := ⟨2, ![64, 128]⟩
abbrev S1x1x64x128 : Shape := ⟨4, ![1, 1, 64, 128]⟩
abbrev S1024x256 : Shape := ⟨2, ![1024, 256]⟩

abbrev nBuf : Space → Nat
  | .hbm => 27
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x2840, .f32⟩
  | .hbm, ⟨3, _⟩ => ⟨S1024x2840, .f32⟩
  | .hbm, ⟨4, _⟩ => ⟨S1024x24, .f32⟩
  | .hbm, ⟨5, _⟩ => ⟨S1024x1536, .f32⟩
  | .hbm, ⟨6, _⟩ => ⟨S_, .f32⟩
  | .hbm, ⟨7, _⟩ => ⟨S1024x116, .f32⟩
  | .hbm, ⟨8, _⟩ => ⟨S1024x1280, .f32⟩
  | .hbm, ⟨9, _⟩ => ⟨S1024x12, .f32⟩
  | .hbm, ⟨10, _⟩ => ⟨S1024x12, .f32⟩
  | .hbm, ⟨11, _⟩ => ⟨S1024x3072, .f32⟩
  | .hbm, ⟨12, _⟩ => ⟨S1024x3072, .bf16⟩
  | .hbm, ⟨13, _⟩ => ⟨S128x1024, .f32⟩
  | .hbm, ⟨14, _⟩ => ⟨S128x512, .bf16⟩
  | .hbm, ⟨15, _⟩ => ⟨S2x128x128, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S2x1x128x128, .bf16⟩
  | .hbm, ⟨20, _⟩ => ⟨S2x128x128, .bf16⟩
  | .hbm, ⟨21, _⟩ => ⟨S2x1x64x128, .bf16⟩
  | .hbm, ⟨22, _⟩ => ⟨S2x128x128, .bf16⟩
  | .hbm, ⟨23, _⟩ => ⟨S128x256, .f32⟩
  | .hbm, ⟨24, _⟩ => ⟨S128x512, .f32⟩
  | .hbm, ⟨25, _⟩ => ⟨S128x512, .f32⟩
  | .hbm, ⟨26, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x512, .bf16⟩
  | .local _ .vmem, ⟨4, _⟩ => ⟨S2x128x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S2x1x128x128, .bf16⟩
  | .local _ .vmem, ⟨9, _⟩ => ⟨S2x128x128, .bf16⟩
  | .local _ .vmem, ⟨10, _⟩ => ⟨S2x1x64x128, .bf16⟩
  | .local _ .vmem, ⟨11, _⟩ => ⟨S2x128x128, .bf16⟩
  | .local _ .vmem, ⟨12, _⟩ => ⟨S128x256, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev main_v10_5 : Ref sig .tc := ⟨.hbm, 19, rfl⟩
abbrev main_v10_6 : Ref sig .tc := ⟨.hbm, 20, rfl⟩
abbrev main_v10_7 : Ref sig .tc := ⟨.hbm, 21, rfl⟩
abbrev main_v10_8 : Ref sig .tc := ⟨.hbm, 22, rfl⟩
abbrev main_v10_9 : Ref sig .tc := ⟨.hbm, 23, rfl⟩
abbrev main_v10_10 : Ref sig .tc := ⟨.hbm, 24, rfl⟩
abbrev main_v10_11 : Ref sig .tc := ⟨.hbm, 25, rfl⟩
abbrev main_v10_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x1x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x1x64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S2x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjectSampleReferenceIdeal.lean ====
abbrev S128x1x1024 : Shape := ⟨3, ![128, 1, 1024]⟩
abbrev S1x1024 : Shape := ⟨2, ![1, 1024]⟩
abbrev S1x1024x2840 : Shape := ⟨3, ![1, 1024, 2840]⟩
abbrev S1024 : Shape := ⟨1, ![1024]⟩
abbrev S1024x2840 : Shape := ⟨2, ![1024, 2840]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2840 : Shape := ⟨3, ![128, 1, 2840]⟩
abbrev S128x1x512 : Shape := ⟨3, ![128, 1, 512]⟩
abbrev S128x1x256 : Shape := ⟨3, ![128, 1, 256]⟩
abbrev S128x1x24 : Shape := ⟨3, ![128, 1, 24]⟩
abbrev S128x512 : Shape := ⟨2, ![128, 512]⟩
abbrev S1x256x128 : Shape := ⟨3, ![1, 256, 128]⟩
abbrev S128x24 : Shape := ⟨2, ![128, 24]⟩
abbrev S128x2x12 : Shape := ⟨3, ![128, 2, 12]⟩
abbrev S128x2x116 : Shape := ⟨3, ![128, 2, 116]⟩
abbrev S128x2x128 : Shape := ⟨3, ![128, 2, 128]⟩
abbrev S128x256 : Shape := ⟨2, ![128, 256]⟩

abbrev nBuf : Space → Nat
  | .hbm => 73
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x2840, .f32⟩
  | .hbm, ⟨3, _⟩ => ⟨S1024, .f32⟩
  | .hbm, ⟨4, _⟩ => ⟨S1024x2840, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S128x1x2840, .f32⟩
  | .hbm, ⟨22, _⟩ => ⟨S128x1x512, .f32⟩
  | .hbm, ⟨23, _⟩ => ⟨S128x1x256, .f32⟩
  | .hbm, ⟨24, _⟩ => ⟨S128x1x256, .f32⟩
  | .hbm, ⟨25, _⟩ => ⟨S128x1x256, .f32⟩
  | .hbm, ⟨26, _⟩ => ⟨S128x1x24, .f32⟩
  | .hbm, ⟨27, _⟩ => ⟨S128x1x512, .f32⟩
  | .hbm, ⟨28, _⟩ => ⟨S128x1x512, .f32⟩
  | .hbm, ⟨29, _⟩ => ⟨S128x1x512, .f32⟩
  | .hbm, ⟨30, _⟩ => ⟨S_, .f32⟩
  | .hbm, ⟨31, _⟩ => ⟨S128x1x512, .f32⟩
  | .hbm, ⟨32, _⟩ => ⟨S128x1x512, .f32⟩
  | .hbm, ⟨33, _⟩ => ⟨S128x512, .f32⟩
  | .hbm, ⟨34, _⟩ => ⟨S128x512, .bf16⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S128x24, .f32⟩
  | .hbm, ⟨39, _⟩ => ⟨S128x2x12, .f32⟩
  | .hbm, ⟨40, _⟩ => ⟨S_, .f32⟩
  | .hbm, ⟨41, _⟩ => ⟨S128x2x116, .f32⟩
  | .hbm, ⟨42, _⟩ => ⟨S128x2x128, .f32⟩
  | .hbm, ⟨43, _⟩ => ⟨S128x2x128, .f32⟩
  | .hbm, ⟨44, _⟩ => ⟨S128x2x128, .f32⟩
  | .hbm, ⟨45, _⟩ => ⟨S_, .f32⟩
  | .hbm, ⟨46, _⟩ => ⟨S128x2x128, .f32⟩
  | .hbm, ⟨47, _⟩ => ⟨S128x2x128, .f32⟩
  | .hbm, ⟨48, _⟩ => ⟨S_, .f32⟩
  | .hbm, ⟨49, _⟩ => ⟨S128x2x128, .f32⟩
  | .hbm, ⟨50, _⟩ => ⟨S128x2x128, .f32⟩
  | .hbm, ⟨51, _⟩ => ⟨S128x256, .f32⟩
  | .hbm, ⟨52, _⟩ => ⟨S128x1x512, .f32⟩
  | .hbm, ⟨53, _⟩ => ⟨S128x1x512, .f32⟩
  | .hbm, ⟨54, _⟩ => ⟨S_, .f32⟩
  | .hbm, ⟨55, _⟩ => ⟨S128x1x512, .f32⟩
  | .hbm, ⟨56, _⟩ => ⟨S128x1x512, .f32⟩
  | .hbm, ⟨57, _⟩ => ⟨S_, .f32⟩
  | .hbm, ⟨58, _⟩ => ⟨S128x1x512, .f32⟩
  | .hbm, ⟨59, _⟩ => ⟨S128x1x512, .f32⟩
  | .hbm, ⟨60, _⟩ => ⟨S128x1x512, .f32⟩
  | .hbm, ⟨61, _⟩ => ⟨S128x512, .f32⟩
  | .hbm, ⟨62, _⟩ => ⟨S128x512, .f32⟩
  | .hbm, ⟨63, _⟩ => ⟨S128x1x512, .f32⟩
  | .hbm, ⟨64, _⟩ => ⟨S128x1x512, .f32⟩
  | .hbm, ⟨65, _⟩ => ⟨S_, .f32⟩
  | .hbm, ⟨66, _⟩ => ⟨S128x1x512, .f32⟩
  | .hbm, ⟨67, _⟩ => ⟨S128x1x512, .f32⟩
  | .hbm, ⟨68, _⟩ => ⟨S_, .f32⟩
  | .hbm, ⟨69, _⟩ => ⟨S128x1x512, .f32⟩
  | .hbm, ⟨70, _⟩ => ⟨S128x1x512, .f32⟩
  | .hbm, ⟨71, _⟩ => ⟨S128x1x512, .f32⟩
  | .hbm, ⟨72, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Finish.lean ====
abbrev S2x8192x512 : Shape := ⟨3, ![2, 8192, 512]⟩
abbrev S2x8192x1024 : Shape := ⟨3, ![2, 8192, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S4x128x128 : Shape := ⟨3, ![4, 128, 128]⟩
abbrev S1024x1024 : Shape := ⟨2, ![1024, 1024]⟩
abbrev S1x1024 : Shape := ⟨2, ![1, 1024]⟩
abbrev S1x512x512 : Shape := ⟨3, ![1, 512, 512]⟩
abbrev S1x16x512 : Shape := ⟨3, ![1, 16, 512]⟩
abbrev S1x512x1024 : Shape := ⟨3, ![1, 512, 1024]⟩
abbrev S528x512 : Shape := ⟨2, ![528, 512]⟩
abbrev S512x512 : Shape := ⟨2, ![512, 512]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1024, .f32⟩
  | .hbm, ⟨8, _⟩ => ⟨S4x128x128, .f32⟩
  | .hbm, ⟨9, _⟩ => ⟨S4x128x128, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x16x512, .f32⟩
  | .local _ .vmem, ⟨5, _⟩ => ⟨S1x16x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1024, .f32⟩
  | .local _ .vmem, ⟨9, _⟩ => ⟨S1x512x1024, .f32⟩
  | .local _ .vmem, ⟨10, _⟩ => ⟨S4x128x128, .bf16⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S528x512, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FinishReferenceIdeal.lean ====
abbrev S2x8192x512 : Shape := ⟨3, ![2, 8192, 512]⟩
abbrev S2x8192x1024 : Shape := ⟨3, ![2, 8192, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S4x128x128 : Shape := ⟨3, ![4, 128, 128]⟩
abbrev S512 : Shape := ⟨1, ![512]⟩
abbrev S8192 : Shape := ⟨1, ![8192]⟩
abbrev S_ : Shape := ⟨0, ![]⟩
abbrev S2x8192x128 : Shape := ⟨3, ![2, 8192, 128]⟩
abbrev S8192x1 : Shape := ⟨2, ![8192, 1]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .f32⟩
  | .hbm, ⟨2, _⟩ => ⟨S2x8192x512, .f32⟩
  | .hbm, ⟨3, _⟩ => ⟨S2x8192x1024, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1024, .f32⟩
  | .hbm, ⟨8, _⟩ => ⟨S4x128x128, .f32⟩
  | .hbm, ⟨9, _⟩ => ⟨S512, .f32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S2x8192x128, .f32⟩
  | .hbm, ⟨15, _⟩ => ⟨S_, .f32⟩
  | .hbm, ⟨16, _⟩ => ⟨S_, .f32⟩
  | .hbm, ⟨17, _⟩ => ⟨S2x8192x128, .f32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192x1, .f32⟩
  | .hbm, ⟨23, _⟩ => ⟨S1x8192x1, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S_, .f32⟩
  | .hbm, ⟨29, _⟩ => ⟨S_, .f32⟩
  | .hbm, ⟨30, _⟩ => ⟨S2x8192x128, .f32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .f32⟩
  | .hbm, ⟨35, _⟩ => ⟨S8192x1, .f32⟩
  | .hbm, ⟨36, _⟩ => ⟨S1x8192x1, .f32⟩
  | .hbm, ⟨37, _⟩ => ⟨S2x8192x128, .f32⟩
  | .hbm, ⟨38, _⟩ => ⟨S2x8192x128, .f32⟩
  | .hbm, ⟨39, _⟩ => ⟨S2x8192x128, .f32⟩
  | .hbm, ⟨40, _⟩ => ⟨S2x8192x128, .f32⟩
  | .hbm, ⟨41, _⟩ => ⟨S_, .f32⟩
  | .hbm, ⟨42, _⟩ => ⟨S_, .f32⟩
  | .hbm, ⟨43, _⟩ => ⟨S2x8192x128, .f32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S8192x1, .f32⟩
  | .hbm, ⟨49, _⟩ => ⟨S1x8192x1, .f32⟩
  | .hbm, ⟨50, _⟩ => ⟨S2x8192x128, .f32⟩
  | .hbm, ⟨51, _⟩ => ⟨S2x8192x128, .f32⟩
  | .hbm, ⟨52, _⟩ => ⟨S2x8192x128, .f32⟩
  | .hbm, ⟨53, _⟩ => ⟨S2x8192x128, .f32⟩
  | .hbm, ⟨54, _⟩ => ⟨S_, .f32⟩
  | .hbm, ⟨55, _⟩ => ⟨S_, .f32⟩
  | .hbm, ⟨56, _⟩ => ⟨S2x8192x128, .f32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .f32⟩
  | .hbm, ⟨61, _⟩ => ⟨S8192x1, .f32⟩
  | .hbm, ⟨62, _⟩ => ⟨S1x8192x1, .f32⟩
  | .hbm, ⟨63, _⟩ => ⟨S2x8192x128, .f32⟩
  | .hbm, ⟨64, _⟩ => ⟨S2x8192x128, .f32⟩
  | .hbm, ⟨65, _⟩ => ⟨S2x8192x128, .f32⟩
  | .hbm, ⟨66, _⟩ => ⟨S2x8192x1x128, .f32⟩
  | .hbm, ⟨67, _⟩ => ⟨S2x8192x1x128, .f32⟩
  | .hbm, ⟨68, _⟩ => ⟨S2x8192x1x128, .f32⟩
  | .hbm, ⟨69, _⟩ => ⟨S2x8192x1x128, .f32⟩
  | .hbm, ⟨70, _⟩ => ⟨S2x8192x4x128, .f32⟩
  | .hbm, ⟨71, _⟩ => ⟨S4x128x2x8192, .f32⟩
  | .hbm, ⟨72, _⟩ => ⟨S2x8192x4x128, .f32⟩
  | .hbm, ⟨73, _⟩ => ⟨S2x8192x512, .f32⟩
  | .hbm, ⟨74, _⟩ => ⟨S1x1x512, .f32⟩
  | .hbm, ⟨75, _⟩ => ⟨S2x8192x512, .f32⟩
  | .hbm, ⟨76, _⟩ => ⟨S2x8192x512, .f32⟩
  | .hbm, ⟨77, _⟩ => ⟨S2x8192x512, .f32⟩
  | .hbm, ⟨78, _⟩ => ⟨S1024x1024, .f32⟩
  | .hbm, ⟨79, _⟩ => ⟨S2x8192x512, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S_, .f32⟩
  | .hbm, ⟨85, _⟩ => ⟨S2x8192, .f32⟩
  | .hbm, ⟨86, _⟩ => ⟨S2x8192x1, .f32⟩
  | .hbm, ⟨87, _⟩ => ⟨S_, .f32⟩
  | .hbm, ⟨88, _⟩ => ⟨S2x8192x1, .f32⟩
  | .hbm, ⟨89, _⟩ => ⟨S2x8192x1, .f32⟩
  | .hbm, ⟨90, _⟩ => ⟨S_, .f32⟩
  | .hbm, ⟨91, _⟩ => ⟨S2x8192x1, .f32⟩
  | .hbm, ⟨92, _⟩ => ⟨S2x8192x1, .f32⟩
  | .hbm, ⟨93, _⟩ => ⟨S2x8192x1, .f32⟩
  | .hbm, ⟨94, _⟩ => ⟨S2x8192x1024, .f32⟩
  | .hbm, ⟨95, _⟩ => ⟨S2x8192x1024, .f32⟩
  | .hbm, ⟨96, _⟩ => ⟨S1x1x1024, .f32⟩
  | .hbm, ⟨97, _⟩ => ⟨S2x8192x1024, .f32⟩
  | .hbm, ⟨98, _⟩ => ⟨S2x8192x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== FinishSample.lean ====
abbrev S128x512 : Shape := ⟨2, ![128, 512]⟩
abbrev S1x128x15x512 : Shape := ⟨4, ![1, 128, 15, 512]⟩
abbrev S128x1x1024 : Shape := ⟨3, ![128, 1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S4x128x128 : Shape := ⟨3, ![4, 128, 128]⟩
abbrev S1024x1024 : Shape := ⟨2, ![1024, 1024]⟩
abbrev S1x1024 : Shape := ⟨2, ![1, 1024]⟩
abbrev S128x15x512 : Shape := ⟨3, ![128, 15, 512]⟩
abbrev S15x128x512 : Shape := ⟨3, ![15, 128, 512]⟩
abbrev S14x128x512 : Shape := ⟨3, ![14, 128, 512]⟩
abbrev S1x128x512 : Shape := ⟨3, ![1, 128, 512]⟩
abbrev S128x1024 : Shape := ⟨2, ![128, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 24
  | .vmem => 11
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S1x128x15x512, .f32⟩
  | .hbm, ⟨4, _⟩ => ⟨S128x512, .f32⟩
  | .hbm, ⟨5, _⟩ => ⟨S128x1x1024, .f32⟩
  | .hbm, ⟨6, _⟩ => ⟨S1x4x128x128, .f32⟩
  | .hbm, ⟨7, _⟩ => ⟨S1x512, .f32⟩
  | .hbm, ⟨8, _⟩ => ⟨S1x1024x1024, .f32⟩
  | .hbm, ⟨9, _⟩ => ⟨S1024, .f32⟩
  | .hbm, ⟨10, _⟩ => ⟨S4x128x128, .f32⟩
  | .hbm, ⟨11, _⟩ => ⟨S4x128x128, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S128x15x512, .f32⟩
  | .hbm, ⟨16, _⟩ => ⟨S15x128x512, .f32⟩
  | .hbm, ⟨17, _⟩ => ⟨S14x128x512, .f32⟩
  | .hbm, ⟨18, _⟩ => ⟨S1x128x512, .f32⟩
  | .hbm, ⟨19, _⟩ => ⟨S15x128x512, .f32⟩
  | .hbm, ⟨20, _⟩ => ⟨S128x15x512, .f32⟩
  | .hbm, ⟨21, _⟩ => ⟨S1x128x15x512, .f32⟩
  | .hbm, ⟨22, _⟩ => ⟨S128x1024, .f32⟩
  | .hbm, ⟨23, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S15x128x512, .f32⟩
  | .local _ .vmem, ⟨4, _⟩ => ⟨S128x512, .f32⟩
  | .local _ .vmem, ⟨5, _⟩ => ⟨S128x1024, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FinishSampleReferenceIdeal.lean ====
abbrev S128x512 : Shape := ⟨2, ![128, 512]⟩
abbrev S1x128x15x512 : Shape := ⟨4, ![1, 128, 15, 512]⟩
abbrev S128x1x1024 : Shape := ⟨3, ![128, 1, 1024]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S128x15x512 : Shape := ⟨3, ![128, 15, 512]⟩
abbrev S128x1x512 : Shape := ⟨3, ![128, 1, 512]⟩
abbrev S128x16x512 : Shape := ⟨3, ![128, 16, 512]⟩
abbrev S4x128x128 : Shape := ⟨3, ![4, 128, 128]⟩
abbrev S512 : Shape := ⟨1, ![512]⟩
abbrev S1 : Shape := ⟨1, ![1]⟩
abbrev S_ : Shape := ⟨0, ![]⟩
abbrev S128x16x128 : Shape := ⟨3, ![128, 16, 128]⟩
abbrev S128x1x128 : Shape := ⟨3, ![128, 1, 128]⟩
abbrev S1x1 : Shape := ⟨2, ![1, 1]⟩
abbrev S1x1x1 : Shape := ⟨3, ![1, 1, 1]⟩
abbrev S128x1x1x128 : Shape := ⟨4, ![128, 1, 1, 128]⟩
abbrev S128x1x4x128 : Shape := ⟨4, ![128, 1, 4, 128]⟩
abbrev S4x128x128x1 : Shape := ⟨4, ![4, 128, 128, 1]⟩
abbrev S1x1x512 : Shape := ⟨3, ![1, 1, 512]⟩
abbrev S1024x1024 : Shape := ⟨2, ![1024, 1024]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 117
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S1x128x15x512, .f32⟩
  | .hbm, ⟨4, _⟩ => ⟨S128x512, .f32⟩
  | .hbm, ⟨5, _⟩ => ⟨S128x1x1024, .f32⟩
  | .hbm, ⟨6, _⟩ => ⟨S1x4x128x128, .f32⟩
  | .hbm, ⟨7, _⟩ => ⟨S1x512, .f32⟩
  | .hbm, ⟨8, _⟩ => ⟨S1x1024x1024, .f32⟩
  | .hbm, ⟨9, _⟩ => ⟨S1024, .f32⟩
  | .hbm, ⟨10, _⟩ => ⟨S128x15x512, .f32⟩
  | .hbm, ⟨11, _⟩ => ⟨S128x1x512, .f32⟩
  | .hbm, ⟨12, _⟩ => ⟨S128x16x512, .f32⟩
  | .hbm, ⟨13, _⟩ => ⟨S4x128x128, .f32⟩
  | .hbm, ⟨14, _⟩ => ⟨S512, .f32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S128x16x128, .f32⟩
  | .hbm, ⟨20, _⟩ => ⟨S_, .f32⟩
  | .hbm, ⟨21, _⟩ => ⟨S_, .f32⟩
  | .hbm, ⟨22, _⟩ => ⟨S128x16x128, .f32⟩
  | .hbm, ⟨23, _⟩ => ⟨S128x1x128, .f32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .f32⟩
  | .hbm, ⟨28, _⟩ => ⟨S1x1, .f32⟩
  | .hbm, ⟨29, _⟩ => ⟨S1x1x1, .f32⟩
  | .hbm, ⟨30, _⟩ => ⟨S128x1x128, .f32⟩
  | .hbm, ⟨31, _⟩ => ⟨S128x1x128, .f32⟩
  | .hbm, ⟨32, _⟩ => ⟨S128x1x128, .f32⟩
  | .hbm, ⟨33, _⟩ => ⟨S128x1x128, .f32⟩
  | .hbm, ⟨34, _⟩ => ⟨S128x16x128, .f32⟩
  | .hbm, ⟨35, _⟩ => ⟨S_, .f32⟩
  | .hbm, ⟨36, _⟩ => ⟨S_, .f32⟩
  | .hbm, ⟨37, _⟩ => ⟨S128x16x128, .f32⟩
  | .hbm, ⟨38, _⟩ => ⟨S128x1x128, .f32⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S1, .f32⟩
  | .hbm, ⟨43, _⟩ => ⟨S1x1, .f32⟩
  | .hbm, ⟨44, _⟩ => ⟨S1x1x1, .f32⟩
  | .hbm, ⟨45, _⟩ => ⟨S128x1x128, .f32⟩
  | .hbm, ⟨46, _⟩ => ⟨S128x1x128, .f32⟩
  | .hbm, ⟨47, _⟩ => ⟨S128x1x128, .f32⟩
  | .hbm, ⟨48, _⟩ => ⟨S128x1x128, .f32⟩
  | .hbm, ⟨49, _⟩ => ⟨S128x16x128, .f32⟩
  | .hbm, ⟨50, _⟩ => ⟨S_, .f32⟩
  | .hbm, ⟨51, _⟩ => ⟨S_, .f32⟩
  | .hbm, ⟨52, _⟩ => ⟨S128x16x128, .f32⟩
  | .hbm, ⟨53, _⟩ => ⟨S128x1x128, .f32⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S1, .f32⟩
  | .hbm, ⟨58, _⟩ => ⟨S1x1, .f32⟩
  | .hbm, ⟨59, _⟩ => ⟨S1x1x1, .f32⟩
  | .hbm, ⟨60, _⟩ => ⟨S128x1x128, .f32⟩
  | .hbm, ⟨61, _⟩ => ⟨S128x1x128, .f32⟩
  | .hbm, ⟨62, _⟩ => ⟨S128x1x128, .f32⟩
  | .hbm, ⟨63, _⟩ => ⟨S128x1x128, .f32⟩
  | .hbm, ⟨64, _⟩ => ⟨S128x16x128, .f32⟩
  | .hbm, ⟨65, _⟩ => ⟨S_, .f32⟩
  | .hbm, ⟨66, _⟩ => ⟨S_, .f32⟩
  | .hbm, ⟨67, _⟩ => ⟨S128x16x128, .f32⟩
  | .hbm, ⟨68, _⟩ => ⟨S128x1x128, .f32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S1, .f32⟩
  | .hbm, ⟨73, _⟩ => ⟨S1x1, .f32⟩
  | .hbm, ⟨74, _⟩ => ⟨S1x1x1, .f32⟩
  | .hbm, ⟨75, _⟩ => ⟨S128x1x128, .f32⟩
  | .hbm, ⟨76, _⟩ => ⟨S128x1x128, .f32⟩
  | .hbm, ⟨77, _⟩ => ⟨S128x1x128, .f32⟩
  | .hbm, ⟨78, _⟩ => ⟨S128x1x128, .f32⟩
  | .hbm, ⟨79, _⟩ => ⟨S128x1x1x128, .f32⟩
  | .hbm, ⟨80, _⟩ => ⟨S128x1x1x128, .f32⟩
  | .hbm, ⟨81, _⟩ => ⟨S128x1x1x128, .f32⟩
  | .hbm, ⟨82, _⟩ => ⟨S128x1x1x128, .f32⟩
  | .hbm, ⟨83, _⟩ => ⟨S128x1x4x128, .f32⟩
  | .hbm, ⟨84, _⟩ => ⟨S4x128x128x1, .f32⟩
  | .hbm, ⟨85, _⟩ => ⟨S128x1x4x128, .f32⟩
  | .hbm, ⟨86, _⟩ => ⟨S128x1x512, .f32⟩
  | .hbm, ⟨87, _⟩ => ⟨S1x1x512, .f32⟩
  | .hbm, ⟨88, _⟩ => ⟨S128x1x512, .f32⟩
  | .hbm, ⟨89, _⟩ => ⟨S128x1x512, .f32⟩
  | .hbm, ⟨90, _⟩ => ⟨S128x512, .f32⟩
  | .hbm, ⟨91, _⟩ => ⟨S128x1x512, .f32⟩
  | .hbm, ⟨92, _⟩ => ⟨S128x1x512, .f32⟩
  | .hbm, ⟨93, _⟩ => ⟨S1024x1024, .f32⟩
  | .hbm, ⟨94, _⟩ => ⟨S128x1x512, .f32⟩
  | .hbm, ⟨95, _⟩ => ⟨S128x1x1024, .f32⟩
  | .hbm, ⟨96, _⟩ => ⟨S128x1x1024, .f32⟩
  | .hbm, ⟨97, _⟩ => ⟨S128x1x1024, .f32⟩
  | .hbm, ⟨98, _⟩ => ⟨S128x1x1024, .f32⟩
  | .hbm, ⟨99, _⟩ => ⟨S_, .f32⟩
  | .hbm, ⟨100, _⟩ => ⟨S128x1, .f32⟩
  | .hbm, ⟨101, _⟩ => ⟨S128x1x1, .f32⟩
  | .hbm, ⟨102, _⟩ => ⟨S_, .f32⟩
  | .hbm, ⟨103, _⟩ => ⟨S128x1x1, .f32⟩
  | .hbm, ⟨104, _⟩ => ⟨S128x1x1, .f32⟩
  | .hbm, ⟨105, _⟩ => ⟨S_, .f32⟩
  | .hbm, ⟨106, _⟩ => ⟨S128x1x1, .f32⟩
  | .hbm, ⟨107, _⟩ => ⟨S128x1x1, .f32⟩
  | .hbm, ⟨108, _⟩ => ⟨S128x1x1, .f32⟩
  | .hbm, ⟨109, _⟩ => ⟨S128x1x1024, .f32⟩
  | .hbm, ⟨110, _⟩ => ⟨S128x1x1024, .f32⟩
  | .hbm, ⟨111, _⟩ => ⟨S1x1x1024, .f32⟩
  | .hbm, ⟨112, _⟩ => ⟨S128x1x1024, .f32⟩
  | .hbm, ⟨113, _⟩ => ⟨S128x1x1024, .f32⟩
  | .hbm, ⟨114, _⟩ => ⟨S128x1024, .f32⟩
  | .hbm, ⟨115, _⟩ => ⟨S128x15x512, .f32⟩
  | .hbm, ⟨116, _⟩ => ⟨S1x128x15x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_7 : Ref sig .tc := ⟨.hbm, 99, rfl⟩
abbrev main_v80 : Ref sig .tc := ⟨.hbm, 100, rfl⟩
abbrev main_v81 : Ref sig .tc := ⟨.hbm, 101, rfl⟩
abbrev main_cst_8 : Ref sig .tc := ⟨.hbm, 102, rfl⟩
abbrev main_v82 : Ref sig .tc := ⟨.hbm, 103, rfl⟩
abbrev main_v83 : Ref sig .tc := ⟨.hbm, 104, rfl⟩
abbrev main_cst_9 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== AttendSample.lean ====
abbrev S128x16 : Shape := ⟨2, ![128, 16]⟩
abbrev S1x2560x128x2x2x64 : Shape := ⟨6, ![1, 2560, 128, 2, 2, 64]⟩
abbrev S1x128x512x2x2x64 : Shape := ⟨6, ![1, 128, 512, 2, 2, 64]⟩
abbrev S128x512 : Shape := ⟨2, ![128, 512]⟩
abbrev S256x128 : Shape := ⟨2, ![256, 128]⟩
abbrev S1x256x128 : Shape := ⟨3, ![1, 256, 128]⟩
abbrev S128x8x128 : Shape := ⟨3, ![128, 8, 128]⟩
abbrev S128x256 : Shape := ⟨2, ![128, 256]⟩
abbrev S128x2x4x1x64 : Shape := ⟨5, ![128, 2, 4, 1, 64]⟩
abbrev S2x2 : Shape := ⟨2, ![2, 2]⟩
abbrev S_ : Shape := ⟨0, ![]⟩
abbrev S1x2x1x2x1 : Shape := ⟨5, ![1, 2, 1, 2, 1]⟩
abbrev S128x2x4x2x64 : Shape := ⟨5, ![128, 2, 4, 2, 64]⟩
abbrev S128x2x1x128 : Shape := ⟨4, ![128, 2, 1, 128]⟩
abbrev S128x2x1x4x128 : Shape := ⟨5, ![128, 2, 1, 4, 128]⟩
abbrev S128x2x4x128 : Shape := ⟨4, ![128, 2, 4, 128]⟩
abbrev S128x2x128 : Shape := ⟨3, ![128, 2, 128]⟩
abbrev S128x2x12 : Shape := ⟨3, ![128, 2, 12]⟩
abbrev S128x8x3 : Shape := ⟨3, ![128, 8, 3]⟩
abbrev S128x512x2x2x64 : Shape := ⟨5, ![128, 512, 2, 2, 64]⟩
abbrev S128x2x2x64x512 : Shape := ⟨5, ![128, 2, 2, 64, 512]⟩
abbrev S128x256x512 : Shape := ⟨3, ![128, 256, 512]⟩
abbrev S128x1x256 : Shape := ⟨3, ![128, 1, 256]⟩
abbrev S128x256x1 : Shape := ⟨3, ![128, 256, 1]⟩
abbrev S2560x128x2x2x64 : Shape := ⟨5, ![2560, 128, 2, 2, 64]⟩
abbrev S2560x2x2x64x128 : Shape := ⟨5, ![2560, 2, 2, 64, 128]⟩
abbrev S2560x256x128 : Shape := ⟨3, ![2560, 256, 128]⟩
abbrev S1x1 : Shape := ⟨2, ![1, 1]⟩
abbrev S1x256x512 : Shape := ⟨3, ![1, 256, 512]⟩
abbrev S1x8x128 : Shape := ⟨3, ![1, 8, 128]⟩
abbrev S1x1x256 : Shape := ⟨3, ![1, 1, 256]⟩
abbrev S1x256x1 : Shape := ⟨3, ![1, 256, 1]⟩
abbrev S8x128 : Shape := ⟨2, ![8, 128]⟩
abbrev S1x128x128 : Shape := ⟨3, ![1, 128, 128]⟩
abbrev S128x128 : Shape := ⟨2, ![128, 128]⟩
abbrev S8x1 : Shape := ⟨2, ![8, 1]⟩
abbrev S1x1x128 : Shape := ⟨3, ![1, 1, 128]⟩
abbrev S1x128 : Shape := ⟨2, ![1, 128]⟩
abbrev S8 : Shape := ⟨1, ![8]⟩
abbrev S256x512 : Shape := ⟨2, ![256, 512]⟩
abbrev S8x512 : Shape := ⟨2, ![8, 512]⟩
abbrev S256x1 : Shape := ⟨2, ![256, 1]⟩

abbrev nBuf : Space → Nat
  | .hbm => 46
  | .vmem => 52
  | .smem => 1
  | _ => 0

abbrev bufTy : (tb : Table) → Fin (tcTables nBuf tb) → BufTy
  | .hbm, ⟨0, _⟩ => ⟨S1x2560x128x2x2x64, .f32⟩
  | .hbm, ⟨1, _⟩ => ⟨S1x128x512x2x2x64, .f32⟩
  | .hbm, ⟨2, _⟩ => ⟨S128x512, .bf16⟩
  | .hbm, ⟨3, _⟩ => ⟨S256x128, .f32⟩
  | .hbm, ⟨4, _⟩ => ⟨S1x256x128, .f32⟩
  | .hbm, ⟨5, _⟩ => ⟨S1x256x128, .f32⟩
  | .hbm, ⟨6, _⟩ => ⟨S128x8x128, .f32⟩
  | .hbm, ⟨7, _⟩ => ⟨S128x256, .f32⟩
  | .hbm, ⟨8, _⟩ => ⟨S128x2x4x1x64, .bf16⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .bf16⟩
  | .hbm, ⟨16, _⟩ => ⟨S1x2x1x2x1, .bf16⟩
  | .hbm, ⟨17, _⟩ => ⟨S128x2x4x2x64, .bf16⟩
  | .hbm, ⟨18, _⟩ => ⟨S128x2x4x2x64, .bf16⟩
  | .hbm, ⟨19, _⟩ => ⟨S128x2x4x2x64, .bf16⟩
  | .hbm, ⟨20, _⟩ => ⟨S128x8x128, .bf16⟩
  | .hbm, ⟨21, _⟩ => ⟨S128x2x1x128, .f32⟩
  | .hbm, ⟨22, _⟩ => ⟨S128x2x1x4x128, .f32⟩
  | .hbm, ⟨23, _⟩ => ⟨S128x2x4x128, .f32⟩
  | .hbm, ⟨24, _⟩ => ⟨S128x8x128, .f32⟩
  | .hbm, ⟨25, _⟩ => ⟨S128x2x128, .f32⟩
  | .hbm, ⟨26, _⟩ => ⟨S128x2x12, .f32⟩
  | .hbm, ⟨27, _⟩ => ⟨S128x8x3, .f32⟩
  | .hbm, ⟨28, _⟩ => ⟨S_, .i32⟩
  | .hbm, ⟨29, _⟩ => ⟨S_, .f32⟩
  | .hbm, ⟨30, _⟩ => ⟨S128x8x128, .f32⟩
  | .hbm, ⟨31, _⟩ => ⟨S128x512x2x2x64, .f32⟩
  | .hbm, ⟨32, _⟩ => ⟨S128x2x2x64x512, .f32⟩
  | .hbm, ⟨33, _⟩ => ⟨S128x256x512, .f32⟩
  | .hbm, ⟨34, _⟩ => ⟨S256x128, .f32⟩
  | .hbm, ⟨35, _⟩ => ⟨S128x256, .f32⟩
  | .hbm, ⟨36, _⟩ => ⟨S128x1x256, .f32⟩
  | .hbm, ⟨37, _⟩ => ⟨S256x128, .f32⟩
  | .hbm, ⟨38, _⟩ => ⟨S128x256, .f32⟩
  | .hbm, ⟨39, _⟩ => ⟨S128x1x256, .f32⟩
  | .hbm, ⟨40, _⟩ => ⟨S128x256x1, .f32⟩
  | .hbm, ⟨41, _⟩ => ⟨S2560x128x2x2x64, .f32⟩
  | .hbm, ⟨42, _⟩ => ⟨S2560x2x2x64x128, .f32⟩
  | .hbm, ⟨43, _⟩ => ⟨S2560x256x128, .f32⟩
  | .hbm, ⟨44, _⟩ => ⟨S128x8x128, .f32⟩
  | .hbm, ⟨45, _⟩ => ⟨S128x256x512, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x512, .f32⟩
  | .local _ .vmem, ⟨33, _⟩ => ⟨S1x256x512, .f32⟩
  | .local _ .vmem, ⟨34, _⟩ => ⟨S1x8x128, .bf16⟩
  | .local _ .vmem, ⟨35, _⟩ => ⟨S1x8x128, .bf16⟩
  | .local _ .vmem, ⟨36, _⟩ => ⟨S1x8x128, .f32⟩
  | .local _ .vmem, ⟨37, _⟩ => ⟨S1x8x128, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x256x1, .f32⟩
  | .local _ .vmem, ⟨43, _⟩ => ⟨S1x256x1, .f32⟩
  | .local _ .vmem, ⟨44, _⟩ => ⟨S1x8x128, .f32⟩
  | .local _ .vmem, ⟨45, _⟩ => ⟨S1x8x128, .f32⟩
  | .local _ .vmem, ⟨46, _⟩ => ⟨S1x8x128, .f32⟩
  | .local _ .vmem, ⟨47, _⟩ => ⟨S1x8x128, .f32⟩
  | .local _ .vmem, ⟨48, _⟩ => ⟨S1x8x128, .f32⟩
  | .local _ .vmem, ⟨49, _⟩ => ⟨S1x8x128, .f32⟩
  | .local _ .vmem, ⟨50, _⟩ => ⟨S1x256x512, .f32⟩
  | .local _ .vmem, ⟨51, _⟩ => ⟨S1x256x512, .f32⟩
  | .local _ .smem, ⟨0, _⟩ => ⟨S128x16, .i32⟩
  | _, _ => ⟨S1x2560x128x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== AttendSampleIdeal.lean ====
variable {F : FTy → Type} [FloatOps F] [Named F]
def κ : String → Option EReal := fun
  | "mask" => some ⊥
  | _ => none
-- ==== AttendSampleReferenceIdeal.lean ====
abbrev S128x16 : Shape := ⟨2, ![128, 16]⟩
abbrev S1x2560x128x2x2x64 : Shape := ⟨6, ![1, 2560, 128, 2, 2, 64]⟩
abbrev S1x128x512x2x2x64 : Shape := ⟨6, ![1, 128, 512, 2, 2, 64]⟩
abbrev S128x512 : Shape := ⟨2, ![128, 512]⟩
abbrev S256x128 : Shape := ⟨2, ![256, 128]⟩
abbrev S1x256x128 : Shape := ⟨3, ![1, 256, 128]⟩
abbrev S128x8x128 : Shape := ⟨3, ![128, 8, 128]⟩
abbrev S128x256 : Shape := ⟨2, ![128, 256]⟩
abbrev S128x2x4x64 : Shape := ⟨4, ![128, 2, 4, 64]⟩
abbrev S128x2x128 : Shape := ⟨3, ![128, 2, 128]⟩
abbrev S128x2x12 : Shape := ⟨3, ![128, 2, 12]⟩
abbrev S128x2x4x3 : Shape := ⟨4, ![128, 2, 4, 3]⟩
abbrev S2560x128x2x2x64 : Shape := ⟨5, ![2560, 128, 2, 2, 64]⟩
abbrev S_ : Shape := ⟨0, ![]⟩
abbrev S128x16x1 : Shape := ⟨3, ![128, 16, 1]⟩
abbrev S128x16x128x2x2x64 : Shape := ⟨6, ![128, 16, 128, 2, 2, 64]⟩
abbrev S128x2048x2x2x64 : Shape := ⟨5, ![128, 2048, 2, 2, 64]⟩
abbrev S128x1x2x2x64 : Shape := ⟨5, ![128, 1, 2, 2, 64]⟩
abbrev S128x2049x2x2x64 : Shape := ⟨5, ![128, 2049, 2, 2, 64]⟩
abbrev S128x512x2x2x64 : Shape := ⟨5, ![128, 512, 2, 2, 64]⟩
abbrev S128x513x2x2x64 : Shape := ⟨5, ![128, 513, 2, 2, 64]⟩
abbrev S128x2x1x128 : Shape := ⟨4, ![128, 2, 1, 128]⟩
abbrev S128x2x1x33 : Shape := ⟨4, ![128, 2, 1, 33]⟩
abbrev S128x2x1x33x1 : Shape := ⟨5, ![128, 2, 1, 33, 1]⟩
abbrev S128x2x1x33x64 : Shape := ⟨5, ![128, 2, 1, 33, 64]⟩
abbrev S128x2x1x2112 : Shape := ⟨4, ![128, 2, 1, 2112]⟩
abbrev S128x2x1x2049 : Shape := ⟨4, ![128, 2, 1, 2049]⟩
abbrev S128x2049x1x2x64 : Shape := ⟨5, ![128, 2049, 1, 2, 64]⟩
abbrev S128x2049x2x64 : Shape := ⟨4, ![128, 2049, 2, 64]⟩
abbrev S128x2x4x2049 : Shape := ⟨4, ![128, 2, 4, 2049]⟩
abbrev S128x2x4 : Shape := ⟨3, ![128, 2, 4]⟩
abbrev S128x2x4x1 : Shape := ⟨4, ![128, 2, 4, 1]⟩
abbrev S128x512x1x2x64 : Shape := ⟨5, ![128, 512, 1, 2, 64]⟩
abbrev S128x512x2x64 : Shape := ⟨4, ![128, 512, 2, 64]⟩
abbrev S128x2x4x512 : Shape := ⟨4, ![128, 2, 4, 512]⟩
abbrev S128x8x3 : Shape := ⟨3, ![128, 8, 3]⟩
abbrev S128x8x1 : Shape := ⟨3, ![128, 8, 1]⟩
abbrev S128x8x1x64 : Shape := ⟨4, ![128, 8, 1, 64]⟩
abbrev S128x8x2x64 : Shape := ⟨4, ![128, 8, 2, 64]⟩
abbrev S128x2x2x64x512 : Shape := ⟨5, ![128, 2, 2, 64, 512]⟩
abbrev S128x256x512 : Shape := ⟨3, ![128, 256, 512]⟩

abbrev nBuf : Space → Nat
  | .hbm => 114
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S1x2560x128x2x2x64, .f32⟩
  | .hbm, ⟨2, _⟩ => ⟨S1x128x512x2x2x64, .f32⟩
  | .hbm, ⟨3, _⟩ => ⟨S128x512, .bf16⟩
  | .hbm, ⟨4, _⟩ => ⟨S256x128, .f32⟩
  | .hbm, ⟨5, _⟩ => ⟨S1x256x128, .f32⟩
  | .hbm, ⟨6, _⟩ => ⟨S1x256x128, .f32⟩
  | .hbm, ⟨7, _⟩ => ⟨S128x8x128, .f32⟩
  | .hbm, ⟨8, _⟩ => ⟨S128x256, .f32⟩
  | .hbm, ⟨9, _⟩ => ⟨S128x512, .f32⟩
  | .hbm, ⟨10, _⟩ => ⟨S128x2x4x64, .f32⟩
  | .hbm, ⟨11, _⟩ => ⟨S128x2x128, .f32⟩
  | .hbm, ⟨12, _⟩ => ⟨S128x2x12, .f32⟩
  | .hbm, ⟨13, _⟩ => ⟨S128x2x4x3, .f32⟩
  | .hbm, ⟨14, _⟩ => ⟨S2560x128x2x2x64, .f32⟩
  | .hbm, ⟨15, _⟩ => ⟨S_, .i32⟩
  | .hbm, ⟨16, _⟩ => ⟨S128x16, .i32⟩
  | .hbm, ⟨17, _⟩ => ⟨S128x16, .i1⟩
  | .hbm, ⟨18, _⟩ => ⟨S_, .i32⟩
  | .hbm, ⟨19, _⟩ => ⟨S128x16, .i32⟩
  | .hbm, ⟨20, _⟩ => ⟨S128x16, .i32⟩
  | .hbm, ⟨21, _⟩ => ⟨S128x16, .i32⟩
  | .hbm, ⟨22, _⟩ => ⟨S128x16x1, .i32⟩
  | .hbm, ⟨23, _⟩ => ⟨S128x16x128x2x2x64, .f32⟩
  | .hbm, ⟨24, _⟩ => ⟨S128x2048x2x2x64, .f32⟩
  | .hbm, ⟨25, _⟩ => ⟨S256x128, .f32⟩
  | .hbm, ⟨26, _⟩ => ⟨S128x256, .f32⟩
  | .hbm, ⟨27, _⟩ => ⟨S128x1x2x2x64, .f32⟩
  | .hbm, ⟨28, _⟩ => ⟨S128x2049x2x2x64, .f32⟩
  | .hbm, ⟨29, _⟩ => ⟨S128x512x2x2x64, .f32⟩
  | .hbm, ⟨30, _⟩ => ⟨S256x128, .f32⟩
  | .hbm, ⟨31, _⟩ => ⟨S128x256, .f32⟩
  | .hbm, ⟨32, _⟩ => ⟨S128x1x2x2x64, .f32⟩
  | .hbm, ⟨33, _⟩ => ⟨S128x513x2x2x64, .f32⟩
  | .hbm, ⟨34, _⟩ => ⟨S128x512x2x2x64, .f32⟩
  | .hbm, ⟨35, _⟩ => ⟨S128x2x1x128, .f32⟩
  | .hbm, ⟨36, _⟩ => ⟨S128x2x1x33, .f32⟩
  | .hbm, ⟨37, _⟩ => ⟨S_, .f32⟩
  | .hbm, ⟨38, _⟩ => ⟨S128x2x1x33, .f32⟩
  | .hbm, ⟨39, _⟩ => ⟨S128x2x1x33, .i1⟩
  | .hbm, ⟨40, _⟩ => ⟨S128x2x1x33x1, .i1⟩
  | .hbm, ⟨41, _⟩ => ⟨S128x2x1x33x64, .i1⟩
  | .hbm, ⟨42, _⟩ => ⟨S128x2x1x2112, .i1⟩
  | .hbm, ⟨43, _⟩ => ⟨S128x2x1x2049, .i1⟩
  | .hbm, ⟨44, _⟩ => ⟨S128x2049x1x2x64, .f32⟩
  | .hbm, ⟨45, _⟩ => ⟨S128x2049x2x64, .f32⟩
  | .hbm, ⟨46, _⟩ => ⟨S128x2x4x2049, .f32⟩
  | .hbm, ⟨47, _⟩ => ⟨S_, .f32⟩
  | .hbm, ⟨48, _⟩ => ⟨S_, .f32⟩
  | .hbm, ⟨49, _⟩ => ⟨S128x2x4x2049, .i1⟩
  | .hbm, ⟨50, _⟩ => ⟨S128x2x4x2049, .f32⟩
  | .hbm, ⟨51, _⟩ => ⟨S128x2x4x2049, .f32⟩
  | .hbm, ⟨52, _⟩ => ⟨S_, .f32⟩
  | .hbm, ⟨53, _⟩ => ⟨S128x2x4, .f32⟩
  | .hbm, ⟨54, _⟩ => ⟨S_, .f32⟩
  | .hbm, ⟨55, _⟩ => ⟨S128x2x4, .f32⟩
  | .hbm, ⟨56, _⟩ => ⟨S128x2x4, .f32⟩
  | .hbm, ⟨57, _⟩ => ⟨S128x2x4x1, .f32⟩
  | .hbm, ⟨58, _⟩ => ⟨S128x2x4x2049, .f32⟩
  | .hbm, ⟨59, _⟩ => ⟨S128x2x4x2049, .f32⟩
  | .hbm, ⟨60, _⟩ => ⟨S128x2x4x2049, .f32⟩
  | .hbm, ⟨61, _⟩ => ⟨S_, .f32⟩
  | .hbm, ⟨62, _⟩ => ⟨S128x2x4, .f32⟩
  | .hbm, ⟨63, _⟩ => ⟨S128x2x4x1, .f32⟩
  | .hbm, ⟨64, _⟩ => ⟨S128x2x4x2049, .f32⟩
  | .hbm, ⟨65, _⟩ => ⟨S128x2x4x2049, .f32⟩
  | .hbm, ⟨66, _⟩ => ⟨S128x2049x1x2x64, .f32⟩
  | .hbm, ⟨67, _⟩ => ⟨S128x2049x2x64, .f32⟩
  | .hbm, ⟨68, _⟩ => ⟨S128x2x4x64, .f32⟩
  | .hbm, ⟨69, _⟩ => ⟨S128x512x1x2x64, .f32⟩
  | .hbm, ⟨70, _⟩ => ⟨S128x512x2x64, .f32⟩
  | .hbm, ⟨71, _⟩ => ⟨S128x2x4x512, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S128x2x4x512, .f32⟩
  | .hbm, ⟨76, _⟩ => ⟨S128x2x4x512, .f32⟩
  | .hbm, ⟨77, _⟩ => ⟨S_, .f32⟩
  | .hbm, ⟨78, _⟩ => ⟨S128x2x4, .f32⟩
  | .hbm, ⟨79, _⟩ => ⟨S_, .f32⟩
  | .hbm, ⟨80, _⟩ => ⟨S128x2x4, .f32⟩
  | .hbm, ⟨81, _⟩ => ⟨S128x2x4, .f32⟩
  | .hbm, ⟨82, _⟩ => ⟨S128x2x4x1, .f32⟩
  | .hbm, ⟨83, _⟩ => ⟨S128x2x4x512, .f32⟩
  | .hbm, ⟨84, _⟩ => ⟨S128x2x4x512, .f32⟩
  | .hbm, ⟨85, _⟩ => ⟨S128x2x4x512, .f32⟩
  | .hbm, ⟨86, _⟩ => ⟨S_, .f32⟩
  | .hbm, ⟨87, _⟩ => ⟨S128x2x4, .f32⟩
  | .hbm, ⟨88, _⟩ => ⟨S128x2x4x1, .f32⟩
  | .hbm, ⟨89, _⟩ => ⟨S128x2x4x512, .f32⟩
  | .hbm, ⟨90, _⟩ => ⟨S128x2x4x512, .f32⟩
  | .hbm, ⟨91, _⟩ => ⟨S128x512x1x2x64, .f32⟩
  | .hbm, ⟨92, _⟩ => ⟨S128x512x2x64, .f32⟩
  | .hbm, ⟨93, _⟩ => ⟨S128x2x4x64, .f32⟩
  | .hbm, ⟨94, _⟩ => ⟨S128x8x3, .f32⟩
  | .hbm, ⟨95, _⟩ => ⟨S128x8x1, .f32⟩
  | .hbm, ⟨96, _⟩ => ⟨S128x8x128, .f32⟩
  | .hbm, ⟨97, _⟩ => ⟨S128x8x128, .f32⟩
  | .hbm, ⟨98, _⟩ => ⟨S128x8x1, .f32⟩
  | .hbm, ⟨99, _⟩ => ⟨S128x8x1x64, .f32⟩
  | .hbm, ⟨100, _⟩ => ⟨S128x8x2x64, .f32⟩
  | .hbm, ⟨101, _⟩ => ⟨S128x8x128, .f32⟩
  | .hbm, ⟨102, _⟩ => ⟨S128x8x128, .f32⟩
  | .hbm, ⟨103, _⟩ => ⟨S128x8x128, .f32⟩
  | .hbm, ⟨104, _⟩ => ⟨S128x8x128, .f32⟩
  | .hbm, ⟨105, _⟩ => ⟨S128x8x1, .f32⟩
  | .hbm, ⟨106, _⟩ => ⟨S128x8x1x64, .f32⟩
  | .hbm, ⟨107, _⟩ => ⟨S128x8x2x64, .f32⟩
  | .hbm, ⟨108, _⟩ => ⟨S128x8x128, .f32⟩
  | .hbm, ⟨109, _⟩ => ⟨S128x8x128, .f32⟩
  | .hbm, ⟨110, _⟩ => ⟨S128x8x128, .f32⟩
  | .hbm, ⟨111, _⟩ => ⟨S128x8x128, .f32⟩
  | .hbm, ⟨112, _⟩ => ⟨S128x2x2x64x512, .f32⟩
  | .hbm, ⟨113, _⟩ => ⟨S128x256x512, .f32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_5 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Proof.OkKernelIdeal.lean ====
/- The page table's words name pages of the cache, so every page window of KernelIdeal's region lies inside the
   cache array: the side condition of the prefetched table. -/
module

public import proofs.«01_k».proof.Defs
public import proofs.«01_k».proof.Proof.Gen.KernelIdeal.Frame
public import proofs.«01_k».proof.Proof.Gen.Pre_finite_paged
public import Idealize.ShloMosaic.Lib.ReduceAll

@[expose] public section

namespace Cert.OkKernelIdeal

open Cert.KernelIdeal Cert.KernelIdeal.Gen
open Idealize.ShloMosaic Idealize.ShloMosaic.TcCoe

/-- The precondition bounds every word of the page table. -/
theorem word_lt (m : (ℓ : Loc nD τ sig) → Buf (Elt Ideal) ℓ) (h : Cert.Pre_KernelIdeal m) (c : Dev nD) (y : S128x16.Idx) :
    (m ((c : Thread nD τ).loc main_arg0) y).toNat < 2560 := by
  have e := congrFun (h c) y
  simp only [Pre_finite_paged.fn, Pre_finite_paged.fn_part1, andi] at e
  have e5 := (IntOp.andi_eq_one.1 (IntOp.andi_eq_one.1 (IntOp.andi_eq_one.1 (IntOp.andi_eq_one.1
    (IntOp.andi_eq_one.1 (IntOp.andi_eq_one.1 e).1).1).1).1).1)
  have ofBool_eq_one (p : Bool) : (BitVec.ofBool p = 1#1) ↔ p = true := by cases p <;> decide
  obtain ⟨hge, hlt⟩ := e5
  simp only [cmpi, broadcastInDim, constantI, IntOp.cmpi, ofBool_eq_one] at hge hlt
  simp only [BitVec.sle, BitVec.slt, decide_eq_true_eq, BitVec.toInt, BitVec.toNat_ofNat] at hge hlt
  omega

/-- Words below the number of pages make every page window's block lie inside the cache array. -/
theorem ok_of_lt {F : FTy → Type} [FloatOps F] [Named F] (m : (ℓ : Loc nD τ sig) → Buf (Elt F) ℓ)
    (h : ∀ y : S128x16.Idx, (m (((0 : Dev nD) : Thread nD τ).loc main_arg0) y).toNat < 2560) : Ok m := by
  have ht : ∀ y : S128x16.Idx, ((tbl m 0 : S128x16.Idx → BitVec 32) y).toNat < 2560 := fun y => by
    have e : (tbl m 0 : S128x16.Idx → BitVec 32) y = m (((0 : Dev nD) : Thread nD τ).loc main_arg0) y :=
      congrFun (V_main_arg0 m 0) y
    rw [e]; exact h y
  have key : ∀ (n : ℕ), n < 2560 → ∀ a : Fin 3, ((![n, 0, 0] : Fin 3 → ℕ) a + 1) * S1x256x128.size a ≤ S2560x256x128.size a := by
    intro n hn a
    fin_cases a
    · show (n + 1) * 1 ≤ 2560; omega
    · show (0 + 1) * 256 ≤ 256; omega
    · show (0 + 1) * 128 ≤ 128; omega
  refine ⟨fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩⟩

theorem ok_of_pre (m : (ℓ : Loc nD τ sig) → Buf (Elt Ideal) ℓ) (h : Cert.Pre_KernelIdeal m) : Ok m :=
  ok_of_lt m (word_lt m h 0)

end Cert.OkKernelIdeal
-- ==== Proof.Rows.lean ====
/- The scratch's rows: the two halves (keys and values) of a sequence's sixteen pages, each page transposed so that a row
   is one cached position's heads side by side. -/
module

public import proofs.«01_k».proof.Proof.Gen.KernelIdeal.Skeleton
public import Idealize.ShloMosaic.Lib.Pointwise
public import Idealize.ShloMosaic.Lib.Pipeline.Value

@[expose] public section

noncomputable section

namespace Cert.Cmp

open Cert.KernelIdeal Cert.KernelIdeal.Gen
open Idealize.ShloMosaic Idealize.ShloMosaic.TcCoe

variable {F : FTy → Type} [FloatOps F] [Named F]

/-- The rows of the scratch: row `r` of the key (0) or value (1) half, lane `l`, is element `r mod 128` of lane `l` of
    that half of page block `r / 128`. -/
def rows (X : Fin 16 → FVec F S1x256x128 .f32) : FVec F S2x2048x128 .f32 := fun y =>
  X ⟨(y 1).val / 128, Nat.div_lt_of_lt_mul (y 1).isLt⟩
    (ix3 0 ⟨128 * (y 0).val + (y 2).val, by
      have h0 : (y 0).val < 2 := (y 0).isLt
      have h2 : (y 2).val < 128 := (y 2).isLt
      omega⟩ ⟨(y 1).val % 128, Nat.mod_lt _ (by decide)⟩)

/-- Where a rectangle of unit stride puts an index. -/
theorem unit_val {s : Shape} {off size : Fin s.rank → ℕ} (inb : ∀ a, off a + size a ≤ s.size a)
    (j : (⟨s.rank, size⟩ : Shape).Idx) (a : Fin s.rank) : ((Rect.unit off size inb).idx j a).val = off a + (j a).val :=
  congrArg (off a + ·) (Nat.one_mul _)

/-- Adding a leading unit axis to a square. -/
theorem addUnit_apply {α : Type} (Y : S128x128.Idx → α) (h : S128x128.ShapeCasts S1x128x128) (a : Fin 1) (b c : Fin 128) :
    shapeCast S1x128x128 Y h (ix3 a b c) = Y (ix2 b c) := by
  pointwise

/-- Dropping a square's leading unit axis. -/
theorem dropUnit_apply {α : Type} (Y : S1x128x128.Idx → α) (h : S1x128x128.ShapeCasts S128x128) (b c : Fin 128) :
    shapeCast S128x128 Y h (ix2 b c) = Y (ix3 0 b c) := by
  pointwise

/-- A square's transpose. -/
theorem transposed_apply {α : Type} (Y : S128x128.Idx → α) (h : S128x128.Transposes [1, 0] S128x128) (b c : Fin 128) :
    transpose S128x128 [1, 0] Y h (ix2 b c) = Y (ix2 c b) := by
  pointwise

/-- A page block's half, transposed, is its rows of the scratch. -/
theorem page_piece (X : Fin 16 → FVec F S1x256x128 .f32) (p : Fin 16) (kv : Fin 2)
    (inb : ∀ a, (![0, 128 * kv.val, 0] : Fin 3 → ℕ) a + S1x128x128.size a ≤ S1x256x128.size a)
    (inb' : ∀ a, (![kv.val, 128 * p.val, 0] : Fin 3 → ℕ) a + S1x128x128.size a ≤ S2x2048x128.size a) (x : S1x128x128.Idx) :
    shapeCast S1x128x128 (transpose S128x128 [1, 0] (shapeCast S128x128
      (View.ld (Val := Elt F) (e' := .f32) (S := S1x256x128) (X p) (Rect.unit ![0, 128 * kv.val, 0] S1x128x128.size inb))
      shapeCasts_S1x128x128_S128x128) transposes_S128x128_p1_0_S128x128) shapeCasts_S128x128_S1x128x128 x
      = rows X ((Rect.unit (s := S2x2048x128) ![kv.val, 128 * p.val, 0] S1x128x128.size inb').emb x) := by
  obtain ⟨a, b, c, rfl⟩ : ∃ (a : Fin 1) (b c : Fin 128), x = ix3 a b c := ⟨x 0, x 1, x 2, eq_ix3 x⟩
  rw [addUnit_apply, transposed_apply, dropUnit_apply]
  have hp : p.val < 16 := p.isLt
  have hb : b.val < 128 := b.isLt
  have e1 : (((Rect.unit (s := S2x2048x128) ![kv.val, 128 * p.val, 0] S1x128x128.size inb').emb (ix3 a b c)) 0).val = kv.val + a.val :=
    unit_val inb' _ 0
  have e2 : (((Rect.unit (s := S2x2048x128) ![kv.val, 128 * p.val, 0] S1x128x128.size inb').emb (ix3 a b c)) 1).val = 128 * p.val + b.val :=
    unit_val inb' _ 1
  have e3 : (((Rect.unit (s := S2x2048x128) ![kv.val, 128 * p.val, 0] S1x128x128.size inb').emb (ix3 a b c)) 2).val = 0 + c.val :=
    unit_val inb' _ 2
  generalize (Rect.unit (s := S2x2048x128) ![kv.val, 128 * p.val, 0] S1x128x128.size inb').emb (ix3 a b c) = y at e1 e2 e3
  unfold rows
  have hq : (⟨(y 1).val / 128, Nat.div_lt_of_lt_mul (y 1).isLt⟩ : Fin 16) = p := Fin.ext (by show (y 1).val / 128 = p.val; omega)
  rw [hq]
  refine congrArg (X p) (funext fun d => Fin.ext ?_)
  refine (unit_val inb _ d).trans ?_
  match d with
  | ⟨0, _⟩ => rfl
  | ⟨1, _⟩ => show 128 * kv.val + c.val = 128 * (y 0).val + (y 2).val; omega
  | ⟨2, _⟩ => show 0 + b.val = (y 1).val % 128; omega

end Cert.Cmp

end
-- ==== Proof.Blocks.lean ====
/- The blocks that one grid point stages, read at an index: sixteen pages of the cache, a sequence's queries, and the whole weights. -/
module

public import proofs.«01_k».proof.Proof.Gen.KernelIdeal.Frame
public import proofs.«01_k».proof.Proof.Rows
public import Idealize.ShloMosaic.Lib.Pipeline.ValueKit.Geometry
public import Idealize.ShloMosaic.Lib.Pointwise

@[expose] public section

set_option maxRecDepth 16384

noncomputable section

namespace Cert.Blocks

open Cert.KernelIdeal Cert.KernelIdeal.Gen
open Idealize.ShloMosaic Idealize.ShloMosaic.TcCoe

variable (m : (ℓ : Loc nD τ sig) → Buf (Elt Ideal) ℓ) (hO : Ok m) (c : Dev nD) (t : Fin (cfgM m hO).N)

/-- The sequence of a grid point. -/
def seqOf : Fin 128 := grid0.coords t 0

theorem seq_word : (BitVec.ofNat 32 (grid0.coords t 0).val).toNat = (seqOf m hO t).val :=
  Nat.mod_eq_of_lt (Nat.lt_trans (seqOf m hO t).isLt (by decide))

/-- The page table's word. -/
def word (p : Fin 16) : BitVec 32 := (tbl m 0 : S128x16.Idx → BitVec 32) (ix2 (seqOf m hO t) p)

/-- The table's index that a window's map reads. -/
theorem table_at (p : Fin 16) (inb : ∀ a : Fin 2, (![(Scalar.indexCast (BitVec.ofNat 32 (grid0.coords t 0).val) : Index).toNat, p.val] : Fin 2 → ℕ) a + S1x1.size a ≤ S128x16.size a)
    (j : S1x1.Idx) :
    (Rect.unit (s := S128x16) ![(Scalar.indexCast (BitVec.ofNat 32 (grid0.coords t 0).val) : Index).toNat, p.val] S1x1.size inb).emb j
      = ix2 (seqOf m hO t) p := by
  funext a
  refine Fin.ext ((ValueKit.rect_emb_unit_val _ _ inb j a).trans ?_)
  match a with
  | ⟨0, _⟩ =>
    have h0 : (j 0).val < 1 := (j 0).isLt
    show (BitVec.ofNat 32 (grid0.coords t 0).val).toNat + (j 0).val = (seqOf m hO t).val
    rw [seq_word m hO t]
    omega
  | ⟨1, _⟩ =>
    have h0 : (j 1).val < 1 := (j 1).isLt
    show p.val + (j 1).val = p.val
    omega

/-- A page's element, placed in the cache. -/
theorem page_at (w : ℕ) (ix : Fin 3 → ℕ) (inb : ∀ a : Fin 3, ix a * S1x256x128.size a + S1x256x128.size a ≤ S2560x256x128.size a)
    (j : Fin 256) (l : Fin 128) (h : w < 2560) (e : ix = ![w, 0, 0]) :
    (Rect.unit (s := S2560x256x128) (fun a => ix a * S1x256x128.size a) S1x256x128.size inb).emb (ix3 0 j l) = ix3 ⟨w, h⟩ j l := by
  subst e
  funext a
  refine Fin.ext ((ValueKit.rect_emb_unit_val _ _ inb (ix3 0 j l) a).trans ?_)
  match a with
  | ⟨0, _⟩ => show w * 1 + 0 = w; omega
  | ⟨1, _⟩ => show 0 * 256 + j.val = j.val; omega
  | ⟨2, _⟩ => show 0 * 128 + l.val = l.val; omega

theorem page0 (h : (word m hO t 0).toNat < 2560) (j : Fin 256) (l : Fin 128) :
    iblk m hO c 0 t (ix3 0 j l) = V m c main_v33 (ix3 ⟨(word m hO t 0).toNat, h⟩ j l) := by
  have e : (((cfgM m hO).win 0).index t : Fin 3 → ℕ) = ![(word m hO t 0).toNat, 0, 0] :=
    congrArg (fun i : S128x16.Idx => (![((tbl m 0 : S128x16.Idx → BitVec 32) i).toNat, 0, 0] : Fin 3 → ℕ)) (table_at m hO t 0 _ _)
  exact congrArg (V m c main_v33) (page_at _ _ _ j l h e)

theorem page1 (h : (word m hO t 1).toNat < 2560) (j : Fin 256) (l : Fin 128) :
    iblk m hO c 1 t (ix3 0 j l) = V m c main_v33 (ix3 ⟨(word m hO t 1).toNat, h⟩ j l) := by
  have e : (((cfgM m hO).win 1).index t : Fin 3 → ℕ) = ![(word m hO t 1).toNat, 0, 0] :=
    congrArg (fun i : S128x16.Idx => (![((tbl m 0 : S128x16.Idx → BitVec 32) i).toNat, 0, 0] : Fin 3 → ℕ)) (table_at m hO t 1 _ _)
  exact congrArg (V m c main_v33) (page_at _ _ _ j l h e)

theorem page2 (h : (word m hO t 2).toNat < 2560) (j : Fin 256) (l : Fin 128) :
    iblk m hO c 2 t (ix3 0 j l) = V m c main_v33 (ix3 ⟨(word m hO t 2).toNat, h⟩ j l) := by
  have e : (((cfgM m hO).win 2).index t : Fin 3 → ℕ) = ![(word m hO t 2).toNat, 0, 0] :=
    congrArg (fun i : S128x16.Idx => (![((tbl m 0 : S128x16.Idx → BitVec 32) i).toNat, 0, 0] : Fin 3 → ℕ)) (table_at m hO t 2 _ _)
  exact congrArg (V m c main_v33) (page_at _ _ _ j l h e)

theorem page3 (h : (word m hO t 3).toNat < 2560) (j : Fin 256) (l : Fin 128) :
    iblk m hO c 3 t (ix3 0 j l) = V m c main_v33 (ix3 ⟨(word m hO t 3).toNat, h⟩ j l) := by
  have e : (((cfgM m hO).win 3).index t : Fin 3 → ℕ) = ![(word m hO t 3).toNat, 0, 0] :=
    congrArg (fun i : S128x16.Idx => (![((tbl m 0 : S128x16.Idx → BitVec 32) i).toNat, 0, 0] : Fin 3 → ℕ)) (table_at m hO t 3 _ _)
  exact congrArg (V m c main_v33) (page_at _ _ _ j l h e)

theorem page4 (h : (word m hO t 4).toNat < 2560) (j : Fin 256) (l : Fin 128) :
    iblk m hO c 4 t (ix3 0 j l) = V m c main_v33 (ix3 ⟨(word m hO t 4).toNat, h⟩ j l) := by
  have e : (((cfgM m hO).win 4).index t : Fin 3 → ℕ) = ![(word m hO t 4).toNat, 0, 0] :=
    congrArg (fun i : S128x16.Idx => (![((tbl m 0 : S128x16.Idx → BitVec 32) i).toNat, 0, 0] : Fin 3 → ℕ)) (table_at m hO t 4 _ _)
  exact congrArg (V m c main_v33) (page_at _ _ _ j l h e)

theorem page5 (h : (word m hO t 5).toNat < 2560) (j : Fin 256) (l : Fin 128) :
    iblk m hO c 5 t (ix3 0 j l) = V m c main_v33 (ix3 ⟨(word m hO t 5).toNat, h⟩ j l) := by
  have e : (((cfgM m hO).win 5).index t : Fin 3 → ℕ) = ![(word m hO t 5).toNat, 0, 0] :=
    congrArg (fun i : S128x16.Idx => (![((tbl m 0 : S128x16.Idx → BitVec 32) i).toNat, 0, 0] : Fin 3 → ℕ)) (table_at m hO t 5 _ _)
  exact congrArg (V m c main_v33) (page_at _ _ _ j l h e)

theorem page6 (h : (word m hO t 6).toNat < 2560) (j : Fin 256) (l : Fin 128) :
    iblk m hO c 6 t (ix3 0 j l) = V m c main_v33 (ix3 ⟨(word m hO t 6).toNat, h⟩ j l) := by
  have e : (((cfgM m hO).win 6).index t : Fin 3 → ℕ) = ![(word m hO t 6).toNat, 0, 0] :=
    congrArg (fun i : S128x16.Idx => (![((tbl m 0 : S128x16.Idx → BitVec 32) i).toNat, 0, 0] : Fin 3 → ℕ)) (table_at m hO t 6 _ _)
  exact congrArg (V m c main_v33) (page_at _ _ _ j l h e)

theorem page7 (h : (word m hO t 7).toNat < 2560) (j : Fin 256) (l : Fin 128) :
    iblk m hO c 7 t (ix3 0 j l) = V m c main_v33 (ix3 ⟨(word m hO t 7).toNat, h⟩ j l) := by
  have e : (((cfgM m hO).win 7).index t : Fin 3 → ℕ) = ![(word m hO t 7).toNat, 0, 0] :=
    congrArg (fun i : S128x16.Idx => (![((tbl m 0 : S128x16.Idx → BitVec 32) i).toNat, 0, 0] : Fin 3 → ℕ)) (table_at m hO t 7 _ _)
  exact congrArg (V m c main_v33) (page_at _ _ _ j l h e)

theorem page8 (h : (word m hO t 8).toNat < 2560) (j : Fin 256) (l : Fin 128) :
    iblk m hO c 8 t (ix3 0 j l) = V m c main_v33 (ix3 ⟨(word m hO t 8).toNat, h⟩ j l) := by
  have e : (((cfgM m hO).win 8).index t : Fin 3 → ℕ) = ![(word m hO t 8).toNat, 0, 0] :=
    congrArg (fun i : S128x16.Idx => (![((tbl m 0 : S128x16.Idx → BitVec 32) i).toNat, 0, 0] : Fin 3 → ℕ)) (table_at m hO t 8 _ _)
  exact congrArg (V m c main_v33) (page_at _ _ _ j l h e)

theorem page9 (h : (word m hO t 9).toNat < 2560) (j : Fin 256) (l : Fin 128) :
    iblk m hO c 9 t (ix3 0 j l) = V m c main_v33 (ix3 ⟨(word m hO t 9).toNat, h⟩ j l) := by
  have e : (((cfgM m hO).win 9).index t : Fin 3 → ℕ) = ![(word m hO t 9).toNat, 0, 0] :=
    congrArg (fun i : S128x16.Idx => (![((tbl m 0 : S128x16.Idx → BitVec 32) i).toNat, 0, 0] : Fin 3 → ℕ)) (table_at m hO t 9 _ _)
  exact congrArg (V m c main_v33) (page_at _ _ _ j l h e)

theorem page10 (h : (word m hO t 10).toNat < 2560) (j : Fin 256) (l : Fin 128) :
    iblk m hO c 10 t (ix3 0 j l) = V m c main_v33 (ix3 ⟨(word m hO t 10).toNat, h⟩ j l) := by
  have e : (((cfgM m hO).win 10).index t : Fin 3 → ℕ) = ![(word m hO t 10).toNat, 0, 0] :=
    congrArg (fun i : S128x16.Idx => (![((tbl m 0 : S128x16.Idx → BitVec 32) i).toNat, 0, 0] : Fin 3 → ℕ)) (table_at m hO t 10 _ _)
  exact congrArg (V m c main_v33) (page_at _ _ _ j l h e)

theorem page11 (h : (word m hO t 11).toNat < 2560) (j : Fin 256) (l : Fin 128) :
    iblk m hO c 11 t (ix3 0 j l) = V m c main_v33 (ix3 ⟨(word m hO t 11).toNat, h⟩ j l) := by
  have e : (((cfgM m hO).win 11).index t : Fin 3 → ℕ) = ![(word m hO t 11).toNat, 0, 0] :=
    congrArg (fun i : S128x16.Idx => (![((tbl m 0 : S128x16.Idx → BitVec 32) i).toNat, 0, 0] : Fin 3 → ℕ)) (table_at m hO t 11 _ _)
  exact congrArg (V m c main_v33) (page_at _ _ _ j l h e)

theorem page12 (h : (word m hO t 12).toNat < 2560) (j : Fin 256) (l : Fin 128) :
    iblk m hO c 12 t (ix3 0 j l) = V m c main_v33 (ix3 ⟨(word m hO t 12).toNat, h⟩ j l) := by
  have e : (((cfgM m hO).win 12).index t : Fin 3 → ℕ) = ![(word m hO t 12).toNat, 0, 0] :=
    congrArg (fun i : S128x16.Idx => (![((tbl m 0 : S128x16.Idx → BitVec 32) i).toNat, 0, 0] : Fin 3 → ℕ)) (table_at m hO t 12 _ _)
  exact congrArg (V m c main_v33) (page_at _ _ _ j l h e)

theorem page13 (h : (word m hO t 13).toNat < 2560) (j : Fin 256) (l : Fin 128) :
    iblk m hO c 13 t (ix3 0 j l) = V m c main_v33 (ix3 ⟨(word m hO t 13).toNat, h⟩ j l) := by
  have e : (((cfgM m hO).win 13).index t : Fin 3 → ℕ) = ![(word m hO t 13).toNat, 0, 0] :=
    congrArg (fun i : S128x16.Idx => (![((tbl m 0 : S128x16.Idx → BitVec 32) i).toNat, 0, 0] : Fin 3 → ℕ)) (table_at m hO t 13 _ _)
  exact congrArg (V m c main_v33) (page_at _ _ _ j l h e)

theorem page14 (h : (word m hO t 14).toNat < 2560) (j : Fin 256) (l : Fin 128) :
    iblk m hO c 14 t (ix3 0 j l) = V m c main_v33 (ix3 ⟨(word m hO t 14).toNat, h⟩ j l) := by
  have e : (((cfgM m hO).win 14).index t : Fin 3 → ℕ) = ![(word m hO t 14).toNat, 0, 0] :=
    congrArg (fun i : S128x16.Idx => (![((tbl m 0 : S128x16.Idx → BitVec 32) i).toNat, 0, 0] : Fin 3 → ℕ)) (table_at m hO t 14 _ _)
  exact congrArg (V m c main_v33) (page_at _ _ _ j l h e)

theorem page15 (h : (word m hO t 15).toNat < 2560) (j : Fin 256) (l : Fin 128) :
    iblk m hO c 15 t (ix3 0 j l) = V m c main_v33 (ix3 ⟨(word m hO t 15).toNat, h⟩ j l) := by
  have e : (((cfgM m hO).win 15).index t : Fin 3 → ℕ) = ![(word m hO t 15).toNat, 0, 0] :=
    congrArg (fun i : S128x16.Idx => (![((tbl m 0 : S128x16.Idx → BitVec 32) i).toNat, 0, 0] : Fin 3 → ℕ)) (table_at m hO t 15 _ _)
  exact congrArg (V m c main_v33) (page_at _ _ _ j l h e)

/-- A row of eight, placed. -/
theorem row_at (w : ℕ) (ix : Fin 3 → ℕ) (inb : ∀ a : Fin 3, ix a * S1x8x128.size a + S1x8x128.size a ≤ S128x8x128.size a)
    (j : Fin 8) (l : Fin 128) (h : w < 128) (e : ix = ![w, 0, 0]) :
    (Rect.unit (s := S128x8x128) (fun a => ix a * S1x8x128.size a) S1x8x128.size inb).emb (ix3 0 j l) = ix3 ⟨w, h⟩ j l := by
  subst e
  funext a
  refine Fin.ext ((ValueKit.rect_emb_unit_val _ _ inb (ix3 0 j l) a).trans ?_)
  match a with
  | ⟨0, _⟩ => show w * 1 + 0 = w; omega
  | ⟨1, _⟩ => show 0 * 8 + j.val = j.val; omega
  | ⟨2, _⟩ => show 0 * 128 + l.val = l.val; omega

/-- A block that is the whole array. -/
theorem whole_at {S : Shape} (ix : Fin S.rank → ℕ) (inb : ∀ a, ix a * S.size a + S.size a ≤ S.size a) (e : ∀ a, ix a = 0) (y : S.Idx) :
    (Rect.unit (s := S) (fun a => ix a * S.size a) S.size inb).emb y = y := by
  funext a
  refine Fin.ext ((ValueKit.rect_emb_unit_val _ _ inb y a).trans ?_)
  show ix a * S.size a + _ = _
  rw [e a]
  omega

theorem embeddings : (iblk m hO c 17 t : S2x2x16x1x128.Idx → EReal) = V m c main_v6 := by
  have z : ∀ a : Fin 5, (![0,0,0,0,0] : Fin 5 → ℕ) a = 0 := by decide
  have e : (((cfgM m hO).win 17).index t : Fin 5 → ℕ) = ![0,0,0,0,0] := rfl
  refine funext fun (y : S2x2x16x1x128.Idx) => ?_
  exact congrArg (V m c main_v6) (whole_at (S := S2x2x16x1x128) _ _ (fun a => (congrFun e a).trans (z a)) y)

/-- The first weights' block, whatever the array holds. -/
theorem read18 (f : S2x2x2048x256.Idx → EReal) : ((((cfgM m hO).win 18).blk t).view.read (Elt Ideal) f : S2x2x2048x256.Idx → EReal) = f := by
  have z : ∀ a : Fin 4, (![0, 0, 0, 0] : Fin 4 → ℕ) a = 0 := by decide
  have e : (((cfgM m hO).win 18).index t : Fin 4 → ℕ) = ![0, 0, 0, 0] := rfl
  refine funext fun (y : S2x2x2048x256.Idx) => ?_
  refine congrArg f (funext fun a => Fin.ext ?_)
  exact ((cfgM m hO).win 18).rect_emb_val_of_index_zero t a ((congrFun e a).trans (z a)) y

theorem first : (iblk m hO c 18 t : S2x2x2048x256.Idx → EReal) = V m c main_v13 := by
  unfold iblk
  exact read18 m hO t _

theorem second : (iblk m hO c 19 t : S2x256x128.Idx → EReal) = V m c main_v18 := by
  have z : ∀ a : Fin 3, (![0,0,0] : Fin 3 → ℕ) a = 0 := by decide
  have e : (((cfgM m hO).win 19).index t : Fin 3 → ℕ) = ![0,0,0] := rfl
  refine funext fun (y : S2x256x128.Idx) => ?_
  exact congrArg (V m c main_v18) (whole_at (S := S2x256x128) _ _ (fun a => (congrFun e a).trans (z a)) y)

theorem queries (r : Fin 8) (l : Fin 128) :
    iblk m hO c 16 t (ix3 0 r l) = V m c main_v30 (ix3 (seqOf m hO t) r l) := by
  have e : (((cfgM m hO).win 16).index t : Fin 3 → ℕ) = ![(seqOf m hO t).val, 0, 0] :=
    congrArg (fun n : ℕ => (![n, 0, 0] : Fin 3 → ℕ)) (seq_word m hO t)
  exact congrArg (V m c main_v30) (row_at _ _ _ r l (seqOf m hO t).isLt e)

end Cert.Blocks

end
-- ==== Proof.Spec.lean ====
/- The mathematics of one sequence's compressed attention, over the extended reals: a block of thirty-two rows becomes one
   compressed row by a two-layer perceptron, and the queries attend to the 127 compressed rows. -/
module

public import Idealize.ShloMosaic.PureOps.Ideal

@[expose] public section

noncomputable section

namespace Cert.Spec

open Idealize.ShloMosaic

/-- `z · σ(z)`. -/
def silu (z : EReal) : EReal := z * Ideal.logistic z

/-- The hidden row of block `c`: rows `16c … 16c + 31`, each shifted by its position's embedding, times the first weights. -/
def hidden (X : Fin 2048 → Fin 64 → EReal) (pe : Fin 32 → Fin 64 → EReal) (w1 : Fin 32 → Fin 64 → Fin 128 → EReal)
    (c : Fin 127) (n : Fin 128) : EReal :=
  ∑ s : Fin 32, ∑ d : Fin 64, (X ⟨16 * c.val + s.val, by omega⟩ d + pe s d) * w1 s d n

/-- The compressed row of block `c`. -/
def comp (X : Fin 2048 → Fin 64 → EReal) (pe : Fin 32 → Fin 64 → EReal) (w1 : Fin 32 → Fin 64 → Fin 128 → EReal)
    (w2 : Fin 128 → Fin 64 → EReal) (c : Fin 127) (d : Fin 64) : EReal :=
  ∑ n : Fin 128, silu (hidden X pe w1 c n) * w2 n d

/-- The largest score. -/
def top (s : Fin 127 → EReal) : EReal := Finset.fold max ⊥ s Finset.univ

/-- The attention's probabilities of the scores `s`. -/
def prob (s : Fin 127 → EReal) (c : Fin 127) : EReal :=
  Ideal.div (Ideal.exp (s c - top s)) (∑ c' : Fin 127, Ideal.exp (s c' - top s))

/-- Whether compressed block `c` meets selection block `s`. -/
def covers (c : Fin 127) (s : Fin 128) : Prop := 16 * c.val < 64 * s.val + 64 ∧ 64 * s.val < 16 * c.val + 32

instance (c : Fin 127) (s : Fin 128) : Decidable (covers c s) := inferInstanceAs (Decidable (_ ∧ _))

theorem slt_ofNat (a b : ℕ) (ha : a < 2 ^ 31) (hb : b < 2 ^ 31) : (BitVec.ofNat 32 a).slt (BitVec.ofNat 32 b) = decide (a < b) := by
  have h (n : ℕ) (hn : n < 2 ^ 31) : (BitVec.ofNat 32 n).toInt = (n : Int) := by
    rw [BitVec.toInt_eq_toNat_of_lt] <;> simp only [BitVec.toNat_ofNat] <;> omega
  simp only [BitVec.slt, h a ha, h b hb, Nat.cast_lt]

/-- The two comparisons of words that say whether a compressed block meets a selection block. -/
theorem covers_word (c : Fin 127) (s : Fin 128) :
    IntOp.andi (IntOp.cmpi .slt (IntOp.muli (BitVec.ofNat 32 c.val) 16#32) (IntOp.addi (IntOp.muli (BitVec.ofNat 32 s.val) 64#32) 64#32))
        (IntOp.cmpi .sgt (IntOp.addi (IntOp.muli (BitVec.ofNat 32 c.val) 16#32) 32#32) (IntOp.muli (BitVec.ofNat 32 s.val) 64#32))
      = if covers c s then 1#1 else 0#1 := by
  have hc := c.isLt
  have hs := s.isLt
  have e1 : IntOp.muli (BitVec.ofNat 32 c.val) 16#32 = BitVec.ofNat 32 (16 * c.val) := by
    rw [Nat.mul_comm]; exact (BitVec.ofNat_mul ..).symm
  have e2 : IntOp.muli (BitVec.ofNat 32 s.val) 64#32 = BitVec.ofNat 32 (64 * s.val) := by
    rw [Nat.mul_comm]; exact (BitVec.ofNat_mul ..).symm
  rw [e1, e2]
  have e3 : IntOp.addi (BitVec.ofNat 32 (16 * c.val)) 32#32 = BitVec.ofNat 32 (16 * c.val + 32) := (BitVec.ofNat_add ..).symm
  have e4 : IntOp.addi (BitVec.ofNat 32 (64 * s.val)) 64#32 = BitVec.ofNat 32 (64 * s.val + 64) := (BitVec.ofNat_add ..).symm
  rw [e3, e4]
  show IntOp.andi (BitVec.ofBool ((BitVec.ofNat 32 (16 * c.val)).slt (BitVec.ofNat 32 (64 * s.val + 64))))
    (BitVec.ofBool ((BitVec.ofNat 32 (64 * s.val)).slt (BitVec.ofNat 32 (16 * c.val + 32)))) = _
  rw [slt_ofNat _ _ (by omega) (by omega), slt_ofNat _ _ (by omega) (by omega)]
  unfold covers
  by_cases h1 : 16 * c.val < 64 * s.val + 64 <;> by_cases h2 : 64 * s.val < 16 * c.val + 32 <;> simp only [h1, h2, decide_true, decide_false, and_true, and_false, and_self, if_true, if_false] <;> rfl

/-- The f32 word of minus infinity. -/
theorem negInf : Ideal.ofBits .f32 4286578688#32 = ⊥ := by
  simp [Ideal.ofBits, Ideal.ieee]

end Cert.Spec

end
-- ==== Proof.HostK.lean ====
/- The kernel's host lines: the arrays that its region finds, as functions of @main's arguments, and read at an index. -/
module

public import proofs.«01_k».proof.Proof.Gen.KernelIdeal.Frame
public import Idealize.ShloMosaic.Lib.Pointwise
public import proofs.«01_k».proof.Proof.Spec

@[expose] public section

set_option maxRecDepth 16384

noncomputable section

namespace Cert.HostK

open Cert.KernelIdeal Cert.KernelIdeal.Gen
open Idealize.ShloMosaic Idealize.ShloMosaic.TcCoe

/-- The cache's pages, rows last. -/
def pages (x1 : FVec Ideal S1x2560x128x2x2x64 .f32) : FVec Ideal S2560x256x128 .f32 :=
  shapeCast S2560x256x128 (transpose S2560x2x2x64x128 [0, 2, 3, 4, 1] (shapeCast S2560x128x2x2x64 x1 shapeCasts_S1x2560x128x2x2x64_S2560x128x2x2x64)
    transposes_S2560x128x2x2x64_S2560x2x2x64x128_0_2_3_4_1) shapeCasts_S2560x2x2x64x128_S2560x256x128

/-- The queries, each in its key head's half. -/
def qbd (x2 : FVec Ideal S128x512 .bf16) : FVec Ideal S128x8x128 .bf16 :=
  shapeCast S128x8x128 (mulf
    (broadcastInDim S128x2x4x2x64 ![0, 1, 2, 3, 4] bcast_S128x2x4x1x64_S128x2x4x2x64_0_1_2_3_4 (shapeCast S128x2x4x1x64 x2 shapeCasts_S128x512_S128x2x4x1x64))
    (broadcastInDim S128x2x4x2x64 ![0, 1, 2, 3, 4] bcast_S1x2x1x2x1_S128x2x4x2x64_0_1_2_3_4 (shapeCast S1x2x1x2x1
      (uitofp .bf16 (cmpi .eq (addi (iotaInDim S2x2 32 0) (broadcastInDim S2x2 ![] bcast_S_S2x2 (constantI S_ 32 0#32))) (iotaInDim S2x2 32 1)) : FVec Ideal S2x2 .bf16)
      shapeCasts_S2x2_S1x2x1x2x1))) shapeCasts_S128x2x4x2x64_S128x8x128

theorem V_pages (m : (ℓ : Loc nD τ sig) → Buf (Elt Ideal) ℓ) (c : Dev nD) : V m c main_v33 = pages (m ((c : Thread nD τ).loc main_arg1)) := by
  show StableHlo.after hostOps0 _ (Proc.devRef .tc main_v33) = _
  after_results
  rfl

theorem V_qbd (m : (ℓ : Loc nD τ sig) → Buf (Elt Ideal) ℓ) (c : Dev nD) : V m c main_v30 = qbd (m ((c : Thread nD τ).loc main_arg2)) := by
  show StableHlo.after hostOps0 _ (Proc.devRef .tc main_v30) = _
  after_results
  rfl

/-- The first weights by position, as the kernel reshapes them. -/
def w1r (x4 : FVec Ideal S1x2x32x64x128 .f32) : FVec Ideal S2x2x16x64x128 .f32 :=
  shapeCast S2x2x16x64x128 (shapeCast S2x32x64x128 x4 shapeCasts_S1x2x32x64x128_S2x32x64x128) shapeCasts_S2x32x64x128_S2x2x16x64x128

/-- A block of zeros beside the first weights. -/
def z1 : FVec Ideal S2x2x16x64x128 .f32 := broadcastInDim S2x2x16x64x128 ![] bcast_S_S2x2x16x64x128 (constant (F := Ideal) S_ .f32 0x00000000#32)

/-- The first weights, block diagonal over the key heads. -/
def w1bd (x4 : FVec Ideal S1x2x32x64x128 .f32) : FVec Ideal S2x2x2048x256 .bf16 :=
  truncf .bf16 (shapeCast S2x2x2048x256 (concatenate S2x2x16x128x256 3
    [⟨S2x2x16x64x256, concatenate S2x2x16x64x256 4 [⟨S2x2x16x64x128, w1r x4⟩, ⟨S2x2x16x64x128, z1⟩] concatenates_S2x2x16x64x128_S2x2x16x64x128_S2x2x16x64x256_d4⟩,
      ⟨S2x2x16x64x256, concatenate S2x2x16x64x256 4 [⟨S2x2x16x64x128, z1⟩, ⟨S2x2x16x64x128, w1r x4⟩] concatenates_S2x2x16x64x128_S2x2x16x64x128_S2x2x16x64x256_d4⟩]
    concatenates_S2x2x16x64x256_S2x2x16x64x256_S2x2x16x128x256_d3) shapeCasts_S2x2x16x128x256_S2x2x2048x256) bitsLt_bf16_f32

/-- A block of zeros beside the second weights. -/
def z2 : FVec Ideal S2x128x64 .f32 := broadcastInDim S2x128x64 ![] bcast_S_S2x128x64 (constant (F := Ideal) S_ .f32 0x00000000#32)

/-- The second weights, block diagonal over the key heads. -/
def w2bd (x5 : FVec Ideal S1x2x128x64 .f32) : FVec Ideal S2x256x128 .bf16 :=
  truncf .bf16 (concatenate S2x256x128 1
    [⟨S2x128x128, concatenate S2x128x128 2 [⟨S2x128x64, shapeCast S2x128x64 x5 shapeCasts_S1x2x128x64_S2x128x64⟩, ⟨S2x128x64, z2⟩] concatenates_S2x128x64_S2x128x64_S2x128x128_d2⟩,
      ⟨S2x128x128, concatenate S2x128x128 2 [⟨S2x128x64, z2⟩, ⟨S2x128x64, shapeCast S2x128x64 x5 shapeCasts_S1x2x128x64_S2x128x64⟩] concatenates_S2x128x64_S2x128x64_S2x128x128_d2⟩]
    concatenates_S2x128x128_S2x128x128_S2x256x128_d1) bitsLt_bf16_f32

/-- The position embeddings, once per key head. -/
def pet (x3 : FVec Ideal S1x2x32x64 .f32) : FVec Ideal S2x2x16x1x128 .f32 :=
  shapeCast S2x2x16x1x128 (broadcastInDim S1x2x1x2x1x16x1x1x2x64 ![0, 1, 2, 3, 4, 5, 6, 7, 8, 9] bcast_S1x2x1x2x1x16x1x1x1x64_S1x2x1x2x1x16x1x1x2x64_0_1_2_3_4_5_6_7_8_9
    (shapeCast S1x2x1x2x1x16x1x1x1x64 (shapeCast S2x2x16x1x64 (shapeCast S2x32x64 x3 shapeCasts_S1x2x32x64_S2x32x64) shapeCasts_S2x32x64_S2x2x16x1x64)
      shapeCasts_S2x2x16x1x64_S1x2x1x2x1x16x1x1x1x64)) shapeCasts_S1x2x1x2x1x16x1x1x2x64_S2x2x16x1x128

theorem V_pet (m : (ℓ : Loc nD τ sig) → Buf (Elt Ideal) ℓ) (c : Dev nD) : V m c main_v6 = pet (m ((c : Thread nD τ).loc main_arg3)) := by
  show StableHlo.after hostOps0 _ (Proc.devRef .tc main_v6) = _
  after_results
  rfl

theorem V_w1bd (m : (ℓ : Loc nD τ sig) → Buf (Elt Ideal) ℓ) (c : Dev nD) : V m c main_v13 = w1bd (m ((c : Thread nD τ).loc main_arg4)) := by
  show StableHlo.after hostOps0 _ (Proc.devRef .tc main_v13) = _
  after_results
  rfl

theorem V_w2bd (m : (ℓ : Loc nD τ sig) → Buf (Elt Ideal) ℓ) (c : Dev nD) : V m c main_v18 = w2bd (m ((c : Thread nD τ).loc main_arg5)) := by
  show StableHlo.after hostOps0 _ (Proc.devRef .tc main_v18) = _
  after_results
  rfl

/-- A page's entry. -/
theorem pages_at (x1 : FVec Ideal S1x2560x128x2x2x64 .f32) (p : Fin 2560) (j : Fin 256) (r : Fin 128) :
    pages x1 (ix3 p j r) = x1 (ix6 0 p r ⟨j.val / 128, by omega⟩ ⟨j.val / 64 % 2, by omega⟩ ⟨j.val % 64, by omega⟩) := by
  pointwise [pages]

/-- A query's entry: zero outside its key head's half. -/
theorem qbd_at (x2 : FVec Ideal S128x512 .bf16) (b : Fin 128) (r : Fin 8) (l : Fin 128) :
    qbd x2 (ix3 b r l) = (if r.val / 4 = l.val / 64 then x2 (ix2 b ⟨r.val * 64 + l.val % 64, by omega⟩) else 0 : EReal) := by
  pointwise [qbd]
  have hw : IntOp.cmpi .eq (IntOp.addi (BitVec.ofNat 32 (r.val / 4)) 0#32) (BitVec.ofNat 32 (l.val / 64)) = if r.val / 4 = l.val / 64 then 1#1 else 0#1 := by
    have h1 : r.val / 4 < 2 := by omega
    have h2 : l.val / 64 < 2 := by omega
    generalize r.val / 4 = a at h1
    generalize l.val / 64 = d at h2
    interval_cases a <;> interval_cases d <;> rfl
  rw [hw]
  split
  · show x2 _ * (((1#1 : BitVec 1).toNat : ℝ) : EReal) = _
    have e : (⟨r.val / 4 * 256 + r.val % 4 * 64 + l.val % 64, by omega⟩ : Fin 512) = ⟨r.val * 64 + l.val % 64, by omega⟩ := Fin.ext (by show r.val / 4 * 256 + r.val % 4 * 64 + l.val % 64 = r.val * 64 + l.val % 64; omega)
    rw [← e]; simp
  · show x2 _ * (((0#1 : BitVec 1).toNat : ℝ) : EReal) = _
    simp

/-- The first weights' entry: zero where the row's key head is not the column's. -/
theorem w1bd_at (x4 : FVec Ideal S1x2x32x64x128 .f32) (kv sub : Fin 2) (j : Fin 2048) (n : Fin 256) :
    w1bd x4 (ix4 kv sub j n) = (if j.val % 128 / 64 = n.val / 128 then
      x4 (ix5 0 kv ⟨sub.val * 16 + j.val / 128, by omega⟩ ⟨j.val % 64, by omega⟩ ⟨n.val % 128, by omega⟩) else 0 : EReal) := by
  have hn := n.isLt
  have hj : j.val % 128 < 128 := Nat.mod_lt _ (by decide)
  pointwise [w1bd, w1r, z1]
  by_cases h1 : j.val % 128 < 64
  · refine (dif_pos h1).trans ?_
    by_cases h2 : n.val < 128
    · refine (dif_pos h2).trans ((congrArg₂ (fun a b => x4 (ix5 0 kv ⟨sub.val * 16 + j.val / 128, _⟩ a b)) (Fin.ext ?_) (Fin.ext ?_)).trans
        (if_pos ?_).symm)
      · show j.val % 128 = j.val % 64; omega
      · show n.val = n.val % 128; omega
      · omega
    · exact (dif_neg h2).trans (if_neg (by omega)).symm
  · refine (dif_neg h1).trans ?_
    by_cases h2 : n.val < 128
    · exact (dif_pos h2).trans (if_neg (by omega)).symm
    · refine (dif_neg h2).trans ((congrArg₂ (fun a b => x4 (ix5 0 kv ⟨sub.val * 16 + j.val / 128, _⟩ a b)) (Fin.ext ?_) (Fin.ext ?_)).trans
        (if_pos ?_).symm)
      · show j.val % 128 - 64 = j.val % 64; omega
      · show n.val - 128 = n.val % 128; omega
      · omega

/-- The second weights' entry. -/
theorem w2bd_at (x5 : FVec Ideal S1x2x128x64 .f32) (kv : Fin 2) (n : Fin 256) (l : Fin 128) :
    w2bd x5 (ix3 kv n l) = (if n.val / 128 = l.val / 64 then
      x5 (ix4 0 kv ⟨n.val % 128, by omega⟩ ⟨l.val % 64, by omega⟩) else 0 : EReal) := by
  have hn := n.isLt
  have hl := l.isLt
  pointwise [w2bd, z2]
  by_cases h1 : n.val < 128
  · refine (dif_pos h1).trans ?_
    by_cases h2 : l.val < 64
    · refine (dif_pos h2).trans ((congrArg₂ (fun a b => x5 (ix4 0 kv a b)) (Fin.ext ?_) (Fin.ext ?_)).trans (if_pos ?_).symm)
      · show n.val = n.val % 128; omega
      · show l.val = l.val % 64; omega
      · omega
    · exact (dif_neg h2).trans (if_neg (by omega)).symm
  · refine (dif_neg h1).trans ?_
    by_cases h2 : l.val < 64
    · exact (dif_pos h2).trans (if_neg (by omega)).symm
    · refine (dif_neg h2).trans ((congrArg₂ (fun a b => x5 (ix4 0 kv a b)) (Fin.ext ?_) (Fin.ext ?_)).trans (if_pos ?_).symm)
      · show n.val - 128 = n.val % 128; omega
      · show l.val - 64 = l.val % 64; omega
      · omega

/-- The row-major position of an index of rank ten. -/
theorem rowMajor_ten {d : Fin 10 → Nat} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val) * d 6 + (i 6).val) * d 7
          + (i 7).val) * d 8 + (i 8).val) * d 9 + (i 9).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val, Shape.rowMajorPi_succ_val,
    Shape.rowMajorPi_succ_val]
  simp [Shape.rowMajorPi_zero, Fin.prod_univ_succ, Nat.add_mul, Nat.mul_assoc, Nat.add_assoc]

/-- The index of rank ten before the key heads' copies are made, and after. -/
abbrev ix10 {k : Nat} (kv sub : Fin 2) (s : Fin 16) (h : Fin k) (d : Fin 64) : (⟨10, ![1, 2, 1, 2, 1, 16, 1, 1, k, 64]⟩ : Shape).Idx := fun g => match g with
  | ⟨0, _⟩ => (0 : Fin 1) | ⟨1, _⟩ => kv | ⟨2, _⟩ => (0 : Fin 1) | ⟨3, _⟩ => sub | ⟨4, _⟩ => (0 : Fin 1) | ⟨5, _⟩ => s | ⟨6, _⟩ => (0 : Fin 1)
  | ⟨7, _⟩ => (0 : Fin 1) | ⟨8, _⟩ => h | ⟨9, _⟩ => d

/-- The position embeddings' entry. -/
theorem pet_at (x3 : FVec Ideal S1x2x32x64 .f32) (kv sub : Fin 2) (s : Fin 16) (l : Fin 128) :
    pet x3 (ix5 kv sub s 0 l) = x3 (ix4 0 kv ⟨sub.val * 16 + s.val, by omega⟩ ⟨l.val % 64, by omega⟩) := by
  have hl := l.isLt
  have e1 : ∀ (d : Fin 64), shapeCast S2x2x16x1x64 (shapeCast S2x32x64 x3 shapeCasts_S1x2x32x64_S2x32x64) shapeCasts_S2x32x64_S2x2x16x1x64 (ix5 kv sub s 0 d)
      = x3 (ix4 0 kv ⟨sub.val * 16 + s.val, by omega⟩ d) := by
    intro d
    pointwise
  unfold pet
  generalize shapeCast S2x2x16x1x64 (shapeCast S2x32x64 x3 shapeCasts_S1x2x32x64_S2x32x64) shapeCasts_S2x32x64_S2x2x16x1x64 = y at e1
  refine (shapeCast_apply _ _ _ (ix10 (k := 2) kv sub s ⟨l.val / 64, by omega⟩ ⟨l.val % 64, by omega⟩) ?_).trans ?_
  · rw [rowMajor_ten, Shape.rowMajor_val_five]
    show (((((((((0 * 2 + kv.val) * 1 + 0) * 2 + sub.val) * 1 + 0) * 16 + s.val) * 1 + 0) * 1 + 0) * 2 + l.val / 64) * 64 + l.val % 64)
      = (((kv.val * 2 + sub.val) * 16 + s.val) * 1 + 0) * 128 + l.val
    omega
  refine (broadcastInDim_apply _ _ _ _ (ix10 (k := 1) kv sub s 0 ⟨l.val % 64, by omega⟩) ?_).trans ?_
  · intro a
    match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl
    | ⟨9, _⟩ => rfl
  refine (shapeCast_apply _ _ _ (ix5 kv sub s 0 ⟨l.val % 64, by omega⟩) ?_).trans (e1 _)
  rw [rowMajor_ten, Shape.rowMajor_val_five]
  show ((((kv.val * 2 + sub.val) * 16 + s.val) * 1 + 0) * 64 + l.val % 64)
    = (((((((((0 * 2 + kv.val) * 1 + 0) * 2 + sub.val) * 1 + 0) * 16 + s.val) * 1 + 0) * 1 + 0) * 1 + 0) * 64 + l.val % 64)
  omega

end Cert.HostK

end
-- ==== Proof.RefRows.lean ====
/- The reference's gathered rows: row `r` of sequence `b` is row `r % 128` of the cache's page that the page table names. -/
module

public import proofs.«01_k».proof.Proof.Gen.ReferenceIdeal.Read
public import Idealize.ShloMosaic.Lib.Pointwise
public import Idealize.ShloMosaic.Lib.ValueIdxRank6

@[expose] public section

noncomputable section

namespace Cert.RefRows

open Cert.ReferenceIdeal Cert.ReferenceIdeal.Gen Cert.ReferenceIdeal.Read
open Idealize.ShloMosaic Idealize.ShloMosaic.TcCoe

/-- The gather of pages at an index. -/
theorem gather_at {α : Type} (X : S2560x128x2x2x64.Idx → α) (I : IVec S128x16x1 32) (b : Fin 128) (p : Fin 16) (r : Fin 128)
    (kv h : Fin 2) (d : Fin 64) (w : BitVec 32) (hw : I (ix3 b p 0) = w) :
    Host.gather gather_S2560x128x2x2x64_S128x16x1_S128x16x128x2x2x64_2345_0_n_n_0_2_11282264 X I (ix6 b p r kv h d)
      = X (ix5 ⟨min w.toInt.toNat 2559, by omega⟩ r kv h d) := by
  subst hw
  unfold Host.gather
  refine congrArg X (funext fun a => Fin.ext ?_)
  show GatherDims.start _ _ _ a + GatherDims.batchCoord _ _ a + GatherDims.offCoord _ _ a = _
  rw [GatherDims.batchCoord_eq_zero _ _ _ (fun h => absurd h List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : GatherDims.siIdx gather_S2560x128x2x2x64_S128x16x1_S128x16x128x2x2x64_2345_0_n_n_0_2_11282264 (ix6 b p r kv h d) ⟨List.idxOf (0 : Fin 5) [0],
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    exact congrArg (fun j => min (I j).toInt.toNat 2559) hsi
  | ⟨1, _⟩ => exact Nat.zero_add _
  | ⟨2, _⟩ => exact Nat.zero_add _
  | ⟨3, _⟩ => exact Nat.zero_add _
  | ⟨4, _⟩ => exact Nat.zero_add _

/-- Where the reference's page number is read. -/
theorem page_at (x0 : IVec S128x16 32) (b : Fin 128) (p : Fin 16) (h0 : (x0 (ix2 b p)).toNat < 2560) :
    val_main_v6 (F := Ideal) x0 (ix3 b p 0) = x0 (ix2 b p) := by
  simp only [val_main_v6_apply, val_main_v5_apply, val_main_v4_apply, val_main_v3_apply, val_main_v2_apply, val_main_v1_apply, val_main_c_apply, val_main_c_0_apply]
  have e : (idx_main_v6 (ix3 b p 0) : S128x16.Idx) = ix2 b p := by
    funext a; match a with | ⟨0, _⟩ => rfl | ⟨1, _⟩ => rfl
  rw [e]
  have hs : IntOp.cmpi .slt (x0 (ix2 b p)) 0#32 = 0#1 := by
    have : (x0 (ix2 b p)).slt 0#32 = false := by
      simp only [BitVec.slt, decide_eq_false_iff_not, BitVec.toInt, BitVec.toNat_ofNat]; omega
    simp only [IntOp.cmpi, this]; rfl
  rw [hs]; rfl

/-- The cache without its layer axis. -/
theorem cache_at (x1 : FVec Ideal S1x2560x128x2x2x64 .f32) (a : Fin 2560) (r : Fin 128) (kv h : Fin 2) (d : Fin 64) :
    val_main_v0 (F := Ideal) x1 (ix5 a r kv h d) = x1 (ix6 0 a r kv h d) := by
  unfold val_main_v0
  refine shapeCast_apply x1 _ _ (ix6 0 a r kv h d) ?_
  rw [Shape.rowMajor_val_six, Shape.rowMajor_val_five]
  show ((((0 * 2560 + a.val) * 128 + r.val) * 2 + kv.val) * 2 + h.val) * 64 + d.val = (((a.val * 128 + r.val) * 2 + kv.val) * 2 + h.val) * 64 + d.val
  omega

/-- The gathered rows. -/
theorem rows_at (x0 : IVec S128x16 32) (x1 : FVec Ideal S1x2560x128x2x2x64 .f32) (hx : ∀ y, (x0 y).toNat < 2560)
    (b : Fin 128) (r : Fin 2048) (kv h : Fin 2) (d : Fin 64) :
    val_main_v8 (F := Ideal) x0 x1 (ix5 b r kv h d)
      = x1 (ix6 0 ⟨(x0 (ix2 b ⟨r.val / 128, by omega⟩)).toNat, hx _⟩ ⟨r.val % 128, Nat.mod_lt _ (by decide)⟩ kv h d) := by
  unfold val_main_v8
  refine (shapeCast_apply _ _ _ (ix6 b ⟨r.val / 128, by omega⟩ ⟨r.val % 128, Nat.mod_lt _ (by decide)⟩ kv h d) ?_).trans ?_
  · rw [Shape.rowMajor_val_six, Shape.rowMajor_val_five]
    show ((((b.val * 16 + r.val / 128) * 128 + r.val % 128) * 2 + kv.val) * 2 + h.val) * 64 + d.val
      = (((b.val * 2048 + r.val) * 2 + kv.val) * 2 + h.val) * 64 + d.val
    omega
  · unfold val_main_v7
    rw [gather_at _ _ _ _ _ _ _ _ _ (page_at x0 b _ (hx _)), cache_at]
    have hl := hx (ix2 b ⟨r.val / 128, by omega⟩)
    have ht : (x0 (ix2 b ⟨r.val / 128, by omega⟩)).toInt.toNat = (x0 (ix2 b ⟨r.val / 128, by omega⟩)).toNat := by
      rw [BitVec.toInt_eq_toNat_cond, if_pos (by omega)]; rfl
    have e : (⟨min (x0 (ix2 b ⟨r.val / 128, by omega⟩)).toInt.toNat 2559, by omega⟩ : Fin 2560) = ⟨(x0 (ix2 b ⟨r.val / 128, by omega⟩)).toNat, hx _⟩ :=
      Fin.ext ((congrArg (min · 2559) ht).trans (Nat.min_eq_left (Nat.le_of_lt_succ hl)))
    exact congrArg (fun a => x1 (ix6 0 a ⟨r.val % 128, Nat.mod_lt _ (by decide)⟩ kv h d)) e

end Cert.RefRows

end
-- ==== Proof.RefAt.lean ====
/- The reference's stages read at an index. -/
module

public import proofs.«01_k».proof.Proof.RefRows
public import proofs.«01_k».proof.Proof.Spec

@[expose] public section

noncomputable section

namespace Cert.RefAt

open Cert.ReferenceIdeal Cert.ReferenceIdeal.Gen Cert.ReferenceIdeal.Read
open Idealize.ShloMosaic Idealize.ShloMosaic.TcCoe

theorem dot1_at (P : FVec Ideal S128x127x32x2x64 .f32) (W : FVec Ideal S32x64x128 .f32) (b : Fin 128) (c : Fin 127) (h : Fin 2) (n : Fin 128) :
    (Host.dotGeneral dot_S128x127x32x2x64_S32x64x128_S128x127x2x128_42_10_013_2_n_n none P W : FVec Ideal S128x127x2x128 .f32) (ix4 b c h n)
      = (∑ s : Fin 32, ∑ d : Fin 64, P (ix5 b c s h d) * W (ix3 s d n) : EReal) := by
  pointwise
  exact Finset.sum_comm

variable (x0 : IVec S128x16 32) (x1 : FVec Ideal S1x2560x128x2x2x64 .f32) (x2 : FVec Ideal S128x512 .bf16) (x3 : FVec Ideal S1x2x32x64 .f32)
  (x4 : FVec Ideal S1x2x32x64x128 .f32) (x5 : FVec Ideal S1x2x128x64 .f32)

/-- The keys's compressed rows over their hidden rows. -/
theorem compK_at (b : Fin 128) (c : Fin 127) (h : Fin 2) (d : Fin 64) :
    val_main_v27 (F := Ideal) x0 x1 x3 x4 x5 (ix4 b c h d)
      = (∑ n : Fin 128, Cert.Spec.silu (val_main_v25 (F := Ideal) x0 x1 x3 x4 (ix4 b c h n)) * x5 (ix4 0 0 n d) : EReal) := by
  unfold val_main_v27 val_main_v26 val_main_call0_v5 val_main_call0_v4 val_main_call0_v3 val_main_call0_v2 val_main_call0_v1 val_main_call0_v0
  generalize val_main_v25 (F := Ideal) x0 x1 x3 x4 = H
  pointwise [val_main_call0_cst, val_main_call0_cst_0, val_main_v16, val_main_v15]
  rfl

/-- The values's compressed rows over their hidden rows. -/
theorem compV_at (b : Fin 128) (c : Fin 127) (h : Fin 2) (d : Fin 64) :
    val_main_v46 (F := Ideal) x0 x1 x3 x4 x5 (ix4 b c h d)
      = (∑ n : Fin 128, Cert.Spec.silu (val_main_v44 (F := Ideal) x0 x1 x3 x4 (ix4 b c h n)) * x5 (ix4 0 1 n d) : EReal) := by
  unfold val_main_v46 val_main_v45 val_main_call1_v5 val_main_call1_v4 val_main_call1_v3 val_main_call1_v2 val_main_call1_v1 val_main_call1_v0
  generalize val_main_v44 (F := Ideal) x0 x1 x3 x4 = H
  pointwise [val_main_call1_cst, val_main_call1_cst_0, val_main_v35, val_main_v34]
  rfl

theorem blkK_at (b : Fin 128) (c : Fin 127) (s : Fin 32) (h : Fin 2) (d : Fin 64) :
    val_main_v24 (F := Ideal) x0 x1 x3 (ix5 b c s h d)
      = (val_main_v8 (F := Ideal) x0 x1 (ix5 b ⟨16 * c.val + s.val, by omega⟩ 0 h d) + x3 (ix4 0 0 s d) : EReal) := by
  unfold val_main_v24 val_main_v20 val_main_v19 val_main_v18 val_main_v17 val_main_v10 val_main_v9
  generalize val_main_v8 (F := Ideal) x0 x1 = G
  pointwise [val_main_v23, val_main_v22, val_main_v21, val_main_v12, val_main_v11]
  congr 1
  split
  · refine congrArg (fun r => G (ix5 b r 0 h d)) (Fin.ext ?_); show c.val * 16 + s.val = 16 * c.val + s.val; omega
  · refine congrArg (fun r => G (ix5 b r 0 h d)) (Fin.ext ?_); show (1 + c.val) * 16 + (s.val - 16) = 16 * c.val + s.val; omega

theorem blkV_at (b : Fin 128) (c : Fin 127) (s : Fin 32) (h : Fin 2) (d : Fin 64) :
    val_main_v43 (F := Ideal) x0 x1 x3 (ix5 b c s h d)
      = (val_main_v8 (F := Ideal) x0 x1 (ix5 b ⟨16 * c.val + s.val, by omega⟩ 1 h d) + x3 (ix4 0 1 s d) : EReal) := by
  unfold val_main_v43 val_main_v39 val_main_v38 val_main_v37 val_main_v36 val_main_v29 val_main_v28
  generalize val_main_v8 (F := Ideal) x0 x1 = G
  pointwise [val_main_v42, val_main_v41, val_main_v40, val_main_v31, val_main_v30]
  congr 1
  split
  · refine congrArg (fun r => G (ix5 b r 1 h d)) (Fin.ext ?_); show c.val * 16 + s.val = 16 * c.val + s.val; omega
  · refine congrArg (fun r => G (ix5 b r 1 h d)) (Fin.ext ?_); show (1 + c.val) * 16 + (s.val - 16) = 16 * c.val + s.val; omega

theorem w1K_at (s : Fin 32) (d : Fin 64) (n : Fin 128) : val_main_v14 (F := Ideal) x4 (ix3 s d n) = x4 (ix5 0 0 s d n) := by
  pointwise [val_main_v14, val_main_v13]

theorem w1V_at (s : Fin 32) (d : Fin 64) (n : Fin 128) : val_main_v33 (F := Ideal) x4 (ix3 s d n) = x4 (ix5 0 1 s d n) := by
  pointwise [val_main_v33, val_main_v32]

/-- The keys's hidden rows. -/
theorem hidK_at (b : Fin 128) (c : Fin 127) (h : Fin 2) (n : Fin 128) :
    val_main_v25 (F := Ideal) x0 x1 x3 x4 (ix4 b c h n)
      = Cert.Spec.hidden (fun r d => val_main_v8 (F := Ideal) x0 x1 (ix5 b r 0 h d)) (fun s d => x3 (ix4 0 0 s d))
          (fun s d n => x4 (ix5 0 0 s d n)) c n := by
  unfold val_main_v25
  refine (dot1_at _ _ b c h n).trans (Finset.sum_congr rfl fun s _ => Finset.sum_congr rfl fun d _ => ?_)
  rw [blkK_at, w1K_at]

/-- The values's hidden rows. -/
theorem hidV_at (b : Fin 128) (c : Fin 127) (h : Fin 2) (n : Fin 128) :
    val_main_v44 (F := Ideal) x0 x1 x3 x4 (ix4 b c h n)
      = Cert.Spec.hidden (fun r d => val_main_v8 (F := Ideal) x0 x1 (ix5 b r 1 h d)) (fun s d => x3 (ix4 0 1 s d))
          (fun s d n => x4 (ix5 0 1 s d n)) c n := by
  unfold val_main_v44
  refine (dot1_at _ _ b c h n).trans (Finset.sum_congr rfl fun s _ => Finset.sum_congr rfl fun d _ => ?_)
  rw [blkV_at, w1V_at]

/-- Every block ends inside the rows already there. -/
theorem ok_eq (c : Fin 127) :
    IntOp.cmpi .sle (IntOp.subi (IntOp.addi (IntOp.muli (BitVec.ofNat 32 c.val) 16#32) 32#32) 1#32) 2048#32 = 1#1 := by
  revert c; decide

theorem score_at (b : Fin 128) (h : Fin 2) (g : Fin 4) (c : Fin 127) :
    val_main_v59 (F := Ideal) x0 x1 x2 x3 x4 x5 (ix4 b h g c)
      = (∑ d : Fin 64, x2 (ix2 b ⟨h.val * 256 + g.val * 64 + d.val, by omega⟩) * val_main_v27 (F := Ideal) x0 x1 x3 x4 x5 (ix4 b c h d) : EReal) := by
  unfold val_main_v59 val_main_v58
  generalize val_main_v27 (F := Ideal) x0 x1 x3 x4 x5 = K
  pointwise [val_main_v48, val_main_v47, val_main_call2_v0, val_main_call2_v1, val_main_call2_v2, val_main_cst, val_main_v57, val_main_v56, val_main_v55, val_main_v54, val_main_v53, val_main_v52, val_main_v51, val_main_v50, val_main_v49, val_main_c_1, val_main_c_2, val_main_c_3, val_main_c_4]
  rw [ok_eq, ValueIdx.select_one]

theorem prob_at (b : Fin 128) (h : Fin 2) (g : Fin 4) (c : Fin 127) :
    val_main_v71 (F := Ideal) x0 x1 x2 x3 x4 x5 (ix4 b h g c)
      = Cert.Spec.prob (fun c => val_main_v59 (F := Ideal) x0 x1 x2 x3 x4 x5 (ix4 b h g c)) c := by
  unfold val_main_v71 val_main_v70 val_main_v69 val_main_v68 val_main_v67 val_main_v66 val_main_v65 val_main_v64 val_main_v63 val_main_v62 val_main_v60
  generalize val_main_v59 (F := Ideal) x0 x1 x2 x3 x4 x5 = s
  pointwise [val_main_v61, val_main_cst_5, val_main_cst_6, val_main_cst_7, val_main_cst_8, val_main_call3_v0, val_main_call3_v1, val_main_call3_v2, val_main_v57, val_main_v56, val_main_v55, val_main_v54, val_main_v53, val_main_v52, val_main_v51, val_main_v50, val_main_v49, val_main_c_1, val_main_c_2, val_main_c_3, val_main_c_4]
  rw [ok_eq, ValueIdx.select_one, Cert.Spec.negInf, max_eq_right bot_le]
  rfl

/-- The first result. -/
theorem out_at (b : Fin 128) (r : Fin 8) (l : Fin 128) :
    val_main_v95 (F := Ideal) x0 x1 x2 x3 x4 x5 (ix3 b r l)
      = (∑ c : Fin 127, val_main_v71 (F := Ideal) x0 x1 x2 x3 x4 x5 (ix4 b ⟨r.val / 4, by omega⟩ ⟨r.val % 4, by omega⟩ c)
          * val_main_v46 (F := Ideal) x0 x1 x3 x4 x5 (ix4 b c ⟨r.val / 4, by omega⟩ ⟨l.val % 64, by omega⟩) : EReal) := by
  unfold val_main_v95 val_main_v94 val_main_v93 val_main_v72
  generalize val_main_v71 (F := Ideal) x0 x1 x2 x3 x4 x5 = p
  generalize val_main_v46 (F := Ideal) x0 x1 x3 x4 x5 = V
  pointwise

/-- The second result. -/
theorem imp_at (b : Fin 128) (r : Fin 8) (s : Fin 128) :
    val_main_v96 (F := Ideal) x0 x1 x2 x3 x4 x5 (ix3 b r s)
      = (∑ c : Fin 127, if Cert.Spec.covers c s then val_main_v71 (F := Ideal) x0 x1 x2 x3 x4 x5 (ix4 b ⟨r.val / 4, by omega⟩ ⟨r.val % 4, by omega⟩ c) else 0 : EReal) := by
  unfold val_main_v96 val_main_v92
  generalize val_main_v71 (F := Ideal) x0 x1 x2 x3 x4 x5 = p
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v51, val_main_v50, val_main_v49, val_main_c_1, val_main_c_9, val_main_c_10, val_main_c_11]
  refine Finset.sum_congr rfl fun c _ => ?_
  rw [Cert.Spec.covers_word]
  split
  · show _ * (((1#1 : BitVec 1).toNat : ℝ) : EReal) = _
    simp
  · show _ * (((0#1 : BitVec 1).toNat : ℝ) : EReal) = _
    simp

end Cert.RefAt

end
-- ==== Proof.Sums.lean ====
/- Sums over a product of two ranges, and sums whose terms vanish outside one block. -/
module

public import proofs.«01_k».proof.Proof.Spec

@[expose] public section

noncomputable section

namespace Cert.Sums

open Idealize.ShloMosaic

/-- A sum over `a · b` indices is a sum over `a` blocks of `b`. -/
theorem sum_mul (a b : ℕ) (f : Fin (a * b) → EReal) :
    ∑ j, f j = ∑ i : Fin a, ∑ k : Fin b, f ⟨k.val + b * i.val, (finProdFinEquiv (i, k)).isLt⟩ := by
  rw [← finProdFinEquiv.sum_comp, Fintype.sum_prod_type]
  rfl

/-- A sum over two blocks whose terms vanish outside block `h` is the sum over that block. -/
theorem sum_block (b : ℕ) (h : ℕ) (hh : h < 2) (f : Fin (2 * b) → EReal) (hf : ∀ j : Fin (2 * b), j.val / b ≠ h → f j = 0) :
    ∑ j, f j = ∑ k : Fin b, f ⟨k.val + b * h, (finProdFinEquiv ((⟨h, hh⟩ : Fin 2), k)).isLt⟩ := by
  rw [sum_mul]
  refine Finset.sum_eq_single (⟨h, hh⟩ : Fin 2) (fun i _ hi => Finset.sum_eq_zero fun k _ => hf _ ?_) (fun hn => absurd (Finset.mem_univ _) hn)
  have hb : 0 < b := Nat.lt_of_le_of_lt (Nat.zero_le _) k.isLt
  show (k.val + b * i.val) / b ≠ h
  rw [Nat.add_mul_div_left _ _ hb, Nat.div_eq_of_lt k.isLt, Nat.zero_add]
  exact fun e => hi (Fin.ext e)

/-- An extended real that is a real number. -/
def Real (x : EReal) : Prop := ∃ r : ℝ, x = (r : EReal)

theorem Real.add {x y : EReal} : Real x → Real y → Real (x + y) := fun ⟨a, ha⟩ ⟨b, hb⟩ => ⟨a + b, by rw [ha, hb, EReal.coe_add]⟩

theorem Real.mul {x y : EReal} : Real x → Real y → Real (x * y) := fun ⟨a, ha⟩ ⟨b, hb⟩ => ⟨a * b, by rw [ha, hb, EReal.coe_mul]⟩

theorem Real.zero : Real 0 := ⟨0, rfl⟩

theorem Real.sum {ι : Type} (s : Finset ι) (f : ι → EReal) (h : ∀ i ∈ s, Real (f i)) : Real (∑ i ∈ s, f i) := by
  classical
  induction s using Finset.induction_on with
  | empty => exact ⟨0, Finset.sum_empty⟩
  | insert a s ha ih =>
    rw [Finset.sum_insert ha]
    exact (h a (Finset.mem_insert_self a s)).add (ih fun i hi => h i (Finset.mem_insert_of_mem hi))

theorem Real.silu {x : EReal} : Real x → Real (Spec.silu x) := fun ⟨a, ha⟩ =>
  Real.mul ⟨a, ha⟩ ⟨(1 + Real.exp (-a))⁻¹, by rw [ha, Ideal.logistic_coe]⟩

theorem Real.of_abs_lt {x : EReal} (h : max x (-x) < ⊤) : Real x := by
  induction x using EReal.rec with
  | bot => exact absurd h (by simp)
  | coe r => exact ⟨r, rfl⟩
  | top => exact absurd h (by simp)

theorem exp_nonneg (x : EReal) : 0 ≤ Ideal.exp x := by
  induction x using EReal.rec with
  | bot => simp
  | coe r => rw [Ideal.exp_coe]; exact EReal.coe_nonneg.mpr (Real.exp_pos r).le
  | top => simp

/-- Of real scores, the sum of the exponentials is not zero: an exponential times its reciprocal is the quotient. -/
theorem prob_eq (s : Fin 127 → EReal) (hs : ∀ c, Real (s c)) (c : Fin 127) :
    Ideal.exp (s c - Spec.top s) * Ideal.div 1 (∑ x : Fin 127, Ideal.exp (s x - Spec.top s)) = Spec.prob s c := by
  unfold Spec.prob
  have htop : Spec.top s < ⊤ := by
    unfold Spec.top
    rw [Finset.fold_max_lt]
    exact ⟨bot_lt_top, fun x _ => by obtain ⟨r, hr⟩ := hs x; rw [hr]; exact EReal.coe_lt_top r⟩
  have hle : s 0 ≤ Spec.top s := by
    unfold Spec.top
    rw [Finset.le_fold_max]
    exact Or.inr ⟨0, Finset.mem_univ _, le_rfl⟩
  have hne : (∑ x : Fin 127, Ideal.exp (s x - Spec.top s)) ≠ 0 := by
    intro h0
    have h1 := (Finset.sum_eq_zero_iff_of_nonneg fun x _ => exp_nonneg (s x - Spec.top s)).mp h0 0 (Finset.mem_univ _)
    obtain ⟨r, hr⟩ := hs 0
    rw [hr] at h1 hle
    generalize Spec.top s = t at htop hle h1
    induction t using EReal.rec with
    | bot => exact absurd hle (by simp)
    | coe t =>
      rw [← EReal.coe_sub, Ideal.exp_coe] at h1
      exact absurd (EReal.coe_eq_zero.mp h1) (Real.exp_pos _).ne'
    | top => exact absurd htop (lt_irrefl _)
  unfold Ideal.div
  rw [if_neg hne, if_neg hne, one_mul]

end Cert.Sums

end
-- ==== Proof.BlockTerm.lean ====
/- What one grid point (one sequence) computes, as a composition of whole-array operations of its blocks: the sixteen
   page blocks are transposed into the two key/value rows of the scratch, every chunk of sixteen rows is read at a stride,
   shifted by the position embedding and laid side by side, multiplied by the (block diagonal) first weights, the second
   half's product rotated by one chunk and added, and the compressed rows attended to. -/
module

public import proofs.«01_k».proof.Proof.Gen.KernelIdeal.Frame
public import proofs.«01_k».proof.Proof.Rows
public import Idealize.ShloMosaic.Lib.Pipeline.Value

@[expose] public section

noncomputable section

namespace Cert.Cmp

open Cert.KernelIdeal Cert.KernelIdeal.Gen
open Idealize.ShloMosaic Idealize.ShloMosaic.TcCoe

variable {F : FTy → Type} [FloatOps F] [Named F]

theorem slab_inb (kv : Fin 2) (s : Fin 16) :
    ∀ a, S1x128x128.size a = 0 ∨ (![kv.val, s.val, 0] : Fin 3 → ℕ) a + (![1, 16, 1] : Fin 3 → ℕ) a * (S1x128x128.size a - 1) < S2x2048x128.size a := by
  revert kv s; decide

/-- Row `s` of every chunk of sixteen, of one half. -/
def slab (G : FVec F S2x2048x128 .f32) (kv : Fin 2) (s : Fin 16) : FVec F S1x128x128 .f32 := fun j =>
  G ((LoadRect.mk ![kv.val, s.val, 0] S1x128x128.size ![1, 16, 1] (slab_inb kv s) : LoadRect S2x2048x128).idx j)

theorem peRow_inb (kv sub : Fin 2) (s : Fin 16) :
    ∀ a, (![kv.val, sub.val, s.val, 0, 0] : Fin 5 → ℕ) a + S1x1x1x1x128.size a ≤ S2x2x16x1x128.size a := by
  revert kv sub s; decide

/-- Row `s` of a half's position embedding. -/
def peRow (pe : FVec F S2x2x16x1x128 .f32) (kv sub : Fin 2) (s : Fin 16) : FVec F S1x1x1x1x128 .f32 :=
  View.ld (Val := Elt F) (e' := .f32) (S := S2x2x16x1x128) pe (Rect.unit ![kv.val, sub.val, s.val, 0, 0] S1x1x1x1x128.size (peRow_inb kv sub s))

/-- One row of every chunk, shifted by its position's embedding. -/
def piece (g : FVec F S1x128x128 .f32) (p : FVec F S1x1x1x1x128 .f32) : FVec F S128x128 .bf16 :=
  truncf .bf16 (addf (shapeCast S128x128 g shapeCasts_S1x128x128_S128x128)
    (broadcastTo S128x128 (shapeCast S1x128 p shapeCasts_S1x1x1x1x128_S1x128) broadcasts_S1x128_S128x128)) bitsLt_bf16_f32

/-- The chunks' sixteen shifted rows side by side. -/
def chunks (G : FVec F S2x2048x128 .f32) (pe : FVec F S2x2x16x1x128 .f32) (kv sub : Fin 2) : FVec F S128x2048 .bf16 :=
  concatenate S128x2048 1 [⟨S128x128, piece (slab G kv 0) (peRow pe kv sub 0)⟩, ⟨S128x128, piece (slab G kv 1) (peRow pe kv sub 1)⟩, ⟨S128x128, piece (slab G kv 2) (peRow pe kv sub 2)⟩, ⟨S128x128, piece (slab G kv 3) (peRow pe kv sub 3)⟩, ⟨S128x128, piece (slab G kv 4) (peRow pe kv sub 4)⟩, ⟨S128x128, piece (slab G kv 5) (peRow pe kv sub 5)⟩, ⟨S128x128, piece (slab G kv 6) (peRow pe kv sub 6)⟩, ⟨S128x128, piece (slab G kv 7) (peRow pe kv sub 7)⟩, ⟨S128x128, piece (slab G kv 8) (peRow pe kv sub 8)⟩, ⟨S128x128, piece (slab G kv 9) (peRow pe kv sub 9)⟩, ⟨S128x128, piece (slab G kv 10) (peRow pe kv sub 10)⟩, ⟨S128x128, piece (slab G kv 11) (peRow pe kv sub 11)⟩, ⟨S128x128, piece (slab G kv 12) (peRow pe kv sub 12)⟩, ⟨S128x128, piece (slab G kv 13) (peRow pe kv sub 13)⟩, ⟨S128x128, piece (slab G kv 14) (peRow pe kv sub 14)⟩, ⟨S128x128, piece (slab G kv 15) (peRow pe kv sub 15)⟩]
    concatenates_S128x128_S128x128_S128x128_S128x128_S128x128_S128x128_S128x128_S128x128_S128x128_S128x128_S128x128_S128x128_S128x128_S128x128_S128x128_S128x128_S128x2048_d1

theorem w1_inb (kv sub : Fin 2) : ∀ a, (![kv.val, sub.val, 0, 0] : Fin 4 → ℕ) a + S1x1x2048x256.size a ≤ S2x2x2048x256.size a := by
  revert kv sub; decide

/-- The product of the chunks with one half of the first weights. -/
def hidHalf (G : FVec F S2x2048x128 .f32) (pe : FVec F S2x2x16x1x128 .f32) (w1 : FVec F S2x2x2048x256 .bf16) (kv sub : Fin 2) :
    FVec F S128x256 .f32 :=
  matmul dot_S128x2048_S2048x256_S128x256_1_0_0_1_n_n none (chunks G pe kv sub)
    (shapeCast S2048x256 (View.ld (Val := Elt F) (e' := .bf16) (S := S2x2x2048x256) w1 (Rect.unit ![kv.val, sub.val, 0, 0] S1x1x2048x256.size (w1_inb kv sub)))
      shapeCasts_S1x1x2048x256_S2048x256)
    (constant S128x256 .f32 0x00000000#32)

/-- The hidden rows: the first half of each chunk's block plus the second half, which is the next chunk's. -/
def hid (G : FVec F S2x2048x128 .f32) (pe : FVec F S2x2x16x1x128 .f32) (w1 : FVec F S2x2x2048x256 .bf16) (kv : Fin 2) :
    FVec F S128x256 .f32 :=
  addf (hidHalf G pe w1 kv 0) (dynamicRotate 0 127#32 none (hidHalf G pe w1 kv 1) rotates_S128x256_d0)

theorem w2_inb (kv : Fin 2) : ∀ a, (![kv.val, 0, 0] : Fin 3 → ℕ) a + S1x256x128.size a ≤ S2x256x128.size a := by
  revert kv; decide

/-- The compressed rows of one half. -/
def comp (G : FVec F S2x2048x128 .f32) (pe : FVec F S2x2x16x1x128 .f32) (w1 : FVec F S2x2x2048x256 .bf16)
    (w2 : FVec F S2x256x128 .bf16) (kv : Fin 2) : FVec F S128x128 .f32 :=
  matmul dot_S128x256_S256x128_S128x128_1_0_0_1_n_n none
    (truncf .bf16 (mulf (hid G pe w1 kv) (logistic (hid G pe w1 kv))) bitsLt_bf16_f32)
    (shapeCast S256x128 (View.ld (Val := Elt F) (e' := .bf16) (S := S2x256x128) w2 (Rect.unit ![kv.val, 0, 0] S1x256x128.size (w2_inb kv))) shapeCasts_S1x256x128_S256x128)
    (constant S128x128 .f32 0x00000000#32)

/-- The attention's probabilities over the compressed rows. -/
abbrev prob (G : FVec F S2x2048x128 .f32) (q : FVec F S1x8x128 .bf16) (pe : FVec F S2x2x16x1x128 .f32) (w1 : FVec F S2x2x2048x256 .bf16)
    (w2 : FVec F S2x256x128 .bf16) : FVec F S8x128 .bf16 :=
  k0_pay123 (comp G pe w1 w2 0) q

/-- The attended values. -/
def attended (G : FVec F S2x2048x128 .f32) (q : FVec F S1x8x128 .bf16) (pe : FVec F S2x2x16x1x128 .f32) (w1 : FVec F S2x2x2048x256 .bf16)
    (w2 : FVec F S2x256x128 .bf16) : FVec F S8x128 .f32 :=
  matmul dot_S8x128_S128x128_S8x128_1_0_0_1_n_n none (prob G q pe w1 w2)
    (truncf .bf16 (comp G pe w1 w2 1) bitsLt_bf16_f32) (constant S8x128 .f32 0x00000000#32)

set_option maxHeartbeats 4000000 in
/-- The first output's block is the attended values. -/
theorem out20_eq (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x8x128 .bf16) (harg18 : arg18.IsWhole) (arg19 : Memref sig .tc .vmem S2x2x16x1x128 .f32) (harg19 : arg19.IsWhole) (arg20 : Memref sig .tc .vmem S2x2x2048x256 .bf16) (harg20 : arg20.IsWhole) (arg21 : Memref sig .tc .vmem S2x256x128 .bf16) (harg21 : arg21.IsWhole) (arg22 : Memref sig .tc .vmem S1x8x128 .f32) (harg22 : arg22.IsWhole) (arg23 : Memref sig .tc .vmem S1x8x128 .f32) (harg23 : arg23.IsWhole) (arg24 : Memref sig .tc .vmem S2x2048x128 .f32) (harg24 : arg24.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x8x128 .bf16) (x17 : Vec F S2x2x16x1x128 .f32) (x18 : Vec F S2x2x2048x256 .bf16) (x19 : Vec F S2x256x128 .bf16) (xt0 : TbBuf0 (F := F) c tbM0_0) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 xt0
      = k0_pay1 (attended (rows ![x0, x1, x2, x3, x4, x5, x6, x7, x8, x9, x10, x11, x12, x13, x14, x15]) x16 x17 x18 x19) := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 xt0)]
  unfold kernelRun0_A
  dsimp only
  sl_unfold_words
  generalize hL : (List.cons _ _ : List (Σ r : Rect S2x2048x128, r.shape.Idx → Elt F .f32)) = L
  have hG : View.canon L = rows ![x0, x1, x2, x3, x4, x5, x6, x7, x8, x9, x10, x11, x12, x13, x14, x15] := by
    subst hL
    funext y
    refine View.canon_apply_of_pieces _ _ ?_ y (View.cover_of_tiledL (s := S2x2048x128) _ S1x128x128.size (by sl_kernel_rfl) y)
    simp only [List.forall_mem_cons, List.forall_mem_nil, and_true, View.readAt_eq_ld, Memref.IsWhole.read_unread]
    have P := page_piece (F := F) ![x0, x1, x2, x3, x4, x5, x6, x7, x8, x9, x10, x11, x12, x13, x14, x15]
    exact ⟨P 15 1 _ _, P 15 0 _ _, P 14 1 _ _, P 14 0 _ _, P 13 1 _ _, P 13 0 _ _, P 12 1 _ _, P 12 0 _ _, P 11 1 _ _, P 11 0 _ _, P 10 1 _ _, P 10 0 _ _, P 9 1 _ _, P 9 0 _ _, P 8 1 _ _, P 8 0 _ _, P 7 1 _ _, P 7 0 _ _, P 6 1 _ _, P 6 0 _ _, P 5 1 _ _, P 5 0 _ _, P 4 1 _ _, P 4 0 _ _, P 3 1 _ _, P 3 0 _ _, P 2 1 _ _, P 2 0 _ _, P 1 1 _ _, P 1 0 _ _, P 0 1 _ _, P 0 0 _ _, fun _ h => absurd h List.not_mem_nil⟩
  simp only [View.readCov_eq_canon', hG, View.readAt_eq_ld, Memref.IsWhole.read_unread]
  generalize rows ![x0, x1, x2, x3, x4, x5, x6, x7, x8, x9, x10, x11, x12, x13, x14, x15] = G
  refine (View.canon_unit_zero (funext fun a => by revert a; decide) _ _).trans ?_
  clear hG hL
  have e16 := View.ld_unit_zero (Val := Elt F) (e := .bf16) (S := S1x8x128) (off := ![0, 0, 0])
    (funext fun a => by revert a; decide) inb_S1x8x128_S1x8x128_0_0_0 x16
  refine Eq.trans (b := k0_pay1 (k0_pay124 (comp G x17 x18 x19 0) (hidHalf G x17 x18 1 0) (chunks G x17 1 1) _ _
    (View.ld (Val := Elt F) (e' := .bf16) (S := S1x8x128) x16 (Rect.unit ![0, 0, 0] S1x8x128.size inb_S1x8x128_S1x8x128_0_0_0)))) rfl ?_
  rw [e16]
  rfl

set_option maxHeartbeats 4000000 in
/-- The second output's block is the importance of the selection blocks. -/
theorem out21_eq (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x8x128 .bf16) (harg18 : arg18.IsWhole) (arg19 : Memref sig .tc .vmem S2x2x16x1x128 .f32) (harg19 : arg19.IsWhole) (arg20 : Memref sig .tc .vmem S2x2x2048x256 .bf16) (harg20 : arg20.IsWhole) (arg21 : Memref sig .tc .vmem S2x256x128 .bf16) (harg21 : arg21.IsWhole) (arg22 : Memref sig .tc .vmem S1x8x128 .f32) (harg22 : arg22.IsWhole) (arg23 : Memref sig .tc .vmem S1x8x128 .f32) (harg23 : arg23.IsWhole) (arg24 : Memref sig .tc .vmem S2x2048x128 .f32) (harg24 : arg24.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x8x128 .bf16) (x17 : Vec F S2x2x16x1x128 .f32) (x18 : Vec F S2x2x2048x256 .bf16) (x19 : Vec F S2x256x128 .bf16) (xt0 : TbBuf0 (F := F) c tbM0_0) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 xt0
      = k0_pay2 (prob (rows ![x0, x1, x2, x3, x4, x5, x6, x7, x8, x9, x10, x11, x12, x13, x14, x15]) x16 x17 x18 x19) := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 xt0)]
  unfold kernelRun0_A
  dsimp only
  sl_unfold_words
  generalize hL : (List.cons _ _ : List (Σ r : Rect S2x2048x128, r.shape.Idx → Elt F .f32)) = L
  have hG : View.canon L = rows ![x0, x1, x2, x3, x4, x5, x6, x7, x8, x9, x10, x11, x12, x13, x14, x15] := by
    subst hL
    funext y
    refine View.canon_apply_of_pieces _ _ ?_ y (View.cover_of_tiledL (s := S2x2048x128) _ S1x128x128.size (by sl_kernel_rfl) y)
    simp only [List.forall_mem_cons, List.forall_mem_nil, and_true, View.readAt_eq_ld, Memref.IsWhole.read_unread]
    have P := page_piece (F := F) ![x0, x1, x2, x3, x4, x5, x6, x7, x8, x9, x10, x11, x12, x13, x14, x15]
    exact ⟨P 15 1 _ _, P 15 0 _ _, P 14 1 _ _, P 14 0 _ _, P 13 1 _ _, P 13 0 _ _, P 12 1 _ _, P 12 0 _ _, P 11 1 _ _, P 11 0 _ _, P 10 1 _ _, P 10 0 _ _, P 9 1 _ _, P 9 0 _ _, P 8 1 _ _, P 8 0 _ _, P 7 1 _ _, P 7 0 _ _, P 6 1 _ _, P 6 0 _ _, P 5 1 _ _, P 5 0 _ _, P 4 1 _ _, P 4 0 _ _, P 3 1 _ _, P 3 0 _ _, P 2 1 _ _, P 2 0 _ _, P 1 1 _ _, P 1 0 _ _, P 0 1 _ _, P 0 0 _ _, fun _ h => absurd h List.not_mem_nil⟩
  simp only [View.readCov_eq_canon', hG, View.readAt_eq_ld, Memref.IsWhole.read_unread]
  generalize rows ![x0, x1, x2, x3, x4, x5, x6, x7, x8, x9, x10, x11, x12, x13, x14, x15] = G
  refine (View.canon_unit_zero (funext fun a => by revert a; decide) _ _).trans ?_
  clear hG hL
  have e16 := View.ld_unit_zero (Val := Elt F) (e := .bf16) (S := S1x8x128) (off := ![0, 0, 0])
    (funext fun a => by revert a; decide) inb_S1x8x128_S1x8x128_0_0_0 x16
  refine Eq.trans (b := k0_pay2 (k0_pay123 (comp G x17 x18 x19 0)
    (View.ld (Val := Elt F) (e' := .bf16) (S := S1x8x128) x16 (Rect.unit ![0, 0, 0] S1x8x128.size inb_S1x8x128_S1x8x128_0_0_0)))) rfl ?_
  rw [e16]

end Cert.Cmp

end
-- ==== Proof.BlockAt.lean ====
/- The block of one grid point read at an index, over the extended reals. -/
module

public import proofs.«01_k».proof.Proof.Spec
public import proofs.«01_k».proof.Proof.BlockTerm
public import Idealize.ShloMosaic.Lib.Pointwise

@[expose] public section

noncomputable section

namespace Cert.Cmp

open Cert.KernelIdeal Cert.KernelIdeal.Gen
open Idealize.ShloMosaic Idealize.ShloMosaic.TcCoe

variable (G : FVec Ideal S2x2048x128 .f32) (q : FVec Ideal S1x8x128 .bf16) (pe : FVec Ideal S2x2x16x1x128 .f32)
  (w1 : FVec Ideal S2x2x2048x256 .bf16) (w2 : FVec Ideal S2x256x128 .bf16)

/-- A row of a chunk. -/
theorem slab_apply (kv : Fin 2) (s : Fin 16) (a : Fin 1) (c l : Fin 128) :
    slab G kv s (ix3 a c l) = G (ix3 kv ⟨16 * c.val + s.val, by omega⟩ l) := by
  refine congrArg G (funext fun d => Fin.ext ?_)
  match d with
  | ⟨0, _⟩ => show kv.val + 1 * a.val = kv.val; omega
  | ⟨1, _⟩ => show s.val + 16 * c.val = 16 * c.val + s.val; omega
  | ⟨2, _⟩ => show 0 + 1 * l.val = l.val; omega

/-- A row of the position embedding. -/
theorem peRow_apply (kv sub : Fin 2) (s : Fin 16) (a b c d : Fin 1) (l : Fin 128) :
    peRow pe kv sub s (ix5 a b c d l) = pe (ix5 kv sub s 0 l) := by
  refine congrArg pe (funext fun e => Fin.ext ?_)
  refine (unit_val (peRow_inb kv sub s) _ e).trans ?_
  match e with
  | ⟨0, _⟩ => show kv.val + a.val = kv.val; omega
  | ⟨1, _⟩ => show sub.val + b.val = sub.val; omega
  | ⟨2, _⟩ => show s.val + c.val = s.val; omega
  | ⟨3, _⟩ => show 0 + d.val = 0; omega
  | ⟨4, _⟩ => show 0 + l.val = l.val; omega

/-- A shifted row. -/
theorem piece_apply (g : FVec Ideal S1x128x128 .f32) (p : FVec Ideal S1x1x1x1x128 .f32) (c l : Fin 128) :
    piece g p (ix2 c l) = (g (ix3 0 c l) + p (ix5 0 0 0 0 l) : EReal) := by
  pointwise [piece]

/-- One entry of the chunks laid side by side. -/
theorem chunks_apply (kv sub : Fin 2) (c : Fin 128) (j : Fin 2048) :
    chunks G pe kv sub (ix2 c j) = (G (ix3 kv ⟨16 * c.val + j.val / 128, by omega⟩ ⟨j.val % 128, by omega⟩)
      + pe (ix5 kv sub ⟨j.val / 128, by omega⟩ 0 ⟨j.val % 128, by omega⟩) : EReal) := by
  have hc := c.isLt
  have hj := j.isLt
  have hm : (j.val % 128) < 128 := Nat.mod_lt _ (by decide)
  refine (concatenate_ofFn_apply (t := S128x2048) (s₁ := S128x128) 1 (fun n : Fin 16 => piece (slab G kv n) (peRow pe kv sub n))
    concatenates_S128x128_S128x128_S128x128_S128x128_S128x128_S128x128_S128x128_S128x128_S128x128_S128x128_S128x128_S128x128_S128x128_S128x128_S128x128_S128x128_S128x2048_d1
    rfl 128 rfl (ix2 c j) ⟨j.val / 128, by omega⟩ rfl (ix2 c ⟨j.val % 128, hm⟩) rfl ?_).trans ?_
  · intro b hb
    match b with
    | ⟨0, _⟩ => rfl
    | ⟨1, _⟩ => exact absurd rfl hb
  · rw [piece_apply, slab_apply, peRow_apply]

theorem w1_apply (kv sub : Fin 2) (a b : Fin 1) (j : Fin 2048) (n : Fin 256) :
    View.ld (Val := Elt Ideal) (e' := .bf16) (S := S2x2x2048x256) w1 (Rect.unit ![kv.val, sub.val, 0, 0] S1x1x2048x256.size (w1_inb kv sub)) (ix4 a b j n)
      = w1 (ix4 kv sub j n) := by
  refine congrArg w1 (funext fun e => Fin.ext ?_)
  refine (unit_val (w1_inb kv sub) _ e).trans ?_
  match e with
  | ⟨0, _⟩ => show kv.val + a.val = kv.val; omega
  | ⟨1, _⟩ => show sub.val + b.val = sub.val; omega
  | ⟨2, _⟩ => show 0 + j.val = j.val; omega
  | ⟨3, _⟩ => show 0 + n.val = n.val; omega

theorem w2_apply (kv : Fin 2) (a : Fin 1) (n : Fin 256) (l : Fin 128) :
    View.ld (Val := Elt Ideal) (e' := .bf16) (S := S2x256x128) w2 (Rect.unit ![kv.val, 0, 0] S1x256x128.size (w2_inb kv)) (ix3 a n l)
      = w2 (ix3 kv n l) := by
  refine congrArg w2 (funext fun e => Fin.ext ?_)
  refine (unit_val (w2_inb kv) _ e).trans ?_
  match e with
  | ⟨0, _⟩ => show kv.val + a.val = kv.val; omega
  | ⟨1, _⟩ => show 0 + n.val = n.val; omega
  | ⟨2, _⟩ => show 0 + l.val = l.val; omega

/-- A product with the first weights, of any left factor and any weights block. -/
theorem mm1_apply (C : FVec Ideal S128x2048 .bf16) (W : FVec Ideal S1x1x2048x256 .bf16) (c : Fin 128) (n : Fin 256) :
    matmul dot_S128x2048_S2048x256_S128x256_1_0_0_1_n_n none C (shapeCast S2048x256 W shapeCasts_S1x1x2048x256_S2048x256)
      (constant S128x256 .f32 0x00000000#32) (ix2 c n) = (∑ j : Fin 2048, C (ix2 c j) * W (ix4 0 0 j n) : EReal) := by
  pointwise

/-- A product with the second weights. -/
theorem mm2_apply (C : FVec Ideal S128x256 .bf16) (W : FVec Ideal S1x256x128 .bf16) (c : Fin 128) (l : Fin 128) :
    matmul dot_S128x256_S256x128_S128x128_1_0_0_1_n_n none C (shapeCast S256x128 W shapeCasts_S1x256x128_S256x128)
      (constant S128x128 .f32 0x00000000#32) (ix2 c l) = (∑ n : Fin 256, C (ix2 c n) * W (ix3 0 n l) : EReal) := by
  pointwise

/-- A product with one half of the first weights. -/
theorem hidHalf_apply (kv sub : Fin 2) (c : Fin 128) (n : Fin 256) :
    hidHalf G pe w1 kv sub (ix2 c n) = (∑ j : Fin 2048, chunks G pe kv sub (ix2 c j) * w1 (ix4 kv sub j n) : EReal) := by
  unfold hidHalf
  refine (mm1_apply _ _ c n).trans (Finset.sum_congr rfl fun j _ => ?_)
  rw [w1_apply]

theorem rot_apply (H : FVec Ideal S128x256 .f32) (c : Fin 128) (n : Fin 256) :
    dynamicRotate 0 127#32 none H rotates_S128x256_d0 (ix2 c n) = H (ix2 ⟨(c.val + 1) % 128, Nat.mod_lt _ (by decide)⟩ n) := by
  pointwise
  have e : (⟨(c.val + 128 - 127) % 128, Nat.mod_lt _ (by decide)⟩ : Fin 128) = ⟨(c.val + 1) % 128, Nat.mod_lt _ (by decide)⟩ :=
    Fin.ext (congrArg (· % 128) (by omega : c.val + 128 - 127 = c.val + 1))
  exact congrArg (fun d => H (ix2 d n)) e

/-- The hidden rows: two halves of a block, the second the next chunk's. -/
theorem hid_apply (kv : Fin 2) (c : Fin 128) (n : Fin 256) :
    hid G pe w1 kv (ix2 c n) = (hidHalf G pe w1 kv 0 (ix2 c n) + hidHalf G pe w1 kv 1 (ix2 ⟨(c.val + 1) % 128, Nat.mod_lt _ (by decide)⟩ n) : EReal) :=
  congrArg (hidHalf G pe w1 kv 0 (ix2 c n) + · : EReal → EReal) (rot_apply _ c n)

/-- The compressed rows. -/
theorem comp_apply (kv : Fin 2) (c l : Fin 128) :
    comp G pe w1 w2 kv (ix2 c l) = (∑ n : Fin 256, hid G pe w1 kv (ix2 c n) * Ideal.logistic (hid G pe w1 kv (ix2 c n)) * w2 (ix3 kv n l) : EReal) := by
  unfold comp
  refine (mm2_apply _ _ c l).trans (Finset.sum_congr rfl fun n _ => ?_)
  rw [w2_apply]
  rfl

/-- A choice between the 127 blocks and the lane past them. -/
theorem sel127 (x : Fin 128) (a b : EReal) :
    Scalar.select (IntOp.cmpi .slt (BitVec.ofNat 32 x.val) 127#32) a b = if x.val < 127 then a else b := by
  show Scalar.select (BitVec.ofBool ((BitVec.ofNat 32 x.val).slt (BitVec.ofNat 32 127))) a b = _
  rw [Spec.slt_ofNat _ _ (by omega) (by omega)]
  by_cases h : x.val < 127
  · rw [if_pos h, decide_eq_true h]; exact ValueIdx.select_one a b
  · rw [if_neg h, decide_eq_false h]; exact ValueIdx.select_zero a b

theorem named_mask : (Named.named (F := Ideal) Cert.KernelIdeal.κ "mask" (φ := .f32) 4048155338#32 : EReal) = ⊥ := rfl

theorem fold127 (f : Fin 128 → EReal) (h : f (Fin.last 127) = ⊥) :
    Finset.fold max ⊥ f Finset.univ = Spec.top fun x => f x.castSucc := by
  rw [Fin.univ_castSuccEmb, Finset.fold_cons, Finset.fold_map, h]
  exact max_eq_right bot_le

theorem sum127 (f : Fin 128 → EReal) (h : f (Fin.last 127) = 0) : ∑ x, f x = ∑ x : Fin 127, f x.castSucc := by
  rw [Fin.sum_univ_castSucc, h, add_zero]

/-- The score of the row of queries `r` at compressed row `x`. -/
abbrev score (K : FVec Ideal S128x128 .f32) (r : Fin 8) (x : Fin 128) : EReal := ∑ l : Fin 128, q (ix3 0 r l) * K (ix2 x l)

/-- The probability of a block: its exponential times the reciprocal of their sum. -/
theorem prob_apply (K : FVec Ideal S128x128 .f32) (r : Fin 8) (c : Fin 127) :
    k0_pay123 K q (ix2 r c.castSucc) = (Ideal.exp (score q K r c.castSucc - Spec.top fun x => score q K r x.castSucc)
      * Ideal.div 1 (∑ x : Fin 127, Ideal.exp (score q K r x.castSucc - Spec.top fun x => score q K r x.castSucc)) : EReal) := by
  pointwise [k0_pay123]
  simp only [named_mask, Spec.negInf]
  have e := fold127 (fun x : Fin 128 => Scalar.select (IntOp.cmpi .slt (BitVec.ofNat 32 x.val) 127#32) (score q K r x) ⊥)
    ((sel127 _ _ _).trans (if_neg (by decide)))
  have e' : (fun x : Fin 127 => Scalar.select (IntOp.cmpi .slt (BitVec.ofNat 32 x.castSucc.val) 127#32) (score q K r x.castSucc) ⊥)
      = fun x => score q K r x.castSucc := funext fun x => (sel127 _ _ _).trans (if_pos x.isLt)
  rw [e'] at e
  rw [e]
  have e0 : ∀ (a b : EReal), Scalar.select (IntOp.cmpi .slt (BitVec.ofNat 32 (Fin.last 127).val) 127#32) a b = b := fun a b => (sel127 (Fin.last 127) a b).trans (if_neg (by decide))
  refine ((sel127 c.castSucc _ _).trans (if_pos c.isLt)).trans ?_
  refine congrArg₂ (· * ·) ?_ (congrArg (Ideal.div 1) ((sum127 _ (e0 _ _)).trans (Finset.sum_congr rfl fun x _ => ?_)))
  · exact congrArg (fun z => Ideal.exp (z - _)) ((sel127 c.castSucc _ _).trans (if_pos c.isLt))
  · exact ((sel127 x.castSucc _ _).trans (if_pos x.isLt)).trans
      (congrArg (fun z => Ideal.exp (z - _)) ((sel127 x.castSucc _ _).trans (if_pos x.isLt)))

/-- Past the blocks the probability is zero. -/
theorem prob_last (K : FVec Ideal S128x128 .f32) (r : Fin 8) : k0_pay123 K q (ix2 r (Fin.last 127)) = (0 : EReal) := by
  pointwise [k0_pay123]
  rfl

/-- The importance of a selection block: the probabilities of the blocks that meet it. -/
theorem pay2_apply (p : FVec Ideal S8x128 .bf16) (r : Fin 8) (s : Fin 128) (hp : p (ix2 r (Fin.last 127)) = (0 : EReal)) :
    k0_pay2 p (ix3 0 r s) = (∑ x : Fin 127, if Spec.covers x s then p (ix2 r x.castSucc) else 0 : EReal) := by
  pointwise [k0_pay2]
  refine (sum127 _ ?_).trans (Finset.sum_congr rfl fun x _ => ?_)
  · rw [hp]
    unfold Scalar.select
    exact ite_self _
  · refine (congrArg (fun w => Scalar.select w _ _) (Spec.covers_word x s)).trans ?_
    by_cases h : Spec.covers x s
    · rw [if_pos h, if_pos h]; exact ValueIdx.select_one _ _
    · rw [if_neg h, if_neg h]; exact ValueIdx.select_zero _ _

theorem pay1_attended_apply (r : Fin 8) (l : Fin 128) :
    k0_pay1 (attended G q pe w1 w2) (ix3 0 r l) = (∑ c : Fin 128, prob G q pe w1 w2 (ix2 r c) * comp G pe w1 w2 1 (ix2 c l) : EReal) := by
  pointwise [k0_pay1, attended]

end Cert.Cmp

end
-- ==== Proof.Equation.lean ====
/- The block of one grid point is the mathematics of one sequence: the block-diagonal weights give each key head its own sums. -/
module

public import proofs.«01_k».proof.Proof.Sums
public import proofs.«01_k».proof.Proof.BlockAt

@[expose] public section

noncomputable section

namespace Cert.Cmp

open Cert.KernelIdeal Cert.KernelIdeal.Gen
open Idealize.ShloMosaic Idealize.ShloMosaic.TcCoe

/-- What the arrays of one grid point hold: rows `X` (of keys and values, of each key head), position embeddings `E`, weights `W1` and `W2`,
    queries `Q`. -/
structure Holds (G : FVec Ideal S2x2048x128 .f32) (q : FVec Ideal S1x8x128 .bf16) (pe : FVec Ideal S2x2x16x1x128 .f32)
    (w1 : FVec Ideal S2x2x2048x256 .bf16) (w2 : FVec Ideal S2x256x128 .bf16)
    (X : Fin 2 → Fin 2 → Fin 2048 → Fin 64 → EReal) (E : Fin 2 → Fin 32 → Fin 64 → EReal) (W1 : Fin 2 → Fin 32 → Fin 64 → Fin 128 → EReal)
    (W2 : Fin 2 → Fin 128 → Fin 64 → EReal) (Q : Fin 8 → Fin 64 → EReal) : Prop where
  rows : ∀ (kv : Fin 2) (r : Fin 2048) (l : Fin 128), G (ix3 kv r l) = X kv ⟨l.val / 64, by omega⟩ r ⟨l.val % 64, by omega⟩
  pos : ∀ (kv sub : Fin 2) (s : Fin 16) (l : Fin 128), pe (ix5 kv sub s 0 l) = E kv ⟨sub.val * 16 + s.val, by omega⟩ ⟨l.val % 64, by omega⟩
  first : ∀ (kv sub : Fin 2) (j : Fin 2048) (n : Fin 256), w1 (ix4 kv sub j n) = (if j.val % 128 / 64 = n.val / 128 then
    W1 kv ⟨sub.val * 16 + j.val / 128, by omega⟩ ⟨j.val % 64, by omega⟩ ⟨n.val % 128, by omega⟩ else 0 : EReal)
  second : ∀ (kv : Fin 2) (n : Fin 256) (l : Fin 128), w2 (ix3 kv n l) = (if n.val / 128 = l.val / 64 then
    W2 kv ⟨n.val % 128, by omega⟩ ⟨l.val % 64, by omega⟩ else 0 : EReal)
  queries : ∀ (r : Fin 8) (l : Fin 128), q (ix3 0 r l) = (if r.val / 4 = l.val / 64 then Q r ⟨l.val % 64, by omega⟩ else 0 : EReal)

variable {G : FVec Ideal S2x2048x128 .f32} {q : FVec Ideal S1x8x128 .bf16} {pe : FVec Ideal S2x2x16x1x128 .f32}
  {w1 : FVec Ideal S2x2x2048x256 .bf16} {w2 : FVec Ideal S2x256x128 .bf16}
  {X : Fin 2 → Fin 2 → Fin 2048 → Fin 64 → EReal} {E : Fin 2 → Fin 32 → Fin 64 → EReal} {W1 : Fin 2 → Fin 32 → Fin 64 → Fin 128 → EReal}
  {W2 : Fin 2 → Fin 128 → Fin 64 → EReal} {Q : Fin 8 → Fin 64 → EReal}

/-- Half a block's hidden row is the sum over sixteen positions. -/
theorem hidHalf_eq (H : Holds G q pe w1 w2 X E W1 W2 Q) (kv sub : Fin 2) (c : Fin 128) (n : Fin 256) :
    hidHalf G pe w1 kv sub (ix2 c n) = (∑ s : Fin 16, ∑ d : Fin 64,
      (X kv ⟨n.val / 128, by omega⟩ ⟨16 * c.val + s.val, by omega⟩ d + E kv ⟨sub.val * 16 + s.val, by omega⟩ d)
        * W1 kv ⟨sub.val * 16 + s.val, by omega⟩ d ⟨n.val % 128, by omega⟩ : EReal) := by
  rw [hidHalf_apply]
  refine (Sums.sum_mul 16 128 _).trans (Finset.sum_congr rfl fun s _ => ?_)
  have hn := n.isLt
  have hs := s.isLt
  refine (Sums.sum_block 64 (n.val / 128) (by omega) _ ?_).trans (Finset.sum_congr rfl fun d _ => ?_)
  · intro j hj
    have hj2 : j.val < 128 := j.isLt
    rw [H.first]
    rw [if_neg (by show ¬ ((j.val + 128 * s.val) % 128 / 64 = n.val / 128); omega)]
    exact mul_zero _
  · have hd := d.isLt
    rw [H.first, chunks_apply, H.rows, H.pos]
    refine (congrArg (fun z : EReal => _ * z) (if_pos (by show ((d.val + 64 * (n.val / 128)) + 128 * s.val) % 128 / 64 = n.val / 128; omega))).trans ?_
    have e1 (x : Fin 2048) (hx : x.val = (d.val + 64 * (n.val / 128)) + 128 * s.val) (h1 : x.val % 128 / 64 < 2) (h2 : 16 * c.val + x.val / 128 < 2048)
        (h3 : x.val % 128 % 64 < 64) (h4 : sub.val * 16 + x.val / 128 < 32) (h5 : x.val % 64 < 64) :
        ((X kv ⟨x.val % 128 / 64, h1⟩ ⟨16 * c.val + x.val / 128, h2⟩ ⟨x.val % 128 % 64, h3⟩ + E kv ⟨sub.val * 16 + x.val / 128, h4⟩ ⟨x.val % 128 % 64, h3⟩)
          * W1 kv ⟨sub.val * 16 + x.val / 128, h4⟩ ⟨x.val % 64, h5⟩ ⟨n.val % 128, Nat.mod_lt _ (by decide)⟩ : EReal)
        = (X kv ⟨n.val / 128, by omega⟩ ⟨16 * c.val + s.val, by omega⟩ d + E kv ⟨sub.val * 16 + s.val, by omega⟩ d)
          * W1 kv ⟨sub.val * 16 + s.val, by omega⟩ d ⟨n.val % 128, by omega⟩ := by
      have a1 : (⟨x.val % 128 / 64, h1⟩ : Fin 2) = ⟨n.val / 128, by omega⟩ := Fin.ext (by show x.val % 128 / 64 = n.val / 128; omega)
      have a2 : (⟨16 * c.val + x.val / 128, h2⟩ : Fin 2048) = ⟨16 * c.val + s.val, by omega⟩ := Fin.ext (by show 16 * c.val + x.val / 128 = 16 * c.val + s.val; omega)
      have a3 : (⟨x.val % 128 % 64, h3⟩ : Fin 64) = d := Fin.ext (by show x.val % 128 % 64 = d.val; omega)
      have a4 : (⟨sub.val * 16 + x.val / 128, h4⟩ : Fin 32) = ⟨sub.val * 16 + s.val, by omega⟩ := Fin.ext (by show sub.val * 16 + x.val / 128 = sub.val * 16 + s.val; omega)
      have a5 : (⟨x.val % 64, h5⟩ : Fin 64) = d := Fin.ext (by show x.val % 64 = d.val; omega)
      rw [a1, a2, a3, a4, a5]
    exact e1 _ rfl _ _ _ _ _

/-- A block's hidden row. -/
theorem hid_eq (H : Holds G q pe w1 w2 X E W1 W2 Q) (kv : Fin 2) (c : Fin 127) (n : Fin 256) :
    hid G pe w1 kv (ix2 c.castSucc n) = Spec.hidden (X kv ⟨n.val / 128, by omega⟩) (E kv) (W1 kv) c ⟨n.val % 128, by omega⟩ := by
  have hc := c.isLt
  rw [hid_apply, hidHalf_eq H, hidHalf_eq H]
  unfold Spec.hidden
  refine ((Sums.sum_mul 2 16 _).trans ((Fin.sum_univ_two _).trans (congrArg₂ (· + ·) ?_ ?_))).symm
  · refine Finset.sum_congr rfl fun s _ => Finset.sum_congr rfl fun d _ => ?_
    have hs := s.isLt
    have e1 (x y : Fin 2048) (z w : Fin 32) (h1 : x = y) (h2 : z = w) : ((X kv ⟨n.val / 128, by omega⟩ x d + E kv z d) * W1 kv z d ⟨n.val % 128, by omega⟩ : EReal)
      = (X kv ⟨n.val / 128, by omega⟩ y d + E kv w d) * W1 kv w d ⟨n.val % 128, by omega⟩ := by rw [h1, h2]
    refine e1 _ _ _ _ (Fin.ext ?_) (Fin.ext ?_)
    · show 16 * c.val + (s.val + 16 * 0) = 16 * c.val + s.val; omega
    · show s.val + 16 * 0 = 0 * 16 + s.val; omega
  · refine Finset.sum_congr rfl fun s _ => Finset.sum_congr rfl fun d _ => ?_
    have hs := s.isLt
    have e1 (x y : Fin 2048) (z w : Fin 32) (h1 : x = y) (h2 : z = w) : ((X kv ⟨n.val / 128, by omega⟩ x d + E kv z d) * W1 kv z d ⟨n.val % 128, by omega⟩ : EReal)
      = (X kv ⟨n.val / 128, by omega⟩ y d + E kv w d) * W1 kv w d ⟨n.val % 128, by omega⟩ := by rw [h1, h2]
    refine e1 _ _ _ _ (Fin.ext ?_) (Fin.ext ?_)
    · show 16 * c.val + (s.val + 16 * 1) = 16 * ((c.val + 1) % 128) + s.val; omega
    · show s.val + 16 * 1 = 1 * 16 + s.val; omega

/-- A compressed row. -/
theorem comp_eq (H : Holds G q pe w1 w2 X E W1 W2 Q) (kv : Fin 2) (c : Fin 127) (l : Fin 128) :
    comp G pe w1 w2 kv (ix2 c.castSucc l) = Spec.comp (X kv ⟨l.val / 64, by omega⟩) (E kv) (W1 kv) (W2 kv) c ⟨l.val % 64, by omega⟩ := by
  have hl := l.isLt
  rw [comp_apply]
  unfold Spec.comp Spec.silu
  refine (Sums.sum_block 128 (l.val / 64) (by omega) _ ?_).trans (Finset.sum_congr rfl fun n _ => ?_)
  · intro j hj
    rw [H.second, if_neg hj]
    exact mul_zero _
  · have hn := n.isLt
    rw [hid_eq H, H.second]
    refine (congrArg (fun z : EReal => _ * z) (if_pos (by show (n.val + 128 * (l.val / 64)) / 128 = l.val / 64; omega))).trans ?_
    have e1 (x : Fin 256) (hx : x.val = n.val + 128 * (l.val / 64)) (h1 : x.val / 128 < 2) (h2 : x.val % 128 < 128) :
        (Spec.hidden (X kv ⟨x.val / 128, h1⟩) (E kv) (W1 kv) c ⟨x.val % 128, h2⟩
          * Ideal.logistic (Spec.hidden (X kv ⟨x.val / 128, h1⟩) (E kv) (W1 kv) c ⟨x.val % 128, h2⟩) * W2 kv ⟨x.val % 128, h2⟩ ⟨l.val % 64, by omega⟩ : EReal)
        = Spec.hidden (X kv ⟨l.val / 64, by omega⟩) (E kv) (W1 kv) c n
          * Ideal.logistic (Spec.hidden (X kv ⟨l.val / 64, by omega⟩) (E kv) (W1 kv) c n) * W2 kv n ⟨l.val % 64, by omega⟩ := by
      have a1 : (⟨x.val / 128, h1⟩ : Fin 2) = ⟨l.val / 64, by omega⟩ := Fin.ext (by show x.val / 128 = l.val / 64; omega)
      have a2 : (⟨x.val % 128, h2⟩ : Fin 128) = n := Fin.ext (by show x.val % 128 = n.val; omega)
      rw [a1, a2]
    exact e1 _ rfl _ _

/-- The score of a row of queries at a block. -/
def sc (X : Fin 2 → Fin 2 → Fin 2048 → Fin 64 → EReal) (E : Fin 2 → Fin 32 → Fin 64 → EReal) (W1 : Fin 2 → Fin 32 → Fin 64 → Fin 128 → EReal)
    (W2 : Fin 2 → Fin 128 → Fin 64 → EReal) (Q : Fin 8 → Fin 64 → EReal) (r : Fin 8) (c : Fin 127) : EReal :=
  ∑ d : Fin 64, Q r d * Spec.comp (X 0 ⟨r.val / 4, by omega⟩) (E 0) (W1 0) (W2 0) c d

theorem score_eq (H : Holds G q pe w1 w2 X E W1 W2 Q) (r : Fin 8) (c : Fin 127) :
    score q (comp G pe w1 w2 0) r c.castSucc = sc X E W1 W2 Q r c := by
  unfold sc
  refine (Sums.sum_block 64 (r.val / 4) (by omega) _ ?_).trans (Finset.sum_congr rfl fun d _ => ?_)
  · intro j hj
    rw [H.queries, if_neg (fun e => hj e.symm)]
    exact zero_mul _
  · have hd := d.isLt
    have hr := r.isLt
    rw [comp_eq H, H.queries]
    refine (congrArg (fun z : EReal => z * _) (if_pos (by show r.val / 4 = (d.val + 64 * (r.val / 4)) / 64; omega))).trans ?_
    have e1 (x : Fin 128) (hx : x.val = d.val + 64 * (r.val / 4)) (h1 : x.val / 64 < 2) (h2 : x.val % 64 < 64) :
        (Q r ⟨x.val % 64, h2⟩ * Spec.comp (X 0 ⟨x.val / 64, h1⟩) (E 0) (W1 0) (W2 0) c ⟨x.val % 64, h2⟩ : EReal)
        = Q r d * Spec.comp (X 0 ⟨r.val / 4, by omega⟩) (E 0) (W1 0) (W2 0) c d := by
      have a1 : (⟨x.val / 64, h1⟩ : Fin 2) = ⟨r.val / 4, by omega⟩ := Fin.ext (by show x.val / 64 = r.val / 4; omega)
      have a2 : (⟨x.val % 64, h2⟩ : Fin 64) = d := Fin.ext (by show x.val % 64 = d.val; omega)
      rw [a1, a2]
    exact e1 _ rfl _ _

/-- All the values are real numbers. -/
structure AllReal (X : Fin 2 → Fin 2 → Fin 2048 → Fin 64 → EReal) (E : Fin 2 → Fin 32 → Fin 64 → EReal) (W1 : Fin 2 → Fin 32 → Fin 64 → Fin 128 → EReal)
    (W2 : Fin 2 → Fin 128 → Fin 64 → EReal) (Q : Fin 8 → Fin 64 → EReal) : Prop where
  x : ∀ a b c d, Sums.Real (X a b c d)
  e : ∀ a b c, Sums.Real (E a b c)
  w1 : ∀ a b c d, Sums.Real (W1 a b c d)
  w2 : ∀ a b c, Sums.Real (W2 a b c)
  q : ∀ a b, Sums.Real (Q a b)

theorem AllReal.sc (R : AllReal X E W1 W2 Q) (r : Fin 8) (c : Fin 127) : Sums.Real (sc X E W1 W2 Q r c) := by
  unfold Cmp.sc Spec.comp Spec.hidden
  exact Sums.Real.sum _ _ fun d _ => (R.q _ _).mul (Sums.Real.sum _ _ fun n _ => (Sums.Real.silu (Sums.Real.sum _ _ fun s _ => Sums.Real.sum _ _ fun d _ =>
    ((R.x _ _ _ _).add (R.e _ _ _)).mul (R.w1 _ _ _ _))).mul (R.w2 _ _ _))

/-- A block's probability. -/
theorem prob_eq (H : Holds G q pe w1 w2 X E W1 W2 Q) (R : AllReal X E W1 W2 Q) (r : Fin 8) (c : Fin 127) :
    prob G q pe w1 w2 (ix2 r c.castSucc) = Spec.prob (sc X E W1 W2 Q r) c := by
  unfold prob
  rw [prob_apply, show (fun x : Fin 127 => score q (comp G pe w1 w2 0) r x.castSucc) = sc X E W1 W2 Q r from funext fun x => score_eq H r x]
  simp only [score_eq H]
  exact Sums.prob_eq _ (R.sc r) c

/-- The first output's block, in the lanes of the row's own key head. -/
theorem attended_eq (H : Holds G q pe w1 w2 X E W1 W2 Q) (R : AllReal X E W1 W2 Q) (r : Fin 8) (l : Fin 128) (hl : r.val / 4 = l.val / 64) :
    k0_pay1 (attended G q pe w1 w2) (ix3 0 r l) = (∑ c : Fin 127, Spec.prob (sc X E W1 W2 Q r) c
      * Spec.comp (X 1 ⟨r.val / 4, by omega⟩) (E 1) (W1 1) (W2 1) c ⟨l.val % 64, by omega⟩ : EReal) := by
  rw [pay1_attended_apply]
  refine (sum127 _ ?_).trans (Finset.sum_congr rfl fun c _ => ?_)
  · exact (congrArg (fun z : EReal => z * _) (prob_last q _ r)).trans (zero_mul _)
  · rw [prob_eq H R, comp_eq H]
    have e1 : (⟨l.val / 64, by omega⟩ : Fin 2) = ⟨r.val / 4, by omega⟩ := Fin.ext hl.symm
    rw [e1]

/-- The second output's block. -/
theorem importance_eq (H : Holds G q pe w1 w2 X E W1 W2 Q) (R : AllReal X E W1 W2 Q) (r : Fin 8) (s : Fin 128) :
    k0_pay2 (prob G q pe w1 w2) (ix3 0 r s) = (∑ c : Fin 127, if Spec.covers c s then Spec.prob (sc X E W1 W2 Q r) c else 0 : EReal) := by
  rw [pay2_apply _ r s (prob_last q _ r)]
  exact Finset.sum_congr rfl fun c _ => congrArg (fun z : EReal => if Spec.covers c s then z else 0) (prob_eq H R r c)

end Cert.Cmp

end
-- ==== Proof.Sequence.lean ====
/- The values of one sequence, off the arguments, and the reference's results in terms of them. -/
module

public import proofs.«01_k».proof.Proof.RefAt
public import proofs.«01_k».proof.Proof.RefRows
public import proofs.«01_k».proof.Proof.Equation

@[expose] public section

noncomputable section

namespace Cert.Sequence

open Cert.ReferenceIdeal Cert.ReferenceIdeal.Read
open Idealize.ShloMosaic Idealize.ShloMosaic.TcCoe

variable (x0 : IVec S128x16 32) (x1 : FVec Ideal S1x2560x128x2x2x64 .f32) (x2 : FVec Ideal S128x512 .bf16) (x3 : FVec Ideal S1x2x32x64 .f32)
  (x4 : FVec Ideal S1x2x32x64x128 .f32) (x5 : FVec Ideal S1x2x128x64 .f32) (hx : ∀ y, (x0 y).toNat < 2560) (b : Fin 128)

/-- The rows of a sequence, through its page table: of the keys (`0`) or values (`1`), of a key head. -/
def X (kv h : Fin 2) (r : Fin 2048) (d : Fin 64) : EReal :=
  x1 (ix6 0 ⟨(x0 (ix2 b ⟨r.val / 128, by omega⟩)).toNat, hx _⟩ ⟨r.val % 128, Nat.mod_lt _ (by decide)⟩ kv h d)

/-- The position embeddings. -/
def E (kv : Fin 2) (s : Fin 32) (d : Fin 64) : EReal := x3 (ix4 0 kv s d)

/-- The first weights. -/
def W1 (kv : Fin 2) (s : Fin 32) (d : Fin 64) (n : Fin 128) : EReal := x4 (ix5 0 kv s d n)

/-- The second weights. -/
def W2 (kv : Fin 2) (n : Fin 128) (d : Fin 64) : EReal := x5 (ix4 0 kv n d)

/-- The queries. -/
def Q (r : Fin 8) (d : Fin 64) : EReal := x2 (ix2 b ⟨r.val * 64 + d.val, by omega⟩)

theorem compK (c : Fin 127) (h : Fin 2) (d : Fin 64) :
    val_main_v27 (F := Ideal) x0 x1 x3 x4 x5 (ix4 b c h d) = Spec.comp (X x0 x1 hx b 0 h) (E x3 0) (W1 x4 0) (W2 x5 0) c d := by
  rw [RefAt.compK_at]
  refine Finset.sum_congr rfl fun n _ => ?_
  rw [RefAt.hidK_at]
  have e : (fun r d => val_main_v8 (F := Ideal) x0 x1 (ix5 b r 0 h d)) = X x0 x1 hx b 0 h := funext fun r => funext fun d => RefRows.rows_at x0 x1 hx b r 0 h d
  rw [e]
  rfl

theorem compV (c : Fin 127) (h : Fin 2) (d : Fin 64) :
    val_main_v46 (F := Ideal) x0 x1 x3 x4 x5 (ix4 b c h d) = Spec.comp (X x0 x1 hx b 1 h) (E x3 1) (W1 x4 1) (W2 x5 1) c d := by
  rw [RefAt.compV_at]
  refine Finset.sum_congr rfl fun n _ => ?_
  rw [RefAt.hidV_at]
  have e : (fun r d => val_main_v8 (F := Ideal) x0 x1 (ix5 b r 1 h d)) = X x0 x1 hx b 1 h := funext fun r => funext fun d => RefRows.rows_at x0 x1 hx b r 1 h d
  rw [e]
  rfl

theorem probability (r : Fin 8) (c : Fin 127) :
    val_main_v71 (F := Ideal) x0 x1 x2 x3 x4 x5 (ix4 b ⟨r.val / 4, by omega⟩ ⟨r.val % 4, by omega⟩ c)
      = Spec.prob (Cmp.sc (X x0 x1 hx b) (E x3) (W1 x4) (W2 x5) (Q x2 b) r) c := by
  rw [RefAt.prob_at]
  refine congrArg (fun s => Spec.prob s c) (funext fun c' => ?_)
  rw [RefAt.score_at]
  unfold Cmp.sc
  refine Finset.sum_congr rfl fun d _ => ?_
  rw [compK x0 x1 x3 x4 x5 hx]
  have e : (⟨r.val / 4 * 256 + r.val % 4 * 64 + d.val, by omega⟩ : Fin 512) = ⟨r.val * 64 + d.val, by omega⟩ :=
    Fin.ext (by show r.val / 4 * 256 + r.val % 4 * 64 + d.val = r.val * 64 + d.val; omega)
  exact congrArg (fun k => x2 (ix2 b k) * _) e

/-- The reference's first result. -/
theorem attended (r : Fin 8) (l : Fin 128) :
    val_main_v95 (F := Ideal) x0 x1 x2 x3 x4 x5 (ix3 b r l)
      = (∑ c : Fin 127, Spec.prob (Cmp.sc (X x0 x1 hx b) (E x3) (W1 x4) (W2 x5) (Q x2 b) r) c
          * Spec.comp (X x0 x1 hx b 1 ⟨r.val / 4, by omega⟩) (E x3 1) (W1 x4 1) (W2 x5 1) c ⟨l.val % 64, by omega⟩ : EReal) := by
  rw [RefAt.out_at]
  exact Finset.sum_congr rfl fun c _ => congrArg₂ (fun a b : EReal => a * b) (probability x0 x1 x2 x3 x4 x5 hx b r c) (compV x0 x1 x3 x4 x5 hx b c _ _)

/-- The reference's second result. -/
theorem importance (r : Fin 8) (s : Fin 128) :
    val_main_v96 (F := Ideal) x0 x1 x2 x3 x4 x5 (ix3 b r s)
      = (∑ c : Fin 127, if Spec.covers c s then Spec.prob (Cmp.sc (X x0 x1 hx b) (E x3) (W1 x4) (W2 x5) (Q x2 b) r) c else 0 : EReal) := by
  rw [RefAt.imp_at]
  exact Finset.sum_congr rfl fun c _ => congrArg (fun z : EReal => if Spec.covers c s then z else 0) (probability x0 x1 x2 x3 x4 x5 hx b r c)

end Cert.Sequence

end
-- ==== Proof.Holding.lean ====
/- The arrays of one grid point hold the values of its sequence. -/
module

public import proofs.«01_k».proof.Proof.Blocks
public import proofs.«01_k».proof.Proof.HostK
public import proofs.«01_k».proof.Proof.Sequence

@[expose] public section

set_option maxRecDepth 16384

noncomputable section

namespace Cert.Blocks

open Cert.KernelIdeal Cert.KernelIdeal.Gen
open Idealize.ShloMosaic Idealize.ShloMosaic.TcCoe

variable (m : (ℓ : Loc nD τ sig) → Buf (Elt Ideal) ℓ) (hO : Ok m) (c : Dev nD) (t : Fin (cfgM m hO).N)

/-- A word of the table, off the argument. -/
theorem word_eq (p : Fin 16) : word m hO t p = (m ((c : Thread nD τ).loc main_arg0) : S128x16.Idx → BitVec 32) (ix2 (seqOf m hO t) p) := by
  obtain rfl : c = 0 := Subsingleton.elim _ _
  exact congrFun (V_main_arg0 m 0) (ix2 (seqOf m hO t) p)

/-- The sixteen pages. -/
def staged : Fin 16 → FVec Ideal S1x256x128 .f32 :=
  ![iblk m hO c 0 t, iblk m hO c 1 t, iblk m hO c 2 t, iblk m hO c 3 t, iblk m hO c 4 t, iblk m hO c 5 t, iblk m hO c 6 t, iblk m hO c 7 t,
    iblk m hO c 8 t, iblk m hO c 9 t, iblk m hO c 10 t, iblk m hO c 11 t, iblk m hO c 12 t, iblk m hO c 13 t, iblk m hO c 14 t, iblk m hO c 15 t]

theorem vec16 {α : Type} {P : Fin 16 → α → Prop} {x0 x1 x2 x3 x4 x5 x6 x7 x8 x9 x10 x11 x12 x13 x14 x15 : α} (h0 : P 0 x0) (h1 : P 1 x1) (h2 : P 2 x2) (h3 : P 3 x3) (h4 : P 4 x4) (h5 : P 5 x5) (h6 : P 6 x6) (h7 : P 7 x7) (h8 : P 8 x8) (h9 : P 9 x9) (h10 : P 10 x10) (h11 : P 11 x11) (h12 : P 12 x12) (h13 : P 13 x13) (h14 : P 14 x14) (h15 : P 15 x15) :
    ∀ p, P p (![x0, x1, x2, x3, x4, x5, x6, x7, x8, x9, x10, x11, x12, x13, x14, x15] p) := by
  intro p
  fin_cases p <;> assumption

theorem staged_at (p : Fin 16) (h : (word m hO t p).toNat < 2560) (j : Fin 256) (l : Fin 128) :
    staged m hO c t p (ix3 0 j l) = V m c main_v33 (ix3 ⟨(word m hO t p).toNat, h⟩ j l) := by
  revert h
  unfold staged
  exact vec16 (α := FVec Ideal S1x256x128 .f32)
    (P := fun p x => ∀ h : (word m hO t p).toNat < 2560, x (ix3 0 j l) = V m c main_v33 (ix3 ⟨(word m hO t p).toNat, h⟩ j l))
    (fun h => page0 m hO c t h j l) (fun h => page1 m hO c t h j l) (fun h => page2 m hO c t h j l) (fun h => page3 m hO c t h j l) (fun h => page4 m hO c t h j l) (fun h => page5 m hO c t h j l) (fun h => page6 m hO c t h j l) (fun h => page7 m hO c t h j l) (fun h => page8 m hO c t h j l) (fun h => page9 m hO c t h j l) (fun h => page10 m hO c t h j l) (fun h => page11 m hO c t h j l) (fun h => page12 m hO c t h j l) (fun h => page13 m hO c t h j l) (fun h => page14 m hO c t h j l) (fun h => page15 m hO c t h j l) p

/-- What the grid point's arrays hold. -/
theorem holds (hx : ∀ y, ((m ((c : Thread nD τ).loc main_arg0) : S128x16.Idx → BitVec 32) y).toNat < 2560) :
    Cmp.Holds (Cmp.rows (staged m hO c t)) (iblk m hO c 16 t) (iblk m hO c 17 t) (iblk m hO c 18 t) (iblk m hO c 19 t)
      (Sequence.X (m ((c : Thread nD τ).loc main_arg0)) (m ((c : Thread nD τ).loc main_arg1)) hx (seqOf m hO t))
      (Sequence.E (m ((c : Thread nD τ).loc main_arg3))) (Sequence.W1 (m ((c : Thread nD τ).loc main_arg4)))
      (Sequence.W2 (m ((c : Thread nD τ).loc main_arg5))) (Sequence.Q (m ((c : Thread nD τ).loc main_arg2)) (seqOf m hO t)) where
  rows kv r l := by
    have hw := word_eq m hO c t ⟨r.val / 128, by omega⟩
    have hlt : (word m hO t ⟨r.val / 128, by omega⟩).toNat < 2560 := by rw [hw]; exact hx _
    refine (staged_at m hO c t ⟨r.val / 128, by omega⟩ hlt ⟨128 * kv.val + l.val, by omega⟩ ⟨r.val % 128, Nat.mod_lt _ (by decide)⟩).trans ?_
    rw [HostK.V_pages, HostK.pages_at]
    unfold Sequence.X
    have hk := kv.isLt
    have hl := l.isLt
    have a1 : (⟨(word m hO t ⟨r.val / 128, by omega⟩).toNat, hlt⟩ : Fin 2560) = ⟨((m ((c : Thread nD τ).loc main_arg0) : S128x16.Idx → BitVec 32) (ix2 (seqOf m hO t) ⟨r.val / 128, by omega⟩)).toNat, hx _⟩ :=
      Fin.ext (congrArg BitVec.toNat hw)
    have a2 : (⟨(128 * kv.val + l.val) / 128, by omega⟩ : Fin 2) = kv := Fin.ext (by show (128 * kv.val + l.val) / 128 = kv.val; omega)
    have a3 : (⟨(128 * kv.val + l.val) / 64 % 2, by omega⟩ : Fin 2) = ⟨l.val / 64, by omega⟩ := Fin.ext (by show (128 * kv.val + l.val) / 64 % 2 = l.val / 64; omega)
    have a4 : (⟨(128 * kv.val + l.val) % 64, by omega⟩ : Fin 64) = ⟨l.val % 64, by omega⟩ := Fin.ext (by show (128 * kv.val + l.val) % 64 = l.val % 64; omega)
    have key : ∀ (p p' : Fin 2560) (k k' h h' : Fin 2) (d d' : Fin 64), p = p' → k = k' → h = h' → d = d' →
        (m ((c : Thread nD τ).loc main_arg1) : S1x2560x128x2x2x64.Idx → EReal) (ix6 0 p ⟨r.val % 128, Nat.mod_lt _ (by decide)⟩ k h d)
          = (m ((c : Thread nD τ).loc main_arg1) : S1x2560x128x2x2x64.Idx → EReal) (ix6 0 p' ⟨r.val % 128, Nat.mod_lt _ (by decide)⟩ k' h' d') := by
      intro p p' k k' h h' d d' e1 e2 e3 e4
      rw [e1, e2, e3, e4]
    exact key _ _ _ _ _ _ _ _ a1 a2 a3 a4
  pos kv sub s l := by
    rw [embeddings, HostK.V_pet, HostK.pet_at]
    rfl
  first kv sub j n := by
    rw [first, HostK.V_w1bd, HostK.w1bd_at]
    rfl
  second kv n l := by
    rw [second, HostK.V_w2bd, HostK.w2bd_at]
    rfl
  queries r l := by
    rw [queries, HostK.V_qbd, HostK.qbd_at]
    rfl

end Cert.Blocks

end
-- ==== Proof.Finite.lean ====
/- Under the precondition every float of the arguments is a real number. -/
module

public import proofs.«01_k».proof.Proof.OkKernelIdeal
public import proofs.«01_k».proof.Proof.Sums

@[expose] public section

namespace Cert.Finite

open Cert.KernelIdeal Cert.KernelIdeal.Gen
open Idealize.ShloMosaic Idealize.ShloMosaic.TcCoe

/-- An element whose absolute value is below infinity is a real number. -/
theorem of_lt (x : EReal) (h : FloatOps.cmpf (F := Ideal) .olt (FloatOps.hostAbsf (F := Ideal) (φ := .f32) x) (Ideal.ofBits .f32 0x7F800000#32) = 1#1) : Sums.Real x := by
  have e : Ideal.ofBits .f32 0x7F800000#32 = ⊤ := by simp [Ideal.ofBits, Ideal.ieee]
  rw [e] at h
  change Ideal.cmp .olt (max x (-x)) ⊤ = 1#1 at h
  by_contra hn
  have hlt : ¬ max x (-x) < ⊤ := fun hl => hn (Sums.Real.of_abs_lt hl)
  simp [Ideal.cmp, hlt] at h

theorem args (m : (ℓ : Loc nD τ sig) → Buf (Elt Ideal) ℓ) (h : Cert.Pre_KernelIdeal m) (c : Dev nD) :
    (∀ i, Sums.Real (m ((c : Thread nD τ).loc main_arg1) i)) ∧ (∀ i, Sums.Real (m ((c : Thread nD τ).loc main_arg2) i))
      ∧ (∀ i, Sums.Real (m ((c : Thread nD τ).loc main_arg3) i)) ∧ (∀ i, Sums.Real (m ((c : Thread nD τ).loc main_arg4) i))
      ∧ (∀ i, Sums.Real (m ((c : Thread nD τ).loc main_arg5) i)) := by
  have e := congrFun (h c) (fun a => match a with | ⟨0, _⟩ => (0 : Fin 128) | ⟨1, _⟩ => (0 : Fin 16))
  simp only [Pre_finite_paged.fn, Pre_finite_paged.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨_, e1⟩ := IntOp.andi_eq_one.1 e
  haveI : Subsingleton Pre_finite_paged.S_.Idx := ⟨fun a b => funext fun k => k.elim0⟩
  refine ⟨fun i => of_lt _ ?_, fun i => of_lt _ ?_, fun i => of_lt _ ?_, fun i => of_lt _ ?_, fun i => of_lt _ ?_⟩
  · exact Host.reduce_andi_all _ _ _ _ _ e1 i
  · exact Host.reduce_andi_all _ _ _ _ _ e2 i
  · exact Host.reduce_andi_all _ _ _ _ _ e3 i
  · exact Host.reduce_andi_all _ _ _ _ _ e4 i
  · exact Host.reduce_andi_all _ _ _ _ _ e5 i

end Cert.Finite
-- ==== Proof.Final.lean ====
/- The two output arrays of the kernel, when its grid is done, hold the reference's results. -/
module

public import proofs.«01_k».proof.Proof.Holding
public import proofs.«01_k».proof.Proof.Finite
public import proofs.«01_k».proof.Proof.BlockTerm
public import proofs.«01_k».proof.Proof.Equation
public import Idealize.ShloMosaic.Lib.Decide

@[expose] public section

set_option maxRecDepth 16384

noncomputable section

namespace Cert.Blocks

open Cert.KernelIdeal Cert.KernelIdeal.Gen
open Idealize.ShloMosaic Idealize.ShloMosaic.TcCoe

variable (m : (ℓ : Loc nD τ sig) → Buf (Elt Ideal) ℓ) (hO : Ok m) (c : Dev nD)

/-- Under the precondition all the values of a sequence are real numbers. -/
theorem allReal (h : Cert.Pre_KernelIdeal m) (hx : ∀ y, ((m ((c : Thread nD τ).loc main_arg0) : S128x16.Idx → BitVec 32) y).toNat < 2560) (b : Fin 128) :
    Cmp.AllReal (Sequence.X (m ((c : Thread nD τ).loc main_arg0)) (m ((c : Thread nD τ).loc main_arg1)) hx b) (Sequence.E (m ((c : Thread nD τ).loc main_arg3))) (Sequence.W1 (m ((c : Thread nD τ).loc main_arg4))) (Sequence.W2 (m ((c : Thread nD τ).loc main_arg5))) (Sequence.Q (m ((c : Thread nD τ).loc main_arg2)) b) where
  x _ _ _ _ := (Finite.args m h c).1 _
  q _ _ := (Finite.args m h c).2.1 _
  e _ _ _ := (Finite.args m h c).2.2.1 _
  w1 _ _ _ _ := (Finite.args m h c).2.2.2.1 _
  w2 _ _ _ := (Finite.args m h c).2.2.2.2 _

/-- The reference's first result, of the kernel's arguments. -/
abbrev ref0 : S128x8x128.Idx → EReal := Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The reference's second result, of the kernel's arguments. -/
abbrev ref1 : S128x8x128.Idx → EReal := Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

set_option maxHeartbeats 4000000 in
/-- The block one grid point writes to output 20. -/
theorem out20_at (h : Cert.Pre_KernelIdeal m) (t : Fin (cfgM m hO).N) (r : Fin 8) (l : Fin 128) (hl : r.val / 4 = l.val / 64) :
    (outsAt0 m hO c t).1 (ix3 0 r l) = ref0 m c (ix3 (seqOf m hO t) r l) :=
  (congrFun (Cmp.out20_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)) (ix3 0 r l)).trans
    ((Cmp.attended_eq (holds m hO c t (OkKernelIdeal.word_lt m h c)) (allReal m c h (OkKernelIdeal.word_lt m h c) (seqOf m hO t)) r l hl).trans
      (Sequence.attended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (OkKernelIdeal.word_lt m h c) (seqOf m hO t) r l).symm)

theorem placed20 (t : Fin (cfgM m hO).N) (r : Fin 8) (l : Fin 128) :
    (((cfgM m hO).win 20).blk t).view.emb (ix3 0 r l) = ix3 (seqOf m hO t) r l := by
  have e : (((cfgM m hO).win 20).index t : Fin 3 → ℕ) = ![(seqOf m hO t).val, 0, 0] :=
    congrArg (fun n : ℕ => (![n, 0, 0] : Fin 3 → ℕ)) (seq_word m hO t)
  exact row_at _ _ _ r l (seqOf m hO t).isLt e

theorem covers20 : ((cfgM m hO).win 20).Covers := of_decide_eq_true (by sl_kernel_rfl)

/-- The array of output 20 when the grid is done. -/
theorem final20 (h : Cert.Pre_KernelIdeal m) (i : S128x8x128.Idx) (hi : (i 1).val / 4 = (i 2).val / 64) :
    ((dats m hO 0 c).arrAt 20 (cfgM m hO).N : S128x8x128.Idx → EReal) i = ref0 m c i := by
  revert hi
  refine (dats m hO 0 c).arrAt_forall_of_covers 20 (fun (i : S128x8x128.Idx) (v : EReal) => (i 1).val / 4 = (i 2).val / 64 → v = ref0 m c i) (covers20 m hO) ?_ i
  intro t _ (y : S1x8x128.Idx)
  obtain ⟨r, l, rfl⟩ : ∃ (r : Fin 8) (l : Fin 128), y = ix3 0 r l :=
    ⟨y 1, y 2, funext fun a => match a with | ⟨0, _⟩ => Subsingleton.elim (α := Fin 1) _ _ | ⟨1, _⟩ => rfl | ⟨2, _⟩ => rfl⟩
  have key : ∀ (i' : S128x8x128.Idx) (v v' : EReal), i' = ix3 (seqOf m hO t) r l → v = v' →
      (r.val / 4 = l.val / 64 → v' = ref0 m c (ix3 (seqOf m hO t) r l)) → ((i' 1).val / 4 = (i' 2).val / 64 → v = ref0 m c i') := by
    rintro i' v v' rfl rfl hv
    exact hv
  exact key _ _ _ (placed20 m hO t r l) (congrFun (after0_20 m hO c t) (ix3 0 r l)) (fun hl => out20_at m hO c h t r l hl)

set_option maxHeartbeats 4000000 in
/-- The block one grid point writes to output 21. -/
theorem out21_at (h : Cert.Pre_KernelIdeal m) (t : Fin (cfgM m hO).N) (r : Fin 8) (l : Fin 128) :
    (outsAt0 m hO c t).2 (ix3 0 r l) = ref1 m c (ix3 (seqOf m hO t) r l) :=
  (congrFun (Cmp.out21_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)) (ix3 0 r l)).trans
    ((Cmp.importance_eq (holds m hO c t (OkKernelIdeal.word_lt m h c)) (allReal m c h (OkKernelIdeal.word_lt m h c) (seqOf m hO t)) r l).trans
      (Sequence.importance (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (OkKernelIdeal.word_lt m h c) (seqOf m hO t) r l).symm)

theorem placed21 (t : Fin (cfgM m hO).N) (r : Fin 8) (l : Fin 128) :
    (((cfgM m hO).win 21).blk t).view.emb (ix3 0 r l) = ix3 (seqOf m hO t) r l := by
  have e : (((cfgM m hO).win 21).index t : Fin 3 → ℕ) = ![(seqOf m hO t).val, 0, 0] :=
    congrArg (fun n : ℕ => (![n, 0, 0] : Fin 3 → ℕ)) (seq_word m hO t)
  exact row_at _ _ _ r l (seqOf m hO t).isLt e

theorem covers21 : ((cfgM m hO).win 21).Covers := of_decide_eq_true (by sl_kernel_rfl)

/-- The array of output 21 when the grid is done. -/
theorem final21 (h : Cert.Pre_KernelIdeal m) (i : S128x8x128.Idx) :
    ((dats m hO 0 c).arrAt 21 (cfgM m hO).N : S128x8x128.Idx → EReal) i = ref1 m c i := by
  refine (dats m hO 0 c).arrAt_forall_of_covers 21 (fun (i : S128x8x128.Idx) (v : EReal) => v = ref1 m c i) (covers21 m hO) ?_ i
  intro t _ (y : S1x8x128.Idx)
  obtain ⟨r, l, rfl⟩ : ∃ (r : Fin 8) (l : Fin 128), y = ix3 0 r l :=
    ⟨y 1, y 2, funext fun a => match a with | ⟨0, _⟩ => Subsingleton.elim (α := Fin 1) _ _ | ⟨1, _⟩ => rfl | ⟨2, _⟩ => rfl⟩
  have key : ∀ (i' : S128x8x128.Idx) (v v' : EReal), i' = ix3 (seqOf m hO t) r l → v = v' →
      (v' = ref1 m c (ix3 (seqOf m hO t) r l)) → (v = ref1 m c i') := by
    rintro i' v v' rfl rfl hv
    exact hv
  exact key _ _ _ (placed21 m hO t r l) (congrFun (after0_21 m hO c t) (ix3 0 r l)) (out21_at m hO c h t r l)

end Cert.Blocks

end
-- ==== Proof.ProjectSpec.lean ====
/- The combined projection of one row: the row over its root mean square, times a column of the weights. -/
module

public import Idealize.ShloMosaic.Lib.Pointwise

@[expose] public section

noncomputable section

namespace Cert.Proj

open Idealize.ShloMosaic

/-- The mean of a row's squares. -/
def meanSq (x : Fin 1024 → EReal) : EReal := Ideal.div (∑ k : Fin 1024, x k * x k) (Ideal.ofBits .f32 0x44800000#32)

/-- The row over its root mean square, times the gain. -/
def normed (x g : Fin 1024 → EReal) (d : Fin 1024) : EReal := x d * Ideal.rsqrt (meanSq x + Ideal.ofBits .f32 0x358637BD#32) * g d

/-- The normed row times one column of the weights. -/
def proj (x g w : Fin 1024 → EReal) : EReal := ∑ d : Fin 1024, normed x g d * w d

/-- A query: an eighth of the product. -/
def query (z : EReal) : EReal := z * Ideal.ofBits .f32 0x3E000000#32

/-- The gate of the pooling mixer. -/
def silu (z : EReal) : EReal := z * Ideal.logistic z

/-- A column of the weights, and a column of zeros past the last. -/
def column (w : Fin 1024 → Fin 2840 → EReal) (j : ℕ) : Fin 1024 → EReal := fun k => if h : j < 2840 then w k ⟨j, h⟩ else 0

theorem column_of (w : Fin 1024 → Fin 2840 → EReal) (k : Fin 1024) {j n : ℕ} (hn : n < 2840) (e : j = n) : w k ⟨n, hn⟩ = column w j k := by
  subst e
  unfold column
  rw [dif_pos hn]

theorem column_past (w : Fin 1024 → Fin 2840 → EReal) (k : Fin 1024) {j : ℕ} (e : j = 2840) : 0 = column w j k := by
  unfold column
  rw [dif_neg (by omega)]

/-- Where the kernel's columns lie in the weights: the gates' columns are moved last, each key head's twelve padded to 128 with zeros. -/
def source (j : ℕ) : ℕ :=
  if j < 1280 then j else if j < 2816 then j + 24 else if j < 2828 then j - 1536 else if j < 2944 then 2840 else if j < 2956 then j - 1652 else 2840

/-- The weights' column of one of the 256 gates. -/
def gateColumn (j : ℕ) : ℕ := if j < 12 then 1280 + j else if j < 128 then 2840 else if j < 140 then 1164 + j else 2840

theorem proj_zeros (x g : Fin 1024 → EReal) (w : Fin 1024 → Fin 2840 → EReal) : proj x g (column w 2840) = 0 :=
  Finset.sum_eq_zero fun d _ => by
    have h : column w 2840 d = 0 := dif_neg (by omega)
    rw [h, mul_zero]

end Cert.Proj
-- ==== Proof.ProjectHost.lean ====
/- The projection's host lines: its rows and its weights, as functions of the arguments, read at an index. -/
module

public import proofs.«01_k».proof.Proof.ProjectSpec
public import proofs.«01_k».proof.Proof.Gen.ProjectIdeal.Frame
public import Idealize.ShloMosaic.Lib.Pointwise

@[expose] public section

set_option maxRecDepth 16384

noncomputable section

namespace Cert.ProjectHost

open Cert.ProjectIdeal Cert.ProjectIdeal.Gen
open Cert.Proj
open Idealize.ShloMosaic Idealize.ShloMosaic.TcCoe

/-- The argument's rows. -/
def rows (x : FVec Ideal S2x8192x1024 .f32) : FVec Ideal S16384x1024 .f32 := shapeCast S16384x1024 x shapeCasts_S2x8192x1024_S16384x1024

/-- The weights without their leading axis. -/
def flat (w : FVec Ideal S1x1024x2840 .f32) : FVec Ideal S1024x2840 .f32 := shapeCast S1024x2840 w shapeCasts_S1x1024x2840_S1024x2840

/-- The weights' columns in the kernel's order. -/
def ordered (w : FVec Ideal S1x1024x2840 .f32) : FVec Ideal S1024x3072 .bf16 :=
  truncf .bf16 (concatenate S1024x3072 1 [⟨S1024x1280, extractStridedSlice S1024x1280 ![0, 0] (flat w) slices_S1024x2840_S1024x1280_0_0⟩, ⟨S1024x1536, extractStridedSlice S1024x1536 ![0, 1304] (flat w) slices_S1024x2840_S1024x1536_0_1304⟩, ⟨S1024x12, extractStridedSlice S1024x12 ![0, 0] (extractStridedSlice S1024x24 ![0, 1280] (flat w) slices_S1024x2840_S1024x24_0_1280) slices_S1024x24_S1024x12_0_0⟩, ⟨S1024x116, broadcastInDim S1024x116 ![] bcast_S_S1024x116 (constant (F := Ideal) S_ .f32 0x00000000#32)⟩, ⟨S1024x12, extractStridedSlice S1024x12 ![0, 12] (extractStridedSlice S1024x24 ![0, 1280] (flat w) slices_S1024x2840_S1024x24_0_1280) slices_S1024x24_S1024x12_0_12⟩, ⟨S1024x116, broadcastInDim S1024x116 ![] bcast_S_S1024x116 (constant (F := Ideal) S_ .f32 0x00000000#32)⟩] concatenates_S1024x1280_S1024x1536_S1024x12_S1024x116_S1024x12_S1024x116_S1024x3072_d1) bitsLt_bf16_f32

theorem V_rows (m : (ℓ : Loc nD τ sig) → Buf (Elt Ideal) ℓ) (c : Dev nD) : V m c main_v9 = rows (m ((c : Thread nD τ).loc main_arg0)) := by
  show StableHlo.after hostOps0 _ (Proc.devRef .tc main_v9) = _
  after_results
  rfl

theorem V_ordered (m : (ℓ : Loc nD τ sig) → Buf (Elt Ideal) ℓ) (c : Dev nD) : V m c main_v8 = ordered (m ((c : Thread nD τ).loc main_arg2)) := by
  show StableHlo.after hostOps0 _ (Proc.devRef .tc main_v8) = _
  after_results
  rfl

theorem rows_at (x : FVec Ideal S2x8192x1024 .f32) (r : Fin 16384) (k : Fin 1024) : (rows x (ix2 r k) : EReal) = x (ix3 ⟨r.val / 8192, by omega⟩ ⟨r.val % 8192, by omega⟩ k) := by
  pointwise [rows]

theorem ordered_at (w : FVec Ideal S1x1024x2840 .f32) (k : Fin 1024) (j : Fin 3072) :
    (ordered w (ix2 k j) : EReal) = column (fun k j => w (ix3 0 k j)) (source j.val) k := by
  have e : (ordered w (ix2 k j) : EReal) = (if h : j.val < 1280 then w (ix3 0 k ⟨j.val, by omega⟩)
      else if h : j.val - 1280 < 1536 then w (ix3 0 k ⟨1304 + (j.val - 1280), by omega⟩)
      else if h : j.val - 1280 - 1536 < 12 then w (ix3 0 k ⟨1280 + (j.val - 1280 - 1536), by omega⟩)
      else if h : j.val - 1280 - 1536 - 12 < 116 then 0
      else if h : j.val - 1280 - 1536 - 12 - 116 < 12 then w (ix3 0 k ⟨1280 + (12 + (j.val - 1280 - 1536 - 12 - 116)), by omega⟩)
      else 0) := by
    pointwise [ordered, flat]
  rw [e]
  split_ifs
  · exact column_of (fun k j => w (ix3 0 k j)) k _ (by unfold source; split_ifs; omega)
  · exact column_of (fun k j => w (ix3 0 k j)) k _ (by unfold source; split_ifs <;> omega)
  · exact column_of (fun k j => w (ix3 0 k j)) k _ (by unfold source; split_ifs <;> omega)
  · exact column_past (fun k j => w (ix3 0 k j)) k (by unfold source; split_ifs <;> omega)
  · exact column_of (fun k j => w (ix3 0 k j)) k _ (by unfold source; split_ifs <;> omega)
  · exact column_past (fun k j => w (ix3 0 k j)) k (by unfold source; split_ifs <;> omega)

end Cert.ProjectHost
-- ==== Proof.ProjectBlock.lean ====
/- One grid point of the projection, read at an index. -/
module

public import proofs.«01_k».proof.Proof.Rows
public import proofs.«01_k».proof.Proof.ProjectSpec
public import proofs.«01_k».proof.Proof.Gen.ProjectIdeal.Frame
public import Idealize.ShloMosaic.Lib.Pointwise

@[expose] public section

set_option maxRecDepth 16384

noncomputable section

namespace Cert.ProjectBlock

open Cert.ProjectIdeal Cert.ProjectIdeal.Gen
open Cert.Proj
open Idealize.ShloMosaic Idealize.ShloMosaic.TcCoe

variable (i : grid0.Coords) (x : FVec Ideal S256x1024 .f32) (g : FVec Ideal S1x1024 .f32) (w : FVec Ideal S1024x3072 .bf16) (a : FVec Ideal S256x1024 .bf16)

/-- A row of the block, the gain, and a column of the weights. -/
abbrev row (r : Fin 256) : Fin 1024 → EReal := fun k => x (ix2 r k)
abbrev gain : Fin 1024 → EReal := fun k => g (ix2 0 k)
abbrev col (j : ℕ) (hj : j < 3072) : Fin 1024 → EReal := fun k => w (ix2 k ⟨j, hj⟩)

theorem normed_apply (r : Fin 256) (d : Fin 1024) : (k0_pay4 (F := Ideal) x g (ix2 r d) : EReal) = normed (row x r) (gain g) d := by
  pointwise [k0_pay4, normed, meanSq]

/-- The weights' columns from 0. -/
theorem q_cols (d : Fin 1024) (j : Fin 512) :
    View.ld (Val := Elt Ideal) (e' := .bf16) (S := S1024x3072) w (Rect.unit (s := S1024x3072) ![0, 0] S1024x512.size inb_S1024x3072_S1024x512_0_0) (ix2 d j)
      = w (ix2 d ⟨0 + j.val, by omega⟩) := by
  refine congrArg w (funext fun e => Fin.ext ?_)
  refine (Cert.Cmp.unit_val inb_S1024x3072_S1024x512_0_0 _ e).trans ?_
  match e with
  | ⟨0, _⟩ => show 0 + d.val = d.val; omega
  | ⟨1, _⟩ => show 0 + j.val = 0 + j.val; rfl

/-- The weights' columns from 512. -/
theorem kv_cols (d : Fin 1024) (j : Fin 768) :
    View.ld (Val := Elt Ideal) (e' := .bf16) (S := S1024x3072) w (Rect.unit (s := S1024x3072) ![0, 512] S1024x768.size inb_S1024x3072_S1024x768_0_512) (ix2 d j)
      = w (ix2 d ⟨512 + j.val, by omega⟩) := by
  refine congrArg w (funext fun e => Fin.ext ?_)
  refine (Cert.Cmp.unit_val inb_S1024x3072_S1024x768_0_512 _ e).trans ?_
  match e with
  | ⟨0, _⟩ => show 0 + d.val = d.val; omega
  | ⟨1, _⟩ => show 512 + j.val = 512 + j.val; rfl

/-- The weights' columns from 1280. -/
theorem za_cols (d : Fin 1024) (j : Fin 512) :
    View.ld (Val := Elt Ideal) (e' := .bf16) (S := S1024x3072) w (Rect.unit (s := S1024x3072) ![0, 1280] S1024x512.size inb_S1024x3072_S1024x512_0_1280) (ix2 d j)
      = w (ix2 d ⟨1280 + j.val, by omega⟩) := by
  refine congrArg w (funext fun e => Fin.ext ?_)
  refine (Cert.Cmp.unit_val inb_S1024x3072_S1024x512_0_1280 _ e).trans ?_
  match e with
  | ⟨0, _⟩ => show 0 + d.val = d.val; omega
  | ⟨1, _⟩ => show 1280 + j.val = 1280 + j.val; rfl

/-- The weights' columns from 1792. -/
theorem u_cols (d : Fin 1024) (j : Fin 512) :
    View.ld (Val := Elt Ideal) (e' := .bf16) (S := S1024x3072) w (Rect.unit (s := S1024x3072) ![0, 1792] S1024x512.size inb_S1024x3072_S1024x512_0_1792) (ix2 d j)
      = w (ix2 d ⟨1792 + j.val, by omega⟩) := by
  refine congrArg w (funext fun e => Fin.ext ?_)
  refine (Cert.Cmp.unit_val inb_S1024x3072_S1024x512_0_1792 _ e).trans ?_
  match e with
  | ⟨0, _⟩ => show 0 + d.val = d.val; omega
  | ⟨1, _⟩ => show 1792 + j.val = 1792 + j.val; rfl

/-- The weights' columns from 2304. -/
theorem zp_cols (d : Fin 1024) (j : Fin 512) :
    View.ld (Val := Elt Ideal) (e' := .bf16) (S := S1024x3072) w (Rect.unit (s := S1024x3072) ![0, 2304] S1024x512.size inb_S1024x3072_S1024x512_0_2304) (ix2 d j)
      = w (ix2 d ⟨2304 + j.val, by omega⟩) := by
  refine congrArg w (funext fun e => Fin.ext ?_)
  refine (Cert.Cmp.unit_val inb_S1024x3072_S1024x512_0_2304 _ e).trans ?_
  match e with
  | ⟨0, _⟩ => show 0 + d.val = d.val; omega
  | ⟨1, _⟩ => show 2304 + j.val = 2304 + j.val; rfl

/-- The weights' columns from 2816. -/
theorem gl_cols (d : Fin 1024) (j : Fin 256) :
    View.ld (Val := Elt Ideal) (e' := .bf16) (S := S1024x3072) w (Rect.unit (s := S1024x3072) ![0, 2816] S1024x256.size inb_S1024x3072_S1024x256_0_2816) (ix2 d j)
      = w (ix2 d ⟨2816 + j.val, by omega⟩) := by
  refine congrArg w (funext fun e => Fin.ext ?_)
  refine (Cert.Cmp.unit_val inb_S1024x3072_S1024x256_0_2816 _ e).trans ?_
  match e with
  | ⟨0, _⟩ => show 0 + d.val = d.val; omega
  | ⟨1, _⟩ => show 2816 + j.val = 2816 + j.val; rfl

theorem product512 (b : FVec Ideal S1024x512 .bf16) (r : Fin 256) (j : Fin 512) :
    matmul dot_S256x1024_S1024x512_S256x512_1_0_0_1_n_n none a (shapeCast S1024x512 b shapeCasts_S1024x512_S1024x512) (constant S256x512 .f32 0x00000000#32) (ix2 r j)
      = (∑ d : Fin 1024, a (ix2 r d) * b (ix2 d j) : EReal) := by
  pointwise

theorem product768 (b : FVec Ideal S1024x768 .bf16) (r : Fin 256) (j : Fin 768) :
    matmul dot_S256x1024_S1024x768_S256x768_1_0_0_1_n_n none a (shapeCast S1024x768 b shapeCasts_S1024x768_S1024x768) (constant S256x768 .f32 0x00000000#32) (ix2 r j)
      = (∑ d : Fin 1024, a (ix2 r d) * b (ix2 d j) : EReal) := by
  pointwise

theorem product256 (b : FVec Ideal S1024x256 .bf16) (r : Fin 256) (j : Fin 256) :
    matmul dot_S256x1024_S1024x256_S256x256_1_0_0_1_n_n none a (shapeCast S1024x256 b shapeCasts_S1024x256_S1024x256) (constant S256x256 .f32 0x00000000#32) (ix2 r j)
      = (∑ d : Fin 1024, a (ix2 r d) * b (ix2 d j) : EReal) := by
  pointwise

theorem whole_x : View.ld (Val := Elt Ideal) (e' := .f32) (S := S256x1024) x r0_0 = x :=
  View.ld_unit_zero (funext fun a => by revert a; decide) _ _

theorem whole_g : View.ld (Val := Elt Ideal) (e' := .f32) (S := S1x1024) g r0_1 = g :=
  View.ld_unit_zero (funext fun a => by revert a; decide) _ _

theorem k0_pay1_apply (b : FVec Ideal S1024x512 .bf16) (r : Fin 256) (j : Fin 512) :
    (k0_pay1 (F := Ideal) a b (ix2 r j) : EReal) = ∑ d : Fin 1024, a (ix2 r d) * b (ix2 d j) := by
  pointwise [k0_pay1, silu]

theorem k0_pay2_apply (b : FVec Ideal S1024x512 .bf16) (r : Fin 256) (j : Fin 512) :
    (k0_pay2 (F := Ideal) a b (ix2 r j) : EReal) = silu (∑ d : Fin 1024, a (ix2 r d) * b (ix2 d j)) := by
  pointwise [k0_pay2, silu]

theorem k0_pay38_apply (b : FVec Ideal S1024x512 .bf16) (r : Fin 256) (j : Fin 512) :
    (k0_pay38 (F := Ideal) a b (ix2 r j) : EReal) = silu (∑ d : Fin 1024, a (ix2 r d) * b (ix2 d j)) := by
  pointwise [k0_pay38, silu]

theorem k0_pay3_apply (b : FVec Ideal S1024x256 .bf16) (r : Fin 256) (j : Fin 256) :
    (k0_pay3 (F := Ideal) a b (ix2 r j) : EReal) = Ideal.logistic (∑ d : Fin 1024, a (ix2 r d) * b (ix2 d j)) := by
  pointwise [k0_pay3, silu]

theorem out13_apply (r : Fin 256) (j : Fin 512) : (out0_13 (F := Ideal) i x g w (ix2 r j) : EReal) = silu (proj (row x r) (gain g) (col w (1280 + j.val) (by omega))) := by
  have e : out0_13 (F := Ideal) i x g w = k0_pay38 (k0_pay4 (View.ld (Val := Elt Ideal) (e' := .f32) (S := S256x1024) x r0_0) (View.ld (Val := Elt Ideal) (e' := .f32) (S := S1x1024) g r0_1)) (View.ld (Val := Elt Ideal) (e' := .bf16) (S := S1024x3072) w r0_20) :=
    View.canon_unit_zero (funext fun a => by revert a; decide) _ _
  rw [e, k0_pay38_apply, whole_x, whole_g]
  exact congrArg silu (Finset.sum_congr rfl fun d _ => congrArg₂ (· * ·) (normed_apply x g r d) (za_cols w d j))

theorem out14_apply (r : Fin 256) (j : Fin 512) : (out0_14 (F := Ideal) i x g w (ix2 r j) : EReal) = proj (row x r) (gain g) (col w (1792 + j.val) (by omega)) := by
  have e : out0_14 (F := Ideal) i x g w = k0_pay1 (k0_pay4 (View.ld (Val := Elt Ideal) (e' := .f32) (S := S256x1024) x r0_0) (View.ld (Val := Elt Ideal) (e' := .f32) (S := S1x1024) g r0_1)) (View.ld (Val := Elt Ideal) (e' := .bf16) (S := S1024x3072) w r0_21) :=
    View.canon_unit_zero (funext fun a => by revert a; decide) _ _
  rw [e, k0_pay1_apply, whole_x, whole_g]
  exact congrArg (fun z : EReal => z) (Finset.sum_congr rfl fun d _ => congrArg₂ (· * ·) (normed_apply x g r d) (u_cols w d j))

theorem out15_apply (r : Fin 256) (j : Fin 512) : (out0_15 (F := Ideal) i x g w (ix2 r j) : EReal) = silu (proj (row x r) (gain g) (col w (2304 + j.val) (by omega))) := by
  have e : out0_15 (F := Ideal) i x g w = k0_pay2 (k0_pay4 (View.ld (Val := Elt Ideal) (e' := .f32) (S := S256x1024) x r0_0) (View.ld (Val := Elt Ideal) (e' := .f32) (S := S1x1024) g r0_1)) (View.ld (Val := Elt Ideal) (e' := .bf16) (S := S1024x3072) w r0_22) :=
    View.canon_unit_zero (funext fun a => by revert a; decide) _ _
  rw [e, k0_pay2_apply, whole_x, whole_g]
  exact congrArg silu (Finset.sum_congr rfl fun d _ => congrArg₂ (· * ·) (normed_apply x g r d) (zp_cols w d j))

theorem out12_apply (r : Fin 256) (j : Fin 256) : (out0_12 (F := Ideal) i x g w (ix2 r j) : EReal) = Ideal.logistic (proj (row x r) (gain g) (col w (2816 + j.val) (by omega))) := by
  have e : out0_12 (F := Ideal) i x g w = k0_pay3 (k0_pay4 (View.ld (Val := Elt Ideal) (e' := .f32) (S := S256x1024) x r0_0) (View.ld (Val := Elt Ideal) (e' := .f32) (S := S1x1024) g r0_1)) (View.ld (Val := Elt Ideal) (e' := .bf16) (S := S1024x3072) w r0_23) :=
    View.canon_unit_zero (funext fun a => by revert a; decide) _ _
  rw [e, k0_pay3_apply, whole_x, whole_g]
  exact congrArg Ideal.logistic (Finset.sum_congr rfl fun d _ => congrArg₂ (· * ·) (normed_apply x g r d) (gl_cols w d j))

theorem out3_apply (r : Fin 256) (j : Fin 512) : (out0_3 (F := Ideal) i x g w (ix2 r j) : EReal) = query (proj (row x r) (gain g) (col w (0 + j.val) (by omega))) := by
  have e : out0_3 (F := Ideal) i x g w = k0_pay5 (View.ld (Val := Elt Ideal) (e' := .f32) (S := S256x1024) x r0_0) (View.ld (Val := Elt Ideal) (e' := .f32) (S := S1x1024) g r0_1)
      (View.ld (Val := Elt Ideal) (e' := .bf16) (S := S1024x3072) w r0_2) :=
    View.canon_unit_zero (funext fun a => by revert a; decide) _ _
  rw [e, whole_x, whole_g]
  have h (b : FVec Ideal S1024x512 .bf16) : (k0_pay5 (F := Ideal) x g b (ix2 r j) : EReal) = query (∑ d : Fin 1024, (k0_pay4 (F := Ideal) x g (ix2 r d) : EReal) * b (ix2 d j)) := by
    unfold k0_pay5
    generalize k0_pay4 (F := Ideal) x g = a
    pointwise [query]
  rw [h]
  exact congrArg query (Finset.sum_congr rfl fun d _ => congrArg₂ (· * ·) (normed_apply x g r d) (q_cols w d j))

theorem kv_apply (r : Fin 256) (j : Fin 768) : (k0_pay40 (F := Ideal) i x g w (ix2 r j) : EReal) = proj (row x r) (gain g) (col w (512 + j.val) (by omega)) := by
  unfold k0_pay40
  rw [whole_x, whole_g]
  have h (b : FVec Ideal S1024x768 .bf16) : (k0_pay6 (F := Ideal) x g b (ix2 r j) : EReal) = ∑ d : Fin 1024, (k0_pay4 (F := Ideal) x g (ix2 r d) : EReal) * b (ix2 d j) := by
    unfold k0_pay6
    generalize k0_pay4 (F := Ideal) x g = a
    pointwise
  rw [h]
  exact Finset.sum_congr rfl fun d _ => congrArg₂ (· * ·) (normed_apply x g r d) (kv_cols w d j)

theorem out5_apply (z : Fin 1) (l : Fin 256) (r : Fin 256) : (out0_5 (F := Ideal) i x g w (ix3 z l r) : EReal) = proj (row x r) (gain g) (col w (512 + l.val) (by omega)) := by
  have e : out0_5 (F := Ideal) i x g w = k0_pay10 (F := Ideal) (k0_pay40 (F := Ideal) i x g w) :=
    View.canon_unit_zero (funext fun a => by revert a; decide) _ _
  have h (b : FVec Ideal S256x768 .f32) : (k0_pay10 (F := Ideal) b (ix3 z l r) : EReal) = b (ix2 r ⟨0 + l.val, by omega⟩) := by
    pointwise [k0_pay10, k0_pay9]
  rw [e, h, kv_apply]
  have hc : col w (512 + (0 + l.val)) (by omega) = col w (512 + l.val) (by omega) := by
    funext k
    exact congrArg (fun n => w (ix2 k n)) (Fin.ext (by show 512 + (0 + l.val) = 512 + l.val; omega))
  rw [hc]

theorem out6_apply (z : Fin 1) (l : Fin 256) (r : Fin 256) : (out0_6 (F := Ideal) i x g w (ix3 z l r) : EReal) = proj (row x r) (gain g) (col w (768 + l.val) (by omega)) := by
  have e : out0_6 (F := Ideal) i x g w = k0_pay11 (F := Ideal) (k0_pay40 (F := Ideal) i x g w) :=
    View.canon_unit_zero (funext fun a => by revert a; decide) _ _
  have h (b : FVec Ideal S256x768 .f32) : (k0_pay11 (F := Ideal) b (ix3 z l r) : EReal) = b (ix2 r ⟨256 + l.val, by omega⟩) := by
    pointwise [k0_pay11, k0_pay9]
  rw [e, h, kv_apply]
  have hc : col w (512 + (256 + l.val)) (by omega) = col w (768 + l.val) (by omega) := by
    funext k
    exact congrArg (fun n => w (ix2 k n)) (Fin.ext (by show 512 + (256 + l.val) = 768 + l.val; omega))
  rw [hc]

theorem out7_apply (z : Fin 1) (l : Fin 256) (r : Fin 256) : (out0_7 (F := Ideal) i x g w (ix3 z l r) : EReal) = proj (row x r) (gain g) (col w (1024 + l.val) (by omega)) := by
  have e : out0_7 (F := Ideal) i x g w = k0_pay12 (F := Ideal) (k0_pay40 (F := Ideal) i x g w) :=
    View.canon_unit_zero (funext fun a => by revert a; decide) _ _
  have h (b : FVec Ideal S256x768 .f32) : (k0_pay12 (F := Ideal) b (ix3 z l r) : EReal) = b (ix2 r ⟨512 + l.val, by omega⟩) := by
    pointwise [k0_pay12, k0_pay9]
  rw [e, h, kv_apply]
  have hc : col w (512 + (512 + l.val)) (by omega) = col w (1024 + l.val) (by omega) := by
    funext k
    exact congrArg (fun n => w (ix2 k n)) (Fin.ext (by show 512 + (512 + l.val) = 1024 + l.val; omega))
  rw [hc]

end Cert.ProjectBlock
-- ==== Proof.ProjectFinal.lean ====
/- The projection's output arrays, when its grid is done, as functions of the arguments. -/
module

public import proofs.«01_k».proof.Proof.ProjectHost
public import proofs.«01_k».proof.Proof.ProjectBlock
public import Idealize.ShloMosaic.Lib.Pipeline.ValueKit.Geometry
public import Idealize.ShloMosaic.Lib.Decide

@[expose] public section

set_option maxRecDepth 16384

noncomputable section

namespace Cert.ProjectFinal

open Cert.ProjectIdeal Cert.ProjectIdeal.Gen
open Cert.Proj
open Idealize.ShloMosaic Idealize.ShloMosaic.TcCoe

/-- A row of the argument, the gain, and the weights. -/
def xrow (x : FVec Ideal S2x8192x1024 .f32) (r : Fin 16384) : Fin 1024 → EReal := fun k => x (ix3 ⟨r.val / 8192, by omega⟩ ⟨r.val % 8192, by omega⟩ k)
def gain (g : FVec Ideal S1x1024 .f32) : Fin 1024 → EReal := fun k => g (ix2 0 k)
def weights (w : FVec Ideal S1x1024x2840 .f32) : Fin 1024 → Fin 2840 → EReal := fun k j => w (ix3 0 k j)

/-- One entry of the projection: a row against a column of the weights. -/
def entry (x : FVec Ideal S2x8192x1024 .f32) (g : FVec Ideal S1x1024 .f32) (w : FVec Ideal S1x1024x2840 .f32) (r : Fin 16384) (j : ℕ) : EReal :=
  proj (xrow x r) (gain g) (column (weights w) j)

variable (m : (ℓ : Loc nD τ sig) → Buf (Elt Ideal) ℓ) (c : Dev nD)

theorem points : cfg0.N = 64 := of_decide_eq_true (by sl_kernel_rfl)

/-- The row of the argument that lies at row `r` of block `t`. -/
def rowOf (t : Fin cfg0.N) (r : Fin 256) : Fin 16384 := ⟨t.val * 256 + r.val, by have h : t.val < 64 := lt_of_lt_of_eq t.isLt points; omega⟩

theorem index_x : ∀ t : Fin cfg0.N, ((cfg0.win 0).index t : Fin 2 → ℕ) = ![t.val, 0] := of_decide_eq_true (by sl_kernel_rfl)
theorem index_g : ∀ t : Fin cfg0.N, ((cfg0.win 1).index t : Fin 2 → ℕ) = ![0, 0] := of_decide_eq_true (by sl_kernel_rfl)
theorem index_w : ∀ t : Fin cfg0.N, ((cfg0.win 2).index t : Fin 2 → ℕ) = ![0, 0] := of_decide_eq_true (by sl_kernel_rfl)
theorem index_3 : ∀ t : Fin cfg0.N, ((cfg0.win 3).index t : Fin 2 → ℕ) = ![t.val, 0] := of_decide_eq_true (by sl_kernel_rfl)
theorem covers_3 : (cfg0.win 3).Covers := of_decide_eq_true (by sl_kernel_rfl)
theorem index_13 : ∀ t : Fin cfg0.N, ((cfg0.win 13).index t : Fin 2 → ℕ) = ![t.val, 0] := of_decide_eq_true (by sl_kernel_rfl)
theorem covers_13 : (cfg0.win 13).Covers := of_decide_eq_true (by sl_kernel_rfl)
theorem index_14 : ∀ t : Fin cfg0.N, ((cfg0.win 14).index t : Fin 2 → ℕ) = ![t.val, 0] := of_decide_eq_true (by sl_kernel_rfl)
theorem covers_14 : (cfg0.win 14).Covers := of_decide_eq_true (by sl_kernel_rfl)
theorem index_15 : ∀ t : Fin cfg0.N, ((cfg0.win 15).index t : Fin 2 → ℕ) = ![t.val, 0] := of_decide_eq_true (by sl_kernel_rfl)
theorem covers_15 : (cfg0.win 15).Covers := of_decide_eq_true (by sl_kernel_rfl)
theorem index_12 : ∀ t : Fin cfg0.N, ((cfg0.win 12).index t : Fin 2 → ℕ) = ![t.val, 0] := of_decide_eq_true (by sl_kernel_rfl)
theorem covers_12 : (cfg0.win 12).Covers := of_decide_eq_true (by sl_kernel_rfl)
theorem index_5 : ∀ t : Fin cfg0.N, ((cfg0.win 5).index t : Fin 3 → ℕ) = ![t.val / 32, 0, t.val % 32] := of_decide_eq_true (by sl_kernel_rfl)
theorem covers_5 : (cfg0.win 5).Covers := of_decide_eq_true (by sl_kernel_rfl)
theorem index_6 : ∀ t : Fin cfg0.N, ((cfg0.win 6).index t : Fin 3 → ℕ) = ![t.val / 32, 0, t.val % 32] := of_decide_eq_true (by sl_kernel_rfl)
theorem covers_6 : (cfg0.win 6).Covers := of_decide_eq_true (by sl_kernel_rfl)
theorem index_7 : ∀ t : Fin cfg0.N, ((cfg0.win 7).index t : Fin 3 → ℕ) = ![t.val / 32, 0, t.val % 32] := of_decide_eq_true (by sl_kernel_rfl)
theorem covers_7 : (cfg0.win 7).Covers := of_decide_eq_true (by sl_kernel_rfl)

theorem rows1024 (ix : Fin 2 → ℕ) (inb : ∀ a : Fin 2, ix a * S256x1024.size a + S256x1024.size a ≤ S16384x1024.size a) (t : Fin cfg0.N)
    (r : Fin 256) (j : Fin 1024) (e : ix = ![t.val, 0]) :
    (Rect.unit (s := S16384x1024) (fun a => ix a * S256x1024.size a) S256x1024.size inb).emb (ix2 r j) = ix2 (rowOf t r) j := by
  subst e
  funext a
  refine Fin.ext ((ValueKit.rect_emb_unit_val _ _ inb (ix2 r j) a).trans ?_)
  match a with
  | ⟨0, _⟩ => show t.val * 256 + r.val = t.val * 256 + r.val; rfl
  | ⟨1, _⟩ => show 0 * 1024 + j.val = j.val; omega

theorem rows512 (ix : Fin 2 → ℕ) (inb : ∀ a : Fin 2, ix a * S256x512.size a + S256x512.size a ≤ S16384x512.size a) (t : Fin cfg0.N)
    (r : Fin 256) (j : Fin 512) (e : ix = ![t.val, 0]) :
    (Rect.unit (s := S16384x512) (fun a => ix a * S256x512.size a) S256x512.size inb).emb (ix2 r j) = ix2 (rowOf t r) j := by
  subst e
  funext a
  refine Fin.ext ((ValueKit.rect_emb_unit_val _ _ inb (ix2 r j) a).trans ?_)
  match a with
  | ⟨0, _⟩ => show t.val * 256 + r.val = t.val * 256 + r.val; rfl
  | ⟨1, _⟩ => show 0 * 512 + j.val = j.val; omega

theorem rows256 (ix : Fin 2 → ℕ) (inb : ∀ a : Fin 2, ix a * S256x256.size a + S256x256.size a ≤ S16384x256.size a) (t : Fin cfg0.N)
    (r : Fin 256) (j : Fin 256) (e : ix = ![t.val, 0]) :
    (Rect.unit (s := S16384x256) (fun a => ix a * S256x256.size a) S256x256.size inb).emb (ix2 r j) = ix2 (rowOf t r) j := by
  subst e
  funext a
  refine Fin.ext ((ValueKit.rect_emb_unit_val _ _ inb (ix2 r j) a).trans ?_)
  match a with
  | ⟨0, _⟩ => show t.val * 256 + r.val = t.val * 256 + r.val; rfl
  | ⟨1, _⟩ => show 0 * 256 + j.val = j.val; omega

theorem whole_g (ix : Fin 2 → ℕ) (inb : ∀ a : Fin 2, ix a * S1x1024.size a + S1x1024.size a ≤ S1x1024.size a)
    (r : Fin 1) (j : Fin 1024) (e : ix = ![0, 0]) :
    (Rect.unit (s := S1x1024) (fun a => ix a * S1x1024.size a) S1x1024.size inb).emb (ix2 r j) = ix2 r j := by
  subst e
  funext a
  refine Fin.ext ((ValueKit.rect_emb_unit_val _ _ inb (ix2 r j) a).trans ?_)
  match a with
  | ⟨0, _⟩ => show 0 * 1 + r.val = r.val; omega
  | ⟨1, _⟩ => show 0 * 1024 + j.val = j.val; omega

theorem whole_w (ix : Fin 2 → ℕ) (inb : ∀ a : Fin 2, ix a * S1024x3072.size a + S1024x3072.size a ≤ S1024x3072.size a)
    (r : Fin 1024) (j : Fin 3072) (e : ix = ![0, 0]) :
    (Rect.unit (s := S1024x3072) (fun a => ix a * S1024x3072.size a) S1024x3072.size inb).emb (ix2 r j) = ix2 r j := by
  subst e
  funext a
  refine Fin.ext ((ValueKit.rect_emb_unit_val _ _ inb (ix2 r j) a).trans ?_)
  match a with
  | ⟨0, _⟩ => show 0 * 1024 + r.val = r.val; omega
  | ⟨1, _⟩ => show 0 * 3072 + j.val = j.val; omega

/-- The sequence and the position in it of row `r` of block `t`. -/
def batchOf (t : Fin cfg0.N) : Fin 2 := ⟨t.val / 32, by have h : t.val < 64 := lt_of_lt_of_eq t.isLt points; omega⟩
def posOf (t : Fin cfg0.N) (r : Fin 256) : Fin 8192 := ⟨t.val % 32 * 256 + r.val, by omega⟩

theorem lanes (ix : Fin 3 → ℕ) (inb : ∀ a : Fin 3, ix a * S1x256x256.size a + S1x256x256.size a ≤ S2x256x8192.size a) (t : Fin cfg0.N)
    (l : Fin 256) (r : Fin 256) (e : ix = ![t.val / 32, 0, t.val % 32]) :
    (Rect.unit (s := S2x256x8192) (fun a => ix a * S1x256x256.size a) S1x256x256.size inb).emb (ix3 0 l r) = ix3 (batchOf t) l (posOf t r) := by
  subst e
  funext a
  refine Fin.ext ((ValueKit.rect_emb_unit_val _ _ inb (ix3 0 l r) a).trans ?_)
  match a with
  | ⟨0, _⟩ => show t.val / 32 * 1 + 0 = t.val / 32; omega
  | ⟨1, _⟩ => show 0 * 256 + l.val = l.val; omega
  | ⟨2, _⟩ => show t.val % 32 * 256 + r.val = t.val % 32 * 256 + r.val; rfl

theorem row_eq (t : Fin cfg0.N) (r : Fin 256) : ProjectBlock.row (iblk m c 0 t) r = xrow (m ((c : Thread nD τ).loc main_arg0)) (rowOf t r) :=
  funext fun k => (congrArg (V m c main_v9 : S16384x1024.Idx → EReal) (rows1024 _ _ t r k (index_x t))).trans
    ((congrFun (ProjectHost.V_rows m c) _).trans (ProjectHost.rows_at _ _ k))

theorem gain_eq (t : Fin cfg0.N) : ProjectBlock.gain (iblk m c 1 t) = gain (m ((c : Thread nD τ).loc main_arg1)) :=
  funext fun k => (congrArg (V m c main_arg1 : S1x1024.Idx → EReal) (whole_g _ _ 0 k (index_g t))).trans
    (congrFun (V_main_arg1 m c) _)

theorem col_eq (t : Fin cfg0.N) (j : ℕ) (hj : j < 3072) (n : ℕ) (e : source j = n) :
    ProjectBlock.col (iblk m c 2 t) j hj = column (weights (m ((c : Thread nD τ).loc main_arg2))) n :=
  funext fun k => (congrArg (V m c main_v8 : S1024x3072.Idx → EReal) (whole_w _ _ k ⟨j, hj⟩ (index_w t))).trans
    ((congrFun (ProjectHost.V_ordered m c) _).trans ((ProjectHost.ordered_at _ k ⟨j, hj⟩).trans (e ▸ rfl)))

theorem block_entry (t : Fin cfg0.N) (r : Fin 256) (j : ℕ) (hj : j < 3072) (n : ℕ) (e : source j = n) :
    proj (ProjectBlock.row (iblk m c 0 t) r) (ProjectBlock.gain (iblk m c 1 t)) (ProjectBlock.col (iblk m c 2 t) j hj)
      = entry (m ((c : Thread nD τ).loc main_arg0)) (m ((c : Thread nD τ).loc main_arg1)) (m ((c : Thread nD τ).loc main_arg2)) (rowOf t r) n := by
  unfold entry
  rw [row_eq m c t r, gain_eq m c t, col_eq m c t j hj n e]

theorem final3 (i : S16384x512.Idx) :
    ((dats m 0 c).arrAt 3 cfg0.N : S16384x512.Idx → EReal) i = query (entry (m ((c : Thread nD τ).loc main_arg0)) (m ((c : Thread nD τ).loc main_arg1)) (m ((c : Thread nD τ).loc main_arg2)) (i 0) ((i 1).val)) := by
  refine (dats m 0 c).arrAt_forall_of_covers 3 (fun (i : S16384x512.Idx) (v : EReal) => v = query (entry (m ((c : Thread nD τ).loc main_arg0)) (m ((c : Thread nD τ).loc main_arg1)) (m ((c : Thread nD τ).loc main_arg2)) (i 0) ((i 1).val))) covers_3 ?_ i
  intro t _ (y : S256x512.Idx)
  obtain ⟨r, j, rfl⟩ : ∃ (r : Fin 256) (j : Fin 512), y = ix2 r j :=
    ⟨y 0, y 1, funext fun a => match a with | ⟨0, _⟩ => rfl | ⟨1, _⟩ => rfl⟩
  have key : ∀ (i' : S16384x512.Idx) (v v' : EReal), i' = ix2 (rowOf t r) j → v = v' →
      v' = query (entry (m ((c : Thread nD τ).loc main_arg0)) (m ((c : Thread nD τ).loc main_arg1)) (m ((c : Thread nD τ).loc main_arg2)) (rowOf t r) (j.val)) → v = query (entry (m ((c : Thread nD τ).loc main_arg0)) (m ((c : Thread nD τ).loc main_arg1)) (m ((c : Thread nD τ).loc main_arg2)) (i' 0) ((i' 1).val)) := by
    rintro i' v v' rfl rfl hv
    exact hv
  refine key _ _ _ (rows512 _ _ t r j (index_3 t)) (congrFun (after0_3 m c t) (ix2 r j)) ?_
  exact (ProjectBlock.out3_apply _ _ _ _ r j).trans (congrArg query (block_entry m c t r _ _ _ (by unfold source; split_ifs <;> omega)))

theorem final13 (i : S16384x512.Idx) :
    ((dats m 0 c).arrAt 13 cfg0.N : S16384x512.Idx → EReal) i = silu (entry (m ((c : Thread nD τ).loc main_arg0)) (m ((c : Thread nD τ).loc main_arg1)) (m ((c : Thread nD τ).loc main_arg2)) (i 0) (1304 + (i 1).val)) := by
  refine (dats m 0 c).arrAt_forall_of_covers 13 (fun (i : S16384x512.Idx) (v : EReal) => v = silu (entry (m ((c : Thread nD τ).loc main_arg0)) (m ((c : Thread nD τ).loc main_arg1)) (m ((c : Thread nD τ).loc main_arg2)) (i 0) (1304 + (i 1).val))) covers_13 ?_ i
  intro t _ (y : S256x512.Idx)
  obtain ⟨r, j, rfl⟩ : ∃ (r : Fin 256) (j : Fin 512), y = ix2 r j :=
    ⟨y 0, y 1, funext fun a => match a with | ⟨0, _⟩ => rfl | ⟨1, _⟩ => rfl⟩
  have key : ∀ (i' : S16384x512.Idx) (v v' : EReal), i' = ix2 (rowOf t r) j → v = v' →
      v' = silu (entry (m ((c : Thread nD τ).loc main_arg0)) (m ((c : Thread nD τ).loc main_arg1)) (m ((c : Thread nD τ).loc main_arg2)) (rowOf t r) (1304 + j.val)) → v = silu (entry (m ((c : Thread nD τ).loc main_arg0)) (m ((c : Thread nD τ).loc main_arg1)) (m ((c : Thread nD τ).loc main_arg2)) (i' 0) (1304 + (i' 1).val)) := by
    rintro i' v v' rfl rfl hv
    exact hv
  refine key _ _ _ (rows512 _ _ t r j (index_13 t)) (congrFun (after0_13 m c t) (ix2 r j)) ?_
  exact (ProjectBlock.out13_apply _ _ _ _ r j).trans (congrArg silu (block_entry m c t r _ _ _ (by unfold source; split_ifs <;> omega)))

theorem final14 (i : S16384x512.Idx) :
    ((dats m 0 c).arrAt 14 cfg0.N : S16384x512.Idx → EReal) i = entry (m ((c : Thread nD τ).loc main_arg0)) (m ((c : Thread nD τ).loc main_arg1)) (m ((c : Thread nD τ).loc main_arg2)) (i 0) (1816 + (i 1).val) := by
  refine (dats m 0 c).arrAt_forall_of_covers 14 (fun (i : S16384x512.Idx) (v : EReal) => v = entry (m ((c : Thread nD τ).loc main_arg0)) (m ((c : Thread nD τ).loc main_arg1)) (m ((c : Thread nD τ).loc main_arg2)) (i 0) (1816 + (i 1).val)) covers_14 ?_ i
  intro t _ (y : S256x512.Idx)
  obtain ⟨r, j, rfl⟩ : ∃ (r : Fin 256) (j : Fin 512), y = ix2 r j :=
    ⟨y 0, y 1, funext fun a => match a with | ⟨0, _⟩ => rfl | ⟨1, _⟩ => rfl⟩
  have key : ∀ (i' : S16384x512.Idx) (v v' : EReal), i' = ix2 (rowOf t r) j → v = v' →
      v' = entry (m ((c : Thread nD τ).loc main_arg0)) (m ((c : Thread nD τ).loc main_arg1)) (m ((c : Thread nD τ).loc main_arg2)) (rowOf t r) (1816 + j.val) → v = entry (m ((c : Thread nD τ).loc main_arg0)) (m ((c : Thread nD τ).loc main_arg1)) (m ((c : Thread nD τ).loc main_arg2)) (i' 0) (1816 + (i' 1).val) := by
    rintro i' v v' rfl rfl hv
    exact hv
  refine key _ _ _ (rows512 _ _ t r j (index_14 t)) (congrFun (after0_14 m c t) (ix2 r j)) ?_
  exact (ProjectBlock.out14_apply _ _ _ _ r j).trans (congrArg (fun z : EReal => z) (block_entry m c t r _ _ _ (by unfold source; split_ifs <;> omega)))

theorem final15 (i : S16384x512.Idx) :
    ((dats m 0 c).arrAt 15 cfg0.N : S16384x512.Idx → EReal) i = silu (entry (m ((c : Thread nD τ).loc main_arg0)) (m ((c : Thread nD τ).loc main_arg1)) (m ((c : Thread nD τ).loc main_arg2)) (i 0) (2328 + (i 1).val)) := by
  refine (dats m 0 c).arrAt_forall_of_covers 15 (fun (i : S16384x512.Idx) (v : EReal) => v = silu (entry (m ((c : Thread nD τ).loc main_arg0)) (m ((c : Thread nD τ).loc main_arg1)) (m ((c : Thread nD τ).loc main_arg2)) (i 0) (2328 + (i 1).val))) covers_15 ?_ i
  intro t _ (y : S256x512.Idx)
  obtain ⟨r, j, rfl⟩ : ∃ (r : Fin 256) (j : Fin 512), y = ix2 r j :=
    ⟨y 0, y 1, funext fun a => match a with | ⟨0, _⟩ => rfl | ⟨1, _⟩ => rfl⟩
  have key : ∀ (i' : S16384x512.Idx) (v v' : EReal), i' = ix2 (rowOf t r) j → v = v' →
      v' = silu (entry (m ((c : Thread nD τ).loc main_arg0)) (m ((c : Thread nD τ).loc main_arg1)) (m ((c : Thread nD τ).loc main_arg2)) (rowOf t r) (2328 + j.val)) → v = silu (entry (m ((c : Thread nD τ).loc main_arg0)) (m ((c : Thread nD τ).loc main_arg1)) (m ((c : Thread nD τ).loc main_arg2)) (i' 0) (2328 + (i' 1).val)) := by
    rintro i' v v' rfl rfl hv
    exact hv
  refine key _ _ _ (rows512 _ _ t r j (index_15 t)) (congrFun (after0_15 m c t) (ix2 r j)) ?_
  exact (ProjectBlock.out15_apply _ _ _ _ r j).trans (congrArg silu (block_entry m c t r _ _ _ (by unfold source; split_ifs <;> omega)))

theorem final12 (i : S16384x256.Idx) :
    ((dats m 0 c).arrAt 12 cfg0.N : S16384x256.Idx → EReal) i = Ideal.logistic (entry (m ((c : Thread nD τ).loc main_arg0)) (m ((c : Thread nD τ).loc main_arg1)) (m ((c : Thread nD τ).loc main_arg2)) (i 0) (gateColumn (i 1).val)) := by
  refine (dats m 0 c).arrAt_forall_of_covers 12 (fun (i : S16384x256.Idx) (v : EReal) => v = Ideal.logistic (entry (m ((c : Thread nD τ).loc main_arg0)) (m ((c : Thread nD τ).loc main_arg1)) (m ((c : Thread nD τ).loc main_arg2)) (i 0) (gateColumn (i 1).val))) covers_12 ?_ i
  intro t _ (y : S256x256.Idx)
  obtain ⟨r, j, rfl⟩ : ∃ (r : Fin 256) (j : Fin 256), y = ix2 r j :=
    ⟨y 0, y 1, funext fun a => match a with | ⟨0, _⟩ => rfl | ⟨1, _⟩ => rfl⟩
  have key : ∀ (i' : S16384x256.Idx) (v v' : EReal), i' = ix2 (rowOf t r) j → v = v' →
      v' = Ideal.logistic (entry (m ((c : Thread nD τ).loc main_arg0)) (m ((c : Thread nD τ).loc main_arg1)) (m ((c : Thread nD τ).loc main_arg2)) (rowOf t r) (gateColumn j.val)) → v = Ideal.logistic (entry (m ((c : Thread nD τ).loc main_arg0)) (m ((c : Thread nD τ).loc main_arg1)) (m ((c : Thread nD τ).loc main_arg2)) (i' 0) (gateColumn (i' 1).val)) := by
    rintro i' v v' rfl rfl hv
    exact hv
  refine key _ _ _ (rows256 _ _ t r j (index_12 t)) (congrFun (after0_12 m c t) (ix2 r j)) ?_
  exact (ProjectBlock.out12_apply _ _ _ _ r j).trans (congrArg Ideal.logistic (block_entry m c t r _ _ _ (by unfold source gateColumn; split_ifs <;> omega)))

theorem final5 (b : Fin 2) (l : Fin 256) (s : Fin 8192) :
    ((dats m 0 c).arrAt 5 cfg0.N : S2x256x8192.Idx → EReal) (ix3 b l s) = entry (m ((c : Thread nD τ).loc main_arg0)) (m ((c : Thread nD τ).loc main_arg1)) (m ((c : Thread nD τ).loc main_arg2)) ⟨b.val * 8192 + s.val, by omega⟩ (512 + l.val) := by
  have all : ∀ i : S2x256x8192.Idx, ∀ (b : Fin 2) (l : Fin 256) (s : Fin 8192), i = ix3 b l s →
      ((dats m 0 c).arrAt 5 cfg0.N : S2x256x8192.Idx → EReal) i = entry (m ((c : Thread nD τ).loc main_arg0)) (m ((c : Thread nD τ).loc main_arg1)) (m ((c : Thread nD τ).loc main_arg2)) ⟨b.val * 8192 + s.val, by omega⟩ (512 + l.val) := by
    intro i
    refine (dats m 0 c).arrAt_forall_of_covers 5 (fun (i : S2x256x8192.Idx) (v : EReal) => ∀ (b : Fin 2) (l : Fin 256) (s : Fin 8192), i = ix3 b l s →
      v = entry (m ((c : Thread nD τ).loc main_arg0)) (m ((c : Thread nD τ).loc main_arg1)) (m ((c : Thread nD τ).loc main_arg2)) ⟨b.val * 8192 + s.val, by omega⟩ (512 + l.val)) covers_5 ?_ i
    intro t _ (y : S1x256x256.Idx)
    obtain ⟨l, r, rfl⟩ : ∃ (l : Fin 256) (r : Fin 256), y = ix3 0 l r :=
      ⟨y 1, y 2, funext fun a => match a with | ⟨0, _⟩ => Subsingleton.elim (α := Fin 1) _ _ | ⟨1, _⟩ => rfl | ⟨2, _⟩ => rfl⟩
    have key : ∀ (i' : S2x256x8192.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (512 + l.val) → ∀ (b : Fin 2) (l : Fin 256) (s : Fin 8192), i' = ix3 b l s → v = entry (m ((c : Thread nD τ).loc main_arg0)) (m ((c : Thread nD τ).loc main_arg1)) (m ((c : Thread nD τ).loc main_arg2)) ⟨b.val * 8192 + s.val, by omega⟩ (512 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (512 + l.val)) (Fin.ext ?_))
      show t.val * 256 + r.val = t.val / 32 * 8192 + (t.val % 32 * 256 + r.val)

      omega
    refine key _ _ _ (lanes _ _ t l r (index_5 t)) (congrFun (after0_5 m c t) (ix3 0 l r)) ?_
    exact (ProjectBlock.out5_apply _ _ _ _ 0 l r).trans (block_entry m c t r _ _ _ (by unfold source; split_ifs <;> omega))
  exact all _ b l s rfl

theorem final6 (b : Fin 2) (l : Fin 256) (s : Fin 8192) :
    ((dats m 0 c).arrAt 6 cfg0.N : S2x256x8192.Idx → EReal) (ix3 b l s) = entry (m ((c : Thread nD τ).loc main_arg0)) (m ((c : Thread nD τ).loc main_arg1)) (m ((c : Thread nD τ).loc main_arg2)) ⟨b.val * 8192 + s.val, by omega⟩ (768 + l.val) := by
  have all : ∀ i : S2x256x8192.Idx, ∀ (b : Fin 2) (l : Fin 256) (s : Fin 8192), i = ix3 b l s →
      ((dats m 0 c).arrAt 6 cfg0.N : S2x256x8192.Idx → EReal) i = entry (m ((c : Thread nD τ).loc main_arg0)) (m ((c : Thread nD τ).loc main_arg1)) (m ((c : Thread nD τ).loc main_arg2)) ⟨b.val * 8192 + s.val, by omega⟩ (768 + l.val) := by
    intro i
    refine (dats m 0 c).arrAt_forall_of_covers 6 (fun (i : S2x256x8192.Idx) (v : EReal) => ∀ (b : Fin 2) (l : Fin 256) (s : Fin 8192), i = ix3 b l s →
      v = entry (m ((c : Thread nD τ).loc main_arg0)) (m ((c : Thread nD τ).loc main_arg1)) (m ((c : Thread nD τ).loc main_arg2)) ⟨b.val * 8192 + s.val, by omega⟩ (768 + l.val)) covers_6 ?_ i
    intro t _ (y : S1x256x256.Idx)
    obtain ⟨l, r, rfl⟩ : ∃ (l : Fin 256) (r : Fin 256), y = ix3 0 l r :=
      ⟨y 1, y 2, funext fun a => match a with | ⟨0, _⟩ => Subsingleton.elim (α := Fin 1) _ _ | ⟨1, _⟩ => rfl | ⟨2, _⟩ => rfl⟩
    have key : ∀ (i' : S2x256x8192.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (768 + l.val) → ∀ (b : Fin 2) (l : Fin 256) (s : Fin 8192), i' = ix3 b l s → v = entry (m ((c : Thread nD τ).loc main_arg0)) (m ((c : Thread nD τ).loc main_arg1)) (m ((c : Thread nD τ).loc main_arg2)) ⟨b.val * 8192 + s.val, by omega⟩ (768 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (768 + l.val)) (Fin.ext ?_))
      show t.val * 256 + r.val = t.val / 32 * 8192 + (t.val % 32 * 256 + r.val)

      omega
    refine key _ _ _ (lanes _ _ t l r (index_6 t)) (congrFun (after0_6 m c t) (ix3 0 l r)) ?_
    exact (ProjectBlock.out6_apply _ _ _ _ 0 l r).trans (block_entry m c t r _ _ _ (by unfold source; split_ifs <;> omega))
  exact all _ b l s rfl

theorem final7 (b : Fin 2) (l : Fin 256) (s : Fin 8192) :
    ((dats m 0 c).arrAt 7 cfg0.N : S2x256x8192.Idx → EReal) (ix3 b l s) = entry (m ((c : Thread nD τ).loc main_arg0)) (m ((c : Thread nD τ).loc main_arg1)) (m ((c : Thread nD τ).loc main_arg2)) ⟨b.val * 8192 + s.val, by omega⟩ (1024 + l.val) := by
  have all : ∀ i : S2x256x8192.Idx, ∀ (b : Fin 2) (l : Fin 256) (s : Fin 8192), i = ix3 b l s →
      ((dats m 0 c).arrAt 7 cfg0.N : S2x256x8192.Idx → EReal) i = entry (m ((c : Thread nD τ).loc main_arg0)) (m ((c : Thread nD τ).loc main_arg1)) (m ((c : Thread nD τ).loc main_arg2)) ⟨b.val * 8192 + s.val, by omega⟩ (1024 + l.val) := by
    intro i
    refine (dats m 0 c).arrAt_forall_of_covers 7 (fun (i : S2x256x8192.Idx) (v : EReal) => ∀ (b : Fin 2) (l : Fin 256) (s : Fin 8192), i = ix3 b l s →
      v = entry (m ((c : Thread nD τ).loc main_arg0)) (m ((c : Thread nD τ).loc main_arg1)) (m ((c : Thread nD τ).loc main_arg2)) ⟨b.val * 8192 + s.val, by omega⟩ (1024 + l.val)) covers_7 ?_ i
    intro t _ (y : S1x256x256.Idx)
    obtain ⟨l, r, rfl⟩ : ∃ (l : Fin 256) (r : Fin 256), y = ix3 0 l r :=
      ⟨y 1, y 2, funext fun a => match a with | ⟨0, _⟩ => Subsingleton.elim (α := Fin 1) _ _ | ⟨1, _⟩ => rfl | ⟨2, _⟩ => rfl⟩
    have key : ∀ (i' : S2x256x8192.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (1024 + l.val) → ∀ (b : Fin 2) (l : Fin 256) (s : Fin 8192), i' = ix3 b l s → v = entry (m ((c : Thread nD τ).loc main_arg0)) (m ((c : Thread nD τ).loc main_arg1)) (m ((c : Thread nD τ).loc main_arg2)) ⟨b.val * 8192 + s.val, by omega⟩ (1024 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (1024 + l.val)) (Fin.ext ?_))
      show t.val * 256 + r.val = t.val / 32 * 8192 + (t.val % 32 * 256 + r.val)

      omega
    refine key _ _ _ (lanes _ _ t l r (index_7 t)) (congrFun (after0_7 m c t) (ix3 0 l r)) ?_
    exact (ProjectBlock.out7_apply _ _ _ _ 0 l r).trans (block_entry m c t r _ _ _ (by unfold source; split_ifs <;> omega))
  exact all _ b l s rfl

end Cert.ProjectFinal
-- ==== Proof.ProjectRef.lean ====
/- The reference's results read at an index. -/
module

public import proofs.«01_k».proof.Proof.ProjectFinal
public import proofs.«01_k».proof.Proof.Gen.ProjectReferenceIdeal.Read
public import Idealize.ShloMosaic.Lib.Pointwise

@[expose] public section

set_option maxRecDepth 16384

noncomputable section

namespace Cert.ProjectRef

open Cert.ProjectReferenceIdeal Cert.ProjectReferenceIdeal.Read
open Cert.Proj Cert.ProjectFinal
open Idealize.ShloMosaic

variable (x : FVec Ideal S2x8192x1024 .f32) (g : FVec Ideal S1x1024 .f32) (w : FVec Ideal S1x1024x2840 .f32)

theorem normed_at (b : Fin 2) (s : Fin 8192) (k : Fin 1024) :
    (val_main_v14 (F := Ideal) x g (ix3 b s k) : EReal) = normed (fun k => x (ix3 b s k)) (gain g) k := by
  pointwise [val_main_v14, val_main_v13, val_main_v12, val_main_v11, val_main_v10, val_main_v9, val_main_v8, val_main_v7, val_main_v6, val_main_v5, val_main_v4,
    val_main_v3, val_main_v2, val_main_v0, val_main_cst, val_main_cst_0, val_main_cst_1, normed, meanSq, gain]

theorem product_at (A : FVec Ideal S2x8192x1024 .f32) (b : Fin 2) (s : Fin 8192) (n : Fin 2840) :
    (Host.dotGeneral (φ₂ := .f32) dot_S2x8192x1024_S1024x2840_S2x8192x2840_2_0_01_1_n_n none A (val_main_v1 (F := Ideal) w : FVec Ideal S1024x2840 .f32) (ix3 b s n) : EReal)
      = ∑ k : Fin 1024, A (ix3 b s k) * w (ix3 0 k n) := by
  pointwise [val_main_v1]

theorem entry_at (b : Fin 2) (s : Fin 8192) (n : Fin 2840) :
    (val_main_v15 (F := Ideal) x g w (ix3 b s n) : EReal) = proj (fun k => x (ix3 b s k)) (gain g) (column (weights w) n.val) :=
  (product_at w _ b s n).trans (Finset.sum_congr rfl fun k _ => congrArg₂ (· * ·) (normed_at x g b s k) (column_of (weights w) k n.isLt rfl))

/-- The products at row `r` of all the rows. -/
theorem entry_row (r : Fin 16384) (n : ℕ) (h : n < 2840) :
    (val_main_v15 (F := Ideal) x g w (ix3 ⟨r.val / 8192, by omega⟩ ⟨r.val % 8192, by omega⟩ ⟨n, h⟩) : EReal) = entry x g w r n :=
  entry_at x g w _ _ ⟨n, h⟩

theorem q_at (r : Fin 16384) (j : Fin 512) : (val_main_v27 (F := Ideal) x g w (ix2 r j) : EReal) = query (entry x g w r (j.val)) := by
  have e := entry_row x g w r (j.val) (by omega)
  rw [← e]
  unfold val_main_v27 val_main_v26 val_main_v25 val_main_v16
  generalize val_main_v15 (F := Ideal) x g w = Y
  pointwise [val_main_v24, val_main_cst_2, query]

theorem za_at (r : Fin 16384) (j : Fin 512) : (val_main_v43 (F := Ideal) x g w (ix2 r j) : EReal) = silu (entry x g w r (1304 + j.val)) := by
  have e := entry_row x g w r (1304 + j.val) (by omega)
  rw [← e]
  unfold val_main_v43 val_main_v42 val_main_call0_v5 val_main_call0_v3 val_main_call0_v1 val_main_call0_v0 val_main_v21
  generalize val_main_v15 (F := Ideal) x g w = Y
  pointwise [val_main_call0_v4, val_main_call0_v2, val_main_call0_cst, val_main_call0_cst_0, silu, Ideal.logistic]

theorem u_at (r : Fin 16384) (j : Fin 512) : (val_main_v44 (F := Ideal) x g w (ix2 r j) : EReal) = entry x g w r (1816 + j.val) := by
  have e := entry_row x g w r (1816 + j.val) (by omega)
  rw [← e]
  unfold val_main_v44 val_main_v22
  generalize val_main_v15 (F := Ideal) x g w = Y
  pointwise

theorem zp_at (r : Fin 16384) (j : Fin 512) : (val_main_v46 (F := Ideal) x g w (ix2 r j) : EReal) = silu (entry x g w r (2328 + j.val)) := by
  have e := entry_row x g w r (2328 + j.val) (by omega)
  rw [← e]
  unfold val_main_v46 val_main_v45 val_main_call1_v5 val_main_call1_v3 val_main_call1_v1 val_main_call1_v0 val_main_v23
  generalize val_main_v15 (F := Ideal) x g w = Y
  pointwise [val_main_call1_v4, val_main_call1_v2, val_main_call1_cst, val_main_call1_cst_0, silu, Ideal.logistic]

theorem ckv_at (b : Fin 2) (l : Fin 256) (s : Fin 8192) : (val_main_v28 (F := Ideal) x g w (ix3 b l s) : EReal) = entry x g w ⟨b.val * 8192 + s.val, by omega⟩ (512 + l.val) := by
  have e := entry_at x g w b s ⟨512 + l.val, by omega⟩
  have hr : (fun k => x (ix3 b s k) : Fin 1024 → EReal) = xrow x ⟨b.val * 8192 + s.val, by omega⟩ := by
    funext k
    refine congrArg x ?_
    have h0 : b = ⟨(b.val * 8192 + s.val) / 8192, by omega⟩ := Fin.ext (by show b.val = (b.val * 8192 + s.val) / 8192; omega)
    have h1 : s = ⟨(b.val * 8192 + s.val) % 8192, by omega⟩ := Fin.ext (by show s.val = (b.val * 8192 + s.val) % 8192; omega)
    exact congrArg₂ (fun b s => ix3 b s k) h0 h1
  rw [hr] at e
  refine Eq.trans ?_ e
  unfold val_main_v28 val_main_v17
  generalize val_main_v15 (F := Ideal) x g w = Y
  pointwise

theorem skv_at (b : Fin 2) (l : Fin 256) (s : Fin 8192) : (val_main_v29 (F := Ideal) x g w (ix3 b l s) : EReal) = entry x g w ⟨b.val * 8192 + s.val, by omega⟩ (768 + l.val) := by
  have e := entry_at x g w b s ⟨768 + l.val, by omega⟩
  have hr : (fun k => x (ix3 b s k) : Fin 1024 → EReal) = xrow x ⟨b.val * 8192 + s.val, by omega⟩ := by
    funext k
    refine congrArg x ?_
    have h0 : b = ⟨(b.val * 8192 + s.val) / 8192, by omega⟩ := Fin.ext (by show b.val = (b.val * 8192 + s.val) / 8192; omega)
    have h1 : s = ⟨(b.val * 8192 + s.val) % 8192, by omega⟩ := Fin.ext (by show s.val = (b.val * 8192 + s.val) % 8192; omega)
    exact congrArg₂ (fun b s => ix3 b s k) h0 h1
  rw [hr] at e
  refine Eq.trans ?_ e
  unfold val_main_v29 val_main_v18
  generalize val_main_v15 (F := Ideal) x g w = Y
  pointwise

theorem wkv_at (b : Fin 2) (l : Fin 256) (s : Fin 8192) : (val_main_v30 (F := Ideal) x g w (ix3 b l s) : EReal) = entry x g w ⟨b.val * 8192 + s.val, by omega⟩ (1024 + l.val) := by
  have e := entry_at x g w b s ⟨1024 + l.val, by omega⟩
  have hr : (fun k => x (ix3 b s k) : Fin 1024 → EReal) = xrow x ⟨b.val * 8192 + s.val, by omega⟩ := by
    funext k
    refine congrArg x ?_
    have h0 : b = ⟨(b.val * 8192 + s.val) / 8192, by omega⟩ := Fin.ext (by show b.val = (b.val * 8192 + s.val) / 8192; omega)
    have h1 : s = ⟨(b.val * 8192 + s.val) % 8192, by omega⟩ := Fin.ext (by show s.val = (b.val * 8192 + s.val) % 8192; omega)
    exact congrArg₂ (fun b s => ix3 b s k) h0 h1
  rw [hr] at e
  refine Eq.trans ?_ e
  unfold val_main_v30 val_main_v19
  generalize val_main_v15 (F := Ideal) x g w = Y
  pointwise

theorem gates_at (r : Fin 16384) (j : Fin 256) : (val_main_v41 (F := Ideal) x g w (ix2 r j) : EReal) = Ideal.logistic (entry x g w r (gateColumn j.val)) := by
  have hb : j.val % 128 < 12 → 1280 + (j.val / 128 * 12 + j.val % 128) < 2840 := fun h => by omega
  have key : (if h : j.val % 128 < 12 then (val_main_v15 (F := Ideal) x g w (ix3 ⟨r.val / 8192, by omega⟩ ⟨r.val % 8192, by omega⟩ ⟨1280 + (j.val / 128 * 12 + j.val % 128), hb h⟩) : EReal) else 0)
      = entry x g w r (gateColumn j.val) := by
    split_ifs with h
    · rw [entry_row x g w r _ (hb h)]
      exact congrArg (entry x g w r) (by unfold gateColumn; split_ifs <;> omega)
    · have hz : gateColumn j.val = 2840 := by unfold gateColumn; split_ifs <;> omega
      rw [hz]
      exact (proj_zeros _ _ _).symm
  rw [← key]
  unfold val_main_v41 val_main_v40 val_main_v38 val_main_v36 val_main_v35 val_main_v34 val_main_v32 val_main_v31 val_main_v20
  generalize val_main_v15 (F := Ideal) x g w = Y
  pointwise [val_main_v39, val_main_cst_5, val_main_v37, val_main_cst_4, val_main_v33, val_main_cst_3, Ideal.logistic]

end Cert.ProjectRef
-- ==== Proof.ProjectEqual.lean ====
/- The projection's eight arrays end at the reference's eight results. -/
module

public import proofs.«01_k».proof.Defs
public import proofs.«01_k».proof.Proof.ProjectRef
public import proofs.«01_k».proof.Proof.Gen.ProjectReferenceIdeal.Run

@[expose] public section

set_option maxRecDepth 16384

noncomputable section

namespace Cert.ProjectEqual

open Cert.ProjectIdeal Cert.ProjectIdeal.Gen
open Cert.Proj
open Idealize.ShloMosaic Idealize.ShloMosaic.TcCoe

variable (m : (ℓ : Loc nD τ sig) → Buf (Elt Ideal) ℓ) (c : Dev nD)

/-- The reference's result, of the kernel's arguments. -/
def ref3 : S16384x512.Idx → EReal := Cert.ProjectReferenceIdeal.Read.val_main_v27 (F := Ideal) (m ((c.tc : Thread nD τ).loc main_arg0)) (m ((c.tc : Thread nD τ).loc main_arg1)) (m ((c.tc : Thread nD τ).loc main_arg2))

theorem result3 : ((dats m 0 c).arrAt 3 cfg0.N : S16384x512.Idx → EReal) = ref3 m c := by
  funext i
  obtain ⟨r, j, rfl⟩ : ∃ (r : Fin 16384) (j : Fin 512), i = ix2 r j :=
    ⟨i 0, i 1, funext fun a => match a with | ⟨0, _⟩ => rfl | ⟨1, _⟩ => rfl⟩
  exact (ProjectFinal.final3 m c (ix2 r j)).trans (ProjectRef.q_at _ _ _ r j).symm

/-- The reference's result, of the kernel's arguments. -/
def ref5 : S2x256x8192.Idx → EReal := Cert.ProjectReferenceIdeal.Read.val_main_v28 (F := Ideal) (m ((c.tc : Thread nD τ).loc main_arg0)) (m ((c.tc : Thread nD τ).loc main_arg1)) (m ((c.tc : Thread nD τ).loc main_arg2))

theorem result5 : ((dats m 0 c).arrAt 5 cfg0.N : S2x256x8192.Idx → EReal) = ref5 m c := by
  funext i
  obtain ⟨b, l, s, rfl⟩ : ∃ (b : Fin 2) (l : Fin 256) (s : Fin 8192), i = ix3 b l s :=
    ⟨i 0, i 1, i 2, funext fun a => match a with | ⟨0, _⟩ => rfl | ⟨1, _⟩ => rfl | ⟨2, _⟩ => rfl⟩
  exact (ProjectFinal.final5 m c b l s).trans (ProjectRef.ckv_at _ _ _ b l s).symm

/-- The reference's result, of the kernel's arguments. -/
def ref6 : S2x256x8192.Idx → EReal := Cert.ProjectReferenceIdeal.Read.val_main_v29 (F := Ideal) (m ((c.tc : Thread nD τ).loc main_arg0)) (m ((c.tc : Thread nD τ).loc main_arg1)) (m ((c.tc : Thread nD τ).loc main_arg2))

theorem result6 : ((dats m 0 c).arrAt 6 cfg0.N : S2x256x8192.Idx → EReal) = ref6 m c := by
  funext i
  obtain ⟨b, l, s, rfl⟩ : ∃ (b : Fin 2) (l : Fin 256) (s : Fin 8192), i = ix3 b l s :=
    ⟨i 0, i 1, i 2, funext fun a => match a with | ⟨0, _⟩ => rfl | ⟨1, _⟩ => rfl | ⟨2, _⟩ => rfl⟩
  exact (ProjectFinal.final6 m c b l s).trans (ProjectRef.skv_at _ _ _ b l s).symm

/-- The reference's result, of the kernel's arguments. -/
def ref7 : S2x256x8192.Idx → EReal := Cert.ProjectReferenceIdeal.Read.val_main_v30 (F := Ideal) (m ((c.tc : Thread nD τ).loc main_arg0)) (m ((c.tc : Thread nD τ).loc main_arg1)) (m ((c.tc : Thread nD τ).loc main_arg2))

theorem result7 : ((dats m 0 c).arrAt 7 cfg0.N : S2x256x8192.Idx → EReal) = ref7 m c := by
  funext i
  obtain ⟨b, l, s, rfl⟩ : ∃ (b : Fin 2) (l : Fin 256) (s : Fin 8192), i = ix3 b l s :=
    ⟨i 0, i 1, i 2, funext fun a => match a with | ⟨0, _⟩ => rfl | ⟨1, _⟩ => rfl | ⟨2, _⟩ => rfl⟩
  exact (ProjectFinal.final7 m c b l s).trans (ProjectRef.wkv_at _ _ _ b l s).symm

/-- The reference's result, of the kernel's arguments. -/
def ref12 : S16384x256.Idx → EReal := Cert.ProjectReferenceIdeal.Read.val_main_v41 (F := Ideal) (m ((c.tc : Thread nD τ).loc main_arg0)) (m ((c.tc : Thread nD τ).loc main_arg1)) (m ((c.tc : Thread nD τ).loc main_arg2))

theorem result12 : ((dats m 0 c).arrAt 12 cfg0.N : S16384x256.Idx → EReal) = ref12 m c := by
  funext i
  obtain ⟨r, j, rfl⟩ : ∃ (r : Fin 16384) (j : Fin 256), i = ix2 r j :=
    ⟨i 0, i 1, funext fun a => match a with | ⟨0, _⟩ => rfl | ⟨1, _⟩ => rfl⟩
  exact (ProjectFinal.final12 m c (ix2 r j)).trans (ProjectRef.gates_at _ _ _ r j).symm

/-- The reference's result, of the kernel's arguments. -/
def ref13 : S16384x512.Idx → EReal := Cert.ProjectReferenceIdeal.Read.val_main_v43 (F := Ideal) (m ((c.tc : Thread nD τ).loc main_arg0)) (m ((c.tc : Thread nD τ).loc main_arg1)) (m ((c.tc : Thread nD τ).loc main_arg2))

theorem result13 : ((dats m 0 c).arrAt 13 cfg0.N : S16384x512.Idx → EReal) = ref13 m c := by
  funext i
  obtain ⟨r, j, rfl⟩ : ∃ (r : Fin 16384) (j : Fin 512), i = ix2 r j :=
    ⟨i 0, i 1, funext fun a => match a with | ⟨0, _⟩ => rfl | ⟨1, _⟩ => rfl⟩
  exact (ProjectFinal.final13 m c (ix2 r j)).trans (ProjectRef.za_at _ _ _ r j).symm

/-- The reference's result, of the kernel's arguments. -/
def ref14 : S16384x512.Idx → EReal := Cert.ProjectReferenceIdeal.Read.val_main_v44 (F := Ideal) (m ((c.tc : Thread nD τ).loc main_arg0)) (m ((c.tc : Thread nD τ).loc main_arg1)) (m ((c.tc : Thread nD τ).loc main_arg2))

theorem result14 : ((dats m 0 c).arrAt 14 cfg0.N : S16384x512.Idx → EReal) = ref14 m c := by
  funext i
  obtain ⟨r, j, rfl⟩ : ∃ (r : Fin 16384) (j : Fin 512), i = ix2 r j :=
    ⟨i 0, i 1, funext fun a => match a with | ⟨0, _⟩ => rfl | ⟨1, _⟩ => rfl⟩
  exact (ProjectFinal.final14 m c (ix2 r j)).trans (ProjectRef.u_at _ _ _ r j).symm

/-- The reference's result, of the kernel's arguments. -/
def ref15 : S16384x512.Idx → EReal := Cert.ProjectReferenceIdeal.Read.val_main_v46 (F := Ideal) (m ((c.tc : Thread nD τ).loc main_arg0)) (m ((c.tc : Thread nD τ).loc main_arg1)) (m ((c.tc : Thread nD τ).loc main_arg2))

theorem result15 : ((dats m 0 c).arrAt 15 cfg0.N : S16384x512.Idx → EReal) = ref15 m c := by
  funext i
  obtain ⟨r, j, rfl⟩ : ∃ (r : Fin 16384) (j : Fin 512), i = ix2 r j :=
    ⟨i 0, i 1, funext fun a => match a with | ⟨0, _⟩ => rfl | ⟨1, _⟩ => rfl⟩
  exact (ProjectFinal.final15 m c (ix2 r j)).trans (ProjectRef.zp_at _ _ _ r j).symm

/-- The two programs end with the same eight results. -/
theorem algebraic : Cert.algebraic_ProjectIdeal_ProjectReferenceIdeal := by
  intro m g m' g' _ hag
  refine ⟨fun c => ref3 m c, fun c => ref5 m c, fun c => ref6 m c, fun c => ref7 m c, fun c => ref12 m c, fun c => ref13 m c, fun c => ref14 m c, fun c => ref15 m c, ?_, ?_⟩
  · refine (θ_run _ _ _).mono ?_ (θ_run_and (run_main m g) (unchanged m g))
    rintro r ⟨hr, hu⟩ c
    exact ⟨(Pipeline.FramePost.out_eq hr c 3).trans (result3 m c), (Pipeline.FramePost.out_eq hr c 5).trans (result5 m c), (Pipeline.FramePost.out_eq hr c 6).trans (result6 m c), (Pipeline.FramePost.out_eq hr c 7).trans (result7 m c), (Pipeline.FramePost.out_eq hr c 12).trans (result12 m c), (Pipeline.FramePost.out_eq hr c 13).trans (result13 m c), (Pipeline.FramePost.out_eq hr c 14).trans (result14 m c), (Pipeline.FramePost.out_eq hr c 15).trans (result15 m c), hu c⟩
  · refine (θ_run _ _ _).mono ?_ (Cert.ProjectReferenceIdeal.Value.run m' g')
    intro r h c
    obtain ⟨h3, h5, h6, h7, h12, h13, h14, h15, hargs⟩ := h c
    obtain ⟨a0, a1, a2⟩ := hag c
    rw [Cert.ProjectReferenceIdeal.Read.val_main_v27_eq, a0, a1, a2] at h3
    rw [Cert.ProjectReferenceIdeal.Read.val_main_v28_eq, a0, a1, a2] at h5
    rw [Cert.ProjectReferenceIdeal.Read.val_main_v29_eq, a0, a1, a2] at h6
    rw [Cert.ProjectReferenceIdeal.Read.val_main_v30_eq, a0, a1, a2] at h7
    rw [Cert.ProjectReferenceIdeal.Read.val_main_v41_eq, a0, a1, a2] at h12
    rw [Cert.ProjectReferenceIdeal.Read.val_main_v43_eq, a0, a1, a2] at h13
    rw [Cert.ProjectReferenceIdeal.Read.val_main_v44_eq, a0, a1, a2] at h14
    rw [Cert.ProjectReferenceIdeal.Read.val_main_v46_eq, a0, a1, a2] at h15
    exact ⟨h3, h5, h6, h7, h12, h13, h14, h15, hargs⟩

end Cert.ProjectEqual
-- ==== Proof.ProjectSampleHost.lean ====
/- The projection's host lines: its rows and its weights, as functions of the arguments, read at an index. -/
module

public import proofs.«01_k».proof.Proof.ProjectSpec
public import proofs.«01_k».proof.Proof.Gen.ProjectSampleIdeal.Frame
public import Idealize.ShloMosaic.Lib.Pointwise

@[expose] public section

set_option maxRecDepth 16384

noncomputable section

namespace Cert.ProjectSampleHost

open Cert.ProjectSampleIdeal Cert.ProjectSampleIdeal.Gen
open Cert.Proj
open Idealize.ShloMosaic Idealize.ShloMosaic.TcCoe

/-- The argument's rows. -/
def rows (x : FVec Ideal S128x1x1024 .f32) : FVec Ideal S128x1024 .f32 := shapeCast S128x1024 x shapeCasts_S128x1x1024_S128x1024

/-- The weights without their leading axis. -/
def flat (w : FVec Ideal S1x1024x2840 .f32) : FVec Ideal S1024x2840 .f32 := shapeCast S1024x2840 w shapeCasts_S1x1024x2840_S1024x2840

/-- The weights' columns in the kernel's order. -/
def ordered (w : FVec Ideal S1x1024x2840 .f32) : FVec Ideal S1024x3072 .bf16 :=
  truncf .bf16 (concatenate S1024x3072 1 [⟨S1024x1280, extractStridedSlice S1024x1280 ![0, 0] (flat w) slices_S1024x2840_S1024x1280_0_0⟩, ⟨S1024x1536, extractStridedSlice S1024x1536 ![0, 1304] (flat w) slices_S1024x2840_S1024x1536_0_1304⟩, ⟨S1024x12, extractStridedSlice S1024x12 ![0, 0] (extractStridedSlice S1024x24 ![0, 1280] (flat w) slices_S1024x2840_S1024x24_0_1280) slices_S1024x24_S1024x12_0_0⟩, ⟨S1024x116, broadcastInDim S1024x116 ![] bcast_S_S1024x116 (constant (F := Ideal) S_ .f32 0x00000000#32)⟩, ⟨S1024x12, extractStridedSlice S1024x12 ![0, 12] (extractStridedSlice S1024x24 ![0, 1280] (flat w) slices_S1024x2840_S1024x24_0_1280) slices_S1024x24_S1024x12_0_12⟩, ⟨S1024x116, broadcastInDim S1024x116 ![] bcast_S_S1024x116 (constant (F := Ideal) S_ .f32 0x00000000#32)⟩] concatenates_S1024x1280_S1024x1536_S1024x12_S1024x116_S1024x12_S1024x116_S1024x3072_d1) bitsLt_bf16_f32

theorem V_rows (m : (ℓ : Loc nD τ sig) → Buf (Elt Ideal) ℓ) (c : Dev nD) : V m c main_v9 = rows (m ((c : Thread nD τ).loc main_arg0)) := by
  show StableHlo.after hostOps0 _ (Proc.devRef .tc main_v9) = _
  after_results
  rfl

theorem V_ordered (m : (ℓ : Loc nD τ sig) → Buf (Elt Ideal) ℓ) (c : Dev nD) : V m c main_v8 = ordered (m ((c : Thread nD τ).loc main_arg2)) := by
  show StableHlo.after hostOps0 _ (Proc.devRef .tc main_v8) = _
  after_results
  rfl

theorem rows_at (x : FVec Ideal S128x1x1024 .f32) (r : Fin 128) (k : Fin 1024) : (rows x (ix2 r k) : EReal) = x (ix3 r 0 k) := by
  pointwise [rows]

theorem ordered_at (w : FVec Ideal S1x1024x2840 .f32) (k : Fin 1024) (j : Fin 3072) :
    (ordered w (ix2 k j) : EReal) = column (fun k j => w (ix3 0 k j)) (source j.val) k := by
  have e : (ordered w (ix2 k j) : EReal) = (if h : j.val < 1280 then w (ix3 0 k ⟨j.val, by omega⟩)
      else if h : j.val - 1280 < 1536 then w (ix3 0 k ⟨1304 + (j.val - 1280), by omega⟩)
      else if h : j.val - 1280 - 1536 < 12 then w (ix3 0 k ⟨1280 + (j.val - 1280 - 1536), by omega⟩)
      else if h : j.val - 1280 - 1536 - 12 < 116 then 0
      else if h : j.val - 1280 - 1536 - 12 - 116 < 12 then w (ix3 0 k ⟨1280 + (12 + (j.val - 1280 - 1536 - 12 - 116)), by omega⟩)
      else 0) := by
    pointwise [ordered, flat]
  rw [e]
  split_ifs
  · exact column_of (fun k j => w (ix3 0 k j)) k _ (by unfold source; split_ifs; omega)
  · exact column_of (fun k j => w (ix3 0 k j)) k _ (by unfold source; split_ifs <;> omega)
  · exact column_of (fun k j => w (ix3 0 k j)) k _ (by unfold source; split_ifs <;> omega)
  · exact column_past (fun k j => w (ix3 0 k j)) k (by unfold source; split_ifs <;> omega)
  · exact column_of (fun k j => w (ix3 0 k j)) k _ (by unfold source; split_ifs <;> omega)
  · exact column_past (fun k j => w (ix3 0 k j)) k (by unfold source; split_ifs <;> omega)

end Cert.ProjectSampleHost
-- ==== Proof.ProjectSampleBlock.lean ====
/- One grid point of the projection, read at an index. -/
module

public import proofs.«01_k».proof.Proof.Rows
public import proofs.«01_k».proof.Proof.ProjectSpec
public import proofs.«01_k».proof.Proof.Gen.ProjectSampleIdeal.Frame
public import Idealize.ShloMosaic.Lib.Pointwise

@[expose] public section

set_option maxRecDepth 16384

noncomputable section

namespace Cert.ProjectSampleBlock

open Cert.ProjectSampleIdeal Cert.ProjectSampleIdeal.Gen
open Cert.Proj
open Idealize.ShloMosaic Idealize.ShloMosaic.TcCoe

variable (i : grid0.Coords) (x : FVec Ideal S128x1024 .f32) (g : FVec Ideal S1x1024 .f32) (w : FVec Ideal S1024x3072 .bf16) (a : FVec Ideal S128x1024 .bf16)

/-- A row of the block, the gain, and a column of the weights. -/
abbrev row (r : Fin 128) : Fin 1024 → EReal := fun k => x (ix2 r k)
abbrev gain : Fin 1024 → EReal := fun k => g (ix2 0 k)
abbrev col (j : ℕ) (hj : j < 3072) : Fin 1024 → EReal := fun k => w (ix2 k ⟨j, hj⟩)

theorem normed_apply (r : Fin 128) (d : Fin 1024) : (k0_pay4 (F := Ideal) x g (ix2 r d) : EReal) = normed (row x r) (gain g) d := by
  pointwise [k0_pay4, normed, meanSq]

/-- The weights' columns from 0. -/
theorem q_cols (d : Fin 1024) (j : Fin 512) :
    View.ld (Val := Elt Ideal) (e' := .bf16) (S := S1024x3072) w (Rect.unit (s := S1024x3072) ![0, 0] S1024x512.size inb_S1024x3072_S1024x512_0_0) (ix2 d j)
      = w (ix2 d ⟨0 + j.val, by omega⟩) := by
  refine congrArg w (funext fun e => Fin.ext ?_)
  refine (Cert.Cmp.unit_val inb_S1024x3072_S1024x512_0_0 _ e).trans ?_
  match e with
  | ⟨0, _⟩ => show 0 + d.val = d.val; omega
  | ⟨1, _⟩ => show 0 + j.val = 0 + j.val; rfl

/-- The weights' columns from 512. -/
theorem kv_cols (d : Fin 1024) (j : Fin 768) :
    View.ld (Val := Elt Ideal) (e' := .bf16) (S := S1024x3072) w (Rect.unit (s := S1024x3072) ![0, 512] S1024x768.size inb_S1024x3072_S1024x768_0_512) (ix2 d j)
      = w (ix2 d ⟨512 + j.val, by omega⟩) := by
  refine congrArg w (funext fun e => Fin.ext ?_)
  refine (Cert.Cmp.unit_val inb_S1024x3072_S1024x768_0_512 _ e).trans ?_
  match e with
  | ⟨0, _⟩ => show 0 + d.val = d.val; omega
  | ⟨1, _⟩ => show 512 + j.val = 512 + j.val; rfl

/-- The weights' columns from 1280. -/
theorem za_cols (d : Fin 1024) (j : Fin 512) :
    View.ld (Val := Elt Ideal) (e' := .bf16) (S := S1024x3072) w (Rect.unit (s := S1024x3072) ![0, 1280] S1024x512.size inb_S1024x3072_S1024x512_0_1280) (ix2 d j)
      = w (ix2 d ⟨1280 + j.val, by omega⟩) := by
  refine congrArg w (funext fun e => Fin.ext ?_)
  refine (Cert.Cmp.unit_val inb_S1024x3072_S1024x512_0_1280 _ e).trans ?_
  match e with
  | ⟨0, _⟩ => show 0 + d.val = d.val; omega
  | ⟨1, _⟩ => show 1280 + j.val = 1280 + j.val; rfl

/-- The weights' columns from 1792. -/
theorem u_cols (d : Fin 1024) (j : Fin 512) :
    View.ld (Val := Elt Ideal) (e' := .bf16) (S := S1024x3072) w (Rect.unit (s := S1024x3072) ![0, 1792] S1024x512.size inb_S1024x3072_S1024x512_0_1792) (ix2 d j)
      = w (ix2 d ⟨1792 + j.val, by omega⟩) := by
  refine congrArg w (funext fun e => Fin.ext ?_)
  refine (Cert.Cmp.unit_val inb_S1024x3072_S1024x512_0_1792 _ e).trans ?_
  match e with
  | ⟨0, _⟩ => show 0 + d.val = d.val; omega
  | ⟨1, _⟩ => show 1792 + j.val = 1792 + j.val; rfl

/-- The weights' columns from 2304. -/
theorem zp_cols (d : Fin 1024) (j : Fin 512) :
    View.ld (Val := Elt Ideal) (e' := .bf16) (S := S1024x3072) w (Rect.unit (s := S1024x3072) ![0, 2304] S1024x512.size inb_S1024x3072_S1024x512_0_2304) (ix2 d j)
      = w (ix2 d ⟨2304 + j.val, by omega⟩) := by
  refine congrArg w (funext fun e => Fin.ext ?_)
  refine (Cert.Cmp.unit_val inb_S1024x3072_S1024x512_0_2304 _ e).trans ?_
  match e with
  | ⟨0, _⟩ => show 0 + d.val = d.val; omega
  | ⟨1, _⟩ => show 2304 + j.val = 2304 + j.val; rfl

/-- The weights' columns from 2816. -/
theorem gl_cols (d : Fin 1024) (j : Fin 256) :
    View.ld (Val := Elt Ideal) (e' := .bf16) (S := S1024x3072) w (Rect.unit (s := S1024x3072) ![0, 2816] S1024x256.size inb_S1024x3072_S1024x256_0_2816) (ix2 d j)
      = w (ix2 d ⟨2816 + j.val, by omega⟩) := by
  refine congrArg w (funext fun e => Fin.ext ?_)
  refine (Cert.Cmp.unit_val inb_S1024x3072_S1024x256_0_2816 _ e).trans ?_
  match e with
  | ⟨0, _⟩ => show 0 + d.val = d.val; omega
  | ⟨1, _⟩ => show 2816 + j.val = 2816 + j.val; rfl

theorem product512 (b : FVec Ideal S1024x512 .bf16) (r : Fin 128) (j : Fin 512) :
    matmul dot_S128x1024_S1024x512_S128x512_1_0_0_1_n_n none a (shapeCast S1024x512 b shapeCasts_S1024x512_S1024x512) (constant S128x512 .f32 0x00000000#32) (ix2 r j)
      = (∑ d : Fin 1024, a (ix2 r d) * b (ix2 d j) : EReal) := by
  pointwise

theorem product768 (b : FVec Ideal S1024x768 .bf16) (r : Fin 128) (j : Fin 768) :
    matmul dot_S128x1024_S1024x768_S128x768_1_0_0_1_n_n none a (shapeCast S1024x768 b shapeCasts_S1024x768_S1024x768) (constant S128x768 .f32 0x00000000#32) (ix2 r j)
      = (∑ d : Fin 1024, a (ix2 r d) * b (ix2 d j) : EReal) := by
  pointwise

theorem product256 (b : FVec Ideal S1024x256 .bf16) (r : Fin 128) (j : Fin 256) :
    matmul dot_S128x1024_S1024x256_S128x256_1_0_0_1_n_n none a (shapeCast S1024x256 b shapeCasts_S1024x256_S1024x256) (constant S128x256 .f32 0x00000000#32) (ix2 r j)
      = (∑ d : Fin 1024, a (ix2 r d) * b (ix2 d j) : EReal) := by
  pointwise

theorem whole_x : View.ld (Val := Elt Ideal) (e' := .f32) (S := S128x1024) x r0_0 = x :=
  View.ld_unit_zero (funext fun a => by revert a; decide) _ _

theorem whole_g : View.ld (Val := Elt Ideal) (e' := .f32) (S := S1x1024) g r0_1 = g :=
  View.ld_unit_zero (funext fun a => by revert a; decide) _ _

theorem k0_pay1_apply (b : FVec Ideal S1024x512 .bf16) (r : Fin 128) (j : Fin 512) :
    (k0_pay1 (F := Ideal) a b (ix2 r j) : EReal) = ∑ d : Fin 1024, a (ix2 r d) * b (ix2 d j) := by
  pointwise [k0_pay1, silu]

theorem k0_pay2_apply (b : FVec Ideal S1024x512 .bf16) (r : Fin 128) (j : Fin 512) :
    (k0_pay2 (F := Ideal) a b (ix2 r j) : EReal) = silu (∑ d : Fin 1024, a (ix2 r d) * b (ix2 d j)) := by
  pointwise [k0_pay2, silu]

theorem k0_pay31_apply (b : FVec Ideal S1024x512 .bf16) (r : Fin 128) (j : Fin 512) :
    (k0_pay31 (F := Ideal) a b (ix2 r j) : EReal) = silu (∑ d : Fin 1024, a (ix2 r d) * b (ix2 d j)) := by
  pointwise [k0_pay31, silu]

theorem k0_pay3_apply (b : FVec Ideal S1024x256 .bf16) (r : Fin 128) (j : Fin 256) :
    (k0_pay3 (F := Ideal) a b (ix2 r j) : EReal) = Ideal.logistic (∑ d : Fin 1024, a (ix2 r d) * b (ix2 d j)) := by
  pointwise [k0_pay3, silu]

theorem out13_apply (r : Fin 128) (j : Fin 512) : (out0_13 (F := Ideal) i x g w (ix2 r j) : EReal) = silu (proj (row x r) (gain g) (col w (1280 + j.val) (by omega))) := by
  have e : out0_13 (F := Ideal) i x g w = k0_pay31 (k0_pay4 (View.ld (Val := Elt Ideal) (e' := .f32) (S := S128x1024) x r0_0) (View.ld (Val := Elt Ideal) (e' := .f32) (S := S1x1024) g r0_1)) (View.ld (Val := Elt Ideal) (e' := .bf16) (S := S1024x3072) w r0_14) :=
    View.canon_unit_zero (funext fun a => by revert a; decide) _ _
  rw [e, k0_pay31_apply, whole_x, whole_g]
  exact congrArg silu (Finset.sum_congr rfl fun d _ => congrArg₂ (· * ·) (normed_apply x g r d) (za_cols w d j))

theorem out14_apply (r : Fin 128) (j : Fin 512) : (out0_14 (F := Ideal) i x g w (ix2 r j) : EReal) = proj (row x r) (gain g) (col w (1792 + j.val) (by omega)) := by
  have e : out0_14 (F := Ideal) i x g w = k0_pay1 (k0_pay4 (View.ld (Val := Elt Ideal) (e' := .f32) (S := S128x1024) x r0_0) (View.ld (Val := Elt Ideal) (e' := .f32) (S := S1x1024) g r0_1)) (View.ld (Val := Elt Ideal) (e' := .bf16) (S := S1024x3072) w r0_15) :=
    View.canon_unit_zero (funext fun a => by revert a; decide) _ _
  rw [e, k0_pay1_apply, whole_x, whole_g]
  exact congrArg (fun z : EReal => z) (Finset.sum_congr rfl fun d _ => congrArg₂ (· * ·) (normed_apply x g r d) (u_cols w d j))

theorem out15_apply (r : Fin 128) (j : Fin 512) : (out0_15 (F := Ideal) i x g w (ix2 r j) : EReal) = silu (proj (row x r) (gain g) (col w (2304 + j.val) (by omega))) := by
  have e : out0_15 (F := Ideal) i x g w = k0_pay2 (k0_pay4 (View.ld (Val := Elt Ideal) (e' := .f32) (S := S128x1024) x r0_0) (View.ld (Val := Elt Ideal) (e' := .f32) (S := S1x1024) g r0_1)) (View.ld (Val := Elt Ideal) (e' := .bf16) (S := S1024x3072) w r0_16) :=
    View.canon_unit_zero (funext fun a => by revert a; decide) _ _
  rw [e, k0_pay2_apply, whole_x, whole_g]
  exact congrArg silu (Finset.sum_congr rfl fun d _ => congrArg₂ (· * ·) (normed_apply x g r d) (zp_cols w d j))

theorem out12_apply (r : Fin 128) (j : Fin 256) : (out0_12 (F := Ideal) i x g w (ix2 r j) : EReal) = Ideal.logistic (proj (row x r) (gain g) (col w (2816 + j.val) (by omega))) := by
  have e : out0_12 (F := Ideal) i x g w = k0_pay3 (k0_pay4 (View.ld (Val := Elt Ideal) (e' := .f32) (S := S128x1024) x r0_0) (View.ld (Val := Elt Ideal) (e' := .f32) (S := S1x1024) g r0_1)) (View.ld (Val := Elt Ideal) (e' := .bf16) (S := S1024x3072) w r0_17) :=
    View.canon_unit_zero (funext fun a => by revert a; decide) _ _
  rw [e, k0_pay3_apply, whole_x, whole_g]
  exact congrArg Ideal.logistic (Finset.sum_congr rfl fun d _ => congrArg₂ (· * ·) (normed_apply x g r d) (gl_cols w d j))

theorem out3_apply (r : Fin 128) (j : Fin 512) : (out0_3 (F := Ideal) i x g w (ix2 r j) : EReal) = query (proj (row x r) (gain g) (col w (0 + j.val) (by omega))) := by
  have e : out0_3 (F := Ideal) i x g w = k0_pay5 (View.ld (Val := Elt Ideal) (e' := .f32) (S := S128x1024) x r0_0) (View.ld (Val := Elt Ideal) (e' := .f32) (S := S1x1024) g r0_1)
      (View.ld (Val := Elt Ideal) (e' := .bf16) (S := S1024x3072) w r0_2) :=
    View.canon_unit_zero (funext fun a => by revert a; decide) _ _
  rw [e, whole_x, whole_g]
  have h (b : FVec Ideal S1024x512 .bf16) : (k0_pay5 (F := Ideal) x g b (ix2 r j) : EReal) = query (∑ d : Fin 1024, (k0_pay4 (F := Ideal) x g (ix2 r d) : EReal) * b (ix2 d j)) := by
    unfold k0_pay5
    generalize k0_pay4 (F := Ideal) x g = a
    pointwise [query]
  rw [h]
  exact congrArg query (Finset.sum_congr rfl fun d _ => congrArg₂ (· * ·) (normed_apply x g r d) (q_cols w d j))

theorem kv_apply (r : Fin 128) (j : Fin 768) : (k0_pay33 (F := Ideal) i x g w (ix2 r j) : EReal) = proj (row x r) (gain g) (col w (512 + j.val) (by omega)) := by
  unfold k0_pay33
  rw [whole_x, whole_g]
  have h (b : FVec Ideal S1024x768 .bf16) : (k0_pay6 (F := Ideal) x g b (ix2 r j) : EReal) = ∑ d : Fin 1024, (k0_pay4 (F := Ideal) x g (ix2 r d) : EReal) * b (ix2 d j) := by
    unfold k0_pay6
    generalize k0_pay4 (F := Ideal) x g = a
    pointwise
  rw [h]
  exact Finset.sum_congr rfl fun d _ => congrArg₂ (· * ·) (normed_apply x g r d) (kv_cols w d j)

theorem out5_apply (z : Fin 1) (l : Fin 256) (r : Fin 128) : (out0_5 (F := Ideal) i x g w (ix3 z l r) : EReal) = proj (row x r) (gain g) (col w (512 + l.val) (by omega)) := by
  have e : out0_5 (F := Ideal) i x g w = k0_pay10 (F := Ideal) (k0_pay33 (F := Ideal) i x g w) :=
    View.canon_unit_zero (funext fun a => by revert a; decide) _ _
  have h (b : FVec Ideal S128x768 .f32) : (k0_pay10 (F := Ideal) b (ix3 z l r) : EReal) = b (ix2 r ⟨0 + l.val, by omega⟩) := by
    pointwise [k0_pay10, k0_pay9]
  rw [e, h, kv_apply]
  have hc : col w (512 + (0 + l.val)) (by omega) = col w (512 + l.val) (by omega) := by
    funext k
    exact congrArg (fun n => w (ix2 k n)) (Fin.ext (by show 512 + (0 + l.val) = 512 + l.val; omega))
  rw [hc]

theorem out6_apply (z : Fin 1) (l : Fin 256) (r : Fin 128) : (out0_6 (F := Ideal) i x g w (ix3 z l r) : EReal) = proj (row x r) (gain g) (col w (768 + l.val) (by omega)) := by
  have e : out0_6 (F := Ideal) i x g w = k0_pay11 (F := Ideal) (k0_pay33 (F := Ideal) i x g w) :=
    View.canon_unit_zero (funext fun a => by revert a; decide) _ _
  have h (b : FVec Ideal S128x768 .f32) : (k0_pay11 (F := Ideal) b (ix3 z l r) : EReal) = b (ix2 r ⟨256 + l.val, by omega⟩) := by
    pointwise [k0_pay11, k0_pay9]
  rw [e, h, kv_apply]
  have hc : col w (512 + (256 + l.val)) (by omega) = col w (768 + l.val) (by omega) := by
    funext k
    exact congrArg (fun n => w (ix2 k n)) (Fin.ext (by show 512 + (256 + l.val) = 768 + l.val; omega))
  rw [hc]

theorem out7_apply (z : Fin 1) (l : Fin 256) (r : Fin 128) : (out0_7 (F := Ideal) i x g w (ix3 z l r) : EReal) = proj (row x r) (gain g) (col w (1024 + l.val) (by omega)) := by
  have e : out0_7 (F := Ideal) i x g w = k0_pay12 (F := Ideal) (k0_pay33 (F := Ideal) i x g w) :=
    View.canon_unit_zero (funext fun a => by revert a; decide) _ _
  have h (b : FVec Ideal S128x768 .f32) : (k0_pay12 (F := Ideal) b (ix3 z l r) : EReal) = b (ix2 r ⟨512 + l.val, by omega⟩) := by
    pointwise [k0_pay12, k0_pay9]
  rw [e, h, kv_apply]
  have hc : col w (512 + (512 + l.val)) (by omega) = col w (1024 + l.val) (by omega) := by
    funext k
    exact congrArg (fun n => w (ix2 k n)) (Fin.ext (by show 512 + (512 + l.val) = 1024 + l.val; omega))
  rw [hc]

end Cert.ProjectSampleBlock
-- ==== Proof.ProjectSampleFinal.lean ====
/- The projection's output arrays, when its grid is done, as functions of the arguments. -/
module

public import proofs.«01_k».proof.Proof.ProjectSampleHost
public import proofs.«01_k».proof.Proof.ProjectSampleBlock
public import Idealize.ShloMosaic.Lib.Pipeline.ValueKit.Geometry
public import Idealize.ShloMosaic.Lib.Decide

@[expose] public section

set_option maxRecDepth 16384

noncomputable section

namespace Cert.ProjectSampleFinal

open Cert.ProjectSampleIdeal Cert.ProjectSampleIdeal.Gen
open Cert.Proj
open Idealize.ShloMosaic Idealize.ShloMosaic.TcCoe

/-- A row of the argument, the gain, and the weights. -/
def xrow (x : FVec Ideal S128x1x1024 .f32) (r : Fin 128) : Fin 1024 → EReal := fun k => x (ix3 r 0 k)
def gain (g : FVec Ideal S1x1024 .f32) : Fin 1024 → EReal := fun k => g (ix2 0 k)
def weights (w : FVec Ideal S1x1024x2840 .f32) : Fin 1024 → Fin 2840 → EReal := fun k j => w (ix3 0 k j)

/-- One entry of the projection: a row against a column of the weights. -/
def entry (x : FVec Ideal S128x1x1024 .f32) (g : FVec Ideal S1x1024 .f32) (w : FVec Ideal S1x1024x2840 .f32) (r : Fin 128) (j : ℕ) : EReal :=
  proj (xrow x r) (gain g) (column (weights w) j)

variable (m : (ℓ : Loc nD τ sig) → Buf (Elt Ideal) ℓ) (c : Dev nD)

theorem points : cfg0.N = 1 := of_decide_eq_true (by sl_kernel_rfl)

/-- The row of the argument that lies at row `r` of block `t`. -/
def rowOf (t : Fin cfg0.N) (r : Fin 128) : Fin 128 := ⟨t.val * 128 + r.val, by have h : t.val < 1 := lt_of_lt_of_eq t.isLt points; omega⟩

theorem index_x : ∀ t : Fin cfg0.N, ((cfg0.win 0).index t : Fin 2 → ℕ) = ![t.val, 0] := of_decide_eq_true (by sl_kernel_rfl)
theorem index_g : ∀ t : Fin cfg0.N, ((cfg0.win 1).index t : Fin 2 → ℕ) = ![0, 0] := of_decide_eq_true (by sl_kernel_rfl)
theorem index_w : ∀ t : Fin cfg0.N, ((cfg0.win 2).index t : Fin 2 → ℕ) = ![0, 0] := of_decide_eq_true (by sl_kernel_rfl)
theorem index_3 : ∀ t : Fin cfg0.N, ((cfg0.win 3).index t : Fin 2 → ℕ) = ![t.val, 0] := of_decide_eq_true (by sl_kernel_rfl)
theorem covers_3 : (cfg0.win 3).Covers := of_decide_eq_true (by sl_kernel_rfl)
theorem index_13 : ∀ t : Fin cfg0.N, ((cfg0.win 13).index t : Fin 2 → ℕ) = ![t.val, 0] := of_decide_eq_true (by sl_kernel_rfl)
theorem covers_13 : (cfg0.win 13).Covers := of_decide_eq_true (by sl_kernel_rfl)
theorem index_14 : ∀ t : Fin cfg0.N, ((cfg0.win 14).index t : Fin 2 → ℕ) = ![t.val, 0] := of_decide_eq_true (by sl_kernel_rfl)
theorem covers_14 : (cfg0.win 14).Covers := of_decide_eq_true (by sl_kernel_rfl)
theorem index_15 : ∀ t : Fin cfg0.N, ((cfg0.win 15).index t : Fin 2 → ℕ) = ![t.val, 0] := of_decide_eq_true (by sl_kernel_rfl)
theorem covers_15 : (cfg0.win 15).Covers := of_decide_eq_true (by sl_kernel_rfl)
theorem index_12 : ∀ t : Fin cfg0.N, ((cfg0.win 12).index t : Fin 2 → ℕ) = ![t.val, 0] := of_decide_eq_true (by sl_kernel_rfl)
theorem covers_12 : (cfg0.win 12).Covers := of_decide_eq_true (by sl_kernel_rfl)
theorem index_5 : ∀ t : Fin cfg0.N, ((cfg0.win 5).index t : Fin 3 → ℕ) = ![t.val / 1, 0, t.val % 1] := of_decide_eq_true (by sl_kernel_rfl)
theorem covers_5 : (cfg0.win 5).Covers := of_decide_eq_true (by sl_kernel_rfl)
theorem index_6 : ∀ t : Fin cfg0.N, ((cfg0.win 6).index t : Fin 3 → ℕ) = ![t.val / 1, 0, t.val % 1] := of_decide_eq_true (by sl_kernel_rfl)
theorem covers_6 : (cfg0.win 6).Covers := of_decide_eq_true (by sl_kernel_rfl)
theorem index_7 : ∀ t : Fin cfg0.N, ((cfg0.win 7).index t : Fin 3 → ℕ) = ![t.val / 1, 0, t.val % 1] := of_decide_eq_true (by sl_kernel_rfl)
theorem covers_7 : (cfg0.win 7).Covers := of_decide_eq_true (by sl_kernel_rfl)

theorem rows1024 (ix : Fin 2 → ℕ) (inb : ∀ a : Fin 2, ix a * S128x1024.size a + S128x1024.size a ≤ S128x1024.size a) (t : Fin cfg0.N)
    (r : Fin 128) (j : Fin 1024) (e : ix = ![t.val, 0]) :
    (Rect.unit (s := S128x1024) (fun a => ix a * S128x1024.size a) S128x1024.size inb).emb (ix2 r j) = ix2 (rowOf t r) j := by
  subst e
  funext a
  refine Fin.ext ((ValueKit.rect_emb_unit_val _ _ inb (ix2 r j) a).trans ?_)
  match a with
  | ⟨0, _⟩ => show t.val * 128 + r.val = t.val * 128 + r.val; rfl
  | ⟨1, _⟩ => show 0 * 1024 + j.val = j.val; omega

theorem rows512 (ix : Fin 2 → ℕ) (inb : ∀ a : Fin 2, ix a * S128x512.size a + S128x512.size a ≤ S128x512.size a) (t : Fin cfg0.N)
    (r : Fin 128) (j : Fin 512) (e : ix = ![t.val, 0]) :
    (Rect.unit (s := S128x512) (fun a => ix a * S128x512.size a) S128x512.size inb).emb (ix2 r j) = ix2 (rowOf t r) j := by
  subst e
  funext a
  refine Fin.ext ((ValueKit.rect_emb_unit_val _ _ inb (ix2 r j) a).trans ?_)
  match a with
  | ⟨0, _⟩ => show t.val * 128 + r.val = t.val * 128 + r.val; rfl
  | ⟨1, _⟩ => show 0 * 512 + j.val = j.val; omega

theorem rows256 (ix : Fin 2 → ℕ) (inb : ∀ a : Fin 2, ix a * S128x256.size a + S128x256.size a ≤ S128x256.size a) (t : Fin cfg0.N)
    (r : Fin 128) (j : Fin 256) (e : ix = ![t.val, 0]) :
    (Rect.unit (s := S128x256) (fun a => ix a * S128x256.size a) S128x256.size inb).emb (ix2 r j) = ix2 (rowOf t r) j := by
  subst e
  funext a
  refine Fin.ext ((ValueKit.rect_emb_unit_val _ _ inb (ix2 r j) a).trans ?_)
  match a with
  | ⟨0, _⟩ => show t.val * 128 + r.val = t.val * 128 + r.val; rfl
  | ⟨1, _⟩ => show 0 * 256 + j.val = j.val; omega

theorem whole_g (ix : Fin 2 → ℕ) (inb : ∀ a : Fin 2, ix a * S1x1024.size a + S1x1024.size a ≤ S1x1024.size a)
    (r : Fin 1) (j : Fin 1024) (e : ix = ![0, 0]) :
    (Rect.unit (s := S1x1024) (fun a => ix a * S1x1024.size a) S1x1024.size inb).emb (ix2 r j) = ix2 r j := by
  subst e
  funext a
  refine Fin.ext ((ValueKit.rect_emb_unit_val _ _ inb (ix2 r j) a).trans ?_)
  match a with
  | ⟨0, _⟩ => show 0 * 1 + r.val = r.val; omega
  | ⟨1, _⟩ => show 0 * 1024 + j.val = j.val; omega

theorem whole_w (ix : Fin 2 → ℕ) (inb : ∀ a : Fin 2, ix a * S1024x3072.size a + S1024x3072.size a ≤ S1024x3072.size a)
    (r : Fin 1024) (j : Fin 3072) (e : ix = ![0, 0]) :
    (Rect.unit (s := S1024x3072) (fun a => ix a * S1024x3072.size a) S1024x3072.size inb).emb (ix2 r j) = ix2 r j := by
  subst e
  funext a
  refine Fin.ext ((ValueKit.rect_emb_unit_val _ _ inb (ix2 r j) a).trans ?_)
  match a with
  | ⟨0, _⟩ => show 0 * 1024 + r.val = r.val; omega
  | ⟨1, _⟩ => show 0 * 3072 + j.val = j.val; omega

/-- The sequence and the position in it of row `r` of block `t`. -/
def batchOf (t : Fin cfg0.N) : Fin 1 := ⟨t.val / 1, by have h : t.val < 1 := lt_of_lt_of_eq t.isLt points; omega⟩
def posOf (t : Fin cfg0.N) (r : Fin 128) : Fin 128 := ⟨t.val % 1 * 128 + r.val, by omega⟩

theorem lanes (ix : Fin 3 → ℕ) (inb : ∀ a : Fin 3, ix a * S1x256x128.size a + S1x256x128.size a ≤ S1x256x128.size a) (t : Fin cfg0.N)
    (l : Fin 256) (r : Fin 128) (e : ix = ![t.val / 1, 0, t.val % 1]) :
    (Rect.unit (s := S1x256x128) (fun a => ix a * S1x256x128.size a) S1x256x128.size inb).emb (ix3 0 l r) = ix3 (batchOf t) l (posOf t r) := by
  subst e
  funext a
  refine Fin.ext ((ValueKit.rect_emb_unit_val _ _ inb (ix3 0 l r) a).trans ?_)
  match a with
  | ⟨0, _⟩ => show t.val / 1 * 1 + 0 = t.val / 1; omega
  | ⟨1, _⟩ => show 0 * 256 + l.val = l.val; omega
  | ⟨2, _⟩ => show t.val % 1 * 128 + r.val = t.val % 1 * 128 + r.val; rfl

theorem row_eq (t : Fin cfg0.N) (r : Fin 128) : ProjectSampleBlock.row (iblk m c 0 t) r = xrow (m ((c : Thread nD τ).loc main_arg0)) (rowOf t r) :=
  funext fun k => (congrArg (V m c main_v9 : S128x1024.Idx → EReal) (rows1024 _ _ t r k (index_x t))).trans
    ((congrFun (ProjectSampleHost.V_rows m c) _).trans (ProjectSampleHost.rows_at _ _ k))

theorem gain_eq (t : Fin cfg0.N) : ProjectSampleBlock.gain (iblk m c 1 t) = gain (m ((c : Thread nD τ).loc main_arg1)) :=
  funext fun k => (congrArg (V m c main_arg1 : S1x1024.Idx → EReal) (whole_g _ _ 0 k (index_g t))).trans
    (congrFun (V_main_arg1 m c) _)

theorem col_eq (t : Fin cfg0.N) (j : ℕ) (hj : j < 3072) (n : ℕ) (e : source j = n) :
    ProjectSampleBlock.col (iblk m c 2 t) j hj = column (weights (m ((c : Thread nD τ).loc main_arg2))) n :=
  funext fun k => (congrArg (V m c main_v8 : S1024x3072.Idx → EReal) (whole_w _ _ k ⟨j, hj⟩ (index_w t))).trans
    ((congrFun (ProjectSampleHost.V_ordered m c) _).trans ((ProjectSampleHost.ordered_at _ k ⟨j, hj⟩).trans (e ▸ rfl)))

theorem block_entry (t : Fin cfg0.N) (r : Fin 128) (j : ℕ) (hj : j < 3072) (n : ℕ) (e : source j = n) :
    proj (ProjectSampleBlock.row (iblk m c 0 t) r) (ProjectSampleBlock.gain (iblk m c 1 t)) (ProjectSampleBlock.col (iblk m c 2 t) j hj)
      = entry (m ((c : Thread nD τ).loc main_arg0)) (m ((c : Thread nD τ).loc main_arg1)) (m ((c : Thread nD τ).loc main_arg2)) (rowOf t r) n := by
  unfold entry
  rw [row_eq m c t r, gain_eq m c t, col_eq m c t j hj n e]

theorem final3 (i : S128x512.Idx) :
    ((dats m 0 c).arrAt 3 cfg0.N : S128x512.Idx → EReal) i = query (entry (m ((c : Thread nD τ).loc main_arg0)) (m ((c : Thread nD τ).loc main_arg1)) (m ((c : Thread nD τ).loc main_arg2)) (i 0) ((i 1).val)) := by
  refine (dats m 0 c).arrAt_forall_of_covers 3 (fun (i : S128x512.Idx) (v : EReal) => v = query (entry (m ((c : Thread nD τ).loc main_arg0)) (m ((c : Thread nD τ).loc main_arg1)) (m ((c : Thread nD τ).loc main_arg2)) (i 0) ((i 1).val))) covers_3 ?_ i
  intro t _ (y : S128x512.Idx)
  obtain ⟨r, j, rfl⟩ : ∃ (r : Fin 128) (j : Fin 512), y = ix2 r j :=
    ⟨y 0, y 1, funext fun a => match a with | ⟨0, _⟩ => rfl | ⟨1, _⟩ => rfl⟩
  have key : ∀ (i' : S128x512.Idx) (v v' : EReal), i' = ix2 (rowOf t r) j → v = v' →
      v' = query (entry (m ((c : Thread nD τ).loc main_arg0)) (m ((c : Thread nD τ).loc main_arg1)) (m ((c : Thread nD τ).loc main_arg2)) (rowOf t r) (j.val)) → v = query (entry (m ((c : Thread nD τ).loc main_arg0)) (m ((c : Thread nD τ).loc main_arg1)) (m ((c : Thread nD τ).loc main_arg2)) (i' 0) ((i' 1).val)) := by
    rintro i' v v' rfl rfl hv
    exact hv
  refine key _ _ _ (rows512 _ _ t r j (index_3 t)) (congrFun (after0_3 m c t) (ix2 r j)) ?_
  exact (ProjectSampleBlock.out3_apply _ _ _ _ r j).trans (congrArg query (block_entry m c t r _ _ _ (by unfold source; split_ifs <;> omega)))

theorem final13 (i : S128x512.Idx) :
    ((dats m 0 c).arrAt 13 cfg0.N : S128x512.Idx → EReal) i = silu (entry (m ((c : Thread nD τ).loc main_arg0)) (m ((c : Thread nD τ).loc main_arg1)) (m ((c : Thread nD τ).loc main_arg2)) (i 0) (1304 + (i 1).val)) := by
  refine (dats m 0 c).arrAt_forall_of_covers 13 (fun (i : S128x512.Idx) (v : EReal) => v = silu (entry (m ((c : Thread nD τ).loc main_arg0)) (m ((c : Thread nD τ).loc main_arg1)) (m ((c : Thread nD τ).loc main_arg2)) (i 0) (1304 + (i 1).val))) covers_13 ?_ i
  intro t _ (y : S128x512.Idx)
  obtain ⟨r, j, rfl⟩ : ∃ (r : Fin 128) (j : Fin 512), y = ix2 r j :=
    ⟨y 0, y 1, funext fun a => match a with | ⟨0, _⟩ => rfl | ⟨1, _⟩ => rfl⟩
  have key : ∀ (i' : S128x512.Idx) (v v' : EReal), i' = ix2 (rowOf t r) j → v = v' →
      v' = silu (entry (m ((c : Thread nD τ).loc main_arg0)) (m ((c : Thread nD τ).loc main_arg1)) (m ((c : Thread nD τ).loc main_arg2)) (rowOf t r) (1304 + j.val)) → v = silu (entry (m ((c : Thread nD τ).loc main_arg0)) (m ((c : Thread nD τ).loc main_arg1)) (m ((c : Thread nD τ).loc main_arg2)) (i' 0) (1304 + (i' 1).val)) := by
    rintro i' v v' rfl rfl hv
    exact hv
  refine key _ _ _ (rows512 _ _ t r j (index_13 t)) (congrFun (after0_13 m c t) (ix2 r j)) ?_
  exact (ProjectSampleBlock.out13_apply _ _ _ _ r j).trans (congrArg silu (block_entry m c t r _ _ _ (by unfold source; split_ifs <;> omega)))

theorem final14 (i : S128x512.Idx) :
    ((dats m 0 c).arrAt 14 cfg0.N : S128x512.Idx → EReal) i = entry (m ((c : Thread nD τ).loc main_arg0)) (m ((c : Thread nD τ).loc main_arg1)) (m ((c : Thread nD τ).loc main_arg2)) (i 0) (1816 + (i 1).val) := by
  refine (dats m 0 c).arrAt_forall_of_covers 14 (fun (i : S128x512.Idx) (v : EReal) => v = entry (m ((c : Thread nD τ).loc main_arg0)) (m ((c : Thread nD τ).loc main_arg1)) (m ((c : Thread nD τ).loc main_arg2)) (i 0) (1816 + (i 1).val)) covers_14 ?_ i
  intro t _ (y : S128x512.Idx)
  obtain ⟨r, j, rfl⟩ : ∃ (r : Fin 128) (j : Fin 512), y = ix2 r j :=
    ⟨y 0, y 1, funext fun a => match a with | ⟨0, _⟩ => rfl | ⟨1, _⟩ => rfl⟩
  have key : ∀ (i' : S128x512.Idx) (v v' : EReal), i' = ix2 (rowOf t r) j → v = v' →
      v' = entry (m ((c : Thread nD τ).loc main_arg0)) (m ((c : Thread nD τ).loc main_arg1)) (m ((c : Thread nD τ).loc main_arg2)) (rowOf t r) (1816 + j.val) → v = entry (m ((c : Thread nD τ).loc main_arg0)) (m ((c : Thread nD τ).loc main_arg1)) (m ((c : Thread nD τ).loc main_arg2)) (i' 0) (1816 + (i' 1).val) := by
    rintro i' v v' rfl rfl hv
    exact hv
  refine key _ _ _ (rows512 _ _ t r j (index_14 t)) (congrFun (after0_14 m c t) (ix2 r j)) ?_
  exact (ProjectSampleBlock.out14_apply _ _ _ _ r j).trans (congrArg (fun z : EReal => z) (block_entry m c t r _ _ _ (by unfold source; split_ifs <;> omega)))

theorem final15 (i : S128x512.Idx) :
    ((dats m 0 c).arrAt 15 cfg0.N : S128x512.Idx → EReal) i = silu (entry (m ((c : Thread nD τ).loc main_arg0)) (m ((c : Thread nD τ).loc main_arg1)) (m ((c : Thread nD τ).loc main_arg2)) (i 0) (2328 + (i 1).val)) := by
  refine (dats m 0 c).arrAt_forall_of_covers 15 (fun (i : S128x512.Idx) (v : EReal) => v = silu (entry (m ((c : Thread nD τ).loc main_arg0)) (m ((c : Thread nD τ).loc main_arg1)) (m ((c : Thread nD τ).loc main_arg2)) (i 0) (2328 + (i 1).val))) covers_15 ?_ i
  intro t _ (y : S128x512.Idx)
  obtain ⟨r, j, rfl⟩ : ∃ (r : Fin 128) (j : Fin 512), y = ix2 r j :=
    ⟨y 0, y 1, funext fun a => match a with | ⟨0, _⟩ => rfl | ⟨1, _⟩ => rfl⟩
  have key : ∀ (i' : S128x512.Idx) (v v' : EReal), i' = ix2 (rowOf t r) j → v = v' →
      v' = silu (entry (m ((c : Thread nD τ).loc main_arg0)) (m ((c : Thread nD τ).loc main_arg1)) (m ((c : Thread nD τ).loc main_arg2)) (rowOf t r) (2328 + j.val)) → v = silu (entry (m ((c : Thread nD τ).loc main_arg0)) (m ((c : Thread nD τ).loc main_arg1)) (m ((c : Thread nD τ).loc main_arg2)) (i' 0) (2328 + (i' 1).val)) := by
    rintro i' v v' rfl rfl hv
    exact hv
  refine key _ _ _ (rows512 _ _ t r j (index_15 t)) (congrFun (after0_15 m c t) (ix2 r j)) ?_
  exact (ProjectSampleBlock.out15_apply _ _ _ _ r j).trans (congrArg silu (block_entry m c t r _ _ _ (by unfold source; split_ifs <;> omega)))

theorem final12 (i : S128x256.Idx) :
    ((dats m 0 c).arrAt 12 cfg0.N : S128x256.Idx → EReal) i = Ideal.logistic (entry (m ((c : Thread nD τ).loc main_arg0)) (m ((c : Thread nD τ).loc main_arg1)) (m ((c : Thread nD τ).loc main_arg2)) (i 0) (gateColumn (i 1).val)) := by
  refine (dats m 0 c).arrAt_forall_of_covers 12 (fun (i : S128x256.Idx) (v : EReal) => v = Ideal.logistic (entry (m ((c : Thread nD τ).loc main_arg0)) (m ((c : Thread nD τ).loc main_arg1)) (m ((c : Thread nD τ).loc main_arg2)) (i 0) (gateColumn (i 1).val))) covers_12 ?_ i
  intro t _ (y : S128x256.Idx)
  obtain ⟨r, j, rfl⟩ : ∃ (r : Fin 128) (j : Fin 256), y = ix2 r j :=
    ⟨y 0, y 1, funext fun a => match a with | ⟨0, _⟩ => rfl | ⟨1, _⟩ => rfl⟩
  have key : ∀ (i' : S128x256.Idx) (v v' : EReal), i' = ix2 (rowOf t r) j → v = v' →
      v' = Ideal.logistic (entry (m ((c : Thread nD τ).loc main_arg0)) (m ((c : Thread nD τ).loc main_arg1)) (m ((c : Thread nD τ).loc main_arg2)) (rowOf t r) (gateColumn j.val)) → v = Ideal.logistic (entry (m ((c : Thread nD τ).loc main_arg0)) (m ((c : Thread nD τ).loc main_arg1)) (m ((c : Thread nD τ).loc main_arg2)) (i' 0) (gateColumn (i' 1).val)) := by
    rintro i' v v' rfl rfl hv
    exact hv
  refine key _ _ _ (rows256 _ _ t r j (index_12 t)) (congrFun (after0_12 m c t) (ix2 r j)) ?_
  exact (ProjectSampleBlock.out12_apply _ _ _ _ r j).trans (congrArg Ideal.logistic (block_entry m c t r _ _ _ (by unfold source gateColumn; split_ifs <;> omega)))

theorem final5 (b : Fin 1) (l : Fin 256) (s : Fin 128) :
    ((dats m 0 c).arrAt 5 cfg0.N : S1x256x128.Idx → EReal) (ix3 b l s) = entry (m ((c : Thread nD τ).loc main_arg0)) (m ((c : Thread nD τ).loc main_arg1)) (m ((c : Thread nD τ).loc main_arg2)) s (512 + l.val) := by
  have all : ∀ i : S1x256x128.Idx, ∀ (b : Fin 1) (l : Fin 256) (s : Fin 128), i = ix3 b l s →
      ((dats m 0 c).arrAt 5 cfg0.N : S1x256x128.Idx → EReal) i = entry (m ((c : Thread nD τ).loc main_arg0)) (m ((c : Thread nD τ).loc main_arg1)) (m ((c : Thread nD τ).loc main_arg2)) s (512 + l.val) := by
    intro i
    refine (dats m 0 c).arrAt_forall_of_covers 5 (fun (i : S1x256x128.Idx) (v : EReal) => ∀ (b : Fin 1) (l : Fin 256) (s : Fin 128), i = ix3 b l s →
      v = entry (m ((c : Thread nD τ).loc main_arg0)) (m ((c : Thread nD τ).loc main_arg1)) (m ((c : Thread nD τ).loc main_arg2)) s (512 + l.val)) covers_5 ?_ i
    intro t _ (y : S1x256x128.Idx)
    obtain ⟨l, r, rfl⟩ : ∃ (l : Fin 256) (r : Fin 128), y = ix3 0 l r :=
      ⟨y 1, y 2, funext fun a => match a with | ⟨0, _⟩ => Subsingleton.elim (α := Fin 1) _ _ | ⟨1, _⟩ => rfl | ⟨2, _⟩ => rfl⟩
    have key : ∀ (i' : S1x256x128.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (512 + l.val) → ∀ (b : Fin 1) (l : Fin 256) (s : Fin 128), i' = ix3 b l s → v = entry (m ((c : Thread nD τ).loc main_arg0)) (m ((c : Thread nD τ).loc main_arg1)) (m ((c : Thread nD τ).loc main_arg2)) s (512 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (512 + l.val)) (Fin.ext ?_))
      show t.val * 128 + r.val = t.val % 1 * 128 + r.val
      have ht : t.val < 1 := lt_of_lt_of_eq t.isLt points
      omega
    refine key _ _ _ (lanes _ _ t l r (index_5 t)) (congrFun (after0_5 m c t) (ix3 0 l r)) ?_
    exact (ProjectSampleBlock.out5_apply _ _ _ _ 0 l r).trans (block_entry m c t r _ _ _ (by unfold source; split_ifs <;> omega))
  exact all _ b l s rfl

theorem final6 (b : Fin 1) (l : Fin 256) (s : Fin 128) :
    ((dats m 0 c).arrAt 6 cfg0.N : S1x256x128.Idx → EReal) (ix3 b l s) = entry (m ((c : Thread nD τ).loc main_arg0)) (m ((c : Thread nD τ).loc main_arg1)) (m ((c : Thread nD τ).loc main_arg2)) s (768 + l.val) := by
  have all : ∀ i : S1x256x128.Idx, ∀ (b : Fin 1) (l : Fin 256) (s : Fin 128), i = ix3 b l s →
      ((dats m 0 c).arrAt 6 cfg0.N : S1x256x128.Idx → EReal) i = entry (m ((c : Thread nD τ).loc main_arg0)) (m ((c : Thread nD τ).loc main_arg1)) (m ((c : Thread nD τ).loc main_arg2)) s (768 + l.val) := by
    intro i
    refine (dats m 0 c).arrAt_forall_of_covers 6 (fun (i : S1x256x128.Idx) (v : EReal) => ∀ (b : Fin 1) (l : Fin 256) (s : Fin 128), i = ix3 b l s →
      v = entry (m ((c : Thread nD τ).loc main_arg0)) (m ((c : Thread nD τ).loc main_arg1)) (m ((c : Thread nD τ).loc main_arg2)) s (768 + l.val)) covers_6 ?_ i
    intro t _ (y : S1x256x128.Idx)
    obtain ⟨l, r, rfl⟩ : ∃ (l : Fin 256) (r : Fin 128), y = ix3 0 l r :=
      ⟨y 1, y 2, funext fun a => match a with | ⟨0, _⟩ => Subsingleton.elim (α := Fin 1) _ _ | ⟨1, _⟩ => rfl | ⟨2, _⟩ => rfl⟩
    have key : ∀ (i' : S1x256x128.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (768 + l.val) → ∀ (b : Fin 1) (l : Fin 256) (s : Fin 128), i' = ix3 b l s → v = entry (m ((c : Thread nD τ).loc main_arg0)) (m ((c : Thread nD τ).loc main_arg1)) (m ((c : Thread nD τ).loc main_arg2)) s (768 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (768 + l.val)) (Fin.ext ?_))
      show t.val * 128 + r.val = t.val % 1 * 128 + r.val
      have ht : t.val < 1 := lt_of_lt_of_eq t.isLt points
      omega
    refine key _ _ _ (lanes _ _ t l r (index_6 t)) (congrFun (after0_6 m c t) (ix3 0 l r)) ?_
    exact (ProjectSampleBlock.out6_apply _ _ _ _ 0 l r).trans (block_entry m c t r _ _ _ (by unfold source; split_ifs <;> omega))
  exact all _ b l s rfl

theorem final7 (b : Fin 1) (l : Fin 256) (s : Fin 128) :
    ((dats m 0 c).arrAt 7 cfg0.N : S1x256x128.Idx → EReal) (ix3 b l s) = entry (m ((c : Thread nD τ).loc main_arg0)) (m ((c : Thread nD τ).loc main_arg1)) (m ((c : Thread nD τ).loc main_arg2)) s (1024 + l.val) := by
  have all : ∀ i : S1x256x128.Idx, ∀ (b : Fin 1) (l : Fin 256) (s : Fin 128), i = ix3 b l s →
      ((dats m 0 c).arrAt 7 cfg0.N : S1x256x128.Idx → EReal) i = entry (m ((c : Thread nD τ).loc main_arg0)) (m ((c : Thread nD τ).loc main_arg1)) (m ((c : Thread nD τ).loc main_arg2)) s (1024 + l.val) := by
    intro i
    refine (dats m 0 c).arrAt_forall_of_covers 7 (fun (i : S1x256x128.Idx) (v : EReal) => ∀ (b : Fin 1) (l : Fin 256) (s : Fin 128), i = ix3 b l s →
      v = entry (m ((c : Thread nD τ).loc main_arg0)) (m ((c : Thread nD τ).loc main_arg1)) (m ((c : Thread nD τ).loc main_arg2)) s (1024 + l.val)) covers_7 ?_ i
    intro t _ (y : S1x256x128.Idx)
    obtain ⟨l, r, rfl⟩ : ∃ (l : Fin 256) (r : Fin 128), y = ix3 0 l r :=
      ⟨y 1, y 2, funext fun a => match a with | ⟨0, _⟩ => Subsingleton.elim (α := Fin 1) _ _ | ⟨1, _⟩ => rfl | ⟨2, _⟩ => rfl⟩
    have key : ∀ (i' : S1x256x128.Idx) (v v' : EReal), i' = ix3 (batchOf t) l (posOf t r) → v = v' →
        v' = entry (m ((c : Thread nD τ).loc main_arg0)) (m ((c : Thread nD τ).loc main_arg1)) (m ((c : Thread nD τ).loc main_arg2)) (rowOf t r) (1024 + l.val) → ∀ (b : Fin 1) (l : Fin 256) (s : Fin 128), i' = ix3 b l s → v = entry (m ((c : Thread nD τ).loc main_arg0)) (m ((c : Thread nD τ).loc main_arg1)) (m ((c : Thread nD τ).loc main_arg2)) s (1024 + l.val) := by
      rintro i' v v' rfl rfl hv b' l' s' h
      have h0 : batchOf t = b' := congrFun h 0
      have h1 : l = l' := congrFun h 1
      have h2 : posOf t r = s' := congrFun h 2
      subst h0 h1 h2
      refine hv.trans (congrArg (fun R => entry (m ((c : Thread nD τ).loc main_arg0)) (m ((c : Thread nD τ).loc main_arg1)) (m ((c : Thread nD τ).loc main_arg2)) R (1024 + l.val)) (Fin.ext ?_))
      show t.val * 128 + r.val = t.val % 1 * 128 + r.val
      have ht : t.val < 1 := lt_of_lt_of_eq t.isLt points
      omega
    refine key _ _ _ (lanes _ _ t l r (index_7 t)) (congrFun (after0_7 m c t) (ix3 0 l r)) ?_
    exact (ProjectSampleBlock.out7_apply _ _ _ _ 0 l r).trans (block_entry m c t r _ _ _ (by unfold source; split_ifs <;> omega))
  exact all _ b l s rfl

end Cert.ProjectSampleFinal
-- ==== Proof.ProjectSampleRef.lean ====
/- The reference's results read at an index. -/
module

public import proofs.«01_k».proof.Proof.ProjectSampleFinal
public import proofs.«01_k».proof.Proof.Gen.ProjectSampleReferenceIdeal.Read
public import Idealize.ShloMosaic.Lib.Pointwise

@[expose] public section

set_option maxRecDepth 16384

noncomputable section

namespace Cert.ProjectSampleRef

open Cert.ProjectSampleReferenceIdeal Cert.ProjectSampleReferenceIdeal.Read
open Cert.Proj Cert.ProjectSampleFinal
open Idealize.ShloMosaic

variable (x : FVec Ideal S128x1x1024 .f32) (g : FVec Ideal S1x1024 .f32) (w : FVec Ideal S1x1024x2840 .f32)

theorem normed_at (b : Fin 128) (s : Fin 1) (k : Fin 1024) :
    (val_main_v14 (F := Ideal) x g (ix3 b s k) : EReal) = normed (fun k => x (ix3 b s k)) (gain g) k := by
  obtain rfl : s = 0 := Subsingleton.elim _ _
  pointwise [val_main_v14, val_main_v13, val_main_v12, val_main_v11, val_main_v10, val_main_v9, val_main_v8, val_main_v7, val_main_v6, val_main_v5, val_main_v4,
    val_main_v3, val_main_v2, val_main_v0, val_main_cst, val_main_cst_0, val_main_cst_1, normed, meanSq, gain]

theorem product_at (A : FVec Ideal S128x1x1024 .f32) (b : Fin 128) (s : Fin 1) (n : Fin 2840) :
    (Host.dotGeneral (φ₂ := .f32) dot_S128x1x1024_S1024x2840_S128x1x2840_2_0_01_1_n_n none A (val_main_v1 (F := Ideal) w : FVec Ideal S1024x2840 .f32) (ix3 b s n) : EReal)
      = ∑ k : Fin 1024, A (ix3 b s k) * w (ix3 0 k n) := by
  pointwise [val_main_v1]

theorem entry_at (b : Fin 128) (s : Fin 1) (n : Fin 2840) :
    (val_main_v15 (F := Ideal) x g w (ix3 b s n) : EReal) = proj (fun k => x (ix3 b s k)) (gain g) (column (weights w) n.val) :=
  (product_at w _ b s n).trans (Finset.sum_congr rfl fun k _ => congrArg₂ (· * ·) (normed_at x g b s k) (column_of (weights w) k n.isLt rfl))

/-- The products at row `r` of all the rows. -/
theorem entry_row (r : Fin 128) (n : ℕ) (h : n < 2840) :
    (val_main_v15 (F := Ideal) x g w (ix3 r 0 ⟨n, h⟩) : EReal) = entry x g w r n :=
  entry_at x g w _ _ ⟨n, h⟩

theorem q_at (r : Fin 128) (j : Fin 512) : (val_main_v27 (F := Ideal) x g w (ix2 r j) : EReal) = query (entry x g w r (j.val)) := by
  have e := entry_row x g w r (j.val) (by omega)
  rw [← e]
  unfold val_main_v27 val_main_v26 val_main_v25 val_main_v16
  generalize val_main_v15 (F := Ideal) x g w = Y
  pointwise [val_main_v24, val_main_cst_2, query]

theorem za_at (r : Fin 128) (j : Fin 512) : (val_main_v43 (F := Ideal) x g w (ix2 r j) : EReal) = silu (entry x g w r (1304 + j.val)) := by
  have e := entry_row x g w r (1304 + j.val) (by omega)
  rw [← e]
  unfold val_main_v43 val_main_v42 val_main_call0_v5 val_main_call0_v3 val_main_call0_v1 val_main_call0_v0 val_main_v21
  generalize val_main_v15 (F := Ideal) x g w = Y
  pointwise [val_main_call0_v4, val_main_call0_v2, val_main_call0_cst, val_main_call0_cst_0, silu, Ideal.logistic]

theorem u_at (r : Fin 128) (j : Fin 512) : (val_main_v44 (F := Ideal) x g w (ix2 r j) : EReal) = entry x g w r (1816 + j.val) := by
  have e := entry_row x g w r (1816 + j.val) (by omega)
  rw [← e]
  unfold val_main_v44 val_main_v22
  generalize val_main_v15 (F := Ideal) x g w = Y
  pointwise

theorem zp_at (r : Fin 128) (j : Fin 512) : (val_main_v46 (F := Ideal) x g w (ix2 r j) : EReal) = silu (entry x g w r (2328 + j.val)) := by
  have e := entry_row x g w r (2328 + j.val) (by omega)
  rw [← e]
  unfold val_main_v46 val_main_v45 val_main_call1_v5 val_main_call1_v3 val_main_call1_v1 val_main_call1_v0 val_main_v23
  generalize val_main_v15 (F := Ideal) x g w = Y
  pointwise [val_main_call1_v4, val_main_call1_v2, val_main_call1_cst, val_main_call1_cst_0, silu, Ideal.logistic]

theorem ckv_at (b : Fin 1) (l : Fin 256) (s : Fin 128) : (val_main_v28 (F := Ideal) x g w (ix3 b l s) : EReal) = entry x g w s (512 + l.val) := by
  have e := entry_row x g w s (512 + l.val) (by omega)
  rw [← e]
  unfold val_main_v28 val_main_v17
  generalize val_main_v15 (F := Ideal) x g w = Y
  pointwise

theorem skv_at (b : Fin 1) (l : Fin 256) (s : Fin 128) : (val_main_v29 (F := Ideal) x g w (ix3 b l s) : EReal) = entry x g w s (768 + l.val) := by
  have e := entry_row x g w s (768 + l.val) (by omega)
  rw [← e]
  unfold val_main_v29 val_main_v18
  generalize val_main_v15 (F := Ideal) x g w = Y
  pointwise

theorem wkv_at (b : Fin 1) (l : Fin 256) (s : Fin 128) : (val_main_v30 (F := Ideal) x g w (ix3 b l s) : EReal) = entry x g w s (1024 + l.val) := by
  have e := entry_row x g w s (1024 + l.val) (by omega)
  rw [← e]
  unfold val_main_v30 val_main_v19
  generalize val_main_v15 (F := Ideal) x g w = Y
  pointwise

theorem gates_at (r : Fin 128) (j : Fin 256) : (val_main_v41 (F := Ideal) x g w (ix2 r j) : EReal) = Ideal.logistic (entry x g w r (gateColumn j.val)) := by
  have hb : j.val % 128 < 12 → 1280 + (j.val / 128 * 12 + j.val % 128) < 2840 := fun h => by omega
  have key : (if h : j.val % 128 < 12 then (val_main_v15 (F := Ideal) x g w (ix3 r 0 ⟨1280 + (j.val / 128 * 12 + j.val % 128), hb h⟩) : EReal) else 0)
      = entry x g w r (gateColumn j.val) := by
    split_ifs with h
    · rw [entry_row x g w r _ (hb h)]
      exact congrArg (entry x g w r) (by unfold gateColumn; split_ifs <;> omega)
    · have hz : gateColumn j.val = 2840 := by unfold gateColumn; split_ifs <;> omega
      rw [hz]
      exact (proj_zeros _ _ _).symm
  rw [← key]
  unfold val_main_v41 val_main_v40 val_main_v38 val_main_v36 val_main_v35 val_main_v34 val_main_v32 val_main_v31 val_main_v20
  generalize val_main_v15 (F := Ideal) x g w = Y
  pointwise [val_main_v39, val_main_cst_5, val_main_v37, val_main_cst_4, val_main_v33, val_main_cst_3, Ideal.logistic]

end Cert.ProjectSampleRef
-- ==== Proof.ProjectSampleEqual.lean ====
/- The projection's eight arrays end at the reference's eight results. -/
module

public import proofs.«01_k».proof.Defs
public import proofs.«01_k».proof.Proof.ProjectSampleRef
public import proofs.«01_k».proof.Proof.Gen.ProjectSampleReferenceIdeal.Run

@[expose] public section

set_option maxRecDepth 16384

noncomputable section

namespace Cert.ProjectSampleEqual

open Cert.ProjectSampleIdeal Cert.ProjectSampleIdeal.Gen
open Cert.Proj
open Idealize.ShloMosaic Idealize.ShloMosaic.TcCoe

variable (m : (ℓ : Loc nD τ sig) → Buf (Elt Ideal) ℓ) (c : Dev nD)

/-- The reference's result, of the kernel's arguments. -/
def ref3 : S128x512.Idx → EReal := Cert.ProjectSampleReferenceIdeal.Read.val_main_v27 (F := Ideal) (m ((c.tc : Thread nD τ).loc main_arg0)) (m ((c.tc : Thread nD τ).loc main_arg1)) (m ((c.tc : Thread nD τ).loc main_arg2))

theorem result3 : ((dats m 0 c).arrAt 3 cfg0.N : S128x512.Idx → EReal) = ref3 m c := by
  funext i
  obtain ⟨r, j, rfl⟩ : ∃ (r : Fin 128) (j : Fin 512), i = ix2 r j :=
    ⟨i 0, i 1, funext fun a => match a with | ⟨0, _⟩ => rfl | ⟨1, _⟩ => rfl⟩
  exact (ProjectSampleFinal.final3 m c (ix2 r j)).trans (ProjectSampleRef.q_at _ _ _ r j).symm

/-- The reference's result, of the kernel's arguments. -/
def ref5 : S1x256x128.Idx → EReal := Cert.ProjectSampleReferenceIdeal.Read.val_main_v28 (F := Ideal) (m ((c.tc : Thread nD τ).loc main_arg0)) (m ((c.tc : Thread nD τ).loc main_arg1)) (m ((c.tc : Thread nD τ).loc main_arg2))

theorem result5 : ((dats m 0 c).arrAt 5 cfg0.N : S1x256x128.Idx → EReal) = ref5 m c := by
  funext i
  obtain ⟨b, l, s, rfl⟩ : ∃ (b : Fin 1) (l : Fin 256) (s : Fin 128), i = ix3 b l s :=
    ⟨i 0, i 1, i 2, funext fun a => match a with | ⟨0, _⟩ => rfl | ⟨1, _⟩ => rfl | ⟨2, _⟩ => rfl⟩
  exact (ProjectSampleFinal.final5 m c b l s).trans (ProjectSampleRef.ckv_at _ _ _ b l s).symm

/-- The reference's result, of the kernel's arguments. -/
def ref6 : S1x256x128.Idx → EReal := Cert.ProjectSampleReferenceIdeal.Read.val_main_v29 (F := Ideal) (m ((c.tc : Thread nD τ).loc main_arg0)) (m ((c.tc : Thread nD τ).loc main_arg1)) (m ((c.tc : Thread nD τ).loc main_arg2))

theorem result6 : ((dats m 0 c).arrAt 6 cfg0.N : S1x256x128.Idx → EReal) = ref6 m c := by
  funext i
  obtain ⟨b, l, s, rfl⟩ : ∃ (b : Fin 1) (l : Fin 256) (s : Fin 128), i = ix3 b l s :=
    ⟨i 0, i 1, i 2, funext fun a => match a with | ⟨0, _⟩ => rfl | ⟨1, _⟩ => rfl | ⟨2, _⟩ => rfl⟩
  exact (ProjectSampleFinal.final6 m c b l s).trans (ProjectSampleRef.skv_at _ _ _ b l s).symm

/-- The reference's result, of the kernel's arguments. -/
def ref7 : S1x256x128.Idx → EReal := Cert.ProjectSampleReferenceIdeal.Read.val_main_v30 (F := Ideal) (m ((c.tc : Thread nD τ).loc main_arg0)) (m ((c.tc : Thread nD τ).loc main_arg1)) (m ((c.tc : Thread nD τ).loc main_arg2))

theorem result7 : ((dats m 0 c).arrAt 7 cfg0.N : S1x256x128.Idx → EReal) = ref7 m c := by
  funext i
  obtain ⟨b, l, s, rfl⟩ : ∃ (b : Fin 1) (l : Fin 256) (s : Fin 128), i = ix3 b l s :=
    ⟨i 0, i 1, i 2, funext fun a => match a with | ⟨0, _⟩ => rfl | ⟨1, _⟩ => rfl | ⟨2, _⟩ => rfl⟩
  exact (ProjectSampleFinal.final7 m c b l s).trans (ProjectSampleRef.wkv_at _ _ _ b l s).symm

/-- The reference's result, of the kernel's arguments. -/
def ref12 : S128x256.Idx → EReal := Cert.ProjectSampleReferenceIdeal.Read.val_main_v41 (F := Ideal) (m ((c.tc : Thread nD τ).loc main_arg0)) (m ((c.tc : Thread nD τ).loc main_arg1)) (m ((c.tc : Thread nD τ).loc main_arg2))

theorem result12 : ((dats m 0 c).arrAt 12 cfg0.N : S128x256.Idx → EReal) = ref12 m c := by
  funext i
  obtain ⟨r, j, rfl⟩ : ∃ (r : Fin 128) (j : Fin 256), i = ix2 r j :=
    ⟨i 0, i 1, funext fun a => match a with | ⟨0, _⟩ => rfl | ⟨1, _⟩ => rfl⟩
  exact (ProjectSampleFinal.final12 m c (ix2 r j)).trans (ProjectSampleRef.gates_at _ _ _ r j).symm

/-- The reference's result, of the kernel's arguments. -/
def ref13 : S128x512.Idx → EReal := Cert.ProjectSampleReferenceIdeal.Read.val_main_v43 (F := Ideal) (m ((c.tc : Thread nD τ).loc main_arg0)) (m ((c.tc : Thread nD τ).loc main_arg1)) (m ((c.tc : Thread nD τ).loc main_arg2))

theorem result13 : ((dats m 0 c).arrAt 13 cfg0.N : S128x512.Idx → EReal) = ref13 m c := by
  funext i
  obtain ⟨r, j, rfl⟩ : ∃ (r : Fin 128) (j : Fin 512), i = ix2 r j :=
    ⟨i 0, i 1, funext fun a => match a with | ⟨0, _⟩ => rfl | ⟨1, _⟩ => rfl⟩
  exact (ProjectSampleFinal.final13 m c (ix2 r j)).trans (ProjectSampleRef.za_at _ _ _ r j).symm

/-- The reference's result, of the kernel's arguments. -/
def ref14 : S128x512.Idx → EReal := Cert.ProjectSampleReferenceIdeal.Read.val_main_v44 (F := Ideal) (m ((c.tc : Thread nD τ).loc main_arg0)) (m ((c.tc : Thread nD τ).loc main_arg1)) (m ((c.tc : Thread nD τ).loc main_arg2))

theorem result14 : ((dats m 0 c).arrAt 14 cfg0.N : S128x512.Idx → EReal) = ref14 m c := by
  funext i
  obtain ⟨r, j, rfl⟩ : ∃ (r : Fin 128) (j : Fin 512), i = ix2 r j :=
    ⟨i 0, i 1, funext fun a => match a with | ⟨0, _⟩ => rfl | ⟨1, _⟩ => rfl⟩
  exact (ProjectSampleFinal.final14 m c (ix2 r j)).trans (ProjectSampleRef.u_at _ _ _ r j).symm

/-- The reference's result, of the kernel's arguments. -/
def ref15 : S128x512.Idx → EReal := Cert.ProjectSampleReferenceIdeal.Read.val_main_v46 (F := Ideal) (m ((c.tc : Thread nD τ).loc main_arg0)) (m ((c.tc : Thread nD τ).loc main_arg1)) (m ((c.tc : Thread nD τ).loc main_arg2))

theorem result15 : ((dats m 0 c).arrAt 15 cfg0.N : S128x512.Idx → EReal) = ref15 m c := by
  funext i
  obtain ⟨r, j, rfl⟩ : ∃ (r : Fin 128) (j : Fin 512), i = ix2 r j :=
    ⟨i 0, i 1, funext fun a => match a with | ⟨0, _⟩ => rfl | ⟨1, _⟩ => rfl⟩
  exact (ProjectSampleFinal.final15 m c (ix2 r j)).trans (ProjectSampleRef.zp_at _ _ _ r j).symm

/-- The two programs end with the same eight results. -/
theorem algebraic : Cert.algebraic_ProjectSampleIdeal_ProjectSampleReferenceIdeal := by
  intro m g m' g' _ hag
  refine ⟨fun c => ref3 m c, fun c => ref5 m c, fun c => ref6 m c, fun c => ref7 m c, fun c => ref12 m c, fun c => ref13 m c, fun c => ref14 m c, fun c => ref15 m c, ?_, ?_⟩
  · refine (θ_run _ _ _).mono ?_ (θ_run_and (run_main m g) (unchanged m g))
    rintro r ⟨hr, hu⟩ c
    exact ⟨(Pipeline.FramePost.out_eq hr c 3).trans (result3 m c), (Pipeline.FramePost.out_eq hr c 5).trans (result5 m c), (Pipeline.FramePost.out_eq hr c 6).trans (result6 m c), (Pipeline.FramePost.out_eq hr c 7).trans (result7 m c), (Pipeline.FramePost.out_eq hr c 12).trans (result12 m c), (Pipeline.FramePost.out_eq hr c 13).trans (result13 m c), (Pipeline.FramePost.out_eq hr c 14).trans (result14 m c), (Pipeline.FramePost.out_eq hr c 15).trans (result15 m c), hu c⟩
  · refine (θ_run _ _ _).mono ?_ (Cert.ProjectSampleReferenceIdeal.Value.run m' g')
    intro r h c
    obtain ⟨h3, h5, h6, h7, h12, h13, h14, h15, hargs⟩ := h c
    obtain ⟨a0, a1, a2⟩ := hag c
    rw [Cert.ProjectSampleReferenceIdeal.Read.val_main_v27_eq, a0, a1, a2] at h3
    rw [Cert.ProjectSampleReferenceIdeal.Read.val_main_v28_eq, a0, a1, a2] at h5
    rw [Cert.ProjectSampleReferenceIdeal.Read.val_main_v29_eq, a0, a1, a2] at h6
    rw [Cert.ProjectSampleReferenceIdeal.Read.val_main_v30_eq, a0, a1, a2] at h7
    rw [Cert.ProjectSampleReferenceIdeal.Read.val_main_v41_eq, a0, a1, a2] at h12
    rw [Cert.ProjectSampleReferenceIdeal.Read.val_main_v43_eq, a0, a1, a2] at h13
    rw [Cert.ProjectSampleReferenceIdeal.Read.val_main_v44_eq, a0, a1, a2] at h14
    rw [Cert.ProjectSampleReferenceIdeal.Read.val_main_v46_eq, a0, a1, a2] at h15
    exact ⟨h3, h5, h6, h7, h12, h13, h14, h15, hargs⟩

end Cert.ProjectSampleEqual
-- ==== Proof.FinishSpec.lean ====
/- The last step of one row: the pooling mixer's channels, the two mixers' channels through the output weights, the row added, and
   the result over its root mean square. -/
module

public import proofs.«01_k».proof.Proof.ProjectSpec

@[expose] public section

noncomputable section

namespace Cert.Out

open Idealize.ShloMosaic
open Cert.Proj

/-- The mean of a channel's last `w` rows minus its row: `f k` is the value `k` rows back, `n` the number of rows averaged. -/
def deviation (w : ℕ) (n : EReal) (f : ℕ → EReal) : EReal := Ideal.div (∑ k ∈ Finset.range w, f k) n - f 0

/-- The window of one of the four channel groups. -/
def span (g : Fin 4) : ℕ := 2 ^ (g.val + 1)

/-- The number of rows averaged at row `t`: the window, or the rows there are. -/
def count (t : ℕ) (g : Fin 4) : EReal := (((min (t + 1) (span g) : ℕ) : ℝ) : EReal)

/-- A channel `k` rows back in a sequence, zero before its first row. -/
def back (u : ℕ → EReal) (t k : ℕ) : EReal := if k ≤ t then u (t - k) else 0

/-- A channel `k` rows back where the new row follows fifteen carried ones. -/
def carried (st : Fin 15 → EReal) (u : EReal) (k : ℕ) : EReal := if k = 0 then u else if h : 15 - k < 15 then st ⟨15 - k, h⟩ else 0

/-- The group of a channel and its place in the group. -/
def group (j : Fin 512) : Fin 4 := ⟨j.val / 128, by have := j.isLt; omega⟩
def place (j : Fin 512) : Fin 128 := ⟨j.val % 128, Nat.mod_lt _ (by decide)⟩

/-- A channel of a group. -/
def chan (g : Fin 4) (c : Fin 128) : Fin 512 := ⟨128 * g.val + c.val, by have := g.isLt; have := c.isLt; omega⟩

theorem group_chan (g : Fin 4) (c : Fin 128) : group (chan g c) = g := Fin.ext (by have := c.isLt; show (128 * g.val + c.val) / 128 = g.val; omega)
theorem place_chan (g : Fin 4) (c : Fin 128) : place (chan g c) = c := Fin.ext (by have := c.isLt; show (128 * g.val + c.val) % 128 = c.val; omega)
theorem chan_group (j : Fin 512) : chan (group j) (place j) = j := Fin.ext (by show 128 * (j.val / 128) + j.val % 128 = j.val; omega)

/-- The pooling mixer's channel `j`: its group's deviations through the group's weights, scaled and gated. -/
def pooled (d : Fin 512 → EReal) (pw : Fin 4 → Fin 128 → Fin 128 → EReal) (scale szp : Fin 512 → EReal) (j : Fin 512) : EReal :=
  (∑ c : Fin 128, d (chan (group j) c) * pw (group j) c (place j)) * scale j * szp j

/-- The row with the attention's channels and the pooling mixer's through the output weights added. -/
def summed (x : Fin 1024 → EReal) (a b : Fin 512 → EReal) (wo : Fin 1024 → Fin 1024 → EReal) (e : Fin 1024) : EReal :=
  x e + (∑ j : Fin 512, a j * wo ⟨j.val, by have := j.isLt; omega⟩ e + ∑ j : Fin 512, b j * wo ⟨512 + j.val, by have := j.isLt; omega⟩ e)

/-- The layer's result. -/
def finished (x : Fin 1024 → EReal) (a b : Fin 512 → EReal) (wo : Fin 1024 → Fin 1024 → EReal) (fg : Fin 1024 → EReal) : Fin 1024 → EReal :=
  normed (summed x a b wo) fg

theorem toInt_small (n : ℕ) (h : n < 2 ^ 31) : (BitVec.ofNat 32 n).toInt = n := by
  rw [BitVec.toInt_eq_toNat_of_lt (by rw [BitVec.toNat_ofNat]; omega), BitVec.toNat_ofNat]
  omega

theorem minsi_small (n m : ℕ) (hn : n < 2 ^ 31) (hm : m < 2 ^ 31) : (IntOp.minsi (BitVec.ofNat 32 n) (BitVec.ofNat 32 m)).toInt = ((min n m : ℕ) : ℤ) := by
  simp only [IntOp.minsi, BitVec.slt_eq_decide, decide_eq_true_eq, toInt_small n hn, toInt_small m hm]
  split <;> simp only [toInt_small n hn, toInt_small m hm] <;> omega

end Cert.Out
-- ==== Proof.FinishTerm.lean ====
/- What one grid point computes, as a composition of whole-array operations of its blocks: sixteen rows of halo and the block's rows
   are laid in the scratch, which the mixer reads at every shift. -/
module

public import proofs.«01_k».proof.Proof.Rows
public import proofs.«01_k».proof.Proof.FinishSpec
public import proofs.«01_k».proof.Proof.Gen.FinishIdeal.Frame
public import Idealize.ShloMosaic.Lib.Pointwise
public import Idealize.ShloMosaic.Lib.Pipeline.Value

@[expose] public section

set_option maxRecDepth 16384

noncomputable section

namespace Cert.FinishBlock

open Cert.FinishIdeal Cert.FinishIdeal.Gen
open Cert.Proj Cert.Out
open Idealize.ShloMosaic Idealize.ShloMosaic.TcCoe

variable {F : FTy → Type} [FloatOps F]

/-- The scratch: the halo and then the block's rows. -/
def extended (h : FVec F S16x512 .f32) (u : FVec F S512x512 .f32) : FVec F S528x512 .f32 := fun y =>
  if h16 : (y 0).val < 16 then h (ix2 ⟨(y 0).val, h16⟩ (y 1)) else u (ix2 ⟨(y 0).val - 16, by have : (y 0).val < 528 := (y 0).isLt; omega⟩ (y 1))

theorem halo_piece (h : FVec F S16x512 .f32) (u : FVec F S512x512 .f32) (inb : ∀ a, (![0, 0] : Fin 2 → ℕ) a + S16x512.size a ≤ S528x512.size a) (x : S16x512.Idx) :
    h x = extended h u ((Rect.unit (s := S528x512) ![0, 0] S16x512.size inb).emb x) := by
  obtain ⟨b, c, rfl⟩ : ∃ (b : Fin 16) (c : Fin 512), x = ix2 b c := ⟨x 0, x 1, eq_ix2 x⟩
  have e0 : (((Rect.unit (s := S528x512) ![0, 0] S16x512.size inb).emb (ix2 b c)) 0).val = 0 + b.val := Cert.Cmp.unit_val inb _ 0
  have e1 : (((Rect.unit (s := S528x512) ![0, 0] S16x512.size inb).emb (ix2 b c)) 1).val = 0 + c.val := Cert.Cmp.unit_val inb _ 1
  generalize (Rect.unit (s := S528x512) ![0, 0] S16x512.size inb).emb (ix2 b c) = y at e0 e1
  unfold extended
  rw [dif_pos (by omega)]
  exact congrArg h (funext fun d => Fin.ext (match d with | ⟨0, _⟩ => by show b.val = (y 0).val; omega | ⟨1, _⟩ => by show c.val = (y 1).val; omega))

theorem row_piece (h : FVec F S16x512 .f32) (u : FVec F S512x512 .f32) (inb : ∀ a, (![16, 0] : Fin 2 → ℕ) a + S512x512.size a ≤ S528x512.size a) (x : S512x512.Idx) :
    u x = extended h u ((Rect.unit (s := S528x512) ![16, 0] S512x512.size inb).emb x) := by
  obtain ⟨b, c, rfl⟩ : ∃ (b : Fin 512) (c : Fin 512), x = ix2 b c := ⟨x 0, x 1, eq_ix2 x⟩
  have e0 : (((Rect.unit (s := S528x512) ![16, 0] S512x512.size inb).emb (ix2 b c)) 0).val = 16 + b.val := Cert.Cmp.unit_val inb _ 0
  have e1 : (((Rect.unit (s := S528x512) ![16, 0] S512x512.size inb).emb (ix2 b c)) 1).val = 0 + c.val := Cert.Cmp.unit_val inb _ 1
  generalize (Rect.unit (s := S528x512) ![16, 0] S512x512.size inb).emb (ix2 b c) = y at e0 e1
  unfold extended
  rw [dif_neg (by omega)]
  exact congrArg u (funext fun d => Fin.ext (match d with | ⟨0, _⟩ => by show b.val = (y 0).val - 16; omega | ⟨1, _⟩ => by show c.val = (y 1).val; omega))

/-- A grid point's block, from its rows, the scratch and its other blocks. -/
def block (i : grid0.Coords) (U : FVec F S1x512x512 .f32) (E : FVec F S528x512 .f32) (x0 : FVec F S1x512x512 .bf16) (x3 : FVec F S1x512x512 .f32) (x4 : FVec F S1x512x1024 .f32) (x5 : FVec F S4x128x128 .bf16)
    (x6 : FVec F S1x512 .f32) (x7 : FVec F S1024x1024 .bf16) (x8 : FVec F S1x1024 .f32) : FVec F S1x512x1024 .f32 :=
  k0_pay1 (k0_pay12 (k0_pay2 U)
      (k0_pay6 i U (View.ld (Val := Elt F) (e' := .f32) (S := S528x512) E (Rect.unit (s := S528x512) ![15, 0] S512x128.size inb_S528x512_S512x128_15_0)))
      (k0_pay8 (k0_pay2 U) (k0_pay5 i) (k0_pay7 U (View.ld (Val := Elt F) (e' := .f32) (S := S528x512) E (Rect.unit (s := S528x512) ![15, 128] S512x128.size inb_S528x512_S512x128_15_128)) (View.ld (Val := Elt F) (e' := .f32) (S := S528x512) E (Rect.unit (s := S528x512) ![14, 128] S512x128.size inb_S528x512_S512x128_14_128))) (View.ld (Val := Elt F) (e' := .f32) (S := S528x512) E (Rect.unit (s := S528x512) ![13, 128] S512x128.size inb_S528x512_S512x128_13_128)))
      (k0_pay9 (k0_pay2 U) (k0_pay5 i) (View.ld (Val := Elt F) (e' := .f32) (S := S528x512) E (Rect.unit (s := S528x512) ![15, 256] S512x128.size inb_S528x512_S512x128_15_256)) (View.ld (Val := Elt F) (e' := .f32) (S := S528x512) E (Rect.unit (s := S528x512) ![14, 256] S512x128.size inb_S528x512_S512x128_14_256)) (View.ld (Val := Elt F) (e' := .f32) (S := S528x512) E (Rect.unit (s := S528x512) ![13, 256] S512x128.size inb_S528x512_S512x128_13_256)) (View.ld (Val := Elt F) (e' := .f32) (S := S528x512) E (Rect.unit (s := S528x512) ![12, 256] S512x128.size inb_S528x512_S512x128_12_256)) (View.ld (Val := Elt F) (e' := .f32) (S := S528x512) E (Rect.unit (s := S528x512) ![11, 256] S512x128.size inb_S528x512_S512x128_11_256)) (View.ld (Val := Elt F) (e' := .f32) (S := S528x512) E (Rect.unit (s := S528x512) ![10, 256] S512x128.size inb_S528x512_S512x128_10_256)) (View.ld (Val := Elt F) (e' := .f32) (S := S528x512) E (Rect.unit (s := S528x512) ![9, 256] S512x128.size inb_S528x512_S512x128_9_256)))
      (k0_pay11 (k0_pay5 i) (k0_pay10 (k0_pay2 U) (View.ld (Val := Elt F) (e' := .f32) (S := S528x512) E (Rect.unit (s := S528x512) ![15, 384] S512x128.size inb_S528x512_S512x128_15_384)) (View.ld (Val := Elt F) (e' := .f32) (S := S528x512) E (Rect.unit (s := S528x512) ![14, 384] S512x128.size inb_S528x512_S512x128_14_384))) (View.ld (Val := Elt F) (e' := .f32) (S := S528x512) E (Rect.unit (s := S528x512) ![13, 384] S512x128.size inb_S528x512_S512x128_13_384)) (View.ld (Val := Elt F) (e' := .f32) (S := S528x512) E (Rect.unit (s := S528x512) ![12, 384] S512x128.size inb_S528x512_S512x128_12_384)) (View.ld (Val := Elt F) (e' := .f32) (S := S528x512) E (Rect.unit (s := S528x512) ![11, 384] S512x128.size inb_S528x512_S512x128_11_384)) (View.ld (Val := Elt F) (e' := .f32) (S := S528x512) E (Rect.unit (s := S528x512) ![10, 384] S512x128.size inb_S528x512_S512x128_10_384)) (View.ld (Val := Elt F) (e' := .f32) (S := S528x512) E (Rect.unit (s := S528x512) ![9, 384] S512x128.size inb_S528x512_S512x128_9_384)) (View.ld (Val := Elt F) (e' := .f32) (S := S528x512) E (Rect.unit (s := S528x512) ![8, 384] S512x128.size inb_S528x512_S512x128_8_384)) (View.ld (Val := Elt F) (e' := .f32) (S := S528x512) E (Rect.unit (s := S528x512) ![7, 384] S512x128.size inb_S528x512_S512x128_7_384)) (View.ld (Val := Elt F) (e' := .f32) (S := S528x512) E (Rect.unit (s := S528x512) ![6, 384] S512x128.size inb_S528x512_S512x128_6_384)) (View.ld (Val := Elt F) (e' := .f32) (S := S528x512) E (Rect.unit (s := S528x512) ![5, 384] S512x128.size inb_S528x512_S512x128_5_384)) (View.ld (Val := Elt F) (e' := .f32) (S := S528x512) E (Rect.unit (s := S528x512) ![4, 384] S512x128.size inb_S528x512_S512x128_4_384)) (View.ld (Val := Elt F) (e' := .f32) (S := S528x512) E (Rect.unit (s := S528x512) ![3, 384] S512x128.size inb_S528x512_S512x128_3_384)) (View.ld (Val := Elt F) (e' := .f32) (S := S528x512) E (Rect.unit (s := S528x512) ![2, 384] S512x128.size inb_S528x512_S512x128_2_384)) (View.ld (Val := Elt F) (e' := .f32) (S := S528x512) E (Rect.unit (s := S528x512) ![1, 384] S512x128.size inb_S528x512_S512x128_1_384)))
      x3 (View.ld (Val := Elt F) (e' := .bf16) (S := S4x128x128) x5 (Rect.unit (s := S4x128x128) ![0, 0, 0] S1x128x128.size inb_S4x128x128_S1x128x128_0_0_0)) (View.ld (Val := Elt F) (e' := .bf16) (S := S4x128x128) x5 (Rect.unit (s := S4x128x128) ![1, 0, 0] S1x128x128.size inb_S4x128x128_S1x128x128_1_0_0)) (View.ld (Val := Elt F) (e' := .bf16) (S := S4x128x128) x5 (Rect.unit (s := S4x128x128) ![2, 0, 0] S1x128x128.size inb_S4x128x128_S1x128x128_2_0_0)) (View.ld (Val := Elt F) (e' := .bf16) (S := S4x128x128) x5 (Rect.unit (s := S4x128x128) ![3, 0, 0] S1x128x128.size inb_S4x128x128_S1x128x128_3_0_0)) x6)
    (k0_pay13 x4) x0 x7 x8

set_option maxHeartbeats 4000000 in
/-- The output's block. -/
theorem out9_eq (c : Dev nD) (i : grid0.Coords) (arg2 : Memref sig .tc .vmem S1x512x512 .bf16) (harg2 : arg2.IsWhole) (arg3 : Memref sig .tc .vmem S1x512x512 .f32) (harg3 : arg3.IsWhole) (arg4 : Memref sig .tc .vmem S1x16x512 .f32) (harg4 : arg4.IsWhole) (arg5 : Memref sig .tc .vmem S1x512x512 .f32) (harg5 : arg5.IsWhole) (arg6 : Memref sig .tc .vmem S1x512x1024 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S528x512 .f32) (harg12 : arg12.IsWhole)
    (x0 : Vec F S1x512x512 .bf16) (x1 : Vec F S1x512x512 .f32) (x2 : Vec F S1x16x512 .f32) (x3 : Vec F S1x512x512 .f32) (x4 : Vec F S1x512x1024 .f32) (x5 : Vec F S4x128x128 .bf16) (x6 : Vec F S1x512 .f32) (x7 : Vec F S1024x1024 .bf16) (x8 : Vec F S1x1024 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = block i x1 (extended (k0_pay3 i x2) (k0_pay4 x1)) x0 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  have w1 := View.ld_unit_zero (Val := Elt F) (e := .f32) (S := S1x512x512) (off := ![0, 0, 0]) (funext fun a => by revert a; decide) inb_S1x512x512_S1x512x512_0_0_0 x1
  have w0 := View.ld_unit_zero (Val := Elt F) (e := .bf16) (S := S1x512x512) (off := ![0, 0, 0]) (funext fun a => by revert a; decide) inb_S1x512x512_S1x512x512_0_0_0 x0
  have w2 := View.ld_unit_zero (Val := Elt F) (e := .f32) (S := S1x16x512) (off := ![0, 0, 0]) (funext fun a => by revert a; decide) inb_S1x16x512_S1x16x512_0_0_0 x2
  have w3 := View.ld_unit_zero (Val := Elt F) (e := .f32) (S := S1x512x512) (off := ![0, 0, 0]) (funext fun a => by revert a; decide) inb_S1x512x512_S1x512x512_0_0_0 x3
  have w4 := View.ld_unit_zero (Val := Elt F) (e := .f32) (S := S1x512x1024) (off := ![0, 0, 0]) (funext fun a => by revert a; decide) inb_S1x512x1024_S1x512x1024_0_0_0 x4
  have w6 := View.ld_unit_zero (Val := Elt F) (e := .f32) (S := S1x512) (off := ![0, 0]) (funext fun a => by revert a; decide) inb_S1x512_S1x512_0_0 x6
  have w7 := View.ld_unit_zero (Val := Elt F) (e := .bf16) (S := S1024x1024) (off := ![0, 0]) (funext fun a => by revert a; decide) inb_S1024x1024_S1024x1024_0_0 x7
  have w8 := View.ld_unit_zero (Val := Elt F) (e := .f32) (S := S1x1024) (off := ![0, 0]) (funext fun a => by revert a; decide) inb_S1x1024_S1x1024_0_0 x8
  generalize hL : (List.cons _ _ : List (Σ r : Rect S528x512, r.shape.Idx → Elt F .f32)) = L
  have hG : View.canon L = extended (k0_pay3 i x2) (k0_pay4 x1) := by
    subst hL
    funext y
    refine View.canon_apply_of_pieces _ _ ?_ y (View.cover_of_tiledBy (s := S528x512) _ S16x512.size (by sl_kernel_rfl) y)
    simp only [List.forall_mem_cons, List.forall_mem_nil, and_true, View.readAt_eq_ld, Memref.IsWhole.read_unread]
    refine ⟨fun x => ?_, fun x => ?_, fun _ h => absurd h List.not_mem_nil⟩
    · refine Eq.trans ?_ (row_piece _ _ _ x)
      exact congrArg (fun z => k0_pay4 z x) w1
    · refine Eq.trans ?_ (halo_piece _ _ _ x)
      exact congrArg (fun z => k0_pay3 i z x) w2
  simp only [View.readCov_eq_canon', hG, View.readAt_eq_ld, Memref.IsWhole.read_unread]
  generalize extended (k0_pay3 i x2) (k0_pay4 x1) = E
  refine (View.canon_unit_zero (funext fun a => by revert a; decide) _ _).trans ?_
  clear hG hL
  refine Eq.trans (b := block i (View.ld (Val := Elt F) (e' := .f32) (S := S1x512x512) x1 (Rect.unit (s := S1x512x512) ![0, 0, 0] S1x512x512.size inb_S1x512x512_S1x512x512_0_0_0)) E (View.ld (Val := Elt F) (e' := .bf16) (S := S1x512x512) x0 (Rect.unit (s := S1x512x512) ![0, 0, 0] S1x512x512.size inb_S1x512x512_S1x512x512_0_0_0)) (View.ld (Val := Elt F) (e' := .f32) (S := S1x512x512) x3 (Rect.unit (s := S1x512x512) ![0, 0, 0] S1x512x512.size inb_S1x512x512_S1x512x512_0_0_0)) (View.ld (Val := Elt F) (e' := .f32) (S := S1x512x1024) x4 (Rect.unit (s := S1x512x1024) ![0, 0, 0] S1x512x1024.size inb_S1x512x1024_S1x512x1024_0_0_0)) x5
    (View.ld (Val := Elt F) (e' := .f32) (S := S1x512) x6 (Rect.unit (s := S1x512) ![0, 0] S1x512.size inb_S1x512_S1x512_0_0)) (View.ld (Val := Elt F) (e' := .bf16) (S := S1024x1024) x7 (Rect.unit (s := S1024x1024) ![0, 0] S1024x1024.size inb_S1024x1024_S1024x1024_0_0)) (View.ld (Val := Elt F) (e' := .f32) (S := S1x1024) x8 (Rect.unit (s := S1x1024) ![0, 0] S1x1024.size inb_S1x1024_S1x1024_0_0))) rfl ?_
  rw [w0, w1, w3, w4, w6, w7, w8]

end Cert.FinishBlock

end
-- ==== Proof.FinishBlock.lean ====
/- One grid point of the prompt's last step, read at an index. -/
module

public import proofs.«01_k».proof.Proof.FinishTerm

@[expose] public section

set_option maxRecDepth 16384

noncomputable section

namespace Cert.FinishBlock

open Cert.FinishIdeal Cert.FinishIdeal.Gen
open Cert.Proj Cert.Out
open Idealize.ShloMosaic Idealize.ShloMosaic.TcCoe

/-- The output weights, the residual and the norm. -/
theorem finish_apply (b : FVec Ideal S512x512 .f32) (x : FVec Ideal S1x512x1024 .f32) (a : FVec Ideal S1x512x512 .bf16) (wo : FVec Ideal S1024x1024 .bf16)
    (fg : FVec Ideal S1x1024 .f32) (z : Fin 1) (r : Fin 512) (e : Fin 1024) :
    (k0_pay1 (F := Ideal) b (k0_pay13 (F := Ideal) x) a wo fg (ix3 z r e) : EReal)
      = finished (fun e => x (ix3 0 r e)) (fun j => a (ix3 0 r j)) (fun j => b (ix2 r j)) (fun j e => wo (ix2 j e)) (fun e => fg (ix2 0 e)) e := by
  pointwise [k0_pay1, k0_pay13, finished, summed, normed, meanSq]

/-- The number of rows the window of the grid point's row `r` holds, as the kernel computes it. -/
def held (i : grid0.Coords) (r : Fin 512) (w : BitVec 32) : EReal :=
  FloatOps.sitofp (F := Ideal) .f32 (IntOp.minsi (IntOp.addi (IntOp.addi (Scalar.muli (BitVec.ofNat 32 (i 1).val) 512#32) (BitVec.ofNat 32 r.val)) 1#32) w)

theorem held_eq (i : grid0.Coords) (r : Fin 512) (g : Fin 4) (w : BitVec 32) (hw : w = BitVec.ofNat 32 (span g)) :
    held i r w = Cert.Out.count (512 * (i 1).val + r.val) g := by
  subst hw
  have hi : (i 1).val < 16 := (i 1).isLt
  have hr : r.val < 512 := r.isLt
  have e : IntOp.addi (IntOp.addi (Scalar.muli (BitVec.ofNat 32 (i 1).val) 512#32) (BitVec.ofNat 32 r.val)) 1#32 = BitVec.ofNat 32 (512 * (i 1).val + r.val + 1) := by
    show BitVec.ofNat 32 (i 1).val * 512#32 + BitVec.ofNat 32 r.val + 1#32 = _
    apply BitVec.eq_of_toNat_eq
    simp only [BitVec.toNat_add, BitVec.toNat_mul, BitVec.toNat_ofNat]
    omega
  have hs : span g < 2 ^ 31 := by revert g; decide
  unfold held Cert.Out.count
  rw [e]
  show (((IntOp.minsi _ _).toInt : ℝ) : EReal) = _
  rw [minsi_small _ _ (by omega) hs]
  norm_cast

/-- A row of the scratch and the rows before it, at one channel. -/
def shifted (U : FVec Ideal S1x512x512 .f32) (E : FVec Ideal S528x512 .f32) (r : Fin 512) (j : Fin 512) (k : ℕ) : EReal :=
  if k = 0 then U (ix3 0 r j) else E (ix2 ⟨16 + r.val - k, by omega⟩ j)

theorem shift_cols (E : FVec Ideal S528x512 .f32) (n k a : ℕ) (hk : k < 16) (hn : n + k = 16) (h0 : k ≠ 0) (g : Fin 4) (ha : a = 128 * g.val)
    (inb : ∀ d, (![n, a] : Fin 2 → ℕ) d + S512x128.size d ≤ S528x512.size d) (U : FVec Ideal S1x512x512 .f32) (r : Fin 512) (c : Fin 128) :
    (View.ld (Val := Elt Ideal) (e' := .f32) (S := S528x512) E (Rect.unit (s := S528x512) ![n, a] S512x128.size inb) (ix2 r c) : EReal) = shifted U E r (chan g c) k := by
  unfold shifted
  rw [if_neg h0]
  refine congrArg E (funext fun e => Fin.ext ?_)
  refine (Cert.Cmp.unit_val inb _ e).trans ?_
  match e with
  | ⟨0, _⟩ => show n + r.val = 16 + r.val - k; omega
  | ⟨1, _⟩ => show a + c.val = 128 * g.val + c.val; omega

theorem group_weights (p : FVec Ideal S4x128x128 .bf16) (g : Fin 4) (n : ℕ) (hn : n = g.val) (inb : ∀ d, (![n, 0, 0] : Fin 3 → ℕ) d + S1x128x128.size d ≤ S4x128x128.size d) (k e : Fin 128) :
    (View.ld (Val := Elt Ideal) (e' := .bf16) (S := S4x128x128) p (Rect.unit (s := S4x128x128) ![n, 0, 0] S1x128x128.size inb) (ix3 0 k e) : EReal) = p (ix3 g k e) := by
  refine congrArg p (funext fun d => Fin.ext ?_)
  refine (Cert.Cmp.unit_val inb _ d).trans ?_
  match d with
  | ⟨0, _⟩ => show n + 0 = g.val; omega
  | ⟨1, _⟩ => show 0 + k.val = k.val; omega
  | ⟨2, _⟩ => show 0 + e.val = e.val; omega

theorem group0 (i : grid0.Coords) (U : FVec Ideal S1x512x512 .f32) (s1 : FVec Ideal S512x128 .f32) (r : Fin 512) (c : Fin 128) :
    (k0_pay6 (F := Ideal) i U s1 (ix2 r c) : EReal)
      = Ideal.div (U (ix3 0 r (chan 0 c)) + s1 (ix2 r c)) (held i r 2#32) - U (ix3 0 r (chan 0 c)) := by
  unfold held
  pointwise [k0_pay6, k0_pay5, k0_pay2, chan]
  try rfl

theorem group1 (i : grid0.Coords) (U : FVec Ideal S1x512x512 .f32) (s1 s2 s3 : FVec Ideal S512x128 .f32) (r : Fin 512) (c : Fin 128) :
    (k0_pay8 (F := Ideal) (k0_pay2 U) (k0_pay5 i) (k0_pay7 U s1 s2) s3 (ix2 r c) : EReal)
      = Ideal.div (U (ix3 0 r (chan 1 c)) + s1 (ix2 r c) + s2 (ix2 r c) + s3 (ix2 r c)) (held i r 4#32) - U (ix3 0 r (chan 1 c)) := by
  unfold held
  pointwise [k0_pay8, k0_pay7, k0_pay5, k0_pay2, chan]
  try rfl

theorem group2 (i : grid0.Coords) (U : FVec Ideal S1x512x512 .f32) (s1 s2 s3 s4 s5 s6 s7 : FVec Ideal S512x128 .f32) (r : Fin 512) (c : Fin 128) :
    (k0_pay9 (F := Ideal) (k0_pay2 U) (k0_pay5 i) s1 s2 s3 s4 s5 s6 s7 (ix2 r c) : EReal)
      = Ideal.div (U (ix3 0 r (chan 2 c)) + s1 (ix2 r c) + s2 (ix2 r c) + s3 (ix2 r c) + s4 (ix2 r c) + s5 (ix2 r c) + s6 (ix2 r c) + s7 (ix2 r c)) (held i r 8#32) - U (ix3 0 r (chan 2 c)) := by
  unfold held
  pointwise [k0_pay9, k0_pay5, k0_pay2, chan]
  try rfl

theorem group3 (i : grid0.Coords) (U : FVec Ideal S1x512x512 .f32) (s1 s2 s3 s4 s5 s6 s7 s8 s9 s10 s11 s12 s13 s14 s15 : FVec Ideal S512x128 .f32) (r : Fin 512) (c : Fin 128) :
    (k0_pay11 (F := Ideal) (k0_pay5 i) (k0_pay10 (k0_pay2 U) s1 s2) s3 s4 s5 s6 s7 s8 s9 s10 s11 s12 s13 s14 s15 (ix2 r c) : EReal)
      = Ideal.div (U (ix3 0 r (chan 3 c)) + s1 (ix2 r c) + s2 (ix2 r c) + s3 (ix2 r c) + s4 (ix2 r c) + s5 (ix2 r c) + s6 (ix2 r c) + s7 (ix2 r c) + s8 (ix2 r c) + s9 (ix2 r c) + s10 (ix2 r c) + s11 (ix2 r c) + s12 (ix2 r c) + s13 (ix2 r c) + s14 (ix2 r c) + s15 (ix2 r c)) (held i r 16#32) := by
  unfold held
  pointwise [k0_pay10, k0_pay11, k0_pay5, k0_pay2, chan]
  try rfl

set_option maxHeartbeats 2000000 in
theorem deviation0 (i : grid0.Coords) (U : FVec Ideal S1x512x512 .f32) (E : FVec Ideal S528x512 .f32) (r : Fin 512) (c : Fin 128) :
    (k0_pay6 (F := Ideal) i U (View.ld (Val := Elt Ideal) (e' := .f32) (S := S528x512) E (Rect.unit (s := S528x512) ![15, 0] S512x128.size inb_S528x512_S512x128_15_0)) (ix2 r c) : EReal)
      = deviation 2 (Cert.Out.count (512 * (i 1).val + r.val) 0) (shifted U E r (chan 0 c)) := by
  rw [group0, shift_cols E 15 1 0 (by decide) rfl (by decide) 0 rfl _ U r c, held_eq i r 0 2#32 (by decide)]
  unfold deviation
  simp only [Finset.sum_range_succ, Finset.sum_range_zero, zero_add]
  rfl

set_option maxHeartbeats 2000000 in
theorem deviation1 (i : grid0.Coords) (U : FVec Ideal S1x512x512 .f32) (E : FVec Ideal S528x512 .f32) (r : Fin 512) (c : Fin 128) :
    (k0_pay8 (F := Ideal) (k0_pay2 U) (k0_pay5 i) (k0_pay7 U (View.ld (Val := Elt Ideal) (e' := .f32) (S := S528x512) E (Rect.unit (s := S528x512) ![15, 128] S512x128.size inb_S528x512_S512x128_15_128)) (View.ld (Val := Elt Ideal) (e' := .f32) (S := S528x512) E (Rect.unit (s := S528x512) ![14, 128] S512x128.size inb_S528x512_S512x128_14_128))) (View.ld (Val := Elt Ideal) (e' := .f32) (S := S528x512) E (Rect.unit (s := S528x512) ![13, 128] S512x128.size inb_S528x512_S512x128_13_128)) (ix2 r c) : EReal)
      = deviation 4 (Cert.Out.count (512 * (i 1).val + r.val) 1) (shifted U E r (chan 1 c)) := by
  rw [group1, shift_cols E 15 1 128 (by decide) rfl (by decide) 1 rfl _ U r c, shift_cols E 14 2 128 (by decide) rfl (by decide) 1 rfl _ U r c, shift_cols E 13 3 128 (by decide) rfl (by decide) 1 rfl _ U r c, held_eq i r 1 4#32 (by decide)]
  unfold deviation
  simp only [Finset.sum_range_succ, Finset.sum_range_zero, zero_add]
  rfl

set_option maxHeartbeats 2000000 in
theorem deviation2 (i : grid0.Coords) (U : FVec Ideal S1x512x512 .f32) (E : FVec Ideal S528x512 .f32) (r : Fin 512) (c : Fin 128) :
    (k0_pay9 (F := Ideal) (k0_pay2 U) (k0_pay5 i) (View.ld (Val := Elt Ideal) (e' := .f32) (S := S528x512) E (Rect.unit (s := S528x512) ![15, 256] S512x128.size inb_S528x512_S512x128_15_256)) (View.ld (Val := Elt Ideal) (e' := .f32) (S := S528x512) E (Rect.unit (s := S528x512) ![14, 256] S512x128.size inb_S528x512_S512x128_14_256)) (View.ld (Val := Elt Ideal) (e' := .f32) (S := S528x512) E (Rect.unit (s := S528x512) ![13, 256] S512x128.size inb_S528x512_S512x128_13_256)) (View.ld (Val := Elt Ideal) (e' := .f32) (S := S528x512) E (Rect.unit (s := S528x512) ![12, 256] S512x128.size inb_S528x512_S512x128_12_256)) (View.ld (Val := Elt Ideal) (e' := .f32) (S := S528x512) E (Rect.unit (s := S528x512) ![11, 256] S512x128.size inb_S528x512_S512x128_11_256)) (View.ld (Val := Elt Ideal) (e' := .f32) (S := S528x512) E (Rect.unit (s := S528x512) ![10, 256] S512x128.size inb_S528x512_S512x128_10_256)) (View.ld (Val := Elt Ideal) (e' := .f32) (S := S528x512) E (Rect.unit (s := S528x512) ![9, 256] S512x128.size inb_S528x512_S512x128_9_256)) (ix2 r c) : EReal)
      = deviation 8 (Cert.Out.count (512 * (i 1).val + r.val) 2) (shifted U E r (chan 2 c)) := by
  rw [group2, shift_cols E 15 1 256 (by decide) rfl (by decide) 2 rfl _ U r c, shift_cols E 14 2 256 (by decide) rfl (by decide) 2 rfl _ U r c, shift_cols E 13 3 256 (by decide) rfl (by decide) 2 rfl _ U r c, shift_cols E 12 4 256 (by decide) rfl (by decide) 2 rfl _ U r c, shift_cols E 11 5 256 (by decide) rfl (by decide) 2 rfl _ U r c, shift_cols E 10 6 256 (by decide) rfl (by decide) 2 rfl _ U r c, shift_cols E 9 7 256 (by decide) rfl (by decide) 2 rfl _ U r c, held_eq i r 2 8#32 (by decide)]
  unfold deviation
  simp only [Finset.sum_range_succ, Finset.sum_range_zero, zero_add]
  rfl

set_option maxHeartbeats 2000000 in
theorem deviation3 (i : grid0.Coords) (U : FVec Ideal S1x512x512 .f32) (E : FVec Ideal S528x512 .f32) (r : Fin 512) (c : Fin 128) :
    (k0_pay11 (F := Ideal) (k0_pay5 i) (k0_pay10 (k0_pay2 U) (View.ld (Val := Elt Ideal) (e' := .f32) (S := S528x512) E (Rect.unit (s := S528x512) ![15, 384] S512x128.size inb_S528x512_S512x128_15_384)) (View.ld (Val := Elt Ideal) (e' := .f32) (S := S528x512) E (Rect.unit (s := S528x512) ![14, 384] S512x128.size inb_S528x512_S512x128_14_384))) (View.ld (Val := Elt Ideal) (e' := .f32) (S := S528x512) E (Rect.unit (s := S528x512) ![13, 384] S512x128.size inb_S528x512_S512x128_13_384)) (View.ld (Val := Elt Ideal) (e' := .f32) (S := S528x512) E (Rect.unit (s := S528x512) ![12, 384] S512x128.size inb_S528x512_S512x128_12_384)) (View.ld (Val := Elt Ideal) (e' := .f32) (S := S528x512) E (Rect.unit (s := S528x512) ![11, 384] S512x128.size inb_S528x512_S512x128_11_384)) (View.ld (Val := Elt Ideal) (e' := .f32) (S := S528x512) E (Rect.unit (s := S528x512) ![10, 384] S512x128.size inb_S528x512_S512x128_10_384)) (View.ld (Val := Elt Ideal) (e' := .f32) (S := S528x512) E (Rect.unit (s := S528x512) ![9, 384] S512x128.size inb_S528x512_S512x128_9_384)) (View.ld (Val := Elt Ideal) (e' := .f32) (S := S528x512) E (Rect.unit (s := S528x512) ![8, 384] S512x128.size inb_S528x512_S512x128_8_384)) (View.ld (Val := Elt Ideal) (e' := .f32) (S := S528x512) E (Rect.unit (s := S528x512) ![7, 384] S512x128.size inb_S528x512_S512x128_7_384)) (View.ld (Val := Elt Ideal) (e' := .f32) (S := S528x512) E (Rect.unit (s := S528x512) ![6, 384] S512x128.size inb_S528x512_S512x128_6_384)) (View.ld (Val := Elt Ideal) (e' := .f32) (S := S528x512) E (Rect.unit (s := S528x512) ![5, 384] S512x128.size inb_S528x512_S512x128_5_384)) (View.ld (Val := Elt Ideal) (e' := .f32) (S := S528x512) E (Rect.unit (s := S528x512) ![4, 384] S512x128.size inb_S528x512_S512x128_4_384)) (View.ld (Val := Elt Ideal) (e' := .f32) (S := S528x512) E (Rect.unit (s := S528x512) ![3, 384] S512x128.size inb_S528x512_S512x128_3_384)) (View.ld (Val := Elt Ideal) (e' := .f32) (S := S528x512) E (Rect.unit (s := S528x512) ![2, 384] S512x128.size inb_S528x512_S512x128_2_384)) (View.ld (Val := Elt Ideal) (e' := .f32) (S := S528x512) E (Rect.unit (s := S528x512) ![1, 384] S512x128.size inb_S528x512_S512x128_1_384)) (ix2 r c) - k0_pay2 (F := Ideal) U (ix2 r (chan 3 c)) : EReal)
      = deviation 16 (Cert.Out.count (512 * (i 1).val + r.val) 3) (shifted U E r (chan 3 c)) := by
  have hU : (k0_pay2 (F := Ideal) U (ix2 r (chan 3 c)) : EReal) = U (ix3 0 r (chan 3 c)) := by pointwise [k0_pay2]
  rw [hU]
  rw [group3, shift_cols E 15 1 384 (by decide) rfl (by decide) 3 rfl _ U r c, shift_cols E 14 2 384 (by decide) rfl (by decide) 3 rfl _ U r c, shift_cols E 13 3 384 (by decide) rfl (by decide) 3 rfl _ U r c, shift_cols E 12 4 384 (by decide) rfl (by decide) 3 rfl _ U r c, shift_cols E 11 5 384 (by decide) rfl (by decide) 3 rfl _ U r c, shift_cols E 10 6 384 (by decide) rfl (by decide) 3 rfl _ U r c, shift_cols E 9 7 384 (by decide) rfl (by decide) 3 rfl _ U r c, shift_cols E 8 8 384 (by decide) rfl (by decide) 3 rfl _ U r c, shift_cols E 7 9 384 (by decide) rfl (by decide) 3 rfl _ U r c, shift_cols E 6 10 384 (by decide) rfl (by decide) 3 rfl _ U r c, shift_cols E 5 11 384 (by decide) rfl (by decide) 3 rfl _ U r c, shift_cols E 4 12 384 (by decide) rfl (by decide) 3 rfl _ U r c, shift_cols E 3 13 384 (by decide) rfl (by decide) 3 rfl _ U r c, shift_cols E 2 14 384 (by decide) rfl (by decide) 3 rfl _ U r c, shift_cols E 1 15 384 (by decide) rfl (by decide) 3 rfl _ U r c, held_eq i r 3 16#32 (by decide)]
  unfold deviation
  simp only [Finset.sum_range_succ, Finset.sum_range_zero, zero_add]
  rfl

/-- The groups' products with their weights, scaled and gated. -/
theorem pool_apply (u : FVec Ideal S512x512 .f32) (v0 v1 v2 v3 : FVec Ideal S512x128 .f32) (szp : FVec Ideal S1x512x512 .f32)
    (p0 p1 p2 p3 : FVec Ideal S1x128x128 .bf16) (sc : FVec Ideal S1x512 .f32) (r : Fin 512) (d : Fin 512 → EReal)
    (h0 : ∀ c : Fin 128, (v0 (ix2 r c) : EReal) = d (chan 0 c)) (h1 : ∀ c : Fin 128, (v1 (ix2 r c) : EReal) = d (chan 1 c))
    (h2 : ∀ c : Fin 128, (v2 (ix2 r c) : EReal) = d (chan 2 c)) (h3 : ∀ c : Fin 128, (v3 (ix2 r c) - u (ix2 r (chan 3 c)) : EReal) = d (chan 3 c)) (j : Fin 512) :
    (k0_pay12 (F := Ideal) u v0 v1 v2 v3 szp p0 p1 p2 p3 sc (ix2 r j) : EReal)
      = pooled d (fun g k e => (![p0, p1, p2, p3] g : FVec Ideal S1x128x128 .bf16) (ix3 0 k e)) (fun j => sc (ix2 0 j)) (fun j => szp (ix3 0 r j)) j := by
  obtain ⟨g, c, rfl⟩ : ∃ g c, j = chan g c := ⟨group j, place j, (chan_group j).symm⟩
  have a1 : ∀ x : Fin 128, ¬ 128 + x.val < 128 := fun x => by omega
  have a2 : ∀ x : Fin 128, ¬ 256 + x.val < 128 := fun x => by omega
  have a3 : ∀ x : Fin 128, ¬ 384 + x.val < 128 := fun x => by omega
  have b2 : ∀ x : Fin 128, ¬ 256 + x.val - 128 < 128 := fun x => by omega
  have b3 : ∀ x : Fin 128, ¬ 384 + x.val - 128 < 128 := fun x => by omega
  have c3 : ∀ x : Fin 128, ¬ 384 + x.val - 128 - 128 < 128 := fun x => by omega
  have b1 : ∀ x : Fin 128, 128 + x.val - 128 < 128 := fun x => by omega
  have c2 : ∀ x : Fin 128, 256 + x.val - 128 - 128 < 128 := fun x => by omega
  have e1 : ∀ (x : Fin 128) (h), (⟨128 + x.val - 128, h⟩ : Fin 128) = x := fun x h => Fin.ext (by show 128 + x.val - 128 = x.val; omega)
  have e2 : ∀ (x : Fin 128) (h), (⟨256 + x.val - 128 - 128, h⟩ : Fin 128) = x := fun x h => Fin.ext (by show 256 + x.val - 128 - 128 = x.val; omega)
  have e3 : ∀ (x : Fin 128) (h), (⟨384 + x.val - 128 - 128 - 128, h⟩ : Fin 128) = x := fun x h => Fin.ext (by show 384 + x.val - 128 - 128 - 128 = x.val; omega)
  have n3 : ∀ x : Fin 128, 384 + (384 + x.val - 128 - 128 - 128) = 384 + x.val := fun x => by omega
  unfold pooled
  rw [group_chan, place_chan]
  match g with
  | 0 =>
    simp only [← h0]
    show _ = (∑ k : Fin 128, (v0 (ix2 r k) : EReal) * p0 (ix3 0 k c)) * sc (ix2 0 (chan 0 c)) * szp (ix3 0 r (chan 0 c))
    clear h0 h1 h2 h3
    pointwise [k0_pay12, chan, dif_pos, dif_neg]
    all_goals simp only [a1, a2, a3, b1, b2, b3, c2, c3, e1, e2, e3, n3, dif_neg, dif_pos, not_false_eq_true, dite_true, dite_false]
  | 1 =>
    simp only [← h1]
    show _ = (∑ k : Fin 128, (v1 (ix2 r k) : EReal) * p1 (ix3 0 k c)) * sc (ix2 0 (chan 1 c)) * szp (ix3 0 r (chan 1 c))
    clear h0 h1 h2 h3
    pointwise [k0_pay12, chan, dif_pos, dif_neg]
    all_goals simp only [a1, a2, a3, b1, b2, b3, c2, c3, e1, e2, e3, n3, dif_neg, dif_pos, not_false_eq_true, dite_true, dite_false]
  | 2 =>
    simp only [← h2]
    show _ = (∑ k : Fin 128, (v2 (ix2 r k) : EReal) * p2 (ix3 0 k c)) * sc (ix2 0 (chan 2 c)) * szp (ix3 0 r (chan 2 c))
    clear h0 h1 h2 h3
    pointwise [k0_pay12, chan, dif_pos, dif_neg]
    all_goals simp only [a1, a2, a3, b1, b2, b3, c2, c3, e1, e2, e3, n3, dif_neg, dif_pos, not_false_eq_true, dite_true, dite_false]
  | 3 =>
    simp only [← h3]
    show _ = (∑ k : Fin 128, (v3 (ix2 r k) - u (ix2 r (chan 3 k)) : EReal) * p3 (ix3 0 k c)) * sc (ix2 0 (chan 3 c)) * szp (ix3 0 r (chan 3 c))
    clear h0 h1 h2 h3
    pointwise [k0_pay12, chan, dif_pos, dif_neg]
    all_goals simp only [a1, a2, a3, b1, b2, b3, c2, c3, e1, e2, e3, n3, dif_neg, dif_pos, not_false_eq_true, dite_true, dite_false]

/-- The rows before a grid point's rows: the halo, which at the first point of a sequence is zero. -/
theorem halo_at (i : grid0.Coords) (h : FVec Ideal S1x16x512 .f32) (b : Fin 16) (j : Fin 512) :
    (k0_pay3 (F := Ideal) i h (ix2 b j) : EReal) = if (i 1).val = 0 then 0 else h (ix3 0 b j) := by
  have hc : ∀ n : Fin 16, Scalar.cmpi .sgt (BitVec.ofNat 32 n.val) 0#32 = if n.val = 0 then 0#1 else 1#1 := by decide
  have hi := hc (i 1)
  unfold k0_pay3
  dsimp only
  rw [hi]
  by_cases h0 : (i 1).val = 0
  · rw [if_pos h0, if_pos h0]
    simp only [Scalar.select, show ¬ (0#1 = (1 : BitVec 1)) from by decide, if_false]
    pointwise []
  · rw [if_neg h0, if_neg h0]
    simp only [Scalar.select, show (1#1 = (1 : BitVec 1)) from rfl, if_true]
    pointwise []

set_option maxHeartbeats 2000000 in
/-- A grid point's block. -/
theorem block_apply (i : grid0.Coords) (U : FVec Ideal S1x512x512 .f32) (E : FVec Ideal S528x512 .f32) (x0 : FVec Ideal S1x512x512 .bf16) (x3 : FVec Ideal S1x512x512 .f32) (x4 : FVec Ideal S1x512x1024 .f32) (x5 : FVec Ideal S4x128x128 .bf16)
    (x6 : FVec Ideal S1x512 .f32) (x7 : FVec Ideal S1024x1024 .bf16) (x8 : FVec Ideal S1x1024 .f32) (z : Fin 1) (r : Fin 512) (e : Fin 1024) :
    (block (F := Ideal) i U E x0 x3 x4 x5 x6 x7 x8 (ix3 z r e) : EReal)
      = finished (fun e => x4 (ix3 0 r e)) (fun j => x0 (ix3 0 r j))
          (pooled (fun j => deviation (span (group j)) (Cert.Out.count (512 * (i 1).val + r.val) (group j)) (shifted U E r j))
            (fun g k e => x5 (ix3 g k e)) (fun j => x6 (ix2 0 j)) (fun j => x3 (ix3 0 r j)))
          (fun j e => x7 (ix2 j e)) (fun e => x8 (ix2 0 e)) e := by
  unfold block
  rw [finish_apply]
  congr 1
  funext j
  rw [pool_apply (d := fun j => deviation (span (group j)) (Cert.Out.count (512 * (i 1).val + r.val) (group j)) (shifted U E r j))]
  · congr 1
    funext g k e
    match g with
    | 0 => exact group_weights x5 0 0 rfl _ k e
    | 1 => exact group_weights x5 1 1 rfl _ k e
    | 2 => exact group_weights x5 2 2 rfl _ k e
    | 3 => exact group_weights x5 3 3 rfl _ k e
  · intro c; rw [group_chan]; exact deviation0 i U E r c
  · intro c; rw [group_chan]; exact deviation1 i U E r c
  · intro c; rw [group_chan]; exact deviation2 i U E r c
  · intro c; rw [group_chan]; exact deviation3 i U E r c

end Cert.FinishBlock
-- ==== Proof.Trailing.lean ====
/- The sum over a window that trails along the middle axis, read at an index. -/
module

public import proofs.«01_k».proof.Proof.FinishSpec
public import Idealize.ShloMosaic.Lib.Pointwise

@[expose] public section

set_option maxRecDepth 16384

noncomputable section

namespace Cert.Out

open Idealize.ShloMosaic

/-- A fold of additions is a sum. -/
theorem foldl_add (n : ℕ) (f : Fin n → EReal) : (List.finRange n).foldl (fun r k => r + f k) 0 = ∑ k, f k := by
  rw [← List.sum_ofFn, List.ofFn_eq_map, ← List.foldl_map (f := f) (g := fun r k => r + k)]
  exact List.sum_eq_foldl.symm

/-- The places of a window along the middle axis. -/
def along (w : ℕ) : (⟨3, ![1, w, 1]⟩ : Shape).Idx ≃ Fin w where
  toFun i := i 1
  invFun k := ix3 (0 : Fin 1) k (0 : Fin 1)
  left_inv i := funext fun a => match a with
    | ⟨0, _⟩ => Subsingleton.elim (α := Fin 1) _ _
    | ⟨1, _⟩ => rfl
    | ⟨2, _⟩ => Subsingleton.elim (α := Fin 1) _ _
  right_inv k := rfl

/-- The column of an array of rows, zero past its end. -/
def column {B T C : ℕ} (x : FVec Ideal ⟨3, ![B, T, C]⟩ .f32) (b : Fin B) (c : Fin C) (t : ℕ) : EReal :=
  if h : t < T then x (ix3 b ⟨t, h⟩ c) else 0

theorem trailing {B T C w : ℕ} {u : Shape} (hw : 0 < w) (x : FVec Ideal ⟨3, ![B, T, C]⟩ .f32) (init : u.Idx → Ideal .f32) (hi : ∀ i, (init i : EReal) = 0)
    (h : (⟨3, ![B, T, C]⟩ : Shape).ReduceWindows ![1, w, 1] ![1, 1, 1] ![0, w - 1, 0] ![0, 0, 0] ⟨3, ![B, T, C]⟩) (hu : 0 < u.numel) (b : Fin B) (t : Fin T) (c : Fin C) :
    (Host.reduceWindowAdd ![1, w, 1] ![1, 1, 1] ![0, w - 1, 0] ![0, 0, 0] x init h hu (ix3 b t c) : EReal)
      = ∑ k ∈ Finset.range w, back (column x b c) t.val k := by
  simp only [Host.reduceWindowAdd, Ideal.hostReduceWindowAdd_def, Host.reduceWindow, hi]
  refine (foldl_add _ _).trans ?_
  rw [← Finset.sum_range_reflect, ← Fin.sum_univ_eq_sum_range (fun k => back (column x b c) t.val (w - 1 - k))]
  refine Fintype.sum_equiv ((⟨3, ![1, w, 1]⟩ : Shape).rowMajor.symm.trans (along w)) _ _ fun n => ?_
  have hk : (((⟨3, ![1, w, 1]⟩ : Shape).rowMajor.symm.trans (along w)) n).val = ((⟨3, ![1, w, 1]⟩ : Shape).rowMajor.symm n 1).val := rfl
  generalize (⟨3, ![1, w, 1]⟩ : Shape).rowMajor.symm.trans (along w) n = k at hk ⊢
  have h0 : ((⟨3, ![1, w, 1]⟩ : Shape).rowMajor.symm n 0).val = 0 := by
    have := ((⟨3, ![1, w, 1]⟩ : Shape).rowMajor.symm n 0).isLt
    change _ < 1 at this
    omega
  have h2 : ((⟨3, ![1, w, 1]⟩ : Shape).rowMajor.symm n 2).val = 0 := by
    have := ((⟨3, ![1, w, 1]⟩ : Shape).rowMajor.symm n 2).isLt
    change _ < 1 at this
    omega
  have hkw := k.isLt
  have ht := t.isLt
  unfold back column
  by_cases hin : w - 1 - k.val ≤ t.val
  · rw [if_pos hin, dif_pos (by omega : t.val - (w - 1 - k.val) < T), dif_pos ?_]
    · refine congrArg x (funext fun a => Fin.ext ?_)
      match a with
      | ⟨0, _⟩ => show b.val * 1 + ((⟨3, ![1, w, 1]⟩ : Shape).rowMajor.symm n 0).val - 0 = b.val; omega
      | ⟨1, _⟩ => show t.val * 1 + ((⟨3, ![1, w, 1]⟩ : Shape).rowMajor.symm n 1).val - (w - 1) = t.val - (w - 1 - k.val); omega
      | ⟨2, _⟩ => show c.val * 1 + ((⟨3, ![1, w, 1]⟩ : Shape).rowMajor.symm n 2).val - 0 = c.val; omega
    · intro a
      match a with
      | ⟨0, _⟩ => show 0 ≤ b.val * 1 + ((⟨3, ![1, w, 1]⟩ : Shape).rowMajor.symm n 0).val ∧ b.val * 1 + ((⟨3, ![1, w, 1]⟩ : Shape).rowMajor.symm n 0).val - 0 < B; have := b.isLt; omega
      | ⟨1, _⟩ => show w - 1 ≤ t.val * 1 + ((⟨3, ![1, w, 1]⟩ : Shape).rowMajor.symm n 1).val ∧ t.val * 1 + ((⟨3, ![1, w, 1]⟩ : Shape).rowMajor.symm n 1).val - (w - 1) < T; omega
      | ⟨2, _⟩ => show 0 ≤ c.val * 1 + ((⟨3, ![1, w, 1]⟩ : Shape).rowMajor.symm n 2).val ∧ c.val * 1 + ((⟨3, ![1, w, 1]⟩ : Shape).rowMajor.symm n 2).val - 0 < C; have := c.isLt; omega
  · rw [if_neg hin, dif_neg ?_]
    intro hh
    have := (hh 1).1
    change w - 1 ≤ t.val * 1 + ((⟨3, ![1, w, 1]⟩ : Shape).rowMajor.symm n 1).val at this
    omega

end Cert.Out
-- ==== Proof.FinishFinal.lean ====
/- The prompt's last step: its array when its grid is done, as a function of the arguments. -/
module

public import proofs.«01_k».proof.Proof.FinishBlock
public import proofs.«01_k».proof.Proof.Trailing
public import Idealize.ShloMosaic.Lib.Pipeline.ValueKit.Geometry
public import Idealize.ShloMosaic.Lib.Decide
public import Idealize.ShloMosaic.Lib.Pointwise

@[expose] public section

set_option maxRecDepth 16384

noncomputable section

namespace Cert.FinishFinal

open Cert.FinishIdeal Cert.FinishIdeal.Gen
open Cert.Proj Cert.Out Cert.FinishBlock
open Idealize.ShloMosaic Idealize.ShloMosaic.TcCoe

/-- The weights of the groups, the output weights and the gain, as the grid takes them. -/
def hostPool (w : FVec Ideal S1x4x128x128 .f32) : FVec Ideal S4x128x128 .bf16 := truncf .bf16 (shapeCast S4x128x128 w shapeCasts_S1x4x128x128_S4x128x128) bitsLt_bf16_f32
def hostOut (w : FVec Ideal S1x1024x1024 .f32) : FVec Ideal S1024x1024 .bf16 := truncf .bf16 (shapeCast S1024x1024 w shapeCasts_S1x1024x1024_S1024x1024) bitsLt_bf16_f32
def hostGain (g : FVec Ideal S1024 .f32) : FVec Ideal S1x1024 .f32 := shapeCast S1x1024 g shapeCasts_S1024_S1x1024

theorem hostPool_at (w : FVec Ideal S1x4x128x128 .f32) (g : Fin 4) (k e : Fin 128) : (hostPool w (ix3 g k e) : EReal) = w (ix4 0 g k e) := by
  pointwise [hostPool]
theorem hostOut_at (w : FVec Ideal S1x1024x1024 .f32) (j e : Fin 1024) : (hostOut w (ix2 j e) : EReal) = w (ix3 0 j e) := by
  pointwise [hostOut]
theorem hostGain_at (g : FVec Ideal S1024 .f32) (e : Fin 1024) : (hostGain g (ix2 0 e) : EReal) = g (ix1 e) := by
  pointwise [hostGain]

/-- The answer of the prompt `b`'s row `s` at column `e`. -/
def answer (a : FVec Ideal S2x8192x512 .bf16) (u szp : FVec Ideal S2x8192x512 .f32) (x : FVec Ideal S2x8192x1024 .f32)
    (pw : FVec Ideal S1x4x128x128 .f32) (sc : FVec Ideal S1x512 .f32) (wo : FVec Ideal S1x1024x1024 .f32) (fg : FVec Ideal S1024 .f32) (b : Fin 2) (s : Fin 8192) (e : Fin 1024) : EReal :=
  finished (fun e => x (ix3 b s e)) (fun j => a (ix3 b s j))
    (pooled (fun j => deviation (span (group j)) (Cert.Out.count s.val (group j)) (back (Cert.Out.column u b j) s.val))
      (fun g k e => pw (ix4 0 g k e)) (fun j => sc (ix2 0 j)) (fun j => szp (ix3 b s j)))
    (fun j e => wo (ix3 0 j e)) (fun e => fg (ix1 e)) e

variable (m : (ℓ : Loc nD τ sig) → Buf (Elt Ideal) ℓ) (c : Dev nD)

theorem V_v1 : V m c main_v1 = hostPool (m ((c : Thread nD τ).loc main_arg4)) := by
  show StableHlo.after hostOps0 _ (Proc.devRef .tc main_v1) = _
  after_results
  rfl

theorem V_v3 : V m c main_v3 = hostOut (m ((c : Thread nD τ).loc main_arg6)) := by
  show StableHlo.after hostOps0 _ (Proc.devRef .tc main_v3) = _
  after_results
  rfl

theorem V_v4 : V m c main_v4 = hostGain (m ((c : Thread nD τ).loc main_arg7)) := by
  show StableHlo.after hostOps0 _ (Proc.devRef .tc main_v4) = _
  after_results
  rfl

/-- A block as large as its array is the array. -/
theorem whole_block {S : Shape} (ix : Fin S.rank → ℕ) (inb : ∀ a, ix a * S.size a + S.size a ≤ S.size a) (h : ∀ a, ix a = 0) (y : S.Idx) :
    (Rect.unit (s := S) (fun a => ix a * S.size a) S.size inb).emb y = y := by
  funext a
  refine Fin.ext ((ValueKit.rect_emb_unit_val _ _ inb y a).trans ?_)
  rw [h a, Nat.zero_mul, Nat.zero_add]

theorem points : cfg0.N = 32 := of_decide_eq_true (by sl_kernel_rfl)
theorem place_of : ∀ t : Fin cfg0.N, ((grid0.coords t) 1).val = t.val % 16 := of_decide_eq_true (by sl_kernel_rfl)

/-- The prompt and the position in it of row `r` of block `t`. -/
def batchOf (t : Fin cfg0.N) : Fin 2 := ⟨t.val / 16, by have h : t.val < 32 := lt_of_lt_of_eq t.isLt points; omega⟩
def posOf (t : Fin cfg0.N) (r : Fin 512) : Fin 8192 := ⟨t.val % 16 * 512 + r.val, by omega⟩
/-- The position of row `p` of block `t`'s halo. -/
def haloOf (t : Fin cfg0.N) (p : Fin 16) : Fin 8192 := ⟨(32 * (t.val % 16) - 1) * 16 + p.val, by omega⟩

theorem rows512 (ix : Fin 3 → ℕ) (inb : ∀ a : Fin 3, ix a * S1x512x512.size a + S1x512x512.size a ≤ S2x8192x512.size a) (t : Fin cfg0.N)
    (r : Fin 512) (j : Fin 512) (e : ix = ![t.val / 16, t.val % 16, 0]) :
    (Rect.unit (s := S2x8192x512) (fun a => ix a * S1x512x512.size a) S1x512x512.size inb).emb (ix3 0 r j) = ix3 (batchOf t) (posOf t r) j := by
  subst e
  funext a
  refine Fin.ext ((ValueKit.rect_emb_unit_val _ _ inb (ix3 0 r j) a).trans ?_)
  match a with
  | ⟨0, _⟩ => show t.val / 16 * 1 + 0 = t.val / 16; omega
  | ⟨1, _⟩ => show t.val % 16 * 512 + r.val = t.val % 16 * 512 + r.val; rfl
  | ⟨2, _⟩ => show 0 * 512 + j.val = j.val; omega

theorem rows1024 (ix : Fin 3 → ℕ) (inb : ∀ a : Fin 3, ix a * S1x512x1024.size a + S1x512x1024.size a ≤ S2x8192x1024.size a) (t : Fin cfg0.N)
    (r : Fin 512) (j : Fin 1024) (e : ix = ![t.val / 16, t.val % 16, 0]) :
    (Rect.unit (s := S2x8192x1024) (fun a => ix a * S1x512x1024.size a) S1x512x1024.size inb).emb (ix3 0 r j) = ix3 (batchOf t) (posOf t r) j := by
  subst e
  funext a
  refine Fin.ext ((ValueKit.rect_emb_unit_val _ _ inb (ix3 0 r j) a).trans ?_)
  match a with
  | ⟨0, _⟩ => show t.val / 16 * 1 + 0 = t.val / 16; omega
  | ⟨1, _⟩ => show t.val % 16 * 512 + r.val = t.val % 16 * 512 + r.val; rfl
  | ⟨2, _⟩ => show 0 * 1024 + j.val = j.val; omega

theorem halo512 (ix : Fin 3 → ℕ) (inb : ∀ a : Fin 3, ix a * S1x16x512.size a + S1x16x512.size a ≤ S2x8192x512.size a) (t : Fin cfg0.N)
    (p : Fin 16) (j : Fin 512) (e : ix = ![t.val / 16, 32 * (t.val % 16) - 1, 0]) :
    (Rect.unit (s := S2x8192x512) (fun a => ix a * S1x16x512.size a) S1x16x512.size inb).emb (ix3 0 p j) = ix3 (batchOf t) (haloOf t p) j := by
  subst e
  funext a
  refine Fin.ext ((ValueKit.rect_emb_unit_val _ _ inb (ix3 0 p j) a).trans ?_)
  match a with
  | ⟨0, _⟩ => show t.val / 16 * 1 + 0 = t.val / 16; omega
  | ⟨1, _⟩ => show (32 * (t.val % 16) - 1) * 16 + p.val = (32 * (t.val % 16) - 1) * 16 + p.val; rfl
  | ⟨2, _⟩ => show 0 * 512 + j.val = j.val; omega

theorem index_0 : ∀ t : Fin cfg0.N, ((cfg0.win 0).index t : Fin 3 → ℕ) = ![t.val / 16, t.val % 16, 0] := of_decide_eq_true (by sl_kernel_rfl)
theorem block_0 (t : Fin cfg0.N) (r : Fin 512) (j : Fin 512) : (iblk m c 0 t (ix3 0 r j) : EReal) = (m ((c : Thread nD τ).loc main_arg0)) (ix3 (batchOf t) (posOf t r) j) :=
  (congrArg (V m c main_arg0 : S2x8192x512.Idx → EReal) (rows512 _ _ t r j (index_0 t))).trans (congrFun (V_main_arg0 m c) _)

theorem index_1 : ∀ t : Fin cfg0.N, ((cfg0.win 1).index t : Fin 3 → ℕ) = ![t.val / 16, t.val % 16, 0] := of_decide_eq_true (by sl_kernel_rfl)
theorem block_1 (t : Fin cfg0.N) (r : Fin 512) (j : Fin 512) : (iblk m c 1 t (ix3 0 r j) : EReal) = (m ((c : Thread nD τ).loc main_arg1)) (ix3 (batchOf t) (posOf t r) j) :=
  (congrArg (V m c main_arg1 : S2x8192x512.Idx → EReal) (rows512 _ _ t r j (index_1 t))).trans (congrFun (V_main_arg1 m c) _)

theorem index_3 : ∀ t : Fin cfg0.N, ((cfg0.win 3).index t : Fin 3 → ℕ) = ![t.val / 16, t.val % 16, 0] := of_decide_eq_true (by sl_kernel_rfl)
theorem block_3 (t : Fin cfg0.N) (r : Fin 512) (j : Fin 512) : (iblk m c 3 t (ix3 0 r j) : EReal) = (m ((c : Thread nD τ).loc main_arg2)) (ix3 (batchOf t) (posOf t r) j) :=
  (congrArg (V m c main_arg2 : S2x8192x512.Idx → EReal) (rows512 _ _ t r j (index_3 t))).trans (congrFun (V_main_arg2 m c) _)

theorem index_4 : ∀ t : Fin cfg0.N, ((cfg0.win 4).index t : Fin 3 → ℕ) = ![t.val / 16, t.val % 16, 0] := of_decide_eq_true (by sl_kernel_rfl)
theorem block_4 (t : Fin cfg0.N) (r : Fin 512) (j : Fin 1024) : (iblk m c 4 t (ix3 0 r j) : EReal) = (m ((c : Thread nD τ).loc main_arg3)) (ix3 (batchOf t) (posOf t r) j) :=
  (congrArg (V m c main_arg3 : S2x8192x1024.Idx → EReal) (rows1024 _ _ t r j (index_4 t))).trans (congrFun (V_main_arg3 m c) _)

theorem index_2 : ∀ t : Fin cfg0.N, ((cfg0.win 2).index t : Fin 3 → ℕ) = ![t.val / 16, 32 * (t.val % 16) - 1, 0] := of_decide_eq_true (by sl_kernel_rfl)
theorem block_2 (t : Fin cfg0.N) (p : Fin 16) (j : Fin 512) : (iblk m c 2 t (ix3 0 p j) : EReal) = (m ((c : Thread nD τ).loc main_arg1)) (ix3 (batchOf t) (haloOf t p) j) :=
  (congrArg (V m c main_arg1 : S2x8192x512.Idx → EReal) (halo512 _ _ t p j (index_2 t))).trans (congrFun (V_main_arg1 m c) _)

theorem index_5 : ∀ t : Fin cfg0.N, ∀ a : Fin 3, ((cfg0.win 5).index t : Fin 3 → ℕ) a = 0 := of_decide_eq_true (by sl_kernel_rfl)
theorem block_5 (t : Fin cfg0.N) : (iblk m c 5 t : S4x128x128.Idx → EReal) = hostPool (m ((c : Thread nD τ).loc main_arg4)) :=
  funext fun y => (congrArg (V m c main_v1 : S4x128x128.Idx → EReal) (whole_block (S := S4x128x128) _ _ (index_5 t) y)).trans (congrFun (V_v1 m c) _)

theorem index_6 : ∀ t : Fin cfg0.N, ∀ a : Fin 2, ((cfg0.win 6).index t : Fin 2 → ℕ) a = 0 := of_decide_eq_true (by sl_kernel_rfl)
theorem block_6 (t : Fin cfg0.N) : (iblk m c 6 t : S1x512.Idx → EReal) = (m ((c : Thread nD τ).loc main_arg5)) :=
  funext fun y => (congrArg (V m c main_arg5 : S1x512.Idx → EReal) (whole_block (S := S1x512) _ _ (index_6 t) y)).trans (congrFun (V_main_arg5 m c) _)

theorem index_7 : ∀ t : Fin cfg0.N, ∀ a : Fin 2, ((cfg0.win 7).index t : Fin 2 → ℕ) a = 0 := of_decide_eq_true (by sl_kernel_rfl)
theorem block_7 (t : Fin cfg0.N) : (iblk m c 7 t : S1024x1024.Idx → EReal) = hostOut (m ((c : Thread nD τ).loc main_arg6)) :=
  funext fun y => (congrArg (V m c main_v3 : S1024x1024.Idx → EReal) (whole_block (S := S1024x1024) _ _ (index_7 t) y)).trans (congrFun (V_v3 m c) _)

theorem index_8 : ∀ t : Fin cfg0.N, ∀ a : Fin 2, ((cfg0.win 8).index t : Fin 2 → ℕ) a = 0 := of_decide_eq_true (by sl_kernel_rfl)
theorem block_8 (t : Fin cfg0.N) : (iblk m c 8 t : S1x1024.Idx → EReal) = hostGain (m ((c : Thread nD τ).loc main_arg7)) :=
  funext fun y => (congrArg (V m c main_v4 : S1x1024.Idx → EReal) (whole_block (S := S1x1024) _ _ (index_8 t) y)).trans (congrFun (V_v4 m c) _)

theorem index_9 : ∀ t : Fin cfg0.N, ((cfg0.win 9).index t : Fin 3 → ℕ) = ![t.val / 16, t.val % 16, 0] := of_decide_eq_true (by sl_kernel_rfl)
theorem covers_9 : (cfg0.win 9).Covers := of_decide_eq_true (by sl_kernel_rfl)

theorem deviation_congr (w : ℕ) (hw : w ≤ 16) (n n' : EReal) (hn : n = n') (f f' : ℕ → EReal) (h : ∀ k, k < 16 → f k = f' k) : deviation w n f = deviation w n' f' := by
  unfold deviation
  rw [Finset.sum_congr rfl fun k hk => h k (lt_of_lt_of_le (Finset.mem_range.mp hk) hw), h 0 (by decide), hn]

theorem span_le (g : Fin 4) : span g ≤ 16 := by revert g; decide

theorem tail_at (v : FVec Ideal S1x512x512 .f32) (r j : Fin 512) : (k0_pay4 (F := Ideal) v (ix2 r j) : EReal) = v (ix3 0 r j) := by
  pointwise [k0_pay4, k0_pay2]

/-- The rows the scratch holds are the prompt's rows. -/
theorem shifted_eq (t : Fin cfg0.N) (r j : Fin 512) (k : ℕ) (hk : k < 16) :
    shifted (iblk m c 1 t) (extended (k0_pay3 (F := Ideal) (grid0.coords t) (iblk m c 2 t)) (k0_pay4 (iblk m c 1 t))) r j k
      = back (Cert.Out.column ((m ((c : Thread nD τ).loc main_arg1)) : FVec Ideal ⟨3, ![2, 8192, 512]⟩ .f32) (batchOf t) j) (posOf t r).val k := by
  have hr := r.isLt
  have hp : (posOf t r).val = t.val % 16 * 512 + r.val := rfl
  have hpl := (posOf t r).isLt
  have hc := place_of t
  unfold shifted back Cert.Out.column
  by_cases h0 : k = 0
  · subst h0
    rw [if_pos rfl, if_pos (Nat.zero_le _), dif_pos (by omega)]
    exact block_1 m c t r j
  rw [if_neg h0]
  unfold extended
  by_cases hkr : r.val < k
  · rw [dif_pos (by show 16 + r.val - k < 16; omega)]
    refine (halo_at (grid0.coords t) (iblk m c 2 t) _ j).trans ?_
    by_cases hz : t.val % 16 = 0
    · rw [if_pos (hc.trans hz), if_neg (by omega)]
    · rw [if_neg (fun h => hz (hc.symm.trans h)), if_pos (by omega), dif_pos (by omega)]
      refine (block_2 m c t _ j).trans (congrArg (m ((c : Thread nD τ).loc main_arg1)) ?_)
      refine congrArg (fun s => ix3 (batchOf t) s j) (Fin.ext ?_)
      show (32 * (t.val % 16) - 1) * 16 + (16 + r.val - k) = (posOf t r).val - k
      omega
  · rw [dif_neg (by show ¬ 16 + r.val - k < 16; omega), if_pos (by omega), dif_pos (by omega)]
    refine (tail_at _ _ j).trans ((block_1 m c t _ j).trans (congrArg (m ((c : Thread nD τ).loc main_arg1)) ?_))
    refine congrArg (fun s => ix3 (batchOf t) s j) (Fin.ext ?_)
    show t.val % 16 * 512 + (16 + r.val - k - 16) = (posOf t r).val - k
    omega

theorem row_at (t : Fin cfg0.N) (r : Fin 512) (e : Fin 1024) : (outsAt0 m c t (ix3 0 r e) : EReal) = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (posOf t r) e := by
  unfold outsAt0
  rw [out9_eq, block_apply, block_5 m c t, block_6 m c t, block_7 m c t, block_8 m c t]
  simp only [hostPool_at, hostOut_at, hostGain_at, block_0 m c t, block_3 m c t, block_4 m c t]
  unfold answer
  have hd : (fun j => deviation (span (group j)) (Cert.Out.count (512 * ((grid0.coords t) 1).val + r.val) (group j)) (shifted (iblk m c 1 t) (extended (k0_pay3 (F := Ideal) (grid0.coords t) (iblk m c 2 t)) (k0_pay4 (iblk m c 1 t))) r j))
      = fun j => deviation (span (group j)) (Cert.Out.count (posOf t r).val (group j)) (back (Cert.Out.column ((m ((c : Thread nD τ).loc main_arg1)) : FVec Ideal ⟨3, ![2, 8192, 512]⟩ .f32) (batchOf t) j) (posOf t r).val) := by
    funext j
    refine deviation_congr _ (span_le _) _ _ (congrArg (Cert.Out.count · (group j)) ?_) _ _ (shifted_eq m c t r j)
    rw [place_of t]
    show 512 * (t.val % 16) + r.val = t.val % 16 * 512 + r.val
    omega
  rw [hd]

theorem final9 (b : Fin 2) (s : Fin 8192) (e : Fin 1024) :
    ((dats m 0 c).arrAt 9 cfg0.N : S2x8192x1024.Idx → EReal) (ix3 b s e) = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s e := by
  refine (dats m 0 c).arrAt_forall_of_covers 9 (fun (i : S2x8192x1024.Idx) (v : EReal) => v = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)) covers_9 ?_ (ix3 b s e)
  intro t _ (y : S1x512x1024.Idx)
  obtain ⟨z, r, e, rfl⟩ : ∃ (z : Fin 1) (r : Fin 512) (e : Fin 1024), y = ix3 z r e :=
    ⟨y 0, y 1, y 2, funext fun a => match a with | ⟨0, _⟩ => rfl | ⟨1, _⟩ => rfl | ⟨2, _⟩ => rfl⟩
  obtain rfl : z = 0 := Subsingleton.elim _ _
  have key : ∀ (i' : S2x8192x1024.Idx) (v v' : EReal), i' = ix3 (batchOf t) (posOf t r) e → v = v' → v' = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (posOf t r) e → v = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i' 0) (i' 1) (i' 2) := by
    rintro i' v v' rfl rfl hv
    exact hv
  exact key _ _ _ (rows1024 _ _ t r e (index_9 t)) (congrFun (after0_9 m c t) (ix3 0 r e)) (row_at m c t r e)

end Cert.FinishFinal
-- ==== Proof.FinishRef.lean ====
/- The prompt's reference read at an index. -/
module

public import proofs.«01_k».proof.Proof.FinishFinal
public import proofs.«01_k».proof.Proof.Gen.FinishReferenceIdeal.Read
public import Idealize.ShloMosaic.Lib.Pointwise

@[expose] public section

set_option maxRecDepth 16384

noncomputable section

namespace Cert.FinishRef

open Cert.FinishReferenceIdeal Cert.FinishReferenceIdeal.Read
open Cert.Proj Cert.Out Cert.FinishFinal
open Idealize.ShloMosaic

variable (a : FVec Ideal S2x8192x512 .bf16) (u szp : FVec Ideal S2x8192x512 .f32) (x : FVec Ideal S2x8192x1024 .f32)
  (pw : FVec Ideal S1x4x128x128 .f32) (sc : FVec Ideal S1x512 .f32) (wo : FVec Ideal S1x1024x1024 .f32) (fg : FVec Ideal S1024 .f32)

theorem word_at (t : Fin 8192) (g : Fin 4) (w : BitVec 32) (hw : w = BitVec.ofNat 32 (span g)) :
    FloatOps.sitofp (F := Ideal) .f32 (IntOp.minsi (IntOp.addi 1#32 (BitVec.ofNat 32 t.val)) w) = Cert.Out.count t.val g := by
  subst hw
  have ht := t.isLt
  have e : IntOp.addi 1#32 (BitVec.ofNat 32 t.val) = BitVec.ofNat 32 (t.val + 1) := by
    show 1#32 + BitVec.ofNat 32 t.val = _
    apply BitVec.eq_of_toNat_eq
    simp only [BitVec.toNat_add, BitVec.toNat_ofNat]
    omega
  have hs : span g < 2 ^ 31 := by revert g; decide
  unfold Cert.Out.count
  rw [e]
  show (((IntOp.minsi _ _).toInt : ℝ) : EReal) = _
  rw [minsi_small _ _ (by omega) hs]
  norm_cast

theorem slice0_at (b : Fin 2) (t : Fin 8192) (c : Fin 128) : (val_main_v5 (F := Ideal) u (ix3 b t c) : EReal) = u (ix3 b t (chan 0 c)) := by
  unfold val_main_v5
  pointwise [chan]

theorem sum0_at (b : Fin 2) (t : Fin 8192) (c : Fin 128) :
    (val_main_v7 (F := Ideal) u (ix3 b t c) : EReal) = ∑ k ∈ Finset.range 2, back (Cert.Out.column u b (chan 0 c)) t.val k := by
  unfold val_main_v7
  refine (trailing (B := 2) (T := 8192) (C := 128) (w := 2) (by decide) _ _ (fun i => by pointwise [val_main_v6, val_main_cst]) _ _ b t c).trans ?_
  refine Finset.sum_congr rfl fun k _ => congrArg (fun f => back f t.val k) (funext fun s => ?_)
  unfold Cert.Out.column
  by_cases h : s < 8192
  · rw [dif_pos h, dif_pos h]
    exact slice0_at u b ⟨s, h⟩ c
  · rw [dif_neg h, dif_neg h]

theorem deviation0_at (b : Fin 2) (t : Fin 8192) (c : Fin 128) :
    (val_main_v15 (F := Ideal) u (ix3 b t c) : EReal) = deviation 2 (Cert.Out.count t.val 0) (back (Cert.Out.column u b (chan 0 c)) t.val) := by
  have e := sum0_at u b t c
  have e0 : (val_main_v5 (F := Ideal) u (ix3 b t c) : EReal) = back (Cert.Out.column u b (chan 0 c)) t.val 0 := by
    refine (slice0_at u b t c).trans ?_
    unfold back Cert.Out.column
    rw [if_pos (Nat.zero_le _), dif_pos (by have := t.isLt; omega)]
    rfl
  unfold deviation
  rw [← e, ← e0]
  unfold val_main_v15 val_main_v14 val_main_v13 val_main_v12 val_main_v11 val_main_v10 val_main_v9 val_main_v8
  generalize val_main_v7 (F := Ideal) u = Y
  generalize val_main_v5 (F := Ideal) u = Z
  pointwise [val_main_v4, val_main_v3, val_main_v2, val_main_c, val_main_c_0]
  exact congrArg (fun n => Ideal.div (Y (ix3 b t c)) n - Z (ix3 b t c)) (word_at t 0 2#32 (by decide))

theorem slice1_at (b : Fin 2) (t : Fin 8192) (c : Fin 128) : (val_main_v16 (F := Ideal) u (ix3 b t c) : EReal) = u (ix3 b t (chan 1 c)) := by
  unfold val_main_v16
  pointwise [chan]

theorem sum1_at (b : Fin 2) (t : Fin 8192) (c : Fin 128) :
    (val_main_v18 (F := Ideal) u (ix3 b t c) : EReal) = ∑ k ∈ Finset.range 4, back (Cert.Out.column u b (chan 1 c)) t.val k := by
  unfold val_main_v18
  refine (trailing (B := 2) (T := 8192) (C := 128) (w := 4) (by decide) _ _ (fun i => by pointwise [val_main_v17, val_main_cst_1]) _ _ b t c).trans ?_
  refine Finset.sum_congr rfl fun k _ => congrArg (fun f => back f t.val k) (funext fun s => ?_)
  unfold Cert.Out.column
  by_cases h : s < 8192
  · rw [dif_pos h, dif_pos h]
    exact slice1_at u b ⟨s, h⟩ c
  · rw [dif_neg h, dif_neg h]

theorem deviation1_at (b : Fin 2) (t : Fin 8192) (c : Fin 128) :
    (val_main_v26 (F := Ideal) u (ix3 b t c) : EReal) = deviation 4 (Cert.Out.count t.val 1) (back (Cert.Out.column u b (chan 1 c)) t.val) := by
  have e := sum1_at u b t c
  have e0 : (val_main_v16 (F := Ideal) u (ix3 b t c) : EReal) = back (Cert.Out.column u b (chan 1 c)) t.val 0 := by
    refine (slice1_at u b t c).trans ?_
    unfold back Cert.Out.column
    rw [if_pos (Nat.zero_le _), dif_pos (by have := t.isLt; omega)]
    rfl
  unfold deviation
  rw [← e, ← e0]
  unfold val_main_v26 val_main_v25 val_main_v24 val_main_v23 val_main_v22 val_main_v21 val_main_v20 val_main_v19
  generalize val_main_v18 (F := Ideal) u = Y
  generalize val_main_v16 (F := Ideal) u = Z
  pointwise [val_main_v4, val_main_v3, val_main_v2, val_main_c, val_main_c_2]
  exact congrArg (fun n => Ideal.div (Y (ix3 b t c)) n - Z (ix3 b t c)) (word_at t 1 4#32 (by decide))

theorem slice2_at (b : Fin 2) (t : Fin 8192) (c : Fin 128) : (val_main_v27 (F := Ideal) u (ix3 b t c) : EReal) = u (ix3 b t (chan 2 c)) := by
  unfold val_main_v27
  pointwise [chan]

theorem sum2_at (b : Fin 2) (t : Fin 8192) (c : Fin 128) :
    (val_main_v29 (F := Ideal) u (ix3 b t c) : EReal) = ∑ k ∈ Finset.range 8, back (Cert.Out.column u b (chan 2 c)) t.val k := by
  unfold val_main_v29
  refine (trailing (B := 2) (T := 8192) (C := 128) (w := 8) (by decide) _ _ (fun i => by pointwise [val_main_v28, val_main_cst_3]) _ _ b t c).trans ?_
  refine Finset.sum_congr rfl fun k _ => congrArg (fun f => back f t.val k) (funext fun s => ?_)
  unfold Cert.Out.column
  by_cases h : s < 8192
  · rw [dif_pos h, dif_pos h]
    exact slice2_at u b ⟨s, h⟩ c
  · rw [dif_neg h, dif_neg h]

theorem deviation2_at (b : Fin 2) (t : Fin 8192) (c : Fin 128) :
    (val_main_v37 (F := Ideal) u (ix3 b t c) : EReal) = deviation 8 (Cert.Out.count t.val 2) (back (Cert.Out.column u b (chan 2 c)) t.val) := by
  have e := sum2_at u b t c
  have e0 : (val_main_v27 (F := Ideal) u (ix3 b t c) : EReal) = back (Cert.Out.column u b (chan 2 c)) t.val 0 := by
    refine (slice2_at u b t c).trans ?_
    unfold back Cert.Out.column
    rw [if_pos (Nat.zero_le _), dif_pos (by have := t.isLt; omega)]
    rfl
  unfold deviation
  rw [← e, ← e0]
  unfold val_main_v37 val_main_v36 val_main_v35 val_main_v34 val_main_v33 val_main_v32 val_main_v31 val_main_v30
  generalize val_main_v29 (F := Ideal) u = Y
  generalize val_main_v27 (F := Ideal) u = Z
  pointwise [val_main_v4, val_main_v3, val_main_v2, val_main_c, val_main_c_4]
  exact congrArg (fun n => Ideal.div (Y (ix3 b t c)) n - Z (ix3 b t c)) (word_at t 2 8#32 (by decide))

theorem slice3_at (b : Fin 2) (t : Fin 8192) (c : Fin 128) : (val_main_v38 (F := Ideal) u (ix3 b t c) : EReal) = u (ix3 b t (chan 3 c)) := by
  unfold val_main_v38
  pointwise [chan]

theorem sum3_at (b : Fin 2) (t : Fin 8192) (c : Fin 128) :
    (val_main_v40 (F := Ideal) u (ix3 b t c) : EReal) = ∑ k ∈ Finset.range 16, back (Cert.Out.column u b (chan 3 c)) t.val k := by
  unfold val_main_v40
  refine (trailing (B := 2) (T := 8192) (C := 128) (w := 16) (by decide) _ _ (fun i => by pointwise [val_main_v39, val_main_cst_5]) _ _ b t c).trans ?_
  refine Finset.sum_congr rfl fun k _ => congrArg (fun f => back f t.val k) (funext fun s => ?_)
  unfold Cert.Out.column
  by_cases h : s < 8192
  · rw [dif_pos h, dif_pos h]
    exact slice3_at u b ⟨s, h⟩ c
  · rw [dif_neg h, dif_neg h]

theorem deviation3_at (b : Fin 2) (t : Fin 8192) (c : Fin 128) :
    (val_main_v48 (F := Ideal) u (ix3 b t c) : EReal) = deviation 16 (Cert.Out.count t.val 3) (back (Cert.Out.column u b (chan 3 c)) t.val) := by
  have e := sum3_at u b t c
  have e0 : (val_main_v38 (F := Ideal) u (ix3 b t c) : EReal) = back (Cert.Out.column u b (chan 3 c)) t.val 0 := by
    refine (slice3_at u b t c).trans ?_
    unfold back Cert.Out.column
    rw [if_pos (Nat.zero_le _), dif_pos (by have := t.isLt; omega)]
    rfl
  unfold deviation
  rw [← e, ← e0]
  unfold val_main_v48 val_main_v47 val_main_v46 val_main_v45 val_main_v44 val_main_v43 val_main_v42 val_main_v41
  generalize val_main_v40 (F := Ideal) u = Y
  generalize val_main_v38 (F := Ideal) u = Z
  pointwise [val_main_v4, val_main_v3, val_main_v2, val_main_c, val_main_c_6]
  exact congrArg (fun n => Ideal.div (Y (ix3 b t c)) n - Z (ix3 b t c)) (word_at t 3 16#32 (by decide))

/-- The deviation of channel `j` of row `t` of prompt `b`. -/
def channel (b : Fin 2) (t : Fin 8192) (j : Fin 512) : EReal :=
  deviation (span (group j)) (Cert.Out.count t.val (group j)) (back (Cert.Out.column u b j) t.val)

theorem channel_chan (b : Fin 2) (t : Fin 8192) (g : Fin 4) (c : Fin 128) :
    channel u b t (chan g c) = deviation (span g) (Cert.Out.count t.val g) (back (Cert.Out.column u b (chan g c)) t.val) := by
  unfold channel
  rw [group_chan]

theorem groups_at (b : Fin 2) (t : Fin 8192) (g : Fin 4) (c : Fin 128) : (val_main_v53 (F := Ideal) u (ix4 b t g c) : EReal) = channel u b t (chan g c) := by
  have h0 := deviation0_at u b t c
  have h1 := deviation1_at u b t c
  have h2 := deviation2_at u b t c
  have h3 := deviation3_at u b t c
  rw [channel_chan]
  unfold val_main_v53 val_main_v49 val_main_v50 val_main_v51 val_main_v52
  generalize val_main_v15 (F := Ideal) u = D0 at h0 ⊢
  generalize val_main_v26 (F := Ideal) u = D1 at h1 ⊢
  generalize val_main_v37 (F := Ideal) u = D2 at h2 ⊢
  generalize val_main_v48 (F := Ideal) u = D3 at h3 ⊢
  match g with
  | 0 => refine Eq.trans ?_ h0; pointwise []
  | 1 => refine Eq.trans ?_ h1; pointwise []
  | 2 => refine Eq.trans ?_ h2; pointwise []
  | 3 => refine Eq.trans ?_ h3; pointwise []

theorem pooled_at (b : Fin 2) (t : Fin 8192) (j : Fin 512) :
    (val_main_v62 (F := Ideal) u szp pw sc (ix3 b t j) : EReal)
      = pooled (channel u b t) (fun g k e => pw (ix4 0 g k e)) (fun j => sc (ix2 0 j)) (fun j => szp (ix3 b t j)) j := by
  have h := groups_at u b t
  unfold pooled
  simp only [← h]
  unfold val_main_v62 val_main_v59 val_main_v58 val_main_v57 val_main_v56 val_main_v55 val_main_v54 val_main_v1 val_main_v0
  generalize val_main_v53 (F := Ideal) u = D
  clear h
  pointwise [group, place]
  exact congrArg (fun y => y * sc (ix2 0 j) * szp (ix3 b t j)) (Finset.sum_congr rfl fun k _ => mul_comm _ _)

theorem summed_at (b : Fin 2) (t : Fin 8192) (e : Fin 1024) :
    (val_main_v65 (F := Ideal) a u szp x pw sc wo (ix3 b t e) : EReal)
      = summed (fun e => x (ix3 b t e)) (fun j => a (ix3 b t j)) (pooled (channel u b t) (fun g k e => pw (ix4 0 g k e)) (fun j => sc (ix2 0 j)) (fun j => szp (ix3 b t j)))
          (fun j e => wo (ix3 0 j e)) e := by
  have h := pooled_at u szp pw sc b t
  unfold summed
  simp only [← h]
  unfold val_main_v65 val_main_v64 val_main_v63 val_main_v61 val_main_v60
  generalize val_main_v62 (F := Ideal) u szp pw sc = D
  clear h
  pointwise []

theorem answer_at (b : Fin 2) (t : Fin 8192) (e : Fin 1024) :
    (val_main_v78 (F := Ideal) a u szp x pw sc wo fg (ix3 b t e) : EReal) = answer a u szp x pw sc wo fg b t e := by
  have h := summed_at a u szp x pw sc wo b t
  show _ = normed (summed (fun e => x (ix3 b t e)) (fun j => a (ix3 b t j)) (pooled (channel u b t) (fun g k e => pw (ix4 0 g k e)) (fun j => sc (ix2 0 j)) (fun j => szp (ix3 b t j)))
          (fun j e => wo (ix3 0 j e))) (fun e => fg (ix1 e)) e
  unfold normed meanSq
  simp only [← h]
  unfold val_main_v78 val_main_v77 val_main_v76 val_main_v75 val_main_v74 val_main_v73 val_main_v72 val_main_v71 val_main_v70 val_main_v69 val_main_v68 val_main_v67 val_main_v66
  generalize val_main_v65 (F := Ideal) a u szp x pw sc wo = D
  clear h
  pointwise [val_main_cst_7, val_main_cst_8, val_main_cst_9]

end Cert.FinishRef
-- ==== Proof.FinishEqual.lean ====
/- The prompt's last step ends at the reference's result. -/
module

public import proofs.«01_k».proof.Defs
public import proofs.«01_k».proof.Proof.FinishRef
public import proofs.«01_k».proof.Proof.Gen.FinishReferenceIdeal.Run

@[expose] public section

set_option maxRecDepth 16384

noncomputable section

namespace Cert.FinishEqual

open Cert.FinishIdeal Cert.FinishIdeal.Gen
open Idealize.ShloMosaic Idealize.ShloMosaic.TcCoe

variable (m : (ℓ : Loc nD τ sig) → Buf (Elt Ideal) ℓ) (c : Dev nD)

/-- The reference's result, of the kernel's arguments. -/
def refRow : S2x8192x1024.Idx → EReal := Cert.FinishReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem row_eq : ((dats m 0 c).arrAt 9 cfg0.N : S2x8192x1024.Idx → EReal) = refRow m c := by
  funext i
  obtain ⟨b, t, e, rfl⟩ : ∃ (b : Fin 2) (t : Fin 8192) (e : Fin 1024), i = ix3 b t e :=
    ⟨i 0, i 1, i 2, funext fun a => match a with | ⟨0, _⟩ => rfl | ⟨1, _⟩ => rfl | ⟨2, _⟩ => rfl⟩
  exact (FinishFinal.final9 m c b t e).trans (FinishRef.answer_at _ _ _ _ _ _ _ _ b t e).symm

/-- The two programs end with the same result. -/
theorem algebraic : Cert.algebraic_FinishIdeal_FinishReferenceIdeal := by
  intro m g m' g' _ hag
  refine ⟨fun c => refRow m c, ?_, ?_⟩
  · refine (θ_run _ _ _).mono ?_ (θ_run_and (run_main m g) (unchanged m g))
    rintro r ⟨hr, hu⟩ c
    exact ⟨(Pipeline.FramePost.out_eq hr c 9).trans (row_eq m c), hu c⟩
  · refine (θ_run _ _ _).mono ?_ (Cert.FinishReferenceIdeal.Value.run m' g')
    intro r h c
    obtain ⟨hrow, hargs⟩ := h c
    obtain ⟨a0, a1, a2, a3, a4, a5, a6, a7⟩ := hag c
    rw [Cert.FinishReferenceIdeal.Read.val_main_v78_eq, a0, a1, a2, a3, a4, a5, a6, a7] at hrow
    exact ⟨hrow, hargs⟩

end Cert.FinishEqual
-- ==== Proof.FinishSampleBlock.lean ====
/- The sample batch's last step, read at an index. -/
module

public import proofs.«01_k».proof.Proof.Rows
public import proofs.«01_k».proof.Proof.FinishSpec
public import proofs.«01_k».proof.Proof.Gen.FinishSampleIdeal.Frame
public import Idealize.ShloMosaic.Lib.Pointwise

@[expose] public section

set_option maxRecDepth 16384

noncomputable section

namespace Cert.FinishSampleBlock

open Cert.FinishSampleIdeal Cert.FinishSampleIdeal.Gen
open Cert.Proj Cert.Out
open Idealize.ShloMosaic Idealize.ShloMosaic.TcCoe

/-- The output weights, the residual and the norm. -/
theorem finish_apply (b : FVec Ideal S128x512 .f32) (a : FVec Ideal S128x512 .bf16) (x : FVec Ideal S128x1024 .f32) (wo : FVec Ideal S1024x1024 .bf16)
    (fg : FVec Ideal S1x1024 .f32) (r : Fin 128) (e : Fin 1024) :
    (k0_pay1 (F := Ideal) b a x wo fg (ix2 r e) : EReal)
      = finished (fun e => x (ix2 r e)) (fun j => a (ix2 r j)) (fun j => b (ix2 r j)) (fun j e => wo (ix2 j e)) (fun e => fg (ix2 0 e)) e := by
  pointwise [k0_pay1, finished, summed, normed, meanSq]

theorem attention_apply (a s : FVec Ideal S128x512 .f32) (r : Fin 128) (j : Fin 512) :
    (k0_pay9 (F := Ideal) a s (ix2 r j) : EReal) = a (ix2 r j) * s (ix2 r j) := by
  pointwise [k0_pay9]

theorem group0 (u : FVec Ideal S128x512 .f32) (s1 : FVec Ideal S1x128x128 .f32) (r c : Fin 128) :
    (k0_pay2 (F := Ideal) u s1 (ix2 r c) : EReal)
      = Ideal.div (u (ix2 r (chan 0 c)) + s1 (ix3 0 r c)) (Ideal.ofBits .f32 0x40000000#32) - u (ix2 r (chan 0 c)) := by
  pointwise [k0_pay2, chan]

theorem group1 (u : FVec Ideal S128x512 .f32) (s1 s2 s3 : FVec Ideal S1x128x128 .f32) (r c : Fin 128) :
    (k0_pay3 (F := Ideal) u s1 s2 s3 (ix2 r c) : EReal)
      = Ideal.div (u (ix2 r (chan 1 c)) + s1 (ix3 0 r c) + s2 (ix3 0 r c) + s3 (ix3 0 r c)) (Ideal.ofBits .f32 0x40800000#32) - u (ix2 r (chan 1 c)) := by
  pointwise [k0_pay3, chan]

theorem group2 (u : FVec Ideal S128x512 .f32) (s1 s2 s3 s4 s5 s6 s7 : FVec Ideal S1x128x128 .f32) (r c : Fin 128) :
    (k0_pay5 (F := Ideal) u (k0_pay4 (F := Ideal) u s1 s2 s3) s4 s5 s6 s7 (ix2 r c) : EReal)
      = Ideal.div (u (ix2 r (chan 2 c)) + s1 (ix3 0 r c) + s2 (ix3 0 r c) + s3 (ix3 0 r c) + s4 (ix3 0 r c) + s5 (ix3 0 r c) + s6 (ix3 0 r c) + s7 (ix3 0 r c)) (Ideal.ofBits .f32 0x41000000#32) - u (ix2 r (chan 2 c)) := by
  pointwise [k0_pay4, k0_pay5, chan]

theorem sum3 (u : FVec Ideal S128x512 .f32) (s1 s2 s3 s4 s5 s6 s7 s8 s9 s10 s11 s12 s13 s14 s15 : FVec Ideal S1x128x128 .f32) (r c : Fin 128) :
    (k0_pay7 (F := Ideal) (k0_pay6 (F := Ideal) u s1 s2 s3 s4 s5) s6 s7 s8 s9 s10 s11 s12 s13 s14 s15 (ix2 r c) : EReal)
      = u (ix2 r (chan 3 c)) + s1 (ix3 0 r c) + s2 (ix3 0 r c) + s3 (ix3 0 r c) + s4 (ix3 0 r c) + s5 (ix3 0 r c) + s6 (ix3 0 r c) + s7 (ix3 0 r c) + s8 (ix3 0 r c) + s9 (ix3 0 r c) + s10 (ix3 0 r c) + s11 (ix3 0 r c) + s12 (ix3 0 r c) + s13 (ix3 0 r c) + s14 (ix3 0 r c) + s15 (ix3 0 r c) := by
  pointwise [k0_pay6, k0_pay7, chan]

/-- The groups' products with their weights, scaled and gated. -/
theorem pool_apply (u : FVec Ideal S128x512 .f32) (v0 v1 v2 v3 : FVec Ideal S128x128 .f32) (q : Ideal .f32) (szp : FVec Ideal S128x512 .f32)
    (p0 p1 p2 p3 : FVec Ideal S1x128x128 .bf16) (sc : FVec Ideal S1x512 .f32) (r : Fin 128) (d : Fin 512 → EReal)
    (h0 : ∀ c : Fin 128, (v0 (ix2 r c) : EReal) = d (chan 0 c)) (h1 : ∀ c : Fin 128, (v1 (ix2 r c) : EReal) = d (chan 1 c))
    (h2 : ∀ c : Fin 128, (v2 (ix2 r c) : EReal) = d (chan 2 c)) (h3 : ∀ c : Fin 128, (Ideal.div (v3 (ix2 r c)) q - u (ix2 r (chan 3 c)) : EReal) = d (chan 3 c)) (j : Fin 512) :
    (k0_pay8 (F := Ideal) u v0 v1 v2 v3 q szp p0 p1 p2 p3 sc (ix2 r j) : EReal)
      = pooled d (fun g k e => (![p0, p1, p2, p3] g : FVec Ideal S1x128x128 .bf16) (ix3 0 k e)) (fun j => sc (ix2 0 j)) (fun j => szp (ix2 r j)) j := by
  obtain ⟨g, c, rfl⟩ : ∃ g c, j = chan g c := ⟨group j, place j, (chan_group j).symm⟩
  have a1 : ∀ x : Fin 128, ¬ 128 + x.val < 128 := fun x => by omega
  have a2 : ∀ x : Fin 128, ¬ 256 + x.val < 128 := fun x => by omega
  have a3 : ∀ x : Fin 128, ¬ 384 + x.val < 128 := fun x => by omega
  have b2 : ∀ x : Fin 128, ¬ 256 + x.val - 128 < 128 := fun x => by omega
  have b3 : ∀ x : Fin 128, ¬ 384 + x.val - 128 < 128 := fun x => by omega
  have c3 : ∀ x : Fin 128, ¬ 384 + x.val - 128 - 128 < 128 := fun x => by omega
  have b1 : ∀ x : Fin 128, 128 + x.val - 128 < 128 := fun x => by omega
  have c2 : ∀ x : Fin 128, 256 + x.val - 128 - 128 < 128 := fun x => by omega
  have e1 : ∀ (x : Fin 128) (h), (⟨128 + x.val - 128, h⟩ : Fin 128) = x := fun x h => Fin.ext (by show 128 + x.val - 128 = x.val; omega)
  have e2 : ∀ (x : Fin 128) (h), (⟨256 + x.val - 128 - 128, h⟩ : Fin 128) = x := fun x h => Fin.ext (by show 256 + x.val - 128 - 128 = x.val; omega)
  have e3 : ∀ (x : Fin 128) (h), (⟨384 + x.val - 128 - 128 - 128, h⟩ : Fin 128) = x := fun x h => Fin.ext (by show 384 + x.val - 128 - 128 - 128 = x.val; omega)
  have n3 : ∀ x : Fin 128, 384 + (384 + x.val - 128 - 128 - 128) = 384 + x.val := fun x => by omega
  unfold pooled
  rw [group_chan, place_chan]
  match g with
  | 0 =>
    simp only [← h0]
    show _ = (∑ k : Fin 128, (v0 (ix2 r k) : EReal) * p0 (ix3 0 k c)) * sc (ix2 0 (chan 0 c)) * szp (ix2 r (chan 0 c))
    clear h0 h1 h2 h3
    pointwise [k0_pay8, chan]
    all_goals simp only [a1, a2, a3, b1, b2, b3, c2, c3, e1, e2, e3, n3, dif_neg, dif_pos, not_false_eq_true, dite_true, dite_false]
  | 1 =>
    simp only [← h1]
    show _ = (∑ k : Fin 128, (v1 (ix2 r k) : EReal) * p1 (ix3 0 k c)) * sc (ix2 0 (chan 1 c)) * szp (ix2 r (chan 1 c))
    clear h0 h1 h2 h3
    pointwise [k0_pay8, chan]
    all_goals simp only [a1, a2, a3, b1, b2, b3, c2, c3, e1, e2, e3, n3, dif_neg, dif_pos, not_false_eq_true, dite_true, dite_false]
  | 2 =>
    simp only [← h2]
    show _ = (∑ k : Fin 128, (v2 (ix2 r k) : EReal) * p2 (ix3 0 k c)) * sc (ix2 0 (chan 2 c)) * szp (ix2 r (chan 2 c))
    clear h0 h1 h2 h3
    pointwise [k0_pay8, chan]
    all_goals simp only [a1, a2, a3, b1, b2, b3, c2, c3, e1, e2, e3, n3, dif_neg, dif_pos, not_false_eq_true, dite_true, dite_false]
  | 3 =>
    simp only [← h3]
    show _ = (∑ k : Fin 128, (Ideal.div (v3 (ix2 r k)) q - u (ix2 r (chan 3 k)) : EReal) * p3 (ix3 0 k c)) * sc (ix2 0 (chan 3 c)) * szp (ix2 r (chan 3 c))
    clear h0 h1 h2 h3
    pointwise [k0_pay8, chan]
    all_goals simp only [a1, a2, a3, b1, b2, b3, c2, c3, e1, e2, e3, n3, dif_neg, dif_pos, not_false_eq_true, dite_true, dite_false]

theorem word2 : (Ideal.ofBits .f32 0x40000000#32 : EReal) = count 15 0 := by
  show _ = (((2 : ℕ) : ℝ) : EReal)
  simp [Ideal.ofBits, Ideal.ieee]
  rw [← EReal.coe_mul]
  norm_num

theorem word4 : (Ideal.ofBits .f32 0x40800000#32 : EReal) = count 15 1 := by
  show _ = (((4 : ℕ) : ℝ) : EReal)
  simp [Ideal.ofBits, Ideal.ieee]
  rw [← EReal.coe_mul]
  norm_num

theorem word8 : (Ideal.ofBits .f32 0x41000000#32 : EReal) = count 15 2 := by
  show _ = (((8 : ℕ) : ℝ) : EReal)
  simp [Ideal.ofBits, Ideal.ieee]
  rw [← EReal.coe_mul]
  norm_num

theorem word16 : (Ideal.ofBits .f32 0x41800000#32 : EReal) = count 15 3 := by
  show _ = (((16 : ℕ) : ℝ) : EReal)
  simp [Ideal.ofBits, Ideal.ieee]
  rw [← EReal.coe_mul]
  norm_num

/-- A carried row's channels of one group. -/
theorem carried_cols (st : FVec Ideal S15x128x512 .f32) (s : ℕ) (hs : s < 15) (n : ℕ) (g : Fin 4) (hn : n = 128 * g.val)
    (inb : ∀ a, (![s, 0, n] : Fin 3 → ℕ) a + S1x128x128.size a ≤ S15x128x512.size a) (r c : Fin 128) :
    View.ld (Val := Elt Ideal) (e' := .f32) (S := S15x128x512) st (Rect.unit (s := S15x128x512) ![s, 0, n] S1x128x128.size inb) (ix3 0 r c)
      = st (ix3 ⟨s, hs⟩ r (chan g c)) := by
  refine congrArg st (funext fun e => Fin.ext ?_)
  refine (Cert.Cmp.unit_val inb _ e).trans ?_
  match e with
  | ⟨0, _⟩ => show s + 0 = s; omega
  | ⟨1, _⟩ => show 0 + r.val = r.val; omega
  | ⟨2, _⟩ => show n + c.val = 128 * g.val + c.val; omega

/-- One group's weights. -/
theorem group_weights (pw : FVec Ideal S4x128x128 .bf16) (g : Fin 4) (n : ℕ) (hn : n = g.val) (inb : ∀ a, (![n, 0, 0] : Fin 3 → ℕ) a + S1x128x128.size a ≤ S4x128x128.size a) (k e : Fin 128) :
    View.ld (Val := Elt Ideal) (e' := .bf16) (S := S4x128x128) pw (Rect.unit (s := S4x128x128) ![n, 0, 0] S1x128x128.size inb) (ix3 0 k e)
      = pw (ix3 g k e) := by
  refine congrArg pw (funext fun d => Fin.ext ?_)
  refine (Cert.Cmp.unit_val inb _ d).trans ?_
  match d with
  | ⟨0, _⟩ => show n + 0 = g.val; omega
  | ⟨1, _⟩ => show 0 + k.val = k.val; omega
  | ⟨2, _⟩ => show 0 + e.val = e.val; omega

set_option maxHeartbeats 2000000 in
theorem deviation0 (u : FVec Ideal S128x512 .f32) (st : FVec Ideal S15x128x512 .f32) (r c : Fin 128) :
    (k0_pay2 (F := Ideal) u (View.ld (Val := Elt Ideal) (e' := .f32) (S := S15x128x512) st r0_1) (ix2 r c) : EReal)
      = deviation 2 (count 15 0) (carried (fun s => st (ix3 s r (chan 0 c))) (u (ix2 r (chan 0 c)))) := by
  rw [group0, carried_cols st 14 (by decide) 0 0 rfl _ r c, word2]

  unfold deviation
  simp only [Finset.sum_range_succ, Finset.sum_range_zero, zero_add]
  rfl

set_option maxHeartbeats 2000000 in
theorem deviation1 (u : FVec Ideal S128x512 .f32) (st : FVec Ideal S15x128x512 .f32) (r c : Fin 128) :
    (k0_pay3 (F := Ideal) u (View.ld (Val := Elt Ideal) (e' := .f32) (S := S15x128x512) st r0_2) (View.ld (Val := Elt Ideal) (e' := .f32) (S := S15x128x512) st r0_3) (View.ld (Val := Elt Ideal) (e' := .f32) (S := S15x128x512) st r0_4) (ix2 r c) : EReal)
      = deviation 4 (count 15 1) (carried (fun s => st (ix3 s r (chan 1 c))) (u (ix2 r (chan 1 c)))) := by
  rw [group1, carried_cols st 14 (by decide) 128 1 rfl _ r c, carried_cols st 13 (by decide) 128 1 rfl _ r c, carried_cols st 12 (by decide) 128 1 rfl _ r c, word4]

  unfold deviation
  simp only [Finset.sum_range_succ, Finset.sum_range_zero, zero_add]
  rfl

set_option maxHeartbeats 2000000 in
theorem deviation2 (u : FVec Ideal S128x512 .f32) (st : FVec Ideal S15x128x512 .f32) (r c : Fin 128) :
    (k0_pay5 (F := Ideal) u (k0_pay4 (F := Ideal) u (View.ld (Val := Elt Ideal) (e' := .f32) (S := S15x128x512) st r0_5) (View.ld (Val := Elt Ideal) (e' := .f32) (S := S15x128x512) st r0_6) (View.ld (Val := Elt Ideal) (e' := .f32) (S := S15x128x512) st r0_7)) (View.ld (Val := Elt Ideal) (e' := .f32) (S := S15x128x512) st r0_8) (View.ld (Val := Elt Ideal) (e' := .f32) (S := S15x128x512) st r0_9) (View.ld (Val := Elt Ideal) (e' := .f32) (S := S15x128x512) st r0_10) (View.ld (Val := Elt Ideal) (e' := .f32) (S := S15x128x512) st r0_11) (ix2 r c) : EReal)
      = deviation 8 (count 15 2) (carried (fun s => st (ix3 s r (chan 2 c))) (u (ix2 r (chan 2 c)))) := by
  rw [group2, carried_cols st 14 (by decide) 256 2 rfl _ r c, carried_cols st 13 (by decide) 256 2 rfl _ r c, carried_cols st 12 (by decide) 256 2 rfl _ r c, carried_cols st 11 (by decide) 256 2 rfl _ r c, carried_cols st 10 (by decide) 256 2 rfl _ r c, carried_cols st 9 (by decide) 256 2 rfl _ r c, carried_cols st 8 (by decide) 256 2 rfl _ r c, word8]

  unfold deviation
  simp only [Finset.sum_range_succ, Finset.sum_range_zero, zero_add]
  rfl

set_option maxHeartbeats 2000000 in
theorem deviation3 (u : FVec Ideal S128x512 .f32) (st : FVec Ideal S15x128x512 .f32) (r c : Fin 128) :
    Ideal.div (k0_pay7 (F := Ideal) (k0_pay6 (F := Ideal) u (View.ld (Val := Elt Ideal) (e' := .f32) (S := S15x128x512) st r0_12) (View.ld (Val := Elt Ideal) (e' := .f32) (S := S15x128x512) st r0_13) (View.ld (Val := Elt Ideal) (e' := .f32) (S := S15x128x512) st r0_14) (View.ld (Val := Elt Ideal) (e' := .f32) (S := S15x128x512) st r0_15) (View.ld (Val := Elt Ideal) (e' := .f32) (S := S15x128x512) st r0_16)) (View.ld (Val := Elt Ideal) (e' := .f32) (S := S15x128x512) st r0_17) (View.ld (Val := Elt Ideal) (e' := .f32) (S := S15x128x512) st r0_18) (View.ld (Val := Elt Ideal) (e' := .f32) (S := S15x128x512) st r0_19) (View.ld (Val := Elt Ideal) (e' := .f32) (S := S15x128x512) st r0_20) (View.ld (Val := Elt Ideal) (e' := .f32) (S := S15x128x512) st r0_21) (View.ld (Val := Elt Ideal) (e' := .f32) (S := S15x128x512) st r0_22) (View.ld (Val := Elt Ideal) (e' := .f32) (S := S15x128x512) st r0_23) (View.ld (Val := Elt Ideal) (e' := .f32) (S := S15x128x512) st r0_24) (View.ld (Val := Elt Ideal) (e' := .f32) (S := S15x128x512) st r0_25) (View.ld (Val := Elt Ideal) (e' := .f32) (S := S15x128x512) st r0_26) (ix2 r c)) (Scalar.ofBits (F := Ideal) .f32 0x41800000#32) - u (ix2 r (chan 3 c))
      = deviation 16 (count 15 3) (carried (fun s => st (ix3 s r (chan 3 c))) (u (ix2 r (chan 3 c)))) := by
  rw [sum3, carried_cols st 14 (by decide) 384 3 rfl _ r c, carried_cols st 13 (by decide) 384 3 rfl _ r c, carried_cols st 12 (by decide) 384 3 rfl _ r c, carried_cols st 11 (by decide) 384 3 rfl _ r c, carried_cols st 10 (by decide) 384 3 rfl _ r c, carried_cols st 9 (by decide) 384 3 rfl _ r c, carried_cols st 8 (by decide) 384 3 rfl _ r c, carried_cols st 7 (by decide) 384 3 rfl _ r c, carried_cols st 6 (by decide) 384 3 rfl _ r c, carried_cols st 5 (by decide) 384 3 rfl _ r c, carried_cols st 4 (by decide) 384 3 rfl _ r c, carried_cols st 3 (by decide) 384 3 rfl _ r c, carried_cols st 2 (by decide) 384 3 rfl _ r c, carried_cols st 1 (by decide) 384 3 rfl _ r c, carried_cols st 0 (by decide) 384 3 rfl _ r c]
  rw [show (Scalar.ofBits (F := Ideal) .f32 0x41800000#32 : EReal) = count 15 3 from word16]
  unfold deviation
  simp only [Finset.sum_range_succ, Finset.sum_range_zero, zero_add]
  rfl

theorem whole512 (u : FVec Ideal S128x512 .f32) : View.ld (Val := Elt Ideal) (e' := .f32) (S := S128x512) u r0_0 = u :=
  View.ld_unit_zero (funext fun a => by revert a; decide) _ _
theorem whole_scale (u : FVec Ideal S1x512 .f32) : View.ld (Val := Elt Ideal) (e' := .f32) (S := S1x512) u r0_31 = u :=
  View.ld_unit_zero (funext fun a => by revert a; decide) _ _
theorem whole_x (u : FVec Ideal S128x1024 .f32) : View.ld (Val := Elt Ideal) (e' := .f32) (S := S128x1024) u r0_32 = u :=
  View.ld_unit_zero (funext fun a => by revert a; decide) _ _
theorem whole_wo (u : FVec Ideal S1024x1024 .bf16) : View.ld (Val := Elt Ideal) (e' := .bf16) (S := S1024x1024) u r0_33 = u :=
  View.ld_unit_zero (funext fun a => by revert a; decide) _ _
theorem whole_fg (u : FVec Ideal S1x1024 .f32) : View.ld (Val := Elt Ideal) (e' := .f32) (S := S1x1024) u r0_34 = u :=
  View.ld_unit_zero (funext fun a => by revert a; decide) _ _

set_option maxHeartbeats 4000000 in
/-- The block of the result. -/
theorem out_apply (a s u : FVec Ideal S128x512 .f32) (st : FVec Ideal S15x128x512 .f32) (szp : FVec Ideal S128x512 .f32) (x : FVec Ideal S128x1024 .f32)
    (pw : FVec Ideal S4x128x128 .bf16) (sc : FVec Ideal S1x512 .f32) (wo : FVec Ideal S1024x1024 .bf16) (fg : FVec Ideal S1x1024 .f32) (r : Fin 128) (e : Fin 1024) :
    (out0_10 (F := Ideal) a s u st szp x pw sc wo fg (ix2 r e) : EReal)
      = finished (fun e => x (ix2 r e)) (fun j => a (ix2 r j) * s (ix2 r j))
          (pooled (fun j => deviation (span (group j)) (count 15 (group j)) (carried (fun s => st (ix3 s r j)) (u (ix2 r j))))
            (fun g k e => pw (ix3 g k e)) (fun j => sc (ix2 0 j)) (fun j => szp (ix2 r j)))
          (fun j e => wo (ix2 j e)) (fun e => fg (ix2 0 e)) e := by
  have h : out0_10 (F := Ideal) a s u st szp x pw sc wo fg = k0_pay1 (F := Ideal) (k0_pay8 (F := Ideal) (View.ld (Val := Elt Ideal) (e' := .f32) (S := S128x512) u r0_0)
      (k0_pay2 (F := Ideal) (View.ld (Val := Elt Ideal) (e' := .f32) (S := S128x512) u r0_0) (View.ld (Val := Elt Ideal) (e' := .f32) (S := S15x128x512) st r0_1)) (k0_pay3 (F := Ideal) (View.ld (Val := Elt Ideal) (e' := .f32) (S := S128x512) u r0_0) (View.ld (Val := Elt Ideal) (e' := .f32) (S := S15x128x512) st r0_2) (View.ld (Val := Elt Ideal) (e' := .f32) (S := S15x128x512) st r0_3) (View.ld (Val := Elt Ideal) (e' := .f32) (S := S15x128x512) st r0_4)) (k0_pay5 (F := Ideal) (View.ld (Val := Elt Ideal) (e' := .f32) (S := S128x512) u r0_0) (k0_pay4 (F := Ideal) (View.ld (Val := Elt Ideal) (e' := .f32) (S := S128x512) u r0_0) (View.ld (Val := Elt Ideal) (e' := .f32) (S := S15x128x512) st r0_5) (View.ld (Val := Elt Ideal) (e' := .f32) (S := S15x128x512) st r0_6) (View.ld (Val := Elt Ideal) (e' := .f32) (S := S15x128x512) st r0_7)) (View.ld (Val := Elt Ideal) (e' := .f32) (S := S15x128x512) st r0_8) (View.ld (Val := Elt Ideal) (e' := .f32) (S := S15x128x512) st r0_9) (View.ld (Val := Elt Ideal) (e' := .f32) (S := S15x128x512) st r0_10) (View.ld (Val := Elt Ideal) (e' := .f32) (S := S15x128x512) st r0_11))
      (k0_pay7 (F := Ideal) (k0_pay6 (F := Ideal) (View.ld (Val := Elt Ideal) (e' := .f32) (S := S128x512) u r0_0) (View.ld (Val := Elt Ideal) (e' := .f32) (S := S15x128x512) st r0_12) (View.ld (Val := Elt Ideal) (e' := .f32) (S := S15x128x512) st r0_13) (View.ld (Val := Elt Ideal) (e' := .f32) (S := S15x128x512) st r0_14) (View.ld (Val := Elt Ideal) (e' := .f32) (S := S15x128x512) st r0_15) (View.ld (Val := Elt Ideal) (e' := .f32) (S := S15x128x512) st r0_16)) (View.ld (Val := Elt Ideal) (e' := .f32) (S := S15x128x512) st r0_17) (View.ld (Val := Elt Ideal) (e' := .f32) (S := S15x128x512) st r0_18) (View.ld (Val := Elt Ideal) (e' := .f32) (S := S15x128x512) st r0_19) (View.ld (Val := Elt Ideal) (e' := .f32) (S := S15x128x512) st r0_20) (View.ld (Val := Elt Ideal) (e' := .f32) (S := S15x128x512) st r0_21) (View.ld (Val := Elt Ideal) (e' := .f32) (S := S15x128x512) st r0_22) (View.ld (Val := Elt Ideal) (e' := .f32) (S := S15x128x512) st r0_23) (View.ld (Val := Elt Ideal) (e' := .f32) (S := S15x128x512) st r0_24) (View.ld (Val := Elt Ideal) (e' := .f32) (S := S15x128x512) st r0_25) (View.ld (Val := Elt Ideal) (e' := .f32) (S := S15x128x512) st r0_26)) (Scalar.ofBits (F := Ideal) .f32 0x41800000#32) (View.ld (Val := Elt Ideal) (e' := .f32) (S := S128x512) szp r0_0) (View.ld (Val := Elt Ideal) (e' := .bf16) (S := S4x128x128) pw r0_27) (View.ld (Val := Elt Ideal) (e' := .bf16) (S := S4x128x128) pw r0_28) (View.ld (Val := Elt Ideal) (e' := .bf16) (S := S4x128x128) pw r0_29) (View.ld (Val := Elt Ideal) (e' := .bf16) (S := S4x128x128) pw r0_30) (View.ld (Val := Elt Ideal) (e' := .f32) (S := S1x512) sc r0_31))
      (k0_pay9 (F := Ideal) (View.ld (Val := Elt Ideal) (e' := .f32) (S := S128x512) a r0_0) (View.ld (Val := Elt Ideal) (e' := .f32) (S := S128x512) s r0_0)) (View.ld (Val := Elt Ideal) (e' := .f32) (S := S128x1024) x r0_32) (View.ld (Val := Elt Ideal) (e' := .bf16) (S := S1024x1024) wo r0_33) (View.ld (Val := Elt Ideal) (e' := .f32) (S := S1x1024) fg r0_34) :=
    View.canon_unit_zero (funext fun a => by revert a; decide) _ _
  rw [h, whole512, whole512, whole512, whole512, whole_scale, whole_x, whole_wo, whole_fg, finish_apply]
  refine congrArg₂ (fun p q => finished _ p q _ _ e) (funext fun j => attention_apply a s r j) (funext fun j => ?_)
  · rw [pool_apply (d := fun j => deviation (span (group j)) (count 15 (group j)) (carried (fun s => st (ix3 s r j)) (u (ix2 r j))))
      (h0 := fun c => by rw [group_chan]; exact deviation0 u st r c) (h1 := fun c => by rw [group_chan]; exact deviation1 u st r c)
      (h2 := fun c => by rw [group_chan]; exact deviation2 u st r c) (h3 := fun c => by rw [group_chan]; exact deviation3 u st r c)]
    refine congrArg (fun q => pooled _ q _ _ j) (funext fun g => funext fun k => funext fun e => ?_)
    match g with
    | 0 => exact group_weights pw 0 0 rfl _ k e
    | 1 => exact group_weights pw 1 1 rfl _ k e
    | 2 => exact group_weights pw 2 2 rfl _ k e
    | 3 => exact group_weights pw 3 3 rfl _ k e

end Cert.FinishSampleBlock
-- ==== Proof.FinishSampleFinal.lean ====
/- The sample's last step: its arrays when its grid is done, as functions of the arguments. -/
module

public import proofs.«01_k».proof.Proof.FinishSampleBlock
public import Idealize.ShloMosaic.Lib.Pipeline.ValueKit.Geometry
public import Idealize.ShloMosaic.Lib.Decide
public import Idealize.ShloMosaic.Lib.Pointwise

@[expose] public section

set_option maxRecDepth 16384

noncomputable section

namespace Cert.FinishSampleFinal

open Cert.FinishSampleIdeal Cert.FinishSampleIdeal.Gen
open Cert.Proj Cert.Out
open Idealize.ShloMosaic Idealize.ShloMosaic.TcCoe

/-- The weights of the groups, the state by its steps, the row of each sequence, and the output weights, as the grid takes them. -/
def hostPool (w : FVec Ideal S1x4x128x128 .f32) : FVec Ideal S4x128x128 .bf16 := truncf .bf16 (shapeCast S4x128x128 w shapeCasts_S1x4x128x128_S4x128x128) bitsLt_bf16_f32
def hostOut (w : FVec Ideal S1x1024x1024 .f32) : FVec Ideal S1024x1024 .bf16 := truncf .bf16 (shapeCast S1024x1024 w shapeCasts_S1x1024x1024_S1024x1024) bitsLt_bf16_f32
def hostGain (g : FVec Ideal S1024 .f32) : FVec Ideal S1x1024 .f32 := shapeCast S1x1024 g shapeCasts_S1024_S1x1024
def hostState (s : FVec Ideal S1x128x15x512 .f32) : FVec Ideal S15x128x512 .f32 :=
  transpose S15x128x512 [1, 0, 2] (shapeCast S128x15x512 s shapeCasts_S1x128x15x512_S128x15x512) transposes_S128x15x512_S15x128x512_1_0_2
def hostRows (x : FVec Ideal S128x1x1024 .f32) : FVec Ideal S128x1024 .f32 := shapeCast S128x1024 x shapeCasts_S128x1x1024_S128x1024
/-- The state's next steps: its own but the first, then the new row. -/
def hostNext (u : FVec Ideal S128x512 .f32) (s : FVec Ideal S1x128x15x512 .f32) : FVec Ideal S1x128x15x512 .f32 :=
  broadcastInDim S1x128x15x512 ![1, 2, 3] bcast_S128x15x512_S1x128x15x512_1_2_3
    (transpose S128x15x512 [1, 0, 2] (concatenate S15x128x512 0 [⟨S14x128x512, extractStridedSlice S14x128x512 ![1, 0, 0] (hostState s) slices_S15x128x512_S14x128x512_1_0_0⟩,
      ⟨S1x128x512, broadcastInDim S1x128x512 ![1, 2] bcast_S128x512_S1x128x512_1_2 u⟩] concatenates_S14x128x512_S1x128x512_S15x128x512_d0) transposes_S15x128x512_S128x15x512_1_0_2)

theorem hostPool_at (w : FVec Ideal S1x4x128x128 .f32) (g : Fin 4) (k e : Fin 128) : (hostPool w (ix3 g k e) : EReal) = w (ix4 0 g k e) := by
  pointwise [hostPool]
theorem hostOut_at (w : FVec Ideal S1x1024x1024 .f32) (j e : Fin 1024) : (hostOut w (ix2 j e) : EReal) = w (ix3 0 j e) := by
  pointwise [hostOut]
theorem hostGain_at (g : FVec Ideal S1024 .f32) (e : Fin 1024) : (hostGain g (ix2 0 e) : EReal) = g (ix1 e) := by
  pointwise [hostGain]
theorem hostState_at (s : FVec Ideal S1x128x15x512 .f32) (k : Fin 15) (r : Fin 128) (j : Fin 512) : (hostState s (ix3 k r j) : EReal) = s (ix4 0 r k j) := by
  pointwise [hostState]
theorem hostRows_at (x : FVec Ideal S128x1x1024 .f32) (r : Fin 128) (e : Fin 1024) : (hostRows x (ix2 r e) : EReal) = x (ix3 r 0 e) := by
  pointwise [hostRows]
theorem hostNext_at (u : FVec Ideal S128x512 .f32) (s : FVec Ideal S1x128x15x512 .f32) (z : Fin 1) (r : Fin 128) (k : Fin 15) (j : Fin 512) :
    (hostNext u s (ix4 z r k j) : EReal) = if h : k.val < 14 then s (ix4 0 r ⟨1 + k.val, by omega⟩ j) else u (ix2 r j) := by
  pointwise [hostNext, hostState]

/-- The answer of the sample's row `r` at column `e`. -/
def answer (a s u : FVec Ideal S128x512 .f32) (st : FVec Ideal S1x128x15x512 .f32) (szp : FVec Ideal S128x512 .f32) (x : FVec Ideal S128x1x1024 .f32)
    (pw : FVec Ideal S1x4x128x128 .f32) (sc : FVec Ideal S1x512 .f32) (wo : FVec Ideal S1x1024x1024 .f32) (fg : FVec Ideal S1024 .f32) (r : Fin 128) (e : Fin 1024) : EReal :=
  finished (fun e => x (ix3 r 0 e)) (fun j => a (ix2 r j) * s (ix2 r j))
    (pooled (fun j => deviation (span (group j)) (count 15 (group j)) (carried (fun k => st (ix4 0 r k j)) (u (ix2 r j))))
      (fun g k e => pw (ix4 0 g k e)) (fun j => sc (ix2 0 j)) (fun j => szp (ix2 r j)))
    (fun j e => wo (ix3 0 j e)) (fun e => fg (ix1 e)) e

variable (m : (ℓ : Loc nD τ sig) → Buf (Elt Ideal) ℓ) (c : Dev nD)

theorem V_v1 : V m c main_v1 = hostPool (m ((c : Thread nD τ).loc main_arg6)) := by
  show StableHlo.after hostOps0 _ (Proc.devRef .tc main_v1) = _
  after_results
  rfl

theorem V_v3 : V m c main_v3 = hostOut (m ((c : Thread nD τ).loc main_arg8)) := by
  show StableHlo.after hostOps0 _ (Proc.devRef .tc main_v3) = _
  after_results
  rfl

theorem V_v4 : V m c main_v4 = hostGain (m ((c : Thread nD τ).loc main_arg9)) := by
  show StableHlo.after hostOps0 _ (Proc.devRef .tc main_v4) = _
  after_results
  rfl

theorem V_v6 : V m c main_v6 = hostState (m ((c : Thread nD τ).loc main_arg3)) := by
  show StableHlo.after hostOps0 _ (Proc.devRef .tc main_v6) = _
  after_results
  rfl

theorem V_v12 : V m c main_v12 = hostRows (m ((c : Thread nD τ).loc main_arg5)) := by
  show StableHlo.after hostOps0 _ (Proc.devRef .tc main_v12) = _
  after_results
  rfl

theorem V_v11 : V m c main_v11 = hostNext (m ((c : Thread nD τ).loc main_arg2)) (m ((c : Thread nD τ).loc main_arg3)) := by
  show StableHlo.after hostOps0 _ (Proc.devRef .tc main_v11) = _
  after_results
  rfl

/-- A block as large as its array is the array. -/
theorem whole_block {S : Shape} (ix : Fin S.rank → ℕ) (inb : ∀ a, ix a * S.size a + S.size a ≤ S.size a) (h : ∀ a, ix a = 0) (y : S.Idx) :
    (Rect.unit (s := S) (fun a => ix a * S.size a) S.size inb).emb y = y := by
  funext a
  refine Fin.ext ((ValueKit.rect_emb_unit_val _ _ inb y a).trans ?_)
  rw [h a, Nat.zero_mul, Nat.zero_add]

theorem index_0 : ∀ t : Fin cfg0.N, ∀ a : Fin 2, ((cfg0.win 0).index t : Fin 2 → ℕ) a = 0 := of_decide_eq_true (by sl_kernel_rfl)
theorem block_0 (t : Fin cfg0.N) : (iblk m c 0 t : S128x512.Idx → EReal) = (m ((c : Thread nD τ).loc main_arg0)) :=
  funext fun y => (congrArg (V m c main_arg0 : S128x512.Idx → EReal) (whole_block (S := S128x512) _ _ (index_0 t) y)).trans (congrFun (V_main_arg0 m c) _)

theorem index_1 : ∀ t : Fin cfg0.N, ∀ a : Fin 2, ((cfg0.win 1).index t : Fin 2 → ℕ) a = 0 := of_decide_eq_true (by sl_kernel_rfl)
theorem block_1 (t : Fin cfg0.N) : (iblk m c 1 t : S128x512.Idx → EReal) = (m ((c : Thread nD τ).loc main_arg1)) :=
  funext fun y => (congrArg (V m c main_arg1 : S128x512.Idx → EReal) (whole_block (S := S128x512) _ _ (index_1 t) y)).trans (congrFun (V_main_arg1 m c) _)

theorem index_2 : ∀ t : Fin cfg0.N, ∀ a : Fin 2, ((cfg0.win 2).index t : Fin 2 → ℕ) a = 0 := of_decide_eq_true (by sl_kernel_rfl)
theorem block_2 (t : Fin cfg0.N) : (iblk m c 2 t : S128x512.Idx → EReal) = (m ((c : Thread nD τ).loc main_arg2)) :=
  funext fun y => (congrArg (V m c main_arg2 : S128x512.Idx → EReal) (whole_block (S := S128x512) _ _ (index_2 t) y)).trans (congrFun (V_main_arg2 m c) _)

theorem index_3 : ∀ t : Fin cfg0.N, ∀ a : Fin 3, ((cfg0.win 3).index t : Fin 3 → ℕ) a = 0 := of_decide_eq_true (by sl_kernel_rfl)
theorem block_3 (t : Fin cfg0.N) : (iblk m c 3 t : S15x128x512.Idx → EReal) = hostState (m ((c : Thread nD τ).loc main_arg3)) :=
  funext fun y => (congrArg (V m c main_v6 : S15x128x512.Idx → EReal) (whole_block (S := S15x128x512) _ _ (index_3 t) y)).trans (congrFun (V_v6 m c) _)

theorem index_4 : ∀ t : Fin cfg0.N, ∀ a : Fin 2, ((cfg0.win 4).index t : Fin 2 → ℕ) a = 0 := of_decide_eq_true (by sl_kernel_rfl)
theorem block_4 (t : Fin cfg0.N) : (iblk m c 4 t : S128x512.Idx → EReal) = (m ((c : Thread nD τ).loc main_arg4)) :=
  funext fun y => (congrArg (V m c main_arg4 : S128x512.Idx → EReal) (whole_block (S := S128x512) _ _ (index_4 t) y)).trans (congrFun (V_main_arg4 m c) _)

theorem index_5 : ∀ t : Fin cfg0.N, ∀ a : Fin 2, ((cfg0.win 5).index t : Fin 2 → ℕ) a = 0 := of_decide_eq_true (by sl_kernel_rfl)
theorem block_5 (t : Fin cfg0.N) : (iblk m c 5 t : S128x1024.Idx → EReal) = hostRows (m ((c : Thread nD τ).loc main_arg5)) :=
  funext fun y => (congrArg (V m c main_v12 : S128x1024.Idx → EReal) (whole_block (S := S128x1024) _ _ (index_5 t) y)).trans (congrFun (V_v12 m c) _)

theorem index_6 : ∀ t : Fin cfg0.N, ∀ a : Fin 3, ((cfg0.win 6).index t : Fin 3 → ℕ) a = 0 := of_decide_eq_true (by sl_kernel_rfl)
theorem block_6 (t : Fin cfg0.N) : (iblk m c 6 t : S4x128x128.Idx → EReal) = hostPool (m ((c : Thread nD τ).loc main_arg6)) :=
  funext fun y => (congrArg (V m c main_v1 : S4x128x128.Idx → EReal) (whole_block (S := S4x128x128) _ _ (index_6 t) y)).trans (congrFun (V_v1 m c) _)

theorem index_7 : ∀ t : Fin cfg0.N, ∀ a : Fin 2, ((cfg0.win 7).index t : Fin 2 → ℕ) a = 0 := of_decide_eq_true (by sl_kernel_rfl)
theorem block_7 (t : Fin cfg0.N) : (iblk m c 7 t : S1x512.Idx → EReal) = (m ((c : Thread nD τ).loc main_arg7)) :=
  funext fun y => (congrArg (V m c main_arg7 : S1x512.Idx → EReal) (whole_block (S := S1x512) _ _ (index_7 t) y)).trans (congrFun (V_main_arg7 m c) _)

theorem index_8 : ∀ t : Fin cfg0.N, ∀ a : Fin 2, ((cfg0.win 8).index t : Fin 2 → ℕ) a = 0 := of_decide_eq_true (by sl_kernel_rfl)
theorem block_8 (t : Fin cfg0.N) : (iblk m c 8 t : S1024x1024.Idx → EReal) = hostOut (m ((c : Thread nD τ).loc main_arg8)) :=
  funext fun y => (congrArg (V m c main_v3 : S1024x1024.Idx → EReal) (whole_block (S := S1024x1024) _ _ (index_8 t) y)).trans (congrFun (V_v3 m c) _)

theorem index_9 : ∀ t : Fin cfg0.N, ∀ a : Fin 2, ((cfg0.win 9).index t : Fin 2 → ℕ) a = 0 := of_decide_eq_true (by sl_kernel_rfl)
theorem block_9 (t : Fin cfg0.N) : (iblk m c 9 t : S1x1024.Idx → EReal) = hostGain (m ((c : Thread nD τ).loc main_arg9)) :=
  funext fun y => (congrArg (V m c main_v4 : S1x1024.Idx → EReal) (whole_block (S := S1x1024) _ _ (index_9 t) y)).trans (congrFun (V_v4 m c) _)

theorem index_10 : ∀ t : Fin cfg0.N, ∀ a : Fin 2, ((cfg0.win 10).index t : Fin 2 → ℕ) a = 0 := of_decide_eq_true (by sl_kernel_rfl)
theorem covers_10 : (cfg0.win 10).Covers := of_decide_eq_true (by sl_kernel_rfl)

theorem final10 (r : Fin 128) (e : Fin 1024) :
    ((dats m 0 c).arrAt 10 cfg0.N : S128x1024.Idx → EReal) (ix2 r e) = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r e := by
  refine (dats m 0 c).arrAt_forall_of_covers 10 (fun (i : S128x1024.Idx) (v : EReal) => v = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)) covers_10 ?_ (ix2 r e)
  intro t _ (y : S128x1024.Idx)
  obtain ⟨r, e, rfl⟩ : ∃ (r : Fin 128) (e : Fin 1024), y = ix2 r e :=
    ⟨y 0, y 1, funext fun a => match a with | ⟨0, _⟩ => rfl | ⟨1, _⟩ => rfl⟩
  have key : ∀ (i' : S128x1024.Idx) (v v' : EReal), i' = ix2 r e → v = v' → v' = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r e → v = answer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i' 0) (i' 1) := by
    rintro i' v v' rfl rfl hv
    exact hv
  refine key _ _ _ (whole_block (S := S128x1024) _ _ (index_10 t) (ix2 r e)) (congrFun (after0_10 m c t) (ix2 r e)) ?_
  refine (FinishSampleBlock.out_apply _ _ _ _ _ _ _ _ _ _ r e).trans ?_
  rw [block_0 m c t, block_1 m c t, block_2 m c t, block_3 m c t, block_4 m c t, block_5 m c t, block_6 m c t, block_7 m c t, block_8 m c t, block_9 m c t]
  simp only [hostPool_at, hostOut_at, hostGain_at, hostState_at, hostRows_at]
  rfl

end Cert.FinishSampleFinal
-- ==== Proof.FinishSampleRef.lean ====
/- The sample's reference read at an index. -/
module

public import proofs.«01_k».proof.Proof.FinishSampleFinal
public import proofs.«01_k».proof.Proof.Trailing
public import proofs.«01_k».proof.Proof.Gen.FinishSampleReferenceIdeal.Read
public import Idealize.ShloMosaic.Lib.Pointwise

@[expose] public section

set_option maxRecDepth 16384

noncomputable section

namespace Cert.FinishSampleRef

open Cert.FinishSampleReferenceIdeal Cert.FinishSampleReferenceIdeal.Read
open Cert.Proj Cert.Out Cert.FinishSampleFinal
open Idealize.ShloMosaic

variable (a s u : FVec Ideal S128x512 .f32) (st : FVec Ideal S1x128x15x512 .f32) (szp : FVec Ideal S128x512 .f32) (x : FVec Ideal S128x1x1024 .f32)
  (pw : FVec Ideal S1x4x128x128 .f32) (sc : FVec Ideal S1x512 .f32) (wo : FVec Ideal S1x1024x1024 .f32) (fg : FVec Ideal S1024 .f32)

/-- The state's rows and then the new one. -/
theorem rows_at (r : Fin 128) (k : Fin 16) (j : Fin 512) :
    (val_main_v2 (F := Ideal) u st (ix3 r k j) : EReal) = if h : k.val < 15 then st (ix4 0 r ⟨k.val, h⟩ j) else u (ix2 r j) := by
  pointwise [val_main_v2, val_main_v1, val_main_v0]

theorem back_rows (r : Fin 128) (j : Fin 512) (k : ℕ) (hk : k < 16) (f : ℕ → EReal) (hf : ∀ k (h : k < 16), f k = val_main_v2 (F := Ideal) u st (ix3 r ⟨k, h⟩ j)) :
    back f 15 k = carried (fun k => st (ix4 0 r k j)) (u (ix2 r j)) k := by
  unfold back carried
  rw [if_pos (by omega), hf _ (by omega), rows_at]
  by_cases h0 : k = 0
  · subst h0
    rw [dif_neg (by show ¬ 15 - 0 < 15; omega), if_pos rfl]
  · rw [dif_pos (by show 15 - k < 15; omega), if_neg h0, dif_pos (by omega)]

theorem word0 : FloatOps.sitofp (F := Ideal) .f32 (IntOp.minsi (IntOp.addi 16#32 0#32) 2#32) = count 15 0 := by
  show (((IntOp.minsi (BitVec.ofNat 32 16) (BitVec.ofNat 32 2)).toInt : ℝ) : EReal) = _
  rw [minsi_small _ _ (by decide) (by decide)]
  show (((((2 : ℕ) : ℤ)) : ℝ) : EReal) = (((2 : ℕ) : ℝ) : EReal)
  norm_cast

theorem word1 : FloatOps.sitofp (F := Ideal) .f32 (IntOp.minsi (IntOp.addi 16#32 0#32) 4#32) = count 15 1 := by
  show (((IntOp.minsi (BitVec.ofNat 32 16) (BitVec.ofNat 32 4)).toInt : ℝ) : EReal) = _
  rw [minsi_small _ _ (by decide) (by decide)]
  show (((((4 : ℕ) : ℤ)) : ℝ) : EReal) = (((4 : ℕ) : ℝ) : EReal)
  norm_cast

theorem word2 : FloatOps.sitofp (F := Ideal) .f32 (IntOp.minsi (IntOp.addi 16#32 0#32) 8#32) = count 15 2 := by
  show (((IntOp.minsi (BitVec.ofNat 32 16) (BitVec.ofNat 32 8)).toInt : ℝ) : EReal) = _
  rw [minsi_small _ _ (by decide) (by decide)]
  show (((((8 : ℕ) : ℤ)) : ℝ) : EReal) = (((8 : ℕ) : ℝ) : EReal)
  norm_cast

theorem word3 : FloatOps.sitofp (F := Ideal) .f32 (IntOp.minsi (IntOp.addi 16#32 0#32) 16#32) = count 15 3 := by
  show (((IntOp.minsi (BitVec.ofNat 32 16) (BitVec.ofNat 32 16)).toInt : ℝ) : EReal) = _
  rw [minsi_small _ _ (by decide) (by decide)]
  show (((((16 : ℕ) : ℤ)) : ℝ) : EReal) = (((16 : ℕ) : ℝ) : EReal)
  norm_cast

theorem slice0_at (r : Fin 128) (k : Fin 16) (c : Fin 128) : (val_main_v8 (F := Ideal) u st (ix3 r k c) : EReal) = val_main_v2 (F := Ideal) u st (ix3 r k (chan 0 c)) := by
  unfold val_main_v8
  generalize val_main_v2 (F := Ideal) u st = Y
  pointwise [chan]

theorem sum0_at (r : Fin 128) (c : Fin 128) :
    (val_main_v10 (F := Ideal) u st (ix3 r 15 c) : EReal) = ∑ k ∈ Finset.range 2, carried (fun k => st (ix4 0 r k (chan 0 c))) (u (ix2 r (chan 0 c))) k := by
  unfold val_main_v10
  refine (trailing (B := 128) (T := 16) (C := 128) (w := 2) (by decide) _ _ (fun i => by pointwise [val_main_v9, val_main_cst]) _ _ r 15 c).trans ?_
  refine Finset.sum_congr rfl fun k hk => ?_
  have hk' := Finset.mem_range.mp hk
  refine back_rows u st r (chan 0 c) k (by omega) _ fun k h => ?_
  unfold Cert.Out.column
  rw [dif_pos h]
  exact slice0_at u st r ⟨k, h⟩ c

theorem deviation0_at (r : Fin 128) (z : Fin 1) (c : Fin 128) :
    (val_main_v20 (F := Ideal) u st (ix3 r z c) : EReal) = deviation 2 (count 15 0) (carried (fun k => st (ix4 0 r k (chan 0 c))) (u (ix2 r (chan 0 c)))) := by
  obtain rfl : z = 0 := Subsingleton.elim _ _
  have e := sum0_at u st r c
  have e0 : (val_main_v8 (F := Ideal) u st (ix3 r 15 c) : EReal) = u (ix2 r (chan 0 c)) := (slice0_at u st r 15 c).trans ((rows_at u st r 15 _).trans (dif_neg (by decide)))
  unfold deviation
  rw [← e]
  refine Eq.trans ?_ (congrArg (Ideal.div _ _ - ·) e0)
  unfold val_main_v20 val_main_v19 val_main_v18 val_main_v17 val_main_v16 val_main_v15 val_main_v14 val_main_v13 val_main_v12 val_main_v11
  generalize val_main_v10 (F := Ideal) u st = Y
  generalize val_main_v8 (F := Ideal) u st = Z
  pointwise [val_main_v7, val_main_v6, val_main_v5, val_main_c, val_main_c_0]
  exact congrArg (fun n => Ideal.div (Y (ix3 r 15 c)) n - Z (ix3 r 15 c)) word0

theorem slice1_at (r : Fin 128) (k : Fin 16) (c : Fin 128) : (val_main_v21 (F := Ideal) u st (ix3 r k c) : EReal) = val_main_v2 (F := Ideal) u st (ix3 r k (chan 1 c)) := by
  unfold val_main_v21
  generalize val_main_v2 (F := Ideal) u st = Y
  pointwise [chan]

theorem sum1_at (r : Fin 128) (c : Fin 128) :
    (val_main_v23 (F := Ideal) u st (ix3 r 15 c) : EReal) = ∑ k ∈ Finset.range 4, carried (fun k => st (ix4 0 r k (chan 1 c))) (u (ix2 r (chan 1 c))) k := by
  unfold val_main_v23
  refine (trailing (B := 128) (T := 16) (C := 128) (w := 4) (by decide) _ _ (fun i => by pointwise [val_main_v22, val_main_cst_1]) _ _ r 15 c).trans ?_
  refine Finset.sum_congr rfl fun k hk => ?_
  have hk' := Finset.mem_range.mp hk
  refine back_rows u st r (chan 1 c) k (by omega) _ fun k h => ?_
  unfold Cert.Out.column
  rw [dif_pos h]
  exact slice1_at u st r ⟨k, h⟩ c

theorem deviation1_at (r : Fin 128) (z : Fin 1) (c : Fin 128) :
    (val_main_v33 (F := Ideal) u st (ix3 r z c) : EReal) = deviation 4 (count 15 1) (carried (fun k => st (ix4 0 r k (chan 1 c))) (u (ix2 r (chan 1 c)))) := by
  obtain rfl : z = 0 := Subsingleton.elim _ _
  have e := sum1_at u st r c
  have e0 : (val_main_v21 (F := Ideal) u st (ix3 r 15 c) : EReal) = u (ix2 r (chan 1 c)) := (slice1_at u st r 15 c).trans ((rows_at u st r 15 _).trans (dif_neg (by decide)))
  unfold deviation
  rw [← e]
  refine Eq.trans ?_ (congrArg (Ideal.div _ _ - ·) e0)
  unfold val_main_v33 val_main_v32 val_main_v31 val_main_v30 val_main_v29 val_main_v28 val_main_v27 val_main_v26 val_main_v25 val_main_v24
  generalize val_main_v23 (F := Ideal) u st = Y
  generalize val_main_v21 (F := Ideal) u st = Z
  pointwise [val_main_v7, val_main_v6, val_main_v5, val_main_c, val_main_c_2]
  exact congrArg (fun n => Ideal.div (Y (ix3 r 15 c)) n - Z (ix3 r 15 c)) word1

theorem slice2_at (r : Fin 128) (k : Fin 16) (c : Fin 128) : (val_main_v34 (F := Ideal) u st (ix3 r k c) : EReal) = val_main_v2 (F := Ideal) u st (ix3 r k (chan 2 c)) := by
  unfold val_main_v34
  generalize val_main_v2 (F := Ideal) u st = Y
  pointwise [chan]

theorem sum2_at (r : Fin 128) (c : Fin 128) :
    (val_main_v36 (F := Ideal) u st (ix3 r 15 c) : EReal) = ∑ k ∈ Finset.range 8, carried (fun k => st (ix4 0 r k (chan 2 c))) (u (ix2 r (chan 2 c))) k := by
  unfold val_main_v36
  refine (trailing (B := 128) (T := 16) (C := 128) (w := 8) (by decide) _ _ (fun i => by pointwise [val_main_v35, val_main_cst_3]) _ _ r 15 c).trans ?_
  refine Finset.sum_congr rfl fun k hk => ?_
  have hk' := Finset.mem_range.mp hk
  refine back_rows u st r (chan 2 c) k (by omega) _ fun k h => ?_
  unfold Cert.Out.column
  rw [dif_pos h]
  exact slice2_at u st r ⟨k, h⟩ c

theorem deviation2_at (r : Fin 128) (z : Fin 1) (c : Fin 128) :
    (val_main_v46 (F := Ideal) u st (ix3 r z c) : EReal) = deviation 8 (count 15 2) (carried (fun k => st (ix4 0 r k (chan 2 c))) (u (ix2 r (chan 2 c)))) := by
  obtain rfl : z = 0 := Subsingleton.elim _ _
  have e := sum2_at u st r c
  have e0 : (val_main_v34 (F := Ideal) u st (ix3 r 15 c) : EReal) = u (ix2 r (chan 2 c)) := (slice2_at u st r 15 c).trans ((rows_at u st r 15 _).trans (dif_neg (by decide)))
  unfold deviation
  rw [← e]
  refine Eq.trans ?_ (congrArg (Ideal.div _ _ - ·) e0)
  unfold val_main_v46 val_main_v45 val_main_v44 val_main_v43 val_main_v42 val_main_v41 val_main_v40 val_main_v39 val_main_v38 val_main_v37
  generalize val_main_v36 (F := Ideal) u st = Y
  generalize val_main_v34 (F := Ideal) u st = Z
  pointwise [val_main_v7, val_main_v6, val_main_v5, val_main_c, val_main_c_4]
  exact congrArg (fun n => Ideal.div (Y (ix3 r 15 c)) n - Z (ix3 r 15 c)) word2

theorem slice3_at (r : Fin 128) (k : Fin 16) (c : Fin 128) : (val_main_v47 (F := Ideal) u st (ix3 r k c) : EReal) = val_main_v2 (F := Ideal) u st (ix3 r k (chan 3 c)) := by
  unfold val_main_v47
  generalize val_main_v2 (F := Ideal) u st = Y
  pointwise [chan]

theorem sum3_at (r : Fin 128) (c : Fin 128) :
    (val_main_v49 (F := Ideal) u st (ix3 r 15 c) : EReal) = ∑ k ∈ Finset.range 16, carried (fun k => st (ix4 0 r k (chan 3 c))) (u (ix2 r (chan 3 c))) k := by
  unfold val_main_v49
  refine (trailing (B := 128) (T := 16) (C := 128) (w := 16) (by decide) _ _ (fun i => by pointwise [val_main_v48, val_main_cst_5]) _ _ r 15 c).trans ?_
  refine Finset.sum_congr rfl fun k hk => ?_
  have hk' := Finset.mem_range.mp hk
  refine back_rows u st r (chan 3 c) k (by omega) _ fun k h => ?_
  unfold Cert.Out.column
  rw [dif_pos h]
  exact slice3_at u st r ⟨k, h⟩ c

theorem deviation3_at (r : Fin 128) (z : Fin 1) (c : Fin 128) :
    (val_main_v59 (F := Ideal) u st (ix3 r z c) : EReal) = deviation 16 (count 15 3) (carried (fun k => st (ix4 0 r k (chan 3 c))) (u (ix2 r (chan 3 c)))) := by
  obtain rfl : z = 0 := Subsingleton.elim _ _
  have e := sum3_at u st r c
  have e0 : (val_main_v47 (F := Ideal) u st (ix3 r 15 c) : EReal) = u (ix2 r (chan 3 c)) := (slice3_at u st r 15 c).trans ((rows_at u st r 15 _).trans (dif_neg (by decide)))
  unfold deviation
  rw [← e]
  refine Eq.trans ?_ (congrArg (Ideal.div _ _ - ·) e0)
  unfold val_main_v59 val_main_v58 val_main_v57 val_main_v56 val_main_v55 val_main_v54 val_main_v53 val_main_v52 val_main_v51 val_main_v50
  generalize val_main_v49 (F := Ideal) u st = Y
  generalize val_main_v47 (F := Ideal) u st = Z
  pointwise [val_main_v7, val_main_v6, val_main_v5, val_main_c, val_main_c_6]
  exact congrArg (fun n => Ideal.div (Y (ix3 r 15 c)) n - Z (ix3 r 15 c)) word3

/-- The deviation of channel `j` of row `r`. -/
def channel (r : Fin 128) (j : Fin 512) : EReal :=
  deviation (span (group j)) (count 15 (group j)) (carried (fun k => st (ix4 0 r k j)) (u (ix2 r j)))

theorem channel_chan (r : Fin 128) (g : Fin 4) (c : Fin 128) :
    channel u st r (chan g c) = deviation (span g) (count 15 g) (carried (fun k => st (ix4 0 r k (chan g c))) (u (ix2 r (chan g c)))) := by
  unfold channel
  rw [group_chan]

theorem groups_at (r : Fin 128) (g : Fin 4) (c : Fin 128) : (val_main_v64 (F := Ideal) u st (ix4 r 0 g c) : EReal) = channel u st r (chan g c) := by
  have h0 := fun z => deviation0_at u st r z c
  have h1 := fun z => deviation1_at u st r z c
  have h2 := fun z => deviation2_at u st r z c
  have h3 := fun z => deviation3_at u st r z c
  rw [channel_chan]
  unfold val_main_v64 val_main_v60 val_main_v61 val_main_v62 val_main_v63
  generalize val_main_v20 (F := Ideal) u st = D0 at h0 ⊢
  generalize val_main_v33 (F := Ideal) u st = D1 at h1 ⊢
  generalize val_main_v46 (F := Ideal) u st = D2 at h2 ⊢
  generalize val_main_v59 (F := Ideal) u st = D3 at h3 ⊢
  match g with
  | 0 => refine Eq.trans ?_ (h0 0); pointwise []
  | 1 => refine Eq.trans ?_ (h1 0); pointwise []
  | 2 => refine Eq.trans ?_ (h2 0); pointwise []
  | 3 => refine Eq.trans ?_ (h3 0); pointwise []

theorem pooled_at (r : Fin 128) (j : Fin 512) :
    (val_main_v75 (F := Ideal) u st szp pw sc (ix3 r 0 j) : EReal)
      = pooled (channel u st r) (fun g k e => pw (ix4 0 g k e)) (fun j => sc (ix2 0 j)) (fun j => szp (ix2 r j)) j := by
  have h := groups_at u st r
  unfold pooled
  simp only [← h]
  unfold val_main_v75 val_main_v73 val_main_v70 val_main_v69 val_main_v68 val_main_v67 val_main_v66 val_main_v65 val_main_v4 val_main_v3
  generalize val_main_v64 (F := Ideal) u st = D
  clear h
  pointwise [group, place]
  exact congrArg (fun y => y * sc (ix2 0 j) * szp (ix2 r j)) (Finset.sum_congr rfl fun k _ => mul_comm _ _)

theorem summed_at (r : Fin 128) (e : Fin 1024) :
    (val_main_v78 (F := Ideal) a s u st szp x pw sc wo (ix3 r 0 e) : EReal)
      = summed (fun e => x (ix3 r 0 e)) (fun j => a (ix2 r j) * s (ix2 r j)) (pooled (channel u st r) (fun g k e => pw (ix4 0 g k e)) (fun j => sc (ix2 0 j)) (fun j => szp (ix2 r j)))
          (fun j e => wo (ix3 0 j e)) e := by
  have h := pooled_at u st szp pw sc r
  unfold summed
  simp only [← h]
  unfold val_main_v78 val_main_v77 val_main_v76 val_main_v74 val_main_v72 val_main_v71
  generalize val_main_v75 (F := Ideal) u st szp pw sc = D
  clear h
  pointwise []

theorem answer_at (r : Fin 128) (e : Fin 1024) :
    (val_main_v92 (F := Ideal) a s u st szp x pw sc wo fg (ix2 r e) : EReal) = answer a s u st szp x pw sc wo fg r e := by
  have h := summed_at a s u st szp x pw sc wo r
  show _ = normed (summed (fun e => x (ix3 r 0 e)) (fun j => a (ix2 r j) * s (ix2 r j)) (pooled (channel u st r) (fun g k e => pw (ix4 0 g k e)) (fun j => sc (ix2 0 j)) (fun j => szp (ix2 r j)))
          (fun j e => wo (ix3 0 j e))) (fun e => fg (ix1 e)) e
  unfold normed meanSq
  simp only [← h]
  unfold val_main_v92 val_main_v91 val_main_v90 val_main_v89 val_main_v88 val_main_v87 val_main_v86 val_main_v85 val_main_v84 val_main_v83 val_main_v82 val_main_v81 val_main_v80 val_main_v79
  generalize val_main_v78 (F := Ideal) a s u st szp x pw sc wo = D
  clear h
  pointwise [val_main_cst_7, val_main_cst_8, val_main_cst_9]

theorem next_at (z : Fin 1) (r : Fin 128) (k : Fin 15) (j : Fin 512) :
    (val_main_v94 (F := Ideal) u st (ix4 z r k j) : EReal) = if h : k.val < 14 then st (ix4 0 r ⟨1 + k.val, by omega⟩ j) else u (ix2 r j) := by
  have e := rows_at u st r ⟨1 + k.val, by omega⟩ j
  have e' : (val_main_v94 (F := Ideal) u st (ix4 z r k j) : EReal) = val_main_v2 (F := Ideal) u st (ix3 r ⟨1 + k.val, by omega⟩ j) := by
    unfold val_main_v94 val_main_v93
    generalize val_main_v2 (F := Ideal) u st = Y
    pointwise []
  rw [e', e]
  by_cases h : k.val < 14
  · rw [dif_pos h, dif_pos (by show 1 + k.val < 15; omega)]
  · rw [dif_neg h, dif_neg (by show ¬ 1 + k.val < 15; omega)]

end Cert.FinishSampleRef
-- ==== Proof.FinishSampleEqual.lean ====
/- The sample's last step ends at the reference's two results. -/
module

public import proofs.«01_k».proof.Defs
public import proofs.«01_k».proof.Proof.FinishSampleRef
public import proofs.«01_k».proof.Proof.Gen.FinishSampleReferenceIdeal.Run

@[expose] public section

set_option maxRecDepth 16384

noncomputable section

namespace Cert.FinishSampleEqual

open Cert.FinishSampleIdeal Cert.FinishSampleIdeal.Gen
open Idealize.ShloMosaic Idealize.ShloMosaic.TcCoe

variable (m : (ℓ : Loc nD τ sig) → Buf (Elt Ideal) ℓ) (c : Dev nD)

/-- The reference's results, of the kernel's arguments. -/
def refRow : S128x1024.Idx → EReal := Cert.FinishSampleReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
def refNext : S1x128x15x512.Idx → EReal := Cert.FinishSampleReferenceIdeal.Read.val_main_v94 (F := Ideal) (m ((c.tc : Thread nD τ).loc main_arg2)) (m ((c.tc : Thread nD τ).loc main_arg3))

theorem row_eq : ((dats m 0 c).arrAt 10 cfg0.N : S128x1024.Idx → EReal) = refRow m c := by
  funext i
  obtain ⟨r, e, rfl⟩ : ∃ (r : Fin 128) (e : Fin 1024), i = ix2 r e :=
    ⟨i 0, i 1, funext fun a => match a with | ⟨0, _⟩ => rfl | ⟨1, _⟩ => rfl⟩
  exact (FinishSampleFinal.final10 m c r e).trans (FinishSampleRef.answer_at _ _ _ _ _ _ _ _ _ _ r e).symm

theorem next_eq : (V m c main_v11 : S1x128x15x512.Idx → EReal) = refNext m c := by
  funext i
  obtain ⟨z, r, k, j, rfl⟩ : ∃ (z : Fin 1) (r : Fin 128) (k : Fin 15) (j : Fin 512), i = ix4 z r k j :=
    ⟨i 0, i 1, i 2, i 3, funext fun a => match a with | ⟨0, _⟩ => rfl | ⟨1, _⟩ => rfl | ⟨2, _⟩ => rfl | ⟨3, _⟩ => rfl⟩
  exact (congrFun (FinishSampleFinal.V_v11 m c) _).trans ((FinishSampleFinal.hostNext_at _ _ z r k j).trans (FinishSampleRef.next_at _ _ z r k j).symm)

/-- The two programs end with the same two results. -/
theorem algebraic : Cert.algebraic_FinishSampleIdeal_FinishSampleReferenceIdeal := by
  intro m g m' g' _ hag
  refine ⟨fun c => refRow m c, fun c => refNext m c, ?_, ?_⟩
  · refine (θ_run _ _ _).mono ?_ (θ_run_and (run_main m g) (unchanged m g))
    rintro r ⟨hr, hu⟩ c
    exact ⟨(Pipeline.FramePost.out_eq hr c 10).trans (row_eq m c), (Pipeline.FramePost.rest_eq hr c main_v11 (Pipeline.mem_restRefs_of main_v11 (by decide) (by decide))).trans (next_eq m c), hu c⟩
  · refine (θ_run _ _ _).mono ?_ (Cert.FinishSampleReferenceIdeal.Value.run m' g')
    intro r h c
    obtain ⟨hrow, hnext, hargs⟩ := h c
    obtain ⟨a0, a1, a2, a3, a4, a5, a6, a7, a8, a9⟩ := hag c
    rw [Cert.FinishSampleReferenceIdeal.Read.val_main_v92_eq, a0, a1, a2, a3, a4, a5, a6, a7, a8, a9] at hrow
    rw [Cert.FinishSampleReferenceIdeal.Read.val_main_v94_eq, a2, a3] at hnext
    exact ⟨hrow, hnext, hargs⟩

end Cert.FinishSampleEqual
-- ==== Proof.AttendSampleIdealRun.lean ====
/- The run of the kernel's body at one grid point, for the `AttendSampleIdeal` program: what its stores leave in the two output
   blocks, and that on any staged blocks it runs to its end. -/
module

public import proofs.«01_k».proof.Proof.Gen.AttendSampleIdeal.Frame.Runs

@[expose] public section

-- membership in a rectangle of production extents (`View.cover_of_tiled`): the elaborator's structural look
-- recurses once per coordinate of the long axes
set_option maxRecDepth 16384

noncomputable section

namespace Cert.AttendSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces the body stores into each output block, with the proof that on whole blocks, the inputs holding `x0` … `x23`, it runs
    to the continuation, the inputs unchanged and the pieces written. -/
noncomputable def kernelRun0_A (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) :
    Σ' (L24 : List (View.Piece (Elt F) S1x8x128 .f32)), { L25 : List (View.Piece (Elt F) S1x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d) ∗ (∃ d, owns (c : Thread nD τ) arg27 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ tbPt0 c tbM0_0 xt0) -∗ K ⟨⟩))
          ⊢ wp frame (wpE (defs₀ (F := F)) Variants.none c none) E (cc0_attn_sample i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_attn_sample_eq_skeleton]; unfold cc0_attn_sample_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]; · iexists _; iexact H24
    isplitl [H25]; · iexists _; iexact H25
    iexact HT0

end Cert.AttendSampleIdeal.Gen

end
-- ==== Proof.AttendSampleIdealFrame.lean ====
/- The frame of the `AttendSampleIdeal` program: what the output blocks hold after every grid point, the body's obligation, and the run
   of the whole program, for every page table whose windows lie inside the cache. -/
module

public import proofs.«01_k».proof.Proof.AttendSampleIdealRun
public import Idealize.ShloMosaic.Lib.Claim

@[expose] public section

set_option maxRecDepth 16384

noncomputable section

namespace Cert.AttendSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The pieces stored into output 24 cover its block. -/
theorem cover0_A_24 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) (y : S1x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).1 S1x8x128.size (by sl_kernel_rfl) y

/-- What the body leaves in output 24's block. -/
def out0_A_24 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) : Vec F S1x8x128 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).1)

/-- The pieces stored into output 25 cover its block. -/
theorem cover0_A_25 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).2.1 S1x256x512.size (by sl_kernel_rfl) y

/-- What the body leaves in output 25's block. -/
def out0_A_25 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) : Vec F S1x256x512 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0).2.1)

/-! ## What the outputs hold after each point -/

/-- The two output blocks after a grid point. -/
def outsAt0 (hO : Ok m) (c : Dev nD) (t : Fin (cfgM m hO).N) : Vec F S1x8x128 .f32 × Vec F S1x256x512 .f32 :=
  (out0_A_24 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0), out0_A_25 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0))

/-! ## The pipeline's proof data -/

/-- The arrays as the call finds them, and the blocks after every grid point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => (outsAt0 m hO c t).1
    | ⟨25, _⟩ => (outsAt0 m hO c t).2
    | ⟨_ + 26, h⟩ => absurd h (Nat.not_lt.2 (Nat.le_add_left _ _))
  Φ _ := iprop(Pipeline.ΦA spec0 c ∗ Pipeline.ΦT pre0 (tbl m) c)
  q w := Pipeline.shareOf spec0 w
  owed _ := 0

/-- The arrays are those the call finds. -/
theorem A_eq (hO : Ok m) (c : Dev nD) (w : Fin (cfgM m hO).W) : (dats m hO 0 c).A w = V m c (Pipeline.arrRef spec0 w) := by
  dsimp only [dats]

/-- The blocks after a grid point, one by one. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = (outsAt0 m hO c t).1 := by dsimp only [dats]; try rfl
theorem after0_25 (hO : Ok m) (c : Dev nD) (t : Fin (cfgM m hO).N) : (dats m hO 0 c).after 25 t = (outsAt0 m hO c t).2 := by dsimp only [dats]; try rfl

/-- Each input's buffer holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d

/-! ## The body obligation, at a generic point -/

/-- What the body needs at a grid point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d)))

/-- What it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t))

set_option maxHeartbeats 2400000 in
/-- The body at any grid point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m hO 0 c).Φ t.castSucc = iprop(Pipeline.ΦA spec0 c ∗ Pipeline.ΦT pre0 (tbl m) c) from rfl, PhiT0_eq]
  unfold outsAt0
  unfold out0_A_24 out0_A_25; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [HT0]; · iexact HT0
  iintro ⟨H0, H1, H2, H3, H4, H5, H6, H7, H8, H9, H10, H11, H12, H13, H14, H15, H16, H17, H18, H19, H20, H21, H22, H23, ⟨%e24, H24⟩, ⟨%e25, H25⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The body's obligation at every grid point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option maxHeartbeats 4000000 in
set_option backward.isDefEq.respectTransparency.types false in
/-- The whole program's run: its arrays at the end, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The whole program's run: its arrays at the end. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- The argument arrays end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.AttendSampleIdeal.Gen

end
-- ==== Proof.AttendSampleHost.lean ====
/- The host lines of the `AttendSampleIdeal` program: the arrays that its region finds, as functions of @main's arguments, and read at
   an index. -/
module

public import proofs.«01_k».proof.Proof.AttendSampleIdealFrame
public import Idealize.ShloMosaic.Lib.Pointwise
public import Idealize.ShloMosaic.Lib.ValueIdxRank6

@[expose] public section

set_option maxRecDepth 16384

noncomputable section

namespace Cert.AttHost

open Cert.AttendSampleIdeal Cert.AttendSampleIdeal.Gen
open Idealize.ShloMosaic Idealize.ShloMosaic.TcCoe

/-- The cache's pages, rows last. -/
def pages (x1 : FVec Ideal S1x2560x128x2x2x64 .f32) : FVec Ideal S2560x256x128 .f32 :=
  shapeCast S2560x256x128 (transpose S2560x2x2x64x128 [0, 2, 3, 4, 1] (shapeCast S2560x128x2x2x64 x1 shapeCasts_S1x2560x128x2x2x64_S2560x128x2x2x64)
    transposes_S2560x128x2x2x64_S2560x2x2x64x128_0_2_3_4_1) shapeCasts_S2560x2x2x64x128_S2560x256x128

/-- The windows, rows last. -/
def wins (x2 : FVec Ideal S1x128x512x2x2x64 .f32) : FVec Ideal S128x256x512 .f32 :=
  shapeCast S128x256x512 (transpose S128x2x2x64x512 [0, 2, 3, 4, 1] (shapeCast S128x512x2x2x64 x2 shapeCasts_S1x128x512x2x2x64_S128x512x2x2x64)
    transposes_S128x512x2x2x64_S128x2x2x64x512_0_2_3_4_1) shapeCasts_S128x2x2x64x512_S128x256x512

/-- The queries, each in its key head's half. -/
def qbd (x3 : FVec Ideal S128x512 .bf16) : FVec Ideal S128x8x128 .bf16 :=
  shapeCast S128x8x128 (mulf
    (broadcastInDim S128x2x4x2x64 ![0, 1, 2, 3, 4] bcast_S128x2x4x1x64_S128x2x4x2x64_0_1_2_3_4 (shapeCast S128x2x4x1x64 x3 shapeCasts_S128x512_S128x2x4x1x64))
    (broadcastInDim S128x2x4x2x64 ![0, 1, 2, 3, 4] bcast_S1x2x1x2x1_S128x2x4x2x64_0_1_2_3_4 (shapeCast S1x2x1x2x1
      (uitofp .bf16 (cmpi .eq (addi (iotaInDim S2x2 32 0) (broadcastInDim S2x2 ![] bcast_S_S2x2 (constantI S_ 32 0#32))) (iotaInDim S2x2 32 1)) : FVec Ideal S2x2 .bf16)
      shapeCasts_S2x2_S1x2x1x2x1))) shapeCasts_S128x2x4x2x64_S128x8x128

/-- The flags, once per query head. -/
def flags (x4 : FVec Ideal S256x128 .f32) : FVec Ideal S128x8x128 .f32 :=
  shapeCast S128x8x128 (shapeCast S128x2x4x128 (broadcastInDim S128x2x1x4x128 ![0, 1, 2, 4] bcast_S128x2x1x128_S128x2x1x4x128_0_1_2_4
    (shapeCast S128x2x1x128 x4 shapeCasts_S256x128_S128x2x1x128)) shapeCasts_S128x2x1x4x128_S128x2x4x128) shapeCasts_S128x2x4x128_S128x8x128

/-- The gates by query head, before they are padded. -/
def gates3 (x8 : FVec Ideal S128x256 .f32) : FVec Ideal S128x8x3 .f32 :=
  shapeCast S128x8x3 (extractStridedSlice S128x2x12 ![0, 0, 0] (shapeCast S128x2x128 x8 shapeCasts_S128x256_S128x2x128) slices_S128x2x128_S128x2x12_0_0_0)
    shapeCasts_S128x2x12_S128x8x3

/-- The gates by query head. -/
def gates (x8 : FVec Ideal S128x256 .f32) : FVec Ideal S128x8x128 .f32 :=
  pad S128x8x128 ![0, 0, 0] ![0, 0, 125] ![0, 0, 0] (gates3 x8) (sitofp .f32 (constantI S_ 32 0#32) : FVec Ideal S_ .f32) pads_S128x8x3_S128x8x128_000_000_01250

/-- A new row, turned. -/
def newRow (x : FVec Ideal S1x256x128 .f32) : FVec Ideal S128x1x256 .f32 :=
  shapeCast S128x1x256 (transpose S128x256 [1, 0] (shapeCast S256x128 x shapeCasts_S1x256x128_S256x128) transposes_S256x128_S128x256_1_0) shapeCasts_S128x256_S128x1x256

/-- A new row as a column. -/
def newCol (x : FVec Ideal S1x256x128 .f32) : FVec Ideal S128x256x1 .f32 :=
  shapeCast S128x256x1 (newRow x) shapeCasts_S128x1x256_S128x256x1

variable (m : (ℓ : Loc nD τ sig) → Buf (Elt Ideal) ℓ) (c : Dev nD)

theorem V_pages : V m c main_v32 = pages (m ((c : Thread nD τ).loc main_arg1)) := by
  show StableHlo.after (hostOps0 ++ hostOps0_1 ++ hostOps0_2) _ (Proc.devRef .tc main_v32) = _
  simp only [hostOps0, hostOps0_1, hostOps0_2, List.cons_append, List.nil_append]
  after_results
  rfl

theorem V_wins : V m c main_v22 = wins (m ((c : Thread nD τ).loc main_arg2)) := by
  show StableHlo.after (hostOps0 ++ hostOps0_1 ++ hostOps0_2) _ (Proc.devRef .tc main_v22) = _
  simp only [hostOps0, hostOps0_1, hostOps0_2, List.cons_append, List.nil_append]
  after_results
  rfl

theorem V_qbd : V m c main_v11 = qbd (m ((c : Thread nD τ).loc main_arg3)) := by
  show StableHlo.after (hostOps0 ++ hostOps0_1 ++ hostOps0_2) _ (Proc.devRef .tc main_v11) = _
  simp only [hostOps0, hostOps0_1, hostOps0_2, List.cons_append, List.nil_append]
  after_results
  rfl

theorem V_flags : V m c main_v15 = flags (m ((c : Thread nD τ).loc main_arg4)) := by
  show StableHlo.after (hostOps0 ++ hostOps0_1 ++ hostOps0_2) _ (Proc.devRef .tc main_v15) = _
  simp only [hostOps0, hostOps0_1, hostOps0_2, List.cons_append, List.nil_append]
  after_results
  rfl

theorem V_gates : V m c main_v19 = gates (m ((c : Thread nD τ).loc main_arg8)) := by
  show StableHlo.after (hostOps0 ++ hostOps0_1 ++ hostOps0_2) _ (Proc.devRef .tc main_v19) = _
  simp only [hostOps0, hostOps0_1, hostOps0_2, List.cons_append, List.nil_append]
  after_results
  rfl

theorem V_newS : V m c main_v25 = newRow (m ((c : Thread nD τ).loc main_arg5)) := by
  show StableHlo.after (hostOps0 ++ hostOps0_1 ++ hostOps0_2) _ (Proc.devRef .tc main_v25) = _
  simp only [hostOps0, hostOps0_1, hostOps0_2, List.cons_append, List.nil_append]
  after_results
  rfl

theorem V_newW : V m c main_v28 = newRow (m ((c : Thread nD τ).loc main_arg6)) := by
  show StableHlo.after (hostOps0 ++ hostOps0_1 ++ hostOps0_2) _ (Proc.devRef .tc main_v28) = _
  simp only [hostOps0, hostOps0_1, hostOps0_2, List.cons_append, List.nil_append]
  after_results
  rfl

theorem V_newCol : V m c main_v29 = newCol (m ((c : Thread nD τ).loc main_arg6)) := by
  show StableHlo.after (hostOps0 ++ hostOps0_1 ++ hostOps0_2) _ (Proc.devRef .tc main_v29) = _
  simp only [hostOps0, hostOps0_1, hostOps0_2, List.cons_append, List.nil_append]
  after_results
  rfl

/-- A page's entry. -/
theorem pages_at (x1 : FVec Ideal S1x2560x128x2x2x64 .f32) (p : Fin 2560) (j : Fin 256) (r : Fin 128) :
    pages x1 (ix3 p j r) = x1 (ix6 0 p r ⟨j.val / 128, by omega⟩ ⟨j.val % 128 / 64, by omega⟩ ⟨j.val % 64, by omega⟩) := by
  pointwise [pages]
  congr 2
  exact Fin.ext (by show j.val / 64 % 2 = j.val % 128 / 64; omega)

/-- A window's entry. -/
theorem wins_at (x2 : FVec Ideal S1x128x512x2x2x64 .f32) (b : Fin 128) (j : Fin 256) (t : Fin 512) :
    wins x2 (ix3 b j t) = x2 (ix6 0 b t ⟨j.val / 128, by omega⟩ ⟨j.val % 128 / 64, by omega⟩ ⟨j.val % 64, by omega⟩) := by
  pointwise [wins]
  congr 2
  exact Fin.ext (by show j.val / 64 % 2 = j.val % 128 / 64; omega)

/-- A query's entry: zero outside its key head's half. -/
theorem qbd_at (x3 : FVec Ideal S128x512 .bf16) (b : Fin 128) (r : Fin 8) (l : Fin 128) :
    qbd x3 (ix3 b r l) = (if r.val / 4 = l.val / 64 then x3 (ix2 b ⟨r.val * 64 + l.val % 64, by omega⟩) else 0 : EReal) := by
  pointwise [qbd]
  have hw : IntOp.cmpi .eq (IntOp.addi (BitVec.ofNat 32 (r.val / 4)) 0#32) (BitVec.ofNat 32 (l.val / 64)) = if r.val / 4 = l.val / 64 then 1#1 else 0#1 := by
    have h1 : r.val / 4 < 2 := by omega
    have h2 : l.val / 64 < 2 := by omega
    generalize r.val / 4 = a at h1
    generalize l.val / 64 = d at h2
    interval_cases a <;> interval_cases d <;> rfl
  rw [hw]
  split
  · show x3 _ * (((1#1 : BitVec 1).toNat : ℝ) : EReal) = _
    have e : (⟨r.val / 4 * 256 + r.val % 4 * 64 + l.val % 64, by omega⟩ : Fin 512) = ⟨r.val * 64 + l.val % 64, by omega⟩ := Fin.ext (by show r.val / 4 * 256 + r.val % 4 * 64 + l.val % 64 = r.val * 64 + l.val % 64; omega)
    rw [e]
    simp
  · show x3 _ * (((0#1 : BitVec 1).toNat : ℝ) : EReal) = _
    simp

/-- A flag's entry. -/
theorem flags_at (x4 : FVec Ideal S256x128 .f32) (b : Fin 128) (r : Fin 8) (t : Fin 128) :
    flags x4 (ix3 b r t) = x4 (ix2 ⟨b.val * 2 + r.val / 4, by omega⟩ t) := by
  pointwise [flags]

theorem gates3_at (x8 : FVec Ideal S128x256 .f32) (b : Fin 128) (r : Fin 8) (t : Fin 3) :
    gates3 x8 (ix3 b r t) = x8 (ix2 b ⟨r.val / 4 * 128 + (r.val % 4 * 3 + t.val), by omega⟩) := by
  pointwise [gates3]

/-- A gate's entry. -/
theorem gates_at (x8 : FVec Ideal S128x256 .f32) (b : Fin 128) (r : Fin 8) (t : Fin 3) :
    gates x8 (ix3 b r ⟨t.val, by omega⟩) = x8 (ix2 b ⟨r.val / 4 * 128 + (r.val % 4 * 3 + t.val), by omega⟩) := by
  refine Eq.trans ?_ (gates3_at x8 b r t)
  unfold gates
  generalize gates3 x8 = g
  pointwise

/-- A new row's entry. -/
theorem newRow_at (x : FVec Ideal S1x256x128 .f32) (b : Fin 128) (j : Fin 256) :
    newRow x (ix3 b 0 j) = x (ix3 0 j b) := by
  pointwise [newRow]

/-- A new column's entry. -/
theorem newCol_at (x : FVec Ideal S1x256x128 .f32) (b : Fin 128) (j : Fin 256) :
    newCol x (ix3 b j 0) = x (ix3 0 j b) := by
  pointwise [newCol, newRow]

end Cert.AttHost

end
-- ==== Proof.AttendSampleBlocks.lean ====
/- The blocks that one grid point of the sample attention stages, read at an index: sixteen pages of the cache, and a sequence's part of
   every other array. -/
module

public import proofs.«01_k».proof.Proof.AttendSampleHost
public import Idealize.ShloMosaic.Lib.Pipeline.ValueKit.Geometry

@[expose] public section

set_option maxRecDepth 16384

noncomputable section

namespace Cert.AttBlocks

open Cert.AttendSampleIdeal Cert.AttendSampleIdeal.Gen
open Idealize.ShloMosaic Idealize.ShloMosaic.TcCoe

variable (m : (ℓ : Loc nD τ sig) → Buf (Elt Ideal) ℓ) (hO : Ok m) (c : Dev nD) (t : Fin (cfgM m hO).N)

/-- The sequence of a grid point. -/
def seqOf : Fin 128 := grid0.coords t 0

theorem seq_word : (BitVec.ofNat 32 (grid0.coords t 0).val).toNat = (seqOf m hO t).val :=
  Nat.mod_eq_of_lt (Nat.lt_trans (seqOf m hO t).isLt (by decide))

/-- The page table's word. -/
def word (p : Fin 16) : BitVec 32 := (tbl m 0 : S128x16.Idx → BitVec 32) (ix2 (seqOf m hO t) p)

/-- A word of the table, off the argument. -/
theorem word_eq (p : Fin 16) : word m hO t p = (m ((c : Thread nD τ).loc main_arg0) : S128x16.Idx → BitVec 32) (ix2 (seqOf m hO t) p) := by
  obtain rfl : c = 0 := Subsingleton.elim _ _
  exact congrFun (V_main_arg0 m 0) (ix2 (seqOf m hO t) p)

/-- The table's index that a window's map reads. -/
theorem table_at (p : Fin 16) (inb : ∀ a : Fin 2, (![(Scalar.indexCast (BitVec.ofNat 32 (grid0.coords t 0).val) : Index).toNat, p.val] : Fin 2 → ℕ) a + S1x1.size a ≤ S128x16.size a)
    (j : S1x1.Idx) :
    (Rect.unit (s := S128x16) ![(Scalar.indexCast (BitVec.ofNat 32 (grid0.coords t 0).val) : Index).toNat, p.val] S1x1.size inb).emb j
      = ix2 (seqOf m hO t) p := by
  funext a
  refine Fin.ext ((ValueKit.rect_emb_unit_val _ _ inb j a).trans ?_)
  match a with
  | ⟨0, _⟩ =>
    have h0 : (j 0).val < 1 := (j 0).isLt
    show (BitVec.ofNat 32 (grid0.coords t 0).val).toNat + (j 0).val = (seqOf m hO t).val
    rw [seq_word m hO t]
    omega
  | ⟨1, _⟩ =>
    have h0 : (j 1).val < 1 := (j 1).isLt
    show p.val + (j 1).val = p.val
    omega

/-- A block of an array whose first axis counts the blocks: where its element lies. -/
theorem layer_at {N n k : ℕ} (w : ℕ) (ix : Fin 3 → ℕ) (inb : ∀ a : Fin 3, ix a * (⟨3, ![1, n, k]⟩ : Shape).size a + (⟨3, ![1, n, k]⟩ : Shape).size a ≤ (⟨3, ![N, n, k]⟩ : Shape).size a)
    (j : Fin n) (l : Fin k) (h : w < N) (e : ix = ![w, 0, 0]) :
    (Rect.unit (s := ⟨3, ![N, n, k]⟩) (fun a => ix a * (⟨3, ![1, n, k]⟩ : Shape).size a) (⟨3, ![1, n, k]⟩ : Shape).size inb).emb (ix3 0 j l) = ix3 ⟨w, h⟩ j l := by
  subst e
  funext a
  refine Fin.ext ((ValueKit.rect_emb_unit_val _ _ inb (ix3 0 j l) a).trans ?_)
  match a with
  | ⟨0, _⟩ => show w * 1 + 0 = w; omega
  | ⟨1, _⟩ => show 0 * n + j.val = j.val; omega
  | ⟨2, _⟩ => show 0 * k + l.val = l.val; omega

theorem page0 (h : (word m hO t 0).toNat < 2560) (j : Fin 256) (l : Fin 128) :
    iblk m hO c 0 t (ix3 0 j l) = V m c main_v32 (ix3 ⟨(word m hO t 0).toNat, h⟩ j l) := by
  have e : (((cfgM m hO).win 0).index t : Fin 3 → ℕ) = ![(word m hO t 0).toNat, 0, 0] :=
    congrArg (fun i : S128x16.Idx => (![((tbl m 0 : S128x16.Idx → BitVec 32) i).toNat, 0, 0] : Fin 3 → ℕ)) (table_at m hO t 0 _ _)
  exact congrArg (V m c main_v32) (layer_at (N := 2560) (n := 256) (k := 128) _ _ _ j l h e)

theorem page1 (h : (word m hO t 1).toNat < 2560) (j : Fin 256) (l : Fin 128) :
    iblk m hO c 1 t (ix3 0 j l) = V m c main_v32 (ix3 ⟨(word m hO t 1).toNat, h⟩ j l) := by
  have e : (((cfgM m hO).win 1).index t : Fin 3 → ℕ) = ![(word m hO t 1).toNat, 0, 0] :=
    congrArg (fun i : S128x16.Idx => (![((tbl m 0 : S128x16.Idx → BitVec 32) i).toNat, 0, 0] : Fin 3 → ℕ)) (table_at m hO t 1 _ _)
  exact congrArg (V m c main_v32) (layer_at (N := 2560) (n := 256) (k := 128) _ _ _ j l h e)

theorem page2 (h : (word m hO t 2).toNat < 2560) (j : Fin 256) (l : Fin 128) :
    iblk m hO c 2 t (ix3 0 j l) = V m c main_v32 (ix3 ⟨(word m hO t 2).toNat, h⟩ j l) := by
  have e : (((cfgM m hO).win 2).index t : Fin 3 → ℕ) = ![(word m hO t 2).toNat, 0, 0] :=
    congrArg (fun i : S128x16.Idx => (![((tbl m 0 : S128x16.Idx → BitVec 32) i).toNat, 0, 0] : Fin 3 → ℕ)) (table_at m hO t 2 _ _)
  exact congrArg (V m c main_v32) (layer_at (N := 2560) (n := 256) (k := 128) _ _ _ j l h e)

theorem page3 (h : (word m hO t 3).toNat < 2560) (j : Fin 256) (l : Fin 128) :
    iblk m hO c 3 t (ix3 0 j l) = V m c main_v32 (ix3 ⟨(word m hO t 3).toNat, h⟩ j l) := by
  have e : (((cfgM m hO).win 3).index t : Fin 3 → ℕ) = ![(word m hO t 3).toNat, 0, 0] :=
    congrArg (fun i : S128x16.Idx => (![((tbl m 0 : S128x16.Idx → BitVec 32) i).toNat, 0, 0] : Fin 3 → ℕ)) (table_at m hO t 3 _ _)
  exact congrArg (V m c main_v32) (layer_at (N := 2560) (n := 256) (k := 128) _ _ _ j l h e)

theorem page4 (h : (word m hO t 4).toNat < 2560) (j : Fin 256) (l : Fin 128) :
    iblk m hO c 4 t (ix3 0 j l) = V m c main_v32 (ix3 ⟨(word m hO t 4).toNat, h⟩ j l) := by
  have e : (((cfgM m hO).win 4).index t : Fin 3 → ℕ) = ![(word m hO t 4).toNat, 0, 0] :=
    congrArg (fun i : S128x16.Idx => (![((tbl m 0 : S128x16.Idx → BitVec 32) i).toNat, 0, 0] : Fin 3 → ℕ)) (table_at m hO t 4 _ _)
  exact congrArg (V m c main_v32) (layer_at (N := 2560) (n := 256) (k := 128) _ _ _ j l h e)

theorem page5 (h : (word m hO t 5).toNat < 2560) (j : Fin 256) (l : Fin 128) :
    iblk m hO c 5 t (ix3 0 j l) = V m c main_v32 (ix3 ⟨(word m hO t 5).toNat, h⟩ j l) := by
  have e : (((cfgM m hO).win 5).index t : Fin 3 → ℕ) = ![(word m hO t 5).toNat, 0, 0] :=
    congrArg (fun i : S128x16.Idx => (![((tbl m 0 : S128x16.Idx → BitVec 32) i).toNat, 0, 0] : Fin 3 → ℕ)) (table_at m hO t 5 _ _)
  exact congrArg (V m c main_v32) (layer_at (N := 2560) (n := 256) (k := 128) _ _ _ j l h e)

theorem page6 (h : (word m hO t 6).toNat < 2560) (j : Fin 256) (l : Fin 128) :
    iblk m hO c 6 t (ix3 0 j l) = V m c main_v32 (ix3 ⟨(word m hO t 6).toNat, h⟩ j l) := by
  have e : (((cfgM m hO).win 6).index t : Fin 3 → ℕ) = ![(word m hO t 6).toNat, 0, 0] :=
    congrArg (fun i : S128x16.Idx => (![((tbl m 0 : S128x16.Idx → BitVec 32) i).toNat, 0, 0] : Fin 3 → ℕ)) (table_at m hO t 6 _ _)
  exact congrArg (V m c main_v32) (layer_at (N := 2560) (n := 256) (k := 128) _ _ _ j l h e)

theorem page7 (h : (word m hO t 7).toNat < 2560) (j : Fin 256) (l : Fin 128) :
    iblk m hO c 7 t (ix3 0 j l) = V m c main_v32 (ix3 ⟨(word m hO t 7).toNat, h⟩ j l) := by
  have e : (((cfgM m hO).win 7).index t : Fin 3 → ℕ) = ![(word m hO t 7).toNat, 0, 0] :=
    congrArg (fun i : S128x16.Idx => (![((tbl m 0 : S128x16.Idx → BitVec 32) i).toNat, 0, 0] : Fin 3 → ℕ)) (table_at m hO t 7 _ _)
  exact congrArg (V m c main_v32) (layer_at (N := 2560) (n := 256) (k := 128) _ _ _ j l h e)

theorem page8 (h : (word m hO t 8).toNat < 2560) (j : Fin 256) (l : Fin 128) :
    iblk m hO c 8 t (ix3 0 j l) = V m c main_v32 (ix3 ⟨(word m hO t 8).toNat, h⟩ j l) := by
  have e : (((cfgM m hO).win 8).index t : Fin 3 → ℕ) = ![(word m hO t 8).toNat, 0, 0] :=
    congrArg (fun i : S128x16.Idx => (![((tbl m 0 : S128x16.Idx → BitVec 32) i).toNat, 0, 0] : Fin 3 → ℕ)) (table_at m hO t 8 _ _)
  exact congrArg (V m c main_v32) (layer_at (N := 2560) (n := 256) (k := 128) _ _ _ j l h e)

theorem page9 (h : (word m hO t 9).toNat < 2560) (j : Fin 256) (l : Fin 128) :
    iblk m hO c 9 t (ix3 0 j l) = V m c main_v32 (ix3 ⟨(word m hO t 9).toNat, h⟩ j l) := by
  have e : (((cfgM m hO).win 9).index t : Fin 3 → ℕ) = ![(word m hO t 9).toNat, 0, 0] :=
    congrArg (fun i : S128x16.Idx => (![((tbl m 0 : S128x16.Idx → BitVec 32) i).toNat, 0, 0] : Fin 3 → ℕ)) (table_at m hO t 9 _ _)
  exact congrArg (V m c main_v32) (layer_at (N := 2560) (n := 256) (k := 128) _ _ _ j l h e)

theorem page10 (h : (word m hO t 10).toNat < 2560) (j : Fin 256) (l : Fin 128) :
    iblk m hO c 10 t (ix3 0 j l) = V m c main_v32 (ix3 ⟨(word m hO t 10).toNat, h⟩ j l) := by
  have e : (((cfgM m hO).win 10).index t : Fin 3 → ℕ) = ![(word m hO t 10).toNat, 0, 0] :=
    congrArg (fun i : S128x16.Idx => (![((tbl m 0 : S128x16.Idx → BitVec 32) i).toNat, 0, 0] : Fin 3 → ℕ)) (table_at m hO t 10 _ _)
  exact congrArg (V m c main_v32) (layer_at (N := 2560) (n := 256) (k := 128) _ _ _ j l h e)

theorem page11 (h : (word m hO t 11).toNat < 2560) (j : Fin 256) (l : Fin 128) :
    iblk m hO c 11 t (ix3 0 j l) = V m c main_v32 (ix3 ⟨(word m hO t 11).toNat, h⟩ j l) := by
  have e : (((cfgM m hO).win 11).index t : Fin 3 → ℕ) = ![(word m hO t 11).toNat, 0, 0] :=
    congrArg (fun i : S128x16.Idx => (![((tbl m 0 : S128x16.Idx → BitVec 32) i).toNat, 0, 0] : Fin 3 → ℕ)) (table_at m hO t 11 _ _)
  exact congrArg (V m c main_v32) (layer_at (N := 2560) (n := 256) (k := 128) _ _ _ j l h e)

theorem page12 (h : (word m hO t 12).toNat < 2560) (j : Fin 256) (l : Fin 128) :
    iblk m hO c 12 t (ix3 0 j l) = V m c main_v32 (ix3 ⟨(word m hO t 12).toNat, h⟩ j l) := by
  have e : (((cfgM m hO).win 12).index t : Fin 3 → ℕ) = ![(word m hO t 12).toNat, 0, 0] :=
    congrArg (fun i : S128x16.Idx => (![((tbl m 0 : S128x16.Idx → BitVec 32) i).toNat, 0, 0] : Fin 3 → ℕ)) (table_at m hO t 12 _ _)
  exact congrArg (V m c main_v32) (layer_at (N := 2560) (n := 256) (k := 128) _ _ _ j l h e)

theorem page13 (h : (word m hO t 13).toNat < 2560) (j : Fin 256) (l : Fin 128) :
    iblk m hO c 13 t (ix3 0 j l) = V m c main_v32 (ix3 ⟨(word m hO t 13).toNat, h⟩ j l) := by
  have e : (((cfgM m hO).win 13).index t : Fin 3 → ℕ) = ![(word m hO t 13).toNat, 0, 0] :=
    congrArg (fun i : S128x16.Idx => (![((tbl m 0 : S128x16.Idx → BitVec 32) i).toNat, 0, 0] : Fin 3 → ℕ)) (table_at m hO t 13 _ _)
  exact congrArg (V m c main_v32) (layer_at (N := 2560) (n := 256) (k := 128) _ _ _ j l h e)

theorem page14 (h : (word m hO t 14).toNat < 2560) (j : Fin 256) (l : Fin 128) :
    iblk m hO c 14 t (ix3 0 j l) = V m c main_v32 (ix3 ⟨(word m hO t 14).toNat, h⟩ j l) := by
  have e : (((cfgM m hO).win 14).index t : Fin 3 → ℕ) = ![(word m hO t 14).toNat, 0, 0] :=
    congrArg (fun i : S128x16.Idx => (![((tbl m 0 : S128x16.Idx → BitVec 32) i).toNat, 0, 0] : Fin 3 → ℕ)) (table_at m hO t 14 _ _)
  exact congrArg (V m c main_v32) (layer_at (N := 2560) (n := 256) (k := 128) _ _ _ j l h e)

theorem page15 (h : (word m hO t 15).toNat < 2560) (j : Fin 256) (l : Fin 128) :
    iblk m hO c 15 t (ix3 0 j l) = V m c main_v32 (ix3 ⟨(word m hO t 15).toNat, h⟩ j l) := by
  have e : (((cfgM m hO).win 15).index t : Fin 3 → ℕ) = ![(word m hO t 15).toNat, 0, 0] :=
    congrArg (fun i : S128x16.Idx => (![((tbl m 0 : S128x16.Idx → BitVec 32) i).toNat, 0, 0] : Fin 3 → ℕ)) (table_at m hO t 15 _ _)
  exact congrArg (V m c main_v32) (layer_at (N := 2560) (n := 256) (k := 128) _ _ _ j l h e)

/-- The sixteen pages. -/
def staged : Fin 16 → FVec Ideal S1x256x128 .f32 :=
  ![iblk m hO c 0 t, iblk m hO c 1 t, iblk m hO c 2 t, iblk m hO c 3 t, iblk m hO c 4 t, iblk m hO c 5 t, iblk m hO c 6 t, iblk m hO c 7 t,
    iblk m hO c 8 t, iblk m hO c 9 t, iblk m hO c 10 t, iblk m hO c 11 t, iblk m hO c 12 t, iblk m hO c 13 t, iblk m hO c 14 t, iblk m hO c 15 t]

theorem vec16 {α : Type} {P : Fin 16 → α → Prop} {x0 x1 x2 x3 x4 x5 x6 x7 x8 x9 x10 x11 x12 x13 x14 x15 : α} (h0 : P 0 x0) (h1 : P 1 x1) (h2 : P 2 x2) (h3 : P 3 x3)
    (h4 : P 4 x4) (h5 : P 5 x5) (h6 : P 6 x6) (h7 : P 7 x7) (h8 : P 8 x8) (h9 : P 9 x9) (h10 : P 10 x10) (h11 : P 11 x11) (h12 : P 12 x12) (h13 : P 13 x13)
    (h14 : P 14 x14) (h15 : P 15 x15) :
    ∀ p, P p (![x0, x1, x2, x3, x4, x5, x6, x7, x8, x9, x10, x11, x12, x13, x14, x15] p) := by
  intro p
  fin_cases p <;> assumption

/-- A staged page's element. -/
theorem staged_at (p : Fin 16) (h : (word m hO t p).toNat < 2560) (j : Fin 256) (l : Fin 128) :
    staged m hO c t p (ix3 0 j l) = V m c main_v32 (ix3 ⟨(word m hO t p).toNat, h⟩ j l) := by
  revert h
  unfold staged
  exact vec16 (α := FVec Ideal S1x256x128 .f32)
    (P := fun p x => ∀ h : (word m hO t p).toNat < 2560, x (ix3 0 j l) = V m c main_v32 (ix3 ⟨(word m hO t p).toNat, h⟩ j l))
    (fun h => page0 m hO c t h j l) (fun h => page1 m hO c t h j l) (fun h => page2 m hO c t h j l) (fun h => page3 m hO c t h j l) (fun h => page4 m hO c t h j l) (fun h => page5 m hO c t h j l) (fun h => page6 m hO c t h j l) (fun h => page7 m hO c t h j l) (fun h => page8 m hO c t h j l) (fun h => page9 m hO c t h j l) (fun h => page10 m hO c t h j l) (fun h => page11 m hO c t h j l) (fun h => page12 m hO c t h j l) (fun h => page13 m hO c t h j l) (fun h => page14 m hO c t h j l) (fun h => page15 m hO c t h j l) p

/-- The index of a window that follows the sequence. -/
theorem seq_index : (![(BitVec.ofNat 32 (grid0.coords t 0).val).toNat, 0, 0] : Fin 3 → ℕ) = ![(seqOf m hO t).val, 0, 0] :=
  congrArg (fun n : ℕ => (![n, 0, 0] : Fin 3 → ℕ)) (seq_word m hO t)

theorem window (j : Fin 256) (l : Fin 512) : iblk m hO c 16 t (ix3 0 j l) = V m c main_v22 (ix3 (seqOf m hO t) j l) :=
  congrArg (V m c main_v22) (layer_at (N := 128) (n := 256) (k := 512) _ _ _ j l (seqOf m hO t).isLt (seq_index m hO t))

theorem queries (j : Fin 8) (l : Fin 128) : iblk m hO c 17 t (ix3 0 j l) = V m c main_v11 (ix3 (seqOf m hO t) j l) :=
  congrArg (V m c main_v11) (layer_at (N := 128) (n := 8) (k := 128) _ _ _ j l (seqOf m hO t).isLt (seq_index m hO t))

theorem flags (j : Fin 8) (l : Fin 128) : iblk m hO c 18 t (ix3 0 j l) = V m c main_v15 (ix3 (seqOf m hO t) j l) :=
  congrArg (V m c main_v15) (layer_at (N := 128) (n := 8) (k := 128) _ _ _ j l (seqOf m hO t).isLt (seq_index m hO t))

theorem newS (l : Fin 256) : iblk m hO c 19 t (ix3 0 0 l) = V m c main_v25 (ix3 (seqOf m hO t) 0 l) :=
  congrArg (V m c main_v25) (layer_at (N := 128) (n := 1) (k := 256) _ _ _ 0 l (seqOf m hO t).isLt (seq_index m hO t))

theorem newW (l : Fin 256) : iblk m hO c 20 t (ix3 0 0 l) = V m c main_v28 (ix3 (seqOf m hO t) 0 l) :=
  congrArg (V m c main_v28) (layer_at (N := 128) (n := 1) (k := 256) _ _ _ 0 l (seqOf m hO t).isLt (seq_index m hO t))

theorem newCol (j : Fin 256) : iblk m hO c 21 t (ix3 0 j 0) = V m c main_v29 (ix3 (seqOf m hO t) j 0) :=
  congrArg (V m c main_v29) (layer_at (N := 128) (n := 256) (k := 1) _ _ _ j 0 (seqOf m hO t).isLt (seq_index m hO t))

theorem given (j : Fin 8) (l : Fin 128) : iblk m hO c 22 t (ix3 0 j l) = V m c main_arg7 (ix3 (seqOf m hO t) j l) :=
  congrArg (V m c main_arg7) (layer_at (N := 128) (n := 8) (k := 128) _ _ _ j l (seqOf m hO t).isLt (seq_index m hO t))

theorem gates (j : Fin 8) (l : Fin 128) : iblk m hO c 23 t (ix3 0 j l) = V m c main_v19 (ix3 (seqOf m hO t) j l) :=
  congrArg (V m c main_v19) (layer_at (N := 128) (n := 8) (k := 128) _ _ _ j l (seqOf m hO t).isLt (seq_index m hO t))

end Cert.AttBlocks

end
-- ==== Proof.AttendSampleRows.lean ====
/- The gathered rows of the sample attention's reference: row `r` of sequence `b` is row `r % 128` of the cache's page that the page table names. -/
module

public import proofs.«01_k».proof.Proof.Gen.AttendSampleReferenceIdeal.Read
public import Idealize.ShloMosaic.Lib.Pointwise
public import Idealize.ShloMosaic.Lib.ValueIdxRank6

@[expose] public section

noncomputable section

namespace Cert.AttRows

open Cert.AttendSampleReferenceIdeal Cert.AttendSampleReferenceIdeal.Gen Cert.AttendSampleReferenceIdeal.Read
open Idealize.ShloMosaic Idealize.ShloMosaic.TcCoe

/-- The gather of pages at an index. -/
theorem gather_at {α : Type} (X : S2560x128x2x2x64.Idx → α) (I : IVec S128x16x1 32) (b : Fin 128) (p : Fin 16) (r : Fin 128)
    (kv h : Fin 2) (d : Fin 64) (w : BitVec 32) (hw : I (ix3 b p 0) = w) :
    Host.gather gather_S2560x128x2x2x64_S128x16x1_S128x16x128x2x2x64_2345_0_n_n_0_2_11282264 X I (ix6 b p r kv h d)
      = X (ix5 ⟨min w.toInt.toNat 2559, by omega⟩ r kv h d) := by
  subst hw
  unfold Host.gather
  refine congrArg X (funext fun a => Fin.ext ?_)
  show GatherDims.start _ _ _ a + GatherDims.batchCoord _ _ a + GatherDims.offCoord _ _ a = _
  rw [GatherDims.batchCoord_eq_zero _ _ _ (fun h => absurd h List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : GatherDims.siIdx gather_S2560x128x2x2x64_S128x16x1_S128x16x128x2x2x64_2345_0_n_n_0_2_11282264 (ix6 b p r kv h d) ⟨List.idxOf (0 : Fin 5) [0],
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    exact congrArg (fun j => min (I j).toInt.toNat 2559) hsi
  | ⟨1, _⟩ => exact Nat.zero_add _
  | ⟨2, _⟩ => exact Nat.zero_add _
  | ⟨3, _⟩ => exact Nat.zero_add _
  | ⟨4, _⟩ => exact Nat.zero_add _

/-- Where the reference's page number is read. -/
theorem page_at (x0 : IVec S128x16 32) (b : Fin 128) (p : Fin 16) (h0 : (x0 (ix2 b p)).toNat < 2560) :
    val_main_v11 (F := Ideal) x0 (ix3 b p 0) = x0 (ix2 b p) := by
  simp only [val_main_v11_apply, val_main_v10_apply, val_main_v9_apply, val_main_v8_apply, val_main_v7_apply, val_main_v6_apply, val_main_c_apply, val_main_c_0_apply]
  have e : (idx_main_v11 (ix3 b p 0) : S128x16.Idx) = ix2 b p := by
    funext a; match a with | ⟨0, _⟩ => rfl | ⟨1, _⟩ => rfl
  rw [e]
  have hs : IntOp.cmpi .slt (x0 (ix2 b p)) 0#32 = 0#1 := by
    have : (x0 (ix2 b p)).slt 0#32 = false := by
      simp only [BitVec.slt, decide_eq_false_iff_not, BitVec.toInt, BitVec.toNat_ofNat]; omega
    simp only [IntOp.cmpi, this]; rfl
  rw [hs]; rfl

/-- The cache without its layer axis. -/
theorem cache_at (x1 : FVec Ideal S1x2560x128x2x2x64 .f32) (a : Fin 2560) (r : Fin 128) (kv h : Fin 2) (d : Fin 64) :
    val_main_v5 (F := Ideal) x1 (ix5 a r kv h d) = x1 (ix6 0 a r kv h d) := by
  unfold val_main_v5
  refine shapeCast_apply x1 _ _ (ix6 0 a r kv h d) ?_
  rw [Shape.rowMajor_val_six, Shape.rowMajor_val_five]
  show ((((0 * 2560 + a.val) * 128 + r.val) * 2 + kv.val) * 2 + h.val) * 64 + d.val = (((a.val * 128 + r.val) * 2 + kv.val) * 2 + h.val) * 64 + d.val
  omega

/-- The gathered rows. -/
theorem rows_at (x0 : IVec S128x16 32) (x1 : FVec Ideal S1x2560x128x2x2x64 .f32) (hx : ∀ y, (x0 y).toNat < 2560)
    (b : Fin 128) (r : Fin 2048) (kv h : Fin 2) (d : Fin 64) :
    val_main_v13 (F := Ideal) x0 x1 (ix5 b r kv h d)
      = x1 (ix6 0 ⟨(x0 (ix2 b ⟨r.val / 128, by omega⟩)).toNat, hx _⟩ ⟨r.val % 128, Nat.mod_lt _ (by decide)⟩ kv h d) := by
  unfold val_main_v13
  refine (shapeCast_apply _ _ _ (ix6 b ⟨r.val / 128, by omega⟩ ⟨r.val % 128, Nat.mod_lt _ (by decide)⟩ kv h d) ?_).trans ?_
  · rw [Shape.rowMajor_val_six, Shape.rowMajor_val_five]
    show ((((b.val * 16 + r.val / 128) * 128 + r.val % 128) * 2 + kv.val) * 2 + h.val) * 64 + d.val
      = (((b.val * 2048 + r.val) * 2 + kv.val) * 2 + h.val) * 64 + d.val
    omega
  · unfold val_main_v12
    rw [gather_at _ _ _ _ _ _ _ _ _ (page_at x0 b _ (hx _)), cache_at]
    have hl := hx (ix2 b ⟨r.val / 128, by omega⟩)
    have ht : (x0 (ix2 b ⟨r.val / 128, by omega⟩)).toInt.toNat = (x0 (ix2 b ⟨r.val / 128, by omega⟩)).toNat := by
      rw [BitVec.toInt_eq_toNat_cond, if_pos (by omega)]; rfl
    have e : (⟨min (x0 (ix2 b ⟨r.val / 128, by omega⟩)).toInt.toNat 2559, by omega⟩ : Fin 2560) = ⟨(x0 (ix2 b ⟨r.val / 128, by omega⟩)).toNat, hx _⟩ :=
      Fin.ext ((congrArg (min · 2559) ht).trans (Nat.min_eq_left (Nat.le_of_lt_succ hl)))
    exact congrArg (fun a => x1 (ix6 0 a ⟨r.val % 128, Nat.mod_lt _ (by decide)⟩ kv h d)) e

end Cert.AttRows

end
-- ==== Proof.AttendSampleTerm.lean ====
/- What one grid point (one sequence) of the sample attention computes, as a composition of whole-array operations of its blocks:
   the scores of sixteen pages, masked by blocks, and of the new token; their largest, and the two sums, page by page; the same
   over the window; the three gated parts; and the window moved by one with the new token last. -/
module

public import proofs.«01_k».proof.Proof.AttendSampleIdealFrame
public import Idealize.ShloMosaic.Lib.Pipeline.Value

@[expose] public section

noncomputable section

namespace Cert.AttS

open Cert.AttendSampleIdeal Cert.AttendSampleIdeal.Gen
open Idealize.ShloMosaic Idealize.ShloMosaic.TcCoe

variable {F : FTy → Type} [FloatOps F] [Named F]

theorem half_inb (kv : Fin 2) : ∀ a, (![0, 128 * kv.val, 0] : Fin 3 → ℕ) a + S1x128x128.size a ≤ S1x256x128.size a := by
  revert kv; decide

/-- The keys (0) or the values (1) of a page's block. -/
def half (x : FVec F S1x256x128 .f32) (kv : Fin 2) : FVec F S1x128x128 .f32 :=
  View.ld (Val := Elt F) (e' := .f32) (S := S1x256x128) x (Rect.unit ![0, 128 * kv.val, 0] S1x128x128.size (half_inb kv))

theorem row_inb (kv : Fin 2) : ∀ a, (![0, 0, 128 * kv.val] : Fin 3 → ℕ) a + S1x1x128.size a ≤ S1x1x256.size a := by
  revert kv; decide

/-- The key (0) or the value (1) of a new token. -/
def newHalf (x : FVec F S1x1x256 .f32) (kv : Fin 2) : FVec F S1x1x128 .f32 :=
  View.ld (Val := Elt F) (e' := .f32) (S := S1x1x256) x (Rect.unit ![0, 0, 128 * kv.val] S1x1x128.size (row_inb kv))

theorem slice_ok (t : Fin 32) : S8x128.Slices ![0, t.val] S8x1 := by
  revert t; decide

/-- A block's flag, along the lanes. -/
def flagCol (ns : FVec F S8x128 .f32) (t : Fin 32) : FVec F S8x128 .f32 :=
  broadcastTo S8x128 (shapeCast S8x1 (extractStridedSlice S8x1 ![0, t.val] ns (slice_ok t)) shapeCasts_S8x1_S8x1) broadcasts_S8x1_S8x128

/-- A page's scores, those of its left-out blocks masked. -/
def score (q : FVec F S8x128 .bf16) (ns : FVec F S8x128 .f32) (k : FVec F S1x128x128 .f32) (p : Fin 16) : FVec F S8x128 .f32 :=
  select (cmpf .ogt (select (cmpi .sge (iota .tc S8x128 32 [1] iota_S8x128_d1_w32) (broadcast S8x128 64#32))
      (flagCol ns ⟨2 * p.val + 1, by omega⟩) (flagCol ns ⟨2 * p.val, by omega⟩)) (broadcast S8x128 (Scalar.ofBits .f32 0x3F000000#32)))
    (broadcast S8x128 (Named.named κ "mask" 0xF149F2CA#32))
    (matmul dot_S8x128_S128x128_S8x128_1_0_0_1_n_n none q (truncf .bf16 (shapeCast S128x128 k shapeCasts_S1x128x128_S128x128) bitsLt_bf16_f32)
      (constant S8x128 .f32 0x00000000#32))

/-- A row's largest entry. -/
def rowMax (s : FVec F S8x128 .f32) : FVec F S8x1 .f32 :=
  shapeCast S8x1 (multiReduction .maximumf [1] S8 s 0xFF800000#32 reduces_S8x128_S8 (.inl rfl) rfl) shapeCasts_S8_S8x1

/-- The exponentials of a page's scores less the largest. -/
def weight (s : FVec F S8x128 .f32) (m : FVec F S8x1 .f32) : FVec F S8x128 .bf16 :=
  truncf .bf16 (exp (subf s (broadcastTo S8x128 m broadcasts_S8x1_S8x128))) bitsLt_bf16_f32

/-- A row's sum. -/
def rowSum (w : FVec F S8x128 .bf16) : FVec F S8x1 .f32 :=
  shapeCast S8x1 (multiReduction .add [1] S8 (extf .f32 w bitsLt_bf16_f32) 0x00000000#32 reduces_S8x128_S8 (.inl rfl) rfl) shapeCasts_S8_S8x1

/-- The values of a page, weighted. -/
def weighted (w : FVec F S8x128 .bf16) (v : FVec F S1x128x128 .f32) : FVec F S8x128 .f32 :=
  matmul dot_S8x128_S128x128_S8x128_1_1_0_0_n_n none w (truncf .bf16 (shapeCast S128x128 v shapeCasts_S1x128x128_S128x128) bitsLt_bf16_f32)
    (constant S8x128 .f32 0x00000000#32)

/-- The sixteen pages in order. -/
def pages : List (Fin 16) := [0, 1, 2, 3, 4, 5, 6, 7, 8, 9, 10, 11, 12, 13, 14, 15]

/-- The largest score, starting from the new token's `n`. -/
def largest (n : FVec F S8x1 .f32) (s : Fin 16 → FVec F S8x128 .f32) : FVec F S8x1 .f32 :=
  pages.foldl (fun a p => maximumf a (rowMax (s p))) n

/-- The sum of the exponentials. -/
def total (n m : FVec F S8x1 .f32) (s : Fin 16 → FVec F S8x128 .f32) : FVec F S8x1 .f32 :=
  pages.foldl (fun a p => addf a (rowSum (weight (s p) m))) (exp (subf n m))

/-- The sum of the weighted values. -/
def gathered (n m : FVec F S8x1 .f32) (vn : FVec F S1x128 .f32) (s : Fin 16 → FVec F S8x128 .f32) (v : Fin 16 → FVec F S1x128x128 .f32) :
    FVec F S8x128 .f32 :=
  pages.foldl (fun a p => addf a (weighted (weight (s p) m) (v p)))
    (mulf (broadcastTo S8x128 (exp (subf n m)) broadcasts_S8x1_S8x128) (broadcastTo S8x128 vn broadcasts_S1x128_S8x128))

/-- The attention over the selected tokens, of the new token's score `n`. -/
def selected (n : FVec F S8x1 .f32) (vn : FVec F S1x128 .f32) (s : Fin 16 → FVec F S8x128 .f32) (v : Fin 16 → FVec F S1x128x128 .f32) :
    FVec F S8x128 .f32 :=
  k0_pay73 (total n (largest n s) s) (gathered n (largest n s) vn s v)

/-- The new token's score. -/
def newScore (q : FVec F S1x8x128 .bf16) (ns : FVec F S1x8x128 .f32) (k : FVec F S1x1x128 .f32) : FVec F S8x1 .f32 :=
  k0_pay42 (k0_pay40 (k0_pay3 q) k) (k0_pay41 (k0_pay4 ns))

/-- The first output's block. -/
def attended (x : Fin 16 → FVec F S1x256x128 .f32) (x16 : FVec F S1x256x512 .f32) (x17 : FVec F S1x8x128 .bf16) (x18 : FVec F S1x8x128 .f32)
    (x19 x20 : FVec F S1x1x256 .f32) (x22 x23 : FVec F S1x8x128 .f32) : FVec F S1x8x128 .f32 :=
  k0_pay83 (selected (newScore x17 x18 (newHalf x19 0)) (k0_pay39 (newHalf x19 1))
      (fun p => score (k0_pay2 x17) (k0_pay4 x18) (half (x p) 0) p) (fun p => half (x p) 1))
    (k0_pay79 (k0_pay2 x17) (k0_pay3 x17) x16 (newHalf x20 0)) (k0_pay80 (k0_pay2 x17) (k0_pay3 x17) x16 (newHalf x20 0))
    (k0_pay81 (k0_pay2 x17) (k0_pay3 x17) x16 (newHalf x20 0) (newHalf x20 1)) (k0_pay82 x16) x23 x22

/-- The second output's block: the window moved by one, the new token last. -/
def moved (x16 : FVec F S1x256x512 .f32) (x21 : FVec F S1x256x1 .f32) : FVec F S1x256x512 .f32 :=
  k0_pay1 (k0_pay84 (k0_pay74 x16)) k0_pay85 x21

set_option maxHeartbeats 8000000 in
/-- The second output's block is the moved window. -/
theorem out25_eq (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) :
    out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 = moved x16 x21 := by
  unfold out0_A_25
  rw [View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0)]
  unfold kernelRun0_A
  dsimp only
  sl_unfold_words
  simp only [View.readAt_eq_ld, Memref.IsWhole.read_unread]
  refine (View.canon_unit_zero (funext fun a => by revert a; decide) _ _).trans ?_
  have e16 := View.ld_unit_zero (Val := Elt F) (e := .f32) (S := S1x256x512) (off := ![0, 0, 0])
    (funext fun a => by revert a; decide) inb_S1x256x512_S1x256x512_0_0_0 x16
  have e21 := View.ld_unit_zero (Val := Elt F) (e := .f32) (S := S1x256x1) (off := ![0, 0, 0])
    (funext fun a => by revert a; decide) inb_S1x256x1_S1x256x1_0_0_0 x21
  refine Eq.trans (b := moved (View.ld (Val := Elt F) (e' := .f32) (S := S1x256x512) x16 (Rect.unit ![0, 0, 0] S1x256x512.size inb_S1x256x512_S1x256x512_0_0_0))
    (View.ld (Val := Elt F) (e' := .f32) (S := S1x256x1) x21 (Rect.unit ![0, 0, 0] S1x256x1.size inb_S1x256x1_S1x256x1_0_0_0))) rfl ?_
  rw [e16, e21]

set_option maxHeartbeats 16000000 in
/-- The first output's block is the gated sum of the three attentions. -/
theorem out24_eq (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x256x128 .f32) (harg14 : arg14.IsWhole) (arg15 : Memref sig .tc .vmem S1x256x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x256x512 .f32) (harg18 : arg18.IsWhole) (arg19 : Memref sig .tc .vmem S1x8x128 .bf16) (harg19 : arg19.IsWhole) (arg20 : Memref sig .tc .vmem S1x8x128 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x256x1 .f32) (harg23 : arg23.IsWhole) (arg24 : Memref sig .tc .vmem S1x8x128 .f32) (harg24 : arg24.IsWhole) (arg25 : Memref sig .tc .vmem S1x8x128 .f32) (harg25 : arg25.IsWhole) (arg26 : Memref sig .tc .vmem S1x8x128 .f32) (harg26 : arg26.IsWhole) (arg27 : Memref sig .tc .vmem S1x256x512 .f32) (harg27 : arg27.IsWhole)
    (x0 : Vec F S1x256x128 .f32) (x1 : Vec F S1x256x128 .f32) (x2 : Vec F S1x256x128 .f32) (x3 : Vec F S1x256x128 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x512 .f32) (x17 : Vec F S1x8x128 .bf16) (x18 : Vec F S1x8x128 .f32) (x19 : Vec F S1x1x256 .f32) (x20 : Vec F S1x1x256 .f32) (x21 : Vec F S1x256x1 .f32) (x22 : Vec F S1x8x128 .f32) (x23 : Vec F S1x8x128 .f32) (xt0 : TbBuf0 (F := F) c tbM0_0) :
    out0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0 = attended ![x0, x1, x2, x3, x4, x5, x6, x7, x8, x9, x10, x11, x12, x13, x14, x15] x16 x17 x18 x19 x20 x22 x23 := by
  unfold out0_A_24
  rw [View.read_writes_eq_canon _ _ _ (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 xt0)]
  unfold kernelRun0_A
  dsimp only
  sl_unfold_words
  simp only [View.readAt_eq_ld, Memref.IsWhole.read_unread]
  refine (View.canon_unit_zero (funext fun a => by revert a; decide) _ _).trans ?_
  have e16 := View.ld_unit_zero (Val := Elt F) (e := .f32) (S := S1x256x512) (off := ![0, 0, 0])
    (funext fun a => by revert a; decide) inb_S1x256x512_S1x256x512_0_0_0 x16
  have e17 := View.ld_unit_zero (Val := Elt F) (e := .bf16) (S := S1x8x128) (off := ![0, 0, 0])
    (funext fun a => by revert a; decide) inb_S1x8x128_S1x8x128_0_0_0 x17
  have e18 := View.ld_unit_zero (Val := Elt F) (e := .f32) (S := S1x8x128) (off := ![0, 0, 0])
    (funext fun a => by revert a; decide) inb_S1x8x128_S1x8x128_0_0_0 x18
  have e22 := View.ld_unit_zero (Val := Elt F) (e := .f32) (S := S1x8x128) (off := ![0, 0, 0])
    (funext fun a => by revert a; decide) inb_S1x8x128_S1x8x128_0_0_0 x22
  have e23 := View.ld_unit_zero (Val := Elt F) (e := .f32) (S := S1x8x128) (off := ![0, 0, 0])
    (funext fun a => by revert a; decide) inb_S1x8x128_S1x8x128_0_0_0 x23
  refine Eq.trans (b := attended ![x0, x1, x2, x3, x4, x5, x6, x7, x8, x9, x10, x11, x12, x13, x14, x15]
    (View.ld (Val := Elt F) (e' := .f32) (S := S1x256x512) x16 (Rect.unit ![0, 0, 0] S1x256x512.size inb_S1x256x512_S1x256x512_0_0_0))
    (View.ld (Val := Elt F) (e' := .bf16) (S := S1x8x128) x17 (Rect.unit ![0, 0, 0] S1x8x128.size inb_S1x8x128_S1x8x128_0_0_0))
    (View.ld (Val := Elt F) (e' := .f32) (S := S1x8x128) x18 (Rect.unit ![0, 0, 0] S1x8x128.size inb_S1x8x128_S1x8x128_0_0_0)) x19 x20
    (View.ld (Val := Elt F) (e' := .f32) (S := S1x8x128) x22 (Rect.unit ![0, 0, 0] S1x8x128.size inb_S1x8x128_S1x8x128_0_0_0))
    (View.ld (Val := Elt F) (e' := .f32) (S := S1x8x128) x23 (Rect.unit ![0, 0, 0] S1x8x128.size inb_S1x8x128_S1x8x128_0_0_0))) (by sl_kernel_rfl) ?_
  rw [e16, e17, e18, e22, e23]

end Cert.AttS

end
-- ==== Proof.AttendSampleSpec.lean ====
/- The mathematics of the sample's attention: a softmax over scores some of which are −∞ (left out), and its two equal forms. -/
module

public import proofs.«01_k».proof.Proof.Sums

@[expose] public section

noncomputable section

namespace Cert.AttS

open Idealize.ShloMosaic Cert.Sums

/-- The largest score. -/
def top {n : ℕ} (s : Fin n → EReal) : EReal := Finset.fold max ⊥ s Finset.univ

/-- The values weighted by the softmax of the scores. -/
def soft {n : ℕ} (s v : Fin n → EReal) : EReal :=
  ∑ t : Fin n, Ideal.div (Ideal.exp (s t - top s)) (∑ t' : Fin n, Ideal.exp (s t' - top s)) * v t

theorem top_le {n : ℕ} (s : Fin n → EReal) (b : EReal) : top s ≤ b ↔ ∀ t, s t ≤ b := by
  unfold top
  rw [Finset.fold_max_le]
  exact ⟨fun h t => h.2 t (Finset.mem_univ t), fun h => ⟨bot_le, fun t _ => h t⟩⟩

theorem coe_sum {n : ℕ} (f : Fin n → ℝ) : ∑ t, ((f t : ℝ) : EReal) = ((∑ t, f t : ℝ) : EReal) := by
  have h (s : Finset (Fin n)) : ∑ t ∈ s, ((f t : ℝ) : EReal) = ((∑ t ∈ s, f t : ℝ) : EReal) := by
    induction s using Finset.cons_induction with
    | empty => rfl
    | cons a s ha ih => rw [Finset.sum_cons, Finset.sum_cons, ih, EReal.coe_add]
  exact h _

/-- Of scores that are real or −∞, one of them real, and real values: the sum of the weighted values times the reciprocal of the
    sum of the weights is the softmax's sum. -/
theorem soft_eq {n : ℕ} (s v : Fin n → EReal) (m L A : EReal) (hm : ∀ b, m ≤ b ↔ ∀ t, s t ≤ b)
    (hL : L = ∑ t, Ideal.exp (s t - m)) (hA : A = ∑ t, Ideal.exp (s t - m) * v t)
    (hs : ∀ t, s t = ⊥ ∨ Real (s t)) (t0 : Fin n) (h0 : Real (s t0)) (hv : ∀ t, Real (v t)) : A * Ideal.div 1 L = soft s v := by
  have hmt : m = top s := le_antisymm ((hm _).mpr ((top_le s _).mp le_rfl)) ((top_le s _).mpr ((hm _).mp le_rfl))
  unfold soft
  rw [← hmt, ← hL]
  obtain ⟨r0, hr0⟩ := h0
  have hge : (r0 : EReal) ≤ m := hr0 ▸ (hm m).mp le_rfl t0
  have hlt : m < ⊤ := by
    have hfin : top s < ⊤ := by
      unfold top
      rw [Finset.fold_max_lt]
      refine ⟨bot_lt_top, fun t _ => ?_⟩
      rcases hs t with h | ⟨r, h⟩
      · rw [h]; exact bot_lt_top
      · rw [h]; exact EReal.coe_lt_top r
    rw [hmt]; exact hfin
  obtain ⟨mr, hmr⟩ : ∃ r : ℝ, m = (r : EReal) := by
    induction m using EReal.rec with
    | bot => exact absurd hge (by simp)
    | coe r => exact ⟨r, rfl⟩
    | top => exact absurd hlt (lt_irrefl _)
  have he (t : Fin n) : ∃ r : ℝ, 0 ≤ r ∧ Ideal.exp (s t - m) = (r : EReal) := by
    rcases hs t with h | ⟨r, h⟩
    · exact ⟨0, le_rfl, by rw [h, EReal.bot_sub]; simp⟩
    · exact ⟨Real.exp (r - mr), (Real.exp_pos _).le, by rw [h, hmr, ← EReal.coe_sub, Ideal.exp_coe]⟩
  choose e he0 he1 using he
  choose w hw using hv
  have hpos : 0 < ∑ t, e t := by
    refine Finset.sum_pos' (fun t _ => he0 t) ⟨t0, Finset.mem_univ _, ?_⟩
    have h1 := he1 t0
    rw [hr0, hmr, ← EReal.coe_sub, Ideal.exp_coe] at h1
    rw [← EReal.coe_eq_coe_iff.mp h1]
    exact Real.exp_pos _
  have hL' : L = ((∑ t, e t : ℝ) : EReal) := by
    rw [hL, ← coe_sum]
    exact Finset.sum_congr rfl fun t _ => he1 t
  have hA' : A = ((∑ t, e t * w t : ℝ) : EReal) := by
    rw [hA, ← coe_sum]
    exact Finset.sum_congr rfl fun t _ => by rw [he1, hw, EReal.coe_mul]
  have hne : L ≠ 0 := by rw [hL']; exact fun h => hpos.ne' (EReal.coe_eq_zero.mp h)
  have hdiv (x : EReal) : Ideal.div x L = x * (((∑ t, e t)⁻¹ : ℝ) : EReal) := by
    unfold Ideal.div
    rw [if_neg hne, hL', EReal.coe_inv]
  rw [hdiv, one_mul, hA', ← EReal.coe_mul, Finset.sum_mul, ← coe_sum]
  refine Finset.sum_congr rfl fun t _ => ?_
  rw [hdiv, he1, hw, ← EReal.coe_mul, ← EReal.coe_mul]
  exact congrArg _ (by ring)

/-- `n` rows and one more. -/
def more {α : Type} {n : ℕ} (X : Fin n → α) (N : α) (t : Fin (n + 1)) : α := if h : t.val < n then X ⟨t.val, h⟩ else N

theorem more_castSucc {α : Type} {n : ℕ} (X : Fin n → α) (N : α) (t : Fin n) : more X N t.castSucc = X t := dif_pos t.isLt

theorem more_last {α : Type} {n : ℕ} (X : Fin n → α) (N : α) : more X N (Fin.last n) = N := dif_neg (lt_irrefl n)

/-- A sum over 2049 tokens: the new one, and sixteen pages of 128. -/
theorem sum_tokens (f : Fin 2049 → EReal) :
    f (Fin.last 2048) + ∑ p : Fin 16, ∑ x : Fin 128, f ⟨x.val + 128 * p.val, by omega⟩ = ∑ t, f t := by
  rw [Fin.sum_univ_castSucc f, add_comm]
  exact congrArg (· + f (Fin.last 2048)) (sum_mul 16 128 fun j => f (Fin.castSucc j)).symm

/-- All of 2049 tokens: the new one, and sixteen pages of 128. -/
theorem all_tokens (P : Fin 2049 → Prop) : (P (Fin.last 2048) ∧ ∀ (p : Fin 16) (x : Fin 128), P ⟨x.val + 128 * p.val, by omega⟩) ↔ ∀ t, P t := by
  refine ⟨fun h t => ?_, fun h => ⟨h _, fun p x => h _⟩⟩
  by_cases ht : t.val < 2048
  · have h2 := h.2 ⟨t.val / 128, by omega⟩ ⟨t.val % 128, by omega⟩
    have e : (⟨t.val % 128 + 128 * (t.val / 128), by omega⟩ : Fin 2049) = t := Fin.ext (by show t.val % 128 + 128 * (t.val / 128) = t.val; omega)
    exact e ▸ h2
  · have e : Fin.last 2048 = t := Fin.ext (by show 2048 = t.val; have := t.isLt; omega)
    exact e ▸ h.1

/-- A sum over the window's 512 lanes the first of which adds nothing, and the new token: 512 tokens. -/
theorem sum_window (f : Fin 512 → EReal) (g : Fin 512 → EReal) (h0 : g 0 = 0) (hg : ∀ t : Fin 511, g t.succ = f t.castSucc) :
    f (Fin.last 511) + ∑ x, g x = ∑ t, f t := by
  rw [Fin.sum_univ_castSucc f, Fin.sum_univ_succ g, h0, zero_add, add_comm]
  exact congrArg (· + f (Fin.last 511)) (Finset.sum_congr rfl fun t _ => hg t)

theorem all_window (f g : Fin 512 → EReal) (b : EReal) (h0 : g 0 = ⊥) (hg : ∀ t : Fin 511, g t.succ = f t.castSucc) :
    (f (Fin.last 511) ≤ b ∧ ∀ x, g x ≤ b) ↔ ∀ t, f t ≤ b := by
  constructor
  · intro h t
    induction t using Fin.lastCases with
    | last => exact h.1
    | cast t => rw [← hg]; exact h.2 _
  · intro h
    refine ⟨h _, fun x => ?_⟩
    induction x using Fin.cases with
    | zero => rw [h0]; exact bot_le
    | succ t => rw [hg]; exact h _

end Cert.AttS

end
-- ==== Proof.AttendSampleAt.lean ====
/- The blocks of one grid point of the sample attention read at an index, over the extended reals. -/
module

public import proofs.«01_k».proof.Proof.AttendSampleTerm
public import proofs.«01_k».proof.Proof.AttendSampleSpec
public import Idealize.ShloMosaic.Lib.Pointwise

@[expose] public section

noncomputable section

namespace Cert.AttS

open Cert.AttendSampleIdeal Cert.AttendSampleIdeal.Gen
open Idealize.ShloMosaic Idealize.ShloMosaic.TcCoe

/-- The bound above which a flag leaves its block out. -/
abbrev bound : EReal := Ideal.ofBits .f32 0x3F000000#32

theorem named_mask : (Named.named (F := Ideal) κ "mask" (φ := .f32) 4048155338#32 : EReal) = ⊥ := rfl

theorem sge_word (x a : ℕ) (hx : x < 2 ^ 31) (ha : a < 2 ^ 31) (u v : EReal) :
    Scalar.select (IntOp.cmpi .sge (BitVec.ofNat 32 x) (BitVec.ofNat 32 a)) u v = if a ≤ x then u else v := by
  show Scalar.select (BitVec.ofBool ((BitVec.ofNat 32 a).sle (BitVec.ofNat 32 x))) u v = _
  rw [BitVec.sle_eq_not_slt, Spec.slt_ofNat _ _ hx ha]
  by_cases h : a ≤ x
  · rw [if_pos h, decide_eq_false (Nat.not_lt.mpr h)]; exact ValueIdx.select_one u v
  · rw [if_neg h, decide_eq_true (Nat.lt_of_not_le h)]; exact ValueIdx.select_zero u v

/-- A page's score: −∞ where its block is left out. -/
theorem score_apply (q : FVec Ideal S8x128 .bf16) (ns : FVec Ideal S8x128 .f32) (k : FVec Ideal S1x128x128 .f32) (p : Fin 16) (r : Fin 8) (x : Fin 128) :
    score q ns k p (ix2 r x) = (if bound < ns (ix2 r ⟨(x.val + 128 * p.val) / 64, by omega⟩) then ⊥ else ∑ l : Fin 128, q (ix2 r l) * k (ix3 0 l x) : EReal) := by
  pointwise [score, flagCol]
  rw [named_mask]
  refine congrArg (fun w : EReal => if bound < w then ⊥ else ∑ l : Fin 128, q (ix2 r l) * k (ix3 0 l x)) ?_
  refine (sge_word x.val 64 (by omega) (by decide) _ _).trans ?_
  split
  · exact congrArg (fun t => ns (ix2 r t)) (Fin.ext (by show 2 * p.val + 1 = (x.val + 128 * p.val) / 64; omega))
  · exact congrArg (fun t => ns (ix2 r t)) (Fin.ext (by show 2 * p.val = (x.val + 128 * p.val) / 64; omega))

theorem unit_val {s : Shape} {off size : Fin s.rank → ℕ} (inb : ∀ a, off a + size a ≤ s.size a)
    (j : (⟨s.rank, size⟩ : Shape).Idx) (a : Fin s.rank) : ((Rect.unit off size inb).idx j a).val = off a + (j a).val :=
  congrArg (off a + ·) (Nat.one_mul _)

theorem half_apply (x : FVec Ideal S1x256x128 .f32) (kv : Fin 2) (l t : Fin 128) : half x kv (ix3 0 l t) = x (ix3 0 ⟨128 * kv.val + l.val, by omega⟩ t) := by
  refine congrArg x (funext fun e => Fin.ext ?_)
  refine (unit_val (half_inb kv) _ e).trans ?_
  match e with
  | ⟨0, _⟩ => rfl
  | ⟨1, _⟩ => rfl
  | ⟨2, _⟩ => show 0 + t.val = t.val; omega

theorem newHalf_apply (x : FVec Ideal S1x1x256 .f32) (kv : Fin 2) (l : Fin 128) : newHalf x kv (ix3 0 0 l) = x (ix3 0 0 ⟨128 * kv.val + l.val, by omega⟩) := by
  refine congrArg x (funext fun e => Fin.ext ?_)
  refine (unit_val (row_inb kv) _ e).trans ?_
  match e with
  | ⟨0, _⟩ => rfl
  | ⟨1, _⟩ => rfl
  | ⟨2, _⟩ => rfl

theorem rowMax_le (s : FVec Ideal S8x128 .f32) (r : Fin 8) (b : EReal) : rowMax s (ix2 r 0) ≤ b ↔ ∀ x, s (ix2 r x) ≤ b := by
  have e : rowMax s (ix2 r 0) = top fun x => s (ix2 r x) := by
    pointwise [rowMax]
    rw [Spec.negInf]; rfl
  rw [e, top_le]

theorem rowSum_apply (w : FVec Ideal S8x128 .bf16) (r : Fin 8) : rowSum w (ix2 r 0) = (∑ x : Fin 128, w (ix2 r x) : EReal) := by
  pointwise [rowSum]

theorem weight_apply (s : FVec Ideal S8x128 .f32) (m : FVec Ideal S8x1 .f32) (r : Fin 8) (x : Fin 128) :
    weight s m (ix2 r x) = (Ideal.exp (s (ix2 r x) - m (ix2 r 0)) : EReal) := by
  pointwise [weight]

theorem weighted_apply (w : FVec Ideal S8x128 .bf16) (v : FVec Ideal S1x128x128 .f32) (r : Fin 8) (l : Fin 128) :
    weighted w v (ix2 r l) = (∑ x : Fin 128, w (ix2 r x) * v (ix3 0 l x) : EReal) := by
  pointwise [weighted]

theorem foldl_add {S : Shape} (f : Fin 16 → FVec Ideal S .f32) (l : List (Fin 16)) (a : FVec Ideal S .f32) (i : S.Idx) :
    l.foldl (fun a p => addf a (f p)) a i = (a i + (l.map fun p => (f p i : EReal)).sum : EReal) := by
  induction l generalizing a with
  | nil => exact (add_zero (a i : EReal)).symm
  | cons p l ih => exact (ih (addf a (f p))).trans (add_assoc (a i : EReal) (f p i) _)

theorem pages_sum (g : Fin 16 → EReal) : (pages.map g).sum = ∑ p, g p := (Fin.sum_univ_def g).symm

theorem foldl_max {S : Shape} (f : Fin 16 → FVec Ideal S .f32) (l : List (Fin 16)) (a : FVec Ideal S .f32) (i : S.Idx) (b : EReal) :
    l.foldl (fun a p => maximumf a (f p)) a i ≤ b ↔ (a i : EReal) ≤ b ∧ ∀ p ∈ l, (f p i : EReal) ≤ b := by
  induction l generalizing a with
  | nil => exact ⟨fun h => ⟨h, fun _ hp => absurd hp List.not_mem_nil⟩, fun h => h.1⟩
  | cons p l ih =>
    refine (ih (maximumf a (f p))).trans ?_
    rw [List.forall_mem_cons, ← and_assoc]
    exact and_congr_left' (max_le_iff (a := (a i : EReal)) (b := f p i))

theorem mem_pages (p : Fin 16) : p ∈ pages := by revert p; decide

theorem largest_le (n : FVec Ideal S8x1 .f32) (s : Fin 16 → FVec Ideal S8x128 .f32) (r : Fin 8) (b : EReal) :
    largest n s (ix2 r 0) ≤ b ↔ (n (ix2 r 0) : EReal) ≤ b ∧ ∀ p x, (s p (ix2 r x) : EReal) ≤ b := by
  refine (foldl_max (fun p => rowMax (s p)) pages n (ix2 r 0) b).trans (and_congr_right' ?_)
  exact ⟨fun h p => (rowMax_le _ _ _).mp (h p (mem_pages p)), fun h p _ => (rowMax_le _ _ _).mpr (h p)⟩

theorem total_apply (n m : FVec Ideal S8x1 .f32) (s : Fin 16 → FVec Ideal S8x128 .f32) (r : Fin 8) :
    total n m s (ix2 r 0) = (Ideal.exp (n (ix2 r 0) - m (ix2 r 0)) + ∑ p : Fin 16, ∑ x : Fin 128, Ideal.exp (s p (ix2 r x) - m (ix2 r 0)) : EReal) := by
  refine (foldl_add (fun p => rowSum (weight (s p) m)) pages _ (ix2 r 0)).trans (congrArg₂ (· + ·) (by pointwise) ?_)
  refine (pages_sum _).trans (Finset.sum_congr rfl fun p _ => ?_)
  rw [rowSum_apply]
  exact Finset.sum_congr rfl fun x _ => weight_apply _ _ _ _

theorem gathered_apply (n m : FVec Ideal S8x1 .f32) (vn : FVec Ideal S1x128 .f32) (s : Fin 16 → FVec Ideal S8x128 .f32) (v : Fin 16 → FVec Ideal S1x128x128 .f32)
    (r : Fin 8) (l : Fin 128) :
    gathered n m vn s v (ix2 r l) = (Ideal.exp (n (ix2 r 0) - m (ix2 r 0)) * vn (ix2 0 l)
      + ∑ p : Fin 16, ∑ x : Fin 128, Ideal.exp (s p (ix2 r x) - m (ix2 r 0)) * v p (ix3 0 l x) : EReal) := by
  refine (foldl_add (fun p => weighted (weight (s p) m) (v p)) pages _ (ix2 r l)).trans (congrArg₂ (· + ·) (by pointwise) ?_)
  refine (pages_sum _).trans (Finset.sum_congr rfl fun p _ => ?_)
  rw [weighted_apply]
  exact Finset.sum_congr rfl fun x _ => congrArg (· * _) (weight_apply _ _ _ _)

theorem pay73_apply (t : FVec Ideal S8x1 .f32) (a : FVec Ideal S8x128 .f32) (r : Fin 8) (l : Fin 128) :
    k0_pay73 t a (ix2 r l) = (a (ix2 r l) * Ideal.div 1 (t (ix2 r 0)) : EReal) := by
  pointwise [k0_pay73]

theorem pay83_apply (a : FVec Ideal S8x128 .f32) (w : FVec Ideal S8x512 .bf16) (t : FVec Ideal S8x1 .f32) (n : FVec Ideal S8x128 .f32) (v : FVec Ideal S128x512 .bf16)
    (g o : FVec Ideal S1x8x128 .f32) (r : Fin 8) (l : Fin 128) :
    k0_pay83 a w t n v g o (ix3 0 r l) = (g (ix3 0 r 0) * o (ix3 0 r l) + g (ix3 0 r 1) * a (ix2 r l)
      + g (ix3 0 r 2) * ((n (ix2 r l) + ∑ x : Fin 512, w (ix2 r x) * v (ix2 l x)) * Ideal.div 1 (t (ix2 r 0))) : EReal) := by
  pointwise [k0_pay83]

/-- The score of a lane of the window: −∞ at its first. -/
theorem pay75_apply (q : FVec Ideal S8x128 .bf16) (w : FVec Ideal S1x256x512 .f32) (r : Fin 8) (x : Fin 512) :
    k0_pay75 q w (ix2 r x) = (if 1 ≤ x.val then ∑ l : Fin 128, q (ix2 r l) * w (ix3 0 ⟨l.val, by omega⟩ x) else ⊥ : EReal) := by
  pointwise [k0_pay75, k0_pay74]
  rw [named_mask]
  exact sge_word x.val 1 (by omega) (by decide) _ _

theorem newScore_apply (q : FVec Ideal S1x8x128 .bf16) (ns : FVec Ideal S1x8x128 .f32) (k : FVec Ideal S1x1x128 .f32) (r : Fin 8) :
    newScore q ns k (ix2 r 0) = (if bound < ns (ix3 0 r 32) then ⊥ else ∑ l : Fin 128, q (ix3 0 r l) * k (ix3 0 0 l) : EReal) := by
  pointwise [newScore, k0_pay42, k0_pay41, k0_pay40, k0_pay4, k0_pay3, k0_pay2]
  rw [named_mask]

section window

variable (q : FVec Ideal S1x8x128 .bf16) (w : FVec Ideal S1x256x512 .f32) (k v : FVec Ideal S1x1x128 .f32)

theorem pay76_apply (r : Fin 8) : k0_pay76 (F := Ideal) (k0_pay3 q) k (ix2 r 0) = (∑ l : Fin 128, q (ix3 0 r l) * k (ix3 0 0 l) : EReal) := by
  pointwise [k0_pay76, k0_pay3, k0_pay2]

theorem pay77_le (r : Fin 8) (b : EReal) :
    k0_pay77 (F := Ideal) (k0_pay2 q) (k0_pay3 q) w k (ix2 r 0) ≤ b ↔ (k0_pay76 (F := Ideal) (k0_pay3 q) k (ix2 r 0) : EReal) ≤ b ∧ ∀ x, (k0_pay75 (F := Ideal) (k0_pay2 q) w (ix2 r x) : EReal) ≤ b := by
  unfold k0_pay77
  generalize k0_pay75 (F := Ideal) (k0_pay2 q) w = s
  generalize k0_pay76 (F := Ideal) (k0_pay3 q) k = n
  pointwise
  rw [Spec.negInf]
  exact max_le_iff.trans (and_congr_right' (top_le (fun x => s (ix2 r x)) b))

theorem pay79_apply (r : Fin 8) (x : Fin 512) : k0_pay79 (F := Ideal) (k0_pay2 q) (k0_pay3 q) w k (ix2 r x)
    = (Ideal.exp (k0_pay75 (F := Ideal) (k0_pay2 q) w (ix2 r x) - k0_pay77 (F := Ideal) (k0_pay2 q) (k0_pay3 q) w k (ix2 r 0)) : EReal) := by
  unfold k0_pay79
  generalize k0_pay77 (F := Ideal) (k0_pay2 q) (k0_pay3 q) w k = m
  generalize k0_pay75 (F := Ideal) (k0_pay2 q) w = s
  pointwise

theorem pay80_apply (r : Fin 8) : k0_pay80 (F := Ideal) (k0_pay2 q) (k0_pay3 q) w k (ix2 r 0)
    = (Ideal.exp (k0_pay76 (F := Ideal) (k0_pay3 q) k (ix2 r 0) - k0_pay77 (F := Ideal) (k0_pay2 q) (k0_pay3 q) w k (ix2 r 0))
      + ∑ x : Fin 512, Ideal.exp (k0_pay75 (F := Ideal) (k0_pay2 q) w (ix2 r x) - k0_pay77 (F := Ideal) (k0_pay2 q) (k0_pay3 q) w k (ix2 r 0)) : EReal) := by
  have e := fun x => pay79_apply q w k r x
  unfold k0_pay80 k0_pay78
  generalize k0_pay79 (F := Ideal) (k0_pay2 q) (k0_pay3 q) w k = W at e ⊢
  generalize k0_pay77 (F := Ideal) (k0_pay2 q) (k0_pay3 q) w k = m at e ⊢
  generalize k0_pay76 (F := Ideal) (k0_pay3 q) k = n at e ⊢
  pointwise
  exact congrArg (_ + · : EReal → EReal) (Finset.sum_congr rfl fun x _ => e x)

theorem pay81_apply (r : Fin 8) (l : Fin 128) : k0_pay81 (F := Ideal) (k0_pay2 q) (k0_pay3 q) w k v (ix2 r l)
    = (Ideal.exp (k0_pay76 (F := Ideal) (k0_pay3 q) k (ix2 r 0) - k0_pay77 (F := Ideal) (k0_pay2 q) (k0_pay3 q) w k (ix2 r 0)) * v (ix3 0 0 l) : EReal) := by
  unfold k0_pay81 k0_pay78
  generalize k0_pay77 (F := Ideal) (k0_pay2 q) (k0_pay3 q) w k = m
  generalize k0_pay76 (F := Ideal) (k0_pay3 q) k = n
  pointwise

theorem pay82_apply (l : Fin 128) (x : Fin 512) : k0_pay82 (F := Ideal) w (ix2 l x) = w (ix3 0 ⟨128 + l.val, by omega⟩ x) := by
  pointwise [k0_pay82, k0_pay74]

end window

/-- The moved window: the lane after, and the new token in the last one. -/
theorem moved_apply (w : FVec Ideal S1x256x512 .f32) (c : FVec Ideal S1x256x1 .f32) (l : Fin 256) (x : Fin 512) :
    moved w c (ix3 0 l x) = if h : x.val < 511 then w (ix3 0 l ⟨x.val + 1, by omega⟩) else c (ix3 0 l 0) := by
  pointwise [moved, k0_pay1, k0_pay84, k0_pay85, k0_pay74]
  have e : IntOp.cmpi .eq (BitVec.ofNat 32 x.val) 511#32 = if x.val < 511 then 0#1 else 1#1 := by
    revert x; decide
  rw [e]
  split
  · refine (ValueIdx.select_zero _ _).trans (congrArg (fun t => w (ix3 0 l t)) (Fin.ext ?_))
    show (x.val + 512 - 511) % 512 = x.val + 1
    omega
  · exact ValueIdx.select_one _ _

end Cert.AttS

end
-- ==== Proof.AttendSampleEqual.lean ====
/- The block of one grid point of the sample attention is the mathematics of one sequence. -/
module

public import proofs.«01_k».proof.Proof.AttendSampleAt

@[expose] public section

noncomputable section

namespace Cert.AttS

open Cert.AttendSampleIdeal Cert.AttendSampleIdeal.Gen
open Idealize.ShloMosaic Idealize.ShloMosaic.TcCoe

/-- The 2049 tokens that may be selected, of keys (0) or values (1) and of a key head. -/
abbrev Rows (n : ℕ) := Fin 2 → Fin 2 → Fin n → Fin 64 → EReal

/-- A token's score. -/
def dotp {n : ℕ} (Q : Fin 64 → EReal) (X : Fin n → Fin 64 → EReal) (t : Fin n) : EReal := ∑ d : Fin 64, Q d * X t d

/-- A token's score, −∞ where its block is left out. -/
def masked (B : Fin 33 → EReal) (Q : Fin 64 → EReal) (X : Fin 2049 → Fin 64 → EReal) (t : Fin 2049) : EReal :=
  if bound < B ⟨t.val / 64, by omega⟩ then ⊥ else dotp Q X t

/-- What the arrays of one grid point hold: pages and a new token `X`, a window and its new token `W`, of which the first is the
    oldest, queries `Q`, flags `B`, gates `G` and the compressed attention `O`. -/
structure Holds (x : Fin 16 → FVec Ideal S1x256x128 .f32) (x16 : FVec Ideal S1x256x512 .f32) (x17 : FVec Ideal S1x8x128 .bf16)
    (x18 : FVec Ideal S1x8x128 .f32) (x19 x20 : FVec Ideal S1x1x256 .f32) (x21 : FVec Ideal S1x256x1 .f32) (x22 x23 : FVec Ideal S1x8x128 .f32)
    (X : Rows 2049) (W : Rows 512) (Q : Fin 8 → Fin 64 → EReal) (B : Fin 2 → Fin 33 → EReal) (G : Fin 8 → Fin 3 → EReal)
    (O : Fin 8 → Fin 128 → EReal) : Prop where
  page : ∀ (p : Fin 16) (c : Fin 256) (t : Fin 128), x p (ix3 0 c t) = X ⟨c.val / 128, by omega⟩ ⟨c.val % 128 / 64, by omega⟩ ⟨t.val + 128 * p.val, by omega⟩ ⟨c.val % 64, by omega⟩
  new : ∀ c : Fin 256, x19 (ix3 0 0 c) = X ⟨c.val / 128, by omega⟩ ⟨c.val % 128 / 64, by omega⟩ (Fin.last 2048) ⟨c.val % 64, by omega⟩
  window : ∀ (c : Fin 256) (t : Fin 511), x16 (ix3 0 c t.succ) = W ⟨c.val / 128, by omega⟩ ⟨c.val % 128 / 64, by omega⟩ t.castSucc ⟨c.val % 64, by omega⟩
  newW : ∀ c : Fin 256, x20 (ix3 0 0 c) = W ⟨c.val / 128, by omega⟩ ⟨c.val % 128 / 64, by omega⟩ (Fin.last 511) ⟨c.val % 64, by omega⟩
  newCol : ∀ c : Fin 256, x21 (ix3 0 c 0) = W ⟨c.val / 128, by omega⟩ ⟨c.val % 128 / 64, by omega⟩ (Fin.last 511) ⟨c.val % 64, by omega⟩
  queries : ∀ (r : Fin 8) (l : Fin 128), x17 (ix3 0 r l) = (if r.val / 4 = l.val / 64 then Q r ⟨l.val % 64, by omega⟩ else 0 : EReal)
  flags : ∀ (r : Fin 8) (t : Fin 33), x18 (ix3 0 r ⟨t.val, by omega⟩) = B ⟨r.val / 4, by omega⟩ t
  given : ∀ (r : Fin 8) (l : Fin 128), x22 (ix3 0 r l) = O r l
  gates : ∀ (r : Fin 8) (t : Fin 3), x23 (ix3 0 r ⟨t.val, by omega⟩) = G r t

/-- All the values are real numbers, and for every key head some block is not left out. -/
structure Good (X : Rows 2049) (W : Rows 512) (Q : Fin 8 → Fin 64 → EReal) (B : Fin 2 → Fin 33 → EReal) : Prop where
  x : ∀ kv h t d, Sums.Real (X kv h t d)
  w : ∀ kv h t d, Sums.Real (W kv h t d)
  q : ∀ r d, Sums.Real (Q r d)
  some : ∀ h, ∃ j, ¬ bound < B h j

/-- The mathematics of one sequence: the three gated attentions of a query head. -/
def three (X : Rows 2049) (W : Rows 512) (Q : Fin 8 → Fin 64 → EReal) (B : Fin 2 → Fin 33 → EReal) (G : Fin 8 → Fin 3 → EReal)
    (O : Fin 8 → Fin 128 → EReal) (r : Fin 8) (l : Fin 128) : EReal :=
  G r 0 * O r l
    + G r 1 * soft (masked (B ⟨r.val / 4, by omega⟩) (Q r) (X 0 ⟨r.val / 4, by omega⟩)) (fun t => X 1 ⟨r.val / 4, by omega⟩ t ⟨l.val % 64, by omega⟩)
    + G r 2 * soft (dotp (Q r) (W 0 ⟨r.val / 4, by omega⟩)) (fun t => W 1 ⟨r.val / 4, by omega⟩ t ⟨l.val % 64, by omega⟩)

variable {x : Fin 16 → FVec Ideal S1x256x128 .f32} {x16 : FVec Ideal S1x256x512 .f32} {x17 : FVec Ideal S1x8x128 .bf16}
    {x18 : FVec Ideal S1x8x128 .f32} {x19 x20 : FVec Ideal S1x1x256 .f32} {x21 : FVec Ideal S1x256x1 .f32} {x22 x23 : FVec Ideal S1x8x128 .f32}
    {X : Rows 2049} {W : Rows 512} {Q : Fin 8 → Fin 64 → EReal} {B : Fin 2 → Fin 33 → EReal} {G : Fin 8 → Fin 3 → EReal} {O : Fin 8 → Fin 128 → EReal}

/-- Queries laid block-diagonally meet only their own key head's lanes. -/
theorem dot_eq {n : ℕ} (Y : Rows n) (kv : Fin 2) (Qr : Fin 64 → EReal) (r : Fin 8) (t : Fin n) (q k : Fin 128 → EReal)
    (hq : ∀ l : Fin 128, q l = if r.val / 4 = l.val / 64 then Qr ⟨l.val % 64, by omega⟩ else 0)
    (hk : ∀ l : Fin 128, k l = Y kv ⟨l.val / 64, by omega⟩ t ⟨l.val % 64, by omega⟩) :
    ∑ l, q l * k l = dotp Qr (Y kv ⟨r.val / 4, by omega⟩) t := by
  have hr := r.isLt
  unfold dotp
  refine (Sums.sum_block 64 (r.val / 4) (by omega) _ ?_).trans (Finset.sum_congr rfl fun d _ => ?_)
  · intro j hj
    rw [hq, if_neg (fun e => hj e.symm), zero_mul]
  · have hd := d.isLt
    rw [hq, hk, if_pos (by show r.val / 4 = (d.val + 64 * (r.val / 4)) / 64; omega)]
    have a1 (y : ℕ) (hy : y = d.val + 64 * (r.val / 4)) (h1 : y / 64 < 2) (h2 : y % 64 < 64) :
        Qr ⟨y % 64, h2⟩ * Y kv ⟨y / 64, h1⟩ t ⟨y % 64, h2⟩ = Qr d * Y kv ⟨r.val / 4, by omega⟩ t d := by
      have b1 : (⟨y / 64, h1⟩ : Fin 2) = ⟨r.val / 4, by omega⟩ := Fin.ext (by show y / 64 = r.val / 4; omega)
      have b2 : (⟨y % 64, h2⟩ : Fin 64) = d := Fin.ext (by show y % 64 = d.val; omega)
      rw [b1, b2]
    exact a1 _ rfl _ _

/-- The lane `128 · kv + l` of a row. -/
theorem lane_eq {n : ℕ} (Y : Rows n) (kv : Fin 2) (t : Fin n) (l : Fin 128) (c : ℕ) (hc : c = 128 * kv.val + l.val) (h1 : c / 128 < 2) (h2 : c % 128 / 64 < 2)
    (h3 : c % 64 < 64) : Y ⟨c / 128, h1⟩ ⟨c % 128 / 64, h2⟩ t ⟨c % 64, h3⟩ = Y kv ⟨l.val / 64, by omega⟩ t ⟨l.val % 64, by omega⟩ := by
  have hl := l.isLt
  have b1 : (⟨c / 128, h1⟩ : Fin 2) = kv := Fin.ext (by show c / 128 = kv.val; omega)
  have b2 : (⟨c % 128 / 64, h2⟩ : Fin 2) = ⟨l.val / 64, by omega⟩ := Fin.ext (by show c % 128 / 64 = l.val / 64; omega)
  have b3 : (⟨c % 64, h3⟩ : Fin 64) = ⟨l.val % 64, by omega⟩ := Fin.ext (by show c % 64 = l.val % 64; omega)
  rw [b1, b2, b3]

theorem Good.dotp (N : Good X W Q B) (r : Fin 8) {n : ℕ} (Y : Fin n → Fin 64 → EReal) (hY : ∀ t d, Sums.Real (Y t d)) (t : Fin n) :
    Sums.Real (dotp (Q r) Y t) :=
  Sums.Real.sum _ _ fun d _ => (N.q r d).mul (hY t d)

theorem q2_apply (H : Holds x x16 x17 x18 x19 x20 x21 x22 x23 X W Q B G O) (r : Fin 8) (l : Fin 128) :
    k0_pay2 (F := Ideal) x17 (ix2 r l) = (if r.val / 4 = l.val / 64 then Q r ⟨l.val % 64, by omega⟩ else 0 : EReal) := by
  rw [← H.queries]
  pointwise [k0_pay2]

/-- A page's score of a token. -/
theorem score_eq (H : Holds x x16 x17 x18 x19 x20 x21 x22 x23 X W Q B G O) (p : Fin 16) (r : Fin 8) (t : Fin 128) :
    score (k0_pay2 x17) (k0_pay4 x18) (half (x p) 0) p (ix2 r t)
      = masked (B ⟨r.val / 4, by omega⟩) (Q r) (X 0 ⟨r.val / 4, by omega⟩) ⟨t.val + 128 * p.val, by omega⟩ := by
  rw [score_apply]
  unfold masked
  have e4 (y : Fin 33) : k0_pay4 (F := Ideal) x18 (ix2 r ⟨y.val, by omega⟩) = (B ⟨r.val / 4, by omega⟩ y : EReal) := by
    rw [← H.flags]
    pointwise [k0_pay4]
  have e5 := e4 ⟨(t.val + 128 * p.val) / 64, by omega⟩
  have e6 := dot_eq X 0 (Q r) r ⟨t.val + 128 * p.val, by omega⟩ (fun l => k0_pay2 (F := Ideal) x17 (ix2 r l)) (fun l => half (x p) 0 (ix3 0 l t))
    (fun l => q2_apply H r l) (fun l => by
      refine (half_apply _ _ _ _).trans ((H.page _ _ _).trans ?_)
      exact lane_eq X 0 _ l _ rfl _ _ _)
  exact congrArg₂ (fun w d : EReal => if bound < w then ⊥ else d) e5 e6

/-- The new token's score. -/
theorem new_eq (H : Holds x x16 x17 x18 x19 x20 x21 x22 x23 X W Q B G O) (r : Fin 8) :
    newScore x17 x18 (newHalf x19 0) (ix2 r 0) = masked (B ⟨r.val / 4, by omega⟩) (Q r) (X 0 ⟨r.val / 4, by omega⟩) (Fin.last 2048) := by
  rw [newScore_apply]
  unfold masked
  refine congrArg₂ (fun w d : EReal => if bound < w then ⊥ else d) (H.flags r 32) ?_
  exact dot_eq X 0 (Q r) r (Fin.last 2048) (fun l => x17 (ix3 0 r l)) (fun l => newHalf x19 0 (ix3 0 0 l)) (fun l => H.queries r l)
    (fun l => (newHalf_apply _ _ _).trans ((H.new _).trans (lane_eq X 0 _ l _ rfl _ _ _)))

/-- The value at lane `l` of a row's own key head. -/
theorem own_lane {n : ℕ} (Y : Rows n) (kv : Fin 2) (t : Fin n) (r : Fin 8) (l : Fin 128) (h : r.val / 4 = l.val / 64) :
    Y kv ⟨l.val / 64, by omega⟩ t ⟨l.val % 64, by omega⟩ = Y kv ⟨r.val / 4, by omega⟩ t ⟨l.val % 64, by omega⟩ := by
  have b : (⟨l.val / 64, by omega⟩ : Fin 2) = ⟨r.val / 4, by omega⟩ := Fin.ext h.symm
  rw [b]

/-- The attention over the selected tokens. -/
theorem selected_eq (H : Holds x x16 x17 x18 x19 x20 x21 x22 x23 X W Q B G O) (N : Good X W Q B) (r : Fin 8) (l : Fin 128) (h : r.val / 4 = l.val / 64) :
    selected (newScore x17 x18 (newHalf x19 0)) (k0_pay39 (newHalf x19 1))
      (fun p => score (k0_pay2 x17) (k0_pay4 x18) (half (x p) 0) p) (fun p => half (x p) 1) (ix2 r l)
      = soft (masked (B ⟨r.val / 4, by omega⟩) (Q r) (X 0 ⟨r.val / 4, by omega⟩)) (fun t => X 1 ⟨r.val / 4, by omega⟩ t ⟨l.val % 64, by omega⟩) := by
  have hs := fun p t => score_eq H p r t
  have hn := new_eq H r
  have hvn : k0_pay39 (newHalf x19 1) (ix2 0 l) = (X 1 ⟨r.val / 4, by omega⟩ (Fin.last 2048) ⟨l.val % 64, by omega⟩ : EReal) := by
    refine Eq.trans (b := newHalf x19 1 (ix3 0 0 l)) (by pointwise [k0_pay39]) ?_
    exact (newHalf_apply _ _ _).trans ((H.new _).trans ((lane_eq X 1 _ l _ rfl _ _ _).trans (own_lane X 1 _ r l h)))
  have hv (p : Fin 16) (t : Fin 128) : half (x p) 1 (ix3 0 l t) = (X 1 ⟨r.val / 4, by omega⟩ ⟨t.val + 128 * p.val, by omega⟩ ⟨l.val % 64, by omega⟩ : EReal) :=
    (half_apply _ _ _ _).trans ((H.page _ _ _).trans ((lane_eq X 1 _ l _ rfl _ _ _).trans (own_lane X 1 _ r l h)))
  unfold selected
  rw [pay73_apply]
  generalize newScore x17 x18 (newHalf x19 0) = n at hn ⊢
  generalize k0_pay39 (newHalf x19 1) = vn at hvn ⊢
  generalize hS : (fun p => score (k0_pay2 x17) (k0_pay4 x18) (half (x p) 0) p) = s
  have hs' (p : Fin 16) (t : Fin 128) : s p (ix2 r t) = masked (B ⟨r.val / 4, by omega⟩) (Q r) (X 0 ⟨r.val / 4, by omega⟩) ⟨t.val + 128 * p.val, by omega⟩ := by
    rw [← hS]; exact hs p t
  obtain ⟨j, hj⟩ := N.some ⟨r.val / 4, by omega⟩
  have hsel : masked (B ⟨r.val / 4, by omega⟩) (Q r) (X 0 ⟨r.val / 4, by omega⟩) ⟨64 * j.val, by omega⟩ = dotp (Q r) (X 0 ⟨r.val / 4, by omega⟩) ⟨64 * j.val, by omega⟩ := by
    have hj' : (⟨64 * j.val / 64, by omega⟩ : Fin 33) = j := Fin.ext (by show 64 * j.val / 64 = j.val; omega)
    exact if_neg (by rw [hj']; exact hj)
  refine soft_eq _ _ (largest n s (ix2 r 0)) _ _ (fun b => ?_) ?_ ?_ (fun t => ?_) ⟨64 * j.val, by omega⟩ (hsel ▸ N.dotp r _ (N.x 0 _) _) (fun t => N.x 1 _ t _)
  · rw [largest_le, hn]
    simp only [hs']
    exact all_tokens (fun t => masked (B ⟨r.val / 4, by omega⟩) (Q r) (X 0 ⟨r.val / 4, by omega⟩) t ≤ b)
  · rw [total_apply, hn]
    simp only [hs']
    exact sum_tokens (fun t => Ideal.exp (masked (B ⟨r.val / 4, by omega⟩) (Q r) (X 0 ⟨r.val / 4, by omega⟩) t - largest n s (ix2 r 0)))
  · rw [gathered_apply, hn, hvn]
    simp only [hs', hv]
    exact sum_tokens (fun t => Ideal.exp (masked (B ⟨r.val / 4, by omega⟩) (Q r) (X 0 ⟨r.val / 4, by omega⟩) t - largest n s (ix2 r 0))
      * X 1 ⟨r.val / 4, by omega⟩ t ⟨l.val % 64, by omega⟩)
  · unfold masked
    split
    · exact Or.inl rfl
    · exact Or.inr (N.dotp r _ (N.x 0 _) t)

/-- The attention over the window. -/
theorem window_eq (H : Holds x x16 x17 x18 x19 x20 x21 x22 x23 X W Q B G O) (N : Good X W Q B) (r : Fin 8) (l : Fin 128) (h : r.val / 4 = l.val / 64) :
    ((k0_pay81 (F := Ideal) (k0_pay2 x17) (k0_pay3 x17) x16 (newHalf x20 0) (newHalf x20 1) (ix2 r l)
        + ∑ y : Fin 512, k0_pay79 (F := Ideal) (k0_pay2 x17) (k0_pay3 x17) x16 (newHalf x20 0) (ix2 r y) * k0_pay82 (F := Ideal) x16 (ix2 l y))
      * Ideal.div 1 (k0_pay80 (F := Ideal) (k0_pay2 x17) (k0_pay3 x17) x16 (newHalf x20 0) (ix2 r 0)) : EReal)
      = soft (dotp (Q r) (W 0 ⟨r.val / 4, by omega⟩)) (fun t => W 1 ⟨r.val / 4, by omega⟩ t ⟨l.val % 64, by omega⟩) := by
  have hn : k0_pay76 (F := Ideal) (k0_pay3 x17) (newHalf x20 0) (ix2 r 0) = dotp (Q r) (W 0 ⟨r.val / 4, by omega⟩) (Fin.last 511) := by
    rw [pay76_apply]
    exact dot_eq W 0 (Q r) r (Fin.last 511) (fun l => x17 (ix3 0 r l)) (fun l => newHalf x20 0 (ix3 0 0 l)) (fun l => H.queries r l)
      (fun l => (newHalf_apply _ _ _).trans ((H.newW _).trans (lane_eq W 0 _ l _ rfl _ _ _)))
  have h0 : k0_pay75 (F := Ideal) (k0_pay2 x17) x16 (ix2 r 0) = (⊥ : EReal) := by
    rw [pay75_apply]; exact if_neg (by decide)
  have hs (t : Fin 511) : k0_pay75 (F := Ideal) (k0_pay2 x17) x16 (ix2 r t.succ) = dotp (Q r) (W 0 ⟨r.val / 4, by omega⟩) t.castSucc := by
    rw [pay75_apply]
    refine (if_pos (Nat.succ_le_succ (Nat.zero_le _))).trans ?_
    exact dot_eq W 0 (Q r) r t.castSucc (fun l => k0_pay2 (F := Ideal) x17 (ix2 r l)) (fun l => x16 (ix3 0 ⟨l.val, by omega⟩ t.succ)) (fun l => q2_apply H r l)
      (fun l => (H.window _ t).trans (lane_eq W 0 _ l l.val (by show l.val = 128 * 0 + l.val; omega) _ _ _))
  have hvn : newHalf x20 1 (ix3 0 0 l) = (W 1 ⟨r.val / 4, by omega⟩ (Fin.last 511) ⟨l.val % 64, by omega⟩ : EReal) :=
    (newHalf_apply _ _ _).trans ((H.newW _).trans ((lane_eq W 1 _ l _ rfl _ _ _).trans (own_lane W 1 _ r l h)))
  have hv (t : Fin 511) : x16 (ix3 0 ⟨128 + l.val, by omega⟩ t.succ) = (W 1 ⟨r.val / 4, by omega⟩ t.castSucc ⟨l.val % 64, by omega⟩ : EReal) :=
    (H.window _ t).trans ((lane_eq W 1 _ l (128 + l.val) rfl _ _ _).trans (own_lane W 1 _ r l h))
  rw [pay81_apply, pay80_apply, hn, hvn]
  have hm (b : EReal) := pay77_le x17 x16 (newHalf x20 0) r b
  simp only [pay79_apply, pay82_apply]
  rw [hn] at hm
  generalize (k0_pay77 (F := Ideal) (k0_pay2 x17) (k0_pay3 x17) x16 (newHalf x20 0) (ix2 r 0) : EReal) = m at hm ⊢
  generalize k0_pay75 (F := Ideal) (k0_pay2 x17) x16 = s at hm h0 hs ⊢
  have hbot : Ideal.exp ((⊥ : EReal) - m) = 0 := by rw [EReal.bot_sub]; simp
  refine soft_eq _ _ m _ _ (fun b => (hm b).trans ?_) ?_ ?_ (fun t => Or.inr (N.dotp r _ (N.w 0 _) t)) (Fin.last 511) (N.dotp r _ (N.w 0 _) _) (fun t => N.w 1 _ t _)
  · exact all_window (dotp (Q r) (W 0 ⟨r.val / 4, by omega⟩)) (fun y => s (ix2 r y)) b h0 hs
  · refine sum_window (fun t => Ideal.exp (dotp (Q r) (W 0 ⟨r.val / 4, by omega⟩) t - m)) (fun y => Ideal.exp (s (ix2 r y) - m)) ?_ (fun t => ?_)
    · show Ideal.exp (s (ix2 r 0) - m) = 0
      rw [h0, hbot]
    · show Ideal.exp (s (ix2 r t.succ) - m) = _
      rw [hs]
  · refine sum_window (fun t => Ideal.exp (dotp (Q r) (W 0 ⟨r.val / 4, by omega⟩) t - m) * W 1 ⟨r.val / 4, by omega⟩ t ⟨l.val % 64, by omega⟩)
      (fun y => Ideal.exp (s (ix2 r y) - m) * x16 (ix3 0 ⟨128 + l.val, by omega⟩ y)) ?_ (fun t => ?_)
    · show Ideal.exp (s (ix2 r 0) - m) * _ = 0
      rw [h0, hbot, zero_mul]
    · show Ideal.exp (s (ix2 r t.succ) - m) * x16 (ix3 0 ⟨128 + l.val, by omega⟩ t.succ) = _
      rw [hs, hv]

/-- The first output's block. -/
theorem attended_eq (H : Holds x x16 x17 x18 x19 x20 x21 x22 x23 X W Q B G O) (N : Good X W Q B) (r : Fin 8) (l : Fin 128) (h : r.val / 4 = l.val / 64) :
    attended x x16 x17 x18 x19 x20 x22 x23 (ix3 0 r l) = three X W Q B G O r l := by
  unfold attended three
  rw [pay83_apply, window_eq H N r l h, selected_eq H N r l h, H.given]
  exact congrArg₂ (· + ·) (congrArg₂ (· + ·) (congrArg (· * _) (H.gates r 0)) (congrArg (· * _) (H.gates r 1))) (congrArg (· * _) (H.gates r 2))

/-- The second output's block. -/
theorem moved_eq (H : Holds x x16 x17 x18 x19 x20 x21 x22 x23 X W Q B G O) (c : Fin 256) (t : Fin 512) :
    moved x16 x21 (ix3 0 c t) = W ⟨c.val / 128, by omega⟩ ⟨c.val % 128 / 64, by omega⟩ t ⟨c.val % 64, by omega⟩ := by
  rw [moved_apply]
  induction t using Fin.lastCases with
  | last => exact (dif_neg (lt_irrefl 511)).trans (H.newCol c)
  | cast t => exact (dif_pos t.isLt).trans (H.window c t)

end Cert.AttS

end
-- ==== Proof.AttendSampleRef.lean ====
/- The values of one sequence, off the arguments, and the results of the sample attention's reference in terms of them. -/
module

public import proofs.«01_k».proof.Proof.AttendSampleRows
public import proofs.«01_k».proof.Proof.AttendSampleEqual
public import proofs.«01_k».proof.Proof.Spec

@[expose] public section

noncomputable section

namespace Cert.AttSeq

open Cert.AttendSampleReferenceIdeal Cert.AttendSampleReferenceIdeal.Read
open Idealize.ShloMosaic Idealize.ShloMosaic.TcCoe
open Cert.AttS (Rows bound top soft dotp masked three)

variable (x0 : IVec S128x16 32) (x1 : FVec Ideal S1x2560x128x2x2x64 .f32) (x2 : FVec Ideal S1x128x512x2x2x64 .f32) (x3 : FVec Ideal S128x512 .bf16)
  (x4 : FVec Ideal S256x128 .f32) (x5 x6 : FVec Ideal S1x256x128 .f32) (x7 : FVec Ideal S128x8x128 .f32) (x8 : FVec Ideal S128x256 .f32)
  (hx : ∀ y, (x0 y).toNat < 2560) (b : Fin 128)

/-- The tokens of a sequence: those of its pages, then the new one. -/
def X : Rows 2049 := fun kv h t d =>
  if ht : t.val < 2048 then x1 (ix6 0 ⟨(x0 (ix2 b ⟨t.val / 128, by omega⟩)).toNat, hx _⟩ ⟨t.val % 128, Nat.mod_lt _ (by decide)⟩ kv h d)
  else x5 (ix3 0 ⟨kv.val * 128 + h.val * 64 + d.val, by omega⟩ b)

/-- The window of a sequence: all but its oldest row, then the new one. -/
def W : Rows 512 := fun kv h t d =>
  if ht : t.val < 511 then x2 (ix6 0 b ⟨t.val + 1, by omega⟩ kv h d)
  else x6 (ix3 0 ⟨kv.val * 128 + h.val * 64 + d.val, by omega⟩ b)

/-- The queries. -/
def Q (r : Fin 8) (d : Fin 64) : EReal := x3 (ix2 b ⟨r.val * 64 + d.val, by omega⟩)

/-- The flags of the blocks that are left out. -/
def B (h : Fin 2) (t : Fin 33) : EReal := x4 (ix2 ⟨b.val * 2 + h.val, by omega⟩ ⟨t.val, by omega⟩)

/-- The gates. -/
def G (r : Fin 8) (t : Fin 3) : EReal := x8 (ix2 b ⟨r.val / 4 * 128 + (r.val % 4 * 3 + t.val), by omega⟩)

/-- The compressed attention. -/
def O (r : Fin 8) (l : Fin 128) : EReal := x7 (ix3 b r l)

theorem new_at (x : FVec Ideal S1x256x128 .f32) (kv h : Fin 2) (d : Fin 64) :
    val_main_v16 (F := Ideal) x (ix5 b 0 kv h d) = x (ix3 0 ⟨kv.val * 128 + h.val * 64 + d.val, by omega⟩ b) := by
  pointwise [val_main_v16, val_main_v15, val_main_v14]

theorem newW_at (x : FVec Ideal S1x256x128 .f32) (kv h : Fin 2) (d : Fin 64) :
    val_main_v21 (F := Ideal) x (ix5 b 0 kv h d) = x (ix3 0 ⟨kv.val * 128 + h.val * 64 + d.val, by omega⟩ b) := by
  pointwise [val_main_v21, val_main_v20, val_main_v19]

/-- The reference's tokens. -/
theorem tokens_at (t : Fin 2049) (kv h : Fin 2) (d : Fin 64) :
    val_main_v17 (F := Ideal) x0 x1 x5 (ix5 b t kv h d) = X x0 x1 x5 hx b kv h t d := by
  have ha (ht : t.val < 2048) := AttRows.rows_at x0 x1 hx b ⟨t.val, ht⟩ kv h d
  have hb := new_at b x5 kv h d
  unfold val_main_v17 X
  generalize val_main_v13 (F := Ideal) x0 x1 = y at ha
  generalize val_main_v16 (F := Ideal) x5 = z at hb
  pointwise
  split
  · next ht => exact ha ht
  · next ht =>
    rw [← hb]
    exact congrArg (fun i => z (ix5 b i kv h d)) (Subsingleton.elim (α := Fin 1) _ _)

/-- The reference's window. -/
theorem window_at (t : Fin 512) (kv h : Fin 2) (d : Fin 64) :
    val_main_v23 (F := Ideal) x2 x6 (ix5 b t kv h d) = W x2 x6 b kv h t d := by
  have hb := newW_at b x6 kv h d
  unfold val_main_v23 val_main_v22 W
  generalize val_main_v21 (F := Ideal) x6 = z at hb
  pointwise [val_main_v18]
  by_cases ht : t.val < 511
  · rw [dif_pos (by omega), dif_pos ht]
    exact congrArg (fun i => x2 (ix6 0 b i kv h d)) (Fin.ext (Nat.add_comm _ _))
  · rw [dif_neg (by omega), dif_neg ht, ← hb]
    exact congrArg (fun i => z (ix5 b i kv h d)) (Subsingleton.elim (α := Fin 1) _ _)

/-- A token's score in the reference. -/
theorem score_at (h : Fin 2) (g : Fin 4) (t : Fin 2049) :
    val_main_v34 (F := Ideal) x0 x1 x3 x5 (ix4 b h g t)
      = (∑ d : Fin 64, x3 (ix2 b ⟨h.val * 256 + g.val * 64 + d.val, by omega⟩) * val_main_v17 (F := Ideal) x0 x1 x5 (ix5 b t 0 h d) : EReal) := by
  unfold val_main_v34 val_main_v33 val_main_v32
  generalize val_main_v17 (F := Ideal) x0 x1 x5 = y
  pointwise [val_main_v1, val_main_v0]

/-- A masked score in the reference. -/
theorem masked_at (h : Fin 2) (g : Fin 4) (t : Fin 2049) :
    val_main_v35 (F := Ideal) x0 x1 x3 x4 x5 (ix4 b h g t)
      = (if bound < x4 (ix2 ⟨b.val * 2 + h.val, by omega⟩ ⟨t.val / 64, by omega⟩) then ⊥ else val_main_v34 (F := Ideal) x0 x1 x3 x5 (ix4 b h g t) : EReal) := by
  unfold val_main_v35
  generalize val_main_v34 (F := Ideal) x0 x1 x3 x5 = s
  pointwise [val_main_call0_v2, val_main_call0_v1, val_main_call0_v0, val_main_cst_1, val_main_v31, val_main_v30, val_main_v29, val_main_v28, val_main_v27, val_main_v26, val_main_v25, val_main_v24, val_main_cst]
  rw [show (id (constant (F := Ideal) S_ .f32 0xFF800000#32) ix0 : EReal) = ⊥ from Cert.Spec.negInf]

/-- The selected tokens' attention in the reference. -/
theorem selected_at (h : Fin 2) (g : Fin 4) (d : Fin 64) :
    val_main_v49 (F := Ideal) x0 x1 x3 x4 x5 (ix4 b h g d)
      = soft (fun t => val_main_v35 (F := Ideal) x0 x1 x3 x4 x5 (ix4 b h g t)) (fun t => val_main_v17 (F := Ideal) x0 x1 x5 (ix5 b t 1 h d)) := by
  unfold val_main_v49 val_main_v48 val_main_v47 val_main_v46 val_main_v45 val_main_v44 val_main_v43 val_main_v42 val_main_v41 val_main_v40 val_main_v39 val_main_v38 val_main_v36
  generalize val_main_v35 (F := Ideal) x0 x1 x3 x4 x5 = s
  generalize val_main_v17 (F := Ideal) x0 x1 x5 = y
  pointwise [val_main_cst_2, val_main_cst_3, val_main_cst_4, val_main_v37]
  rw [Cert.Spec.negInf]
  simp only [max_eq_right bot_le]
  rfl

/-- A window row's score in the reference. -/
theorem scoreW_at (h : Fin 2) (g : Fin 4) (t : Fin 512) :
    val_main_v53 (F := Ideal) x2 x3 x6 (ix4 b h g t)
      = (∑ d : Fin 64, x3 (ix2 b ⟨h.val * 256 + g.val * 64 + d.val, by omega⟩) * val_main_v23 (F := Ideal) x2 x6 (ix5 b t 0 h d) : EReal) := by
  unfold val_main_v53 val_main_v52 val_main_v51 val_main_v50
  generalize val_main_v23 (F := Ideal) x2 x6 = y
  pointwise [val_main_v1, val_main_v0, val_main_c_5, val_main_call1_v1, val_main_call1_v0, val_main_cst_6]

/-- The window's attention in the reference. -/
theorem recent_at (h : Fin 2) (g : Fin 4) (d : Fin 64) :
    val_main_v67 (F := Ideal) x2 x3 x6 (ix4 b h g d)
      = soft (fun t => val_main_v53 (F := Ideal) x2 x3 x6 (ix4 b h g t)) (fun t => val_main_v23 (F := Ideal) x2 x6 (ix5 b t 1 h d)) := by
  unfold val_main_v67 val_main_v66 val_main_v65 val_main_v64 val_main_v63 val_main_v62 val_main_v61 val_main_v60 val_main_v59 val_main_v58 val_main_v57 val_main_v56 val_main_v54
  generalize val_main_v53 (F := Ideal) x2 x3 x6 = s
  generalize val_main_v23 (F := Ideal) x2 x6 = y
  pointwise [val_main_cst_7, val_main_cst_8, val_main_cst_9, val_main_v55]
  rw [Cert.Spec.negInf]
  simp only [max_eq_right bot_le]
  rfl

/-- The first result of the reference. -/
theorem out_at (r : Fin 8) (l : Fin 128) :
    val_main_v85 (F := Ideal) x0 x1 x2 x3 x4 x5 x6 x7 x8 (ix3 b r l)
      = (G x8 b r 0 * x7 (ix3 b r l)
        + G x8 b r 1 * val_main_v49 (F := Ideal) x0 x1 x3 x4 x5 (ix4 b ⟨r.val / 4, by omega⟩ ⟨r.val % 4, by omega⟩ ⟨l.val % 64, by omega⟩)
        + G x8 b r 2 * val_main_v67 (F := Ideal) x2 x3 x6 (ix4 b ⟨r.val / 4, by omega⟩ ⟨r.val % 4, by omega⟩ ⟨l.val % 64, by omega⟩) : EReal) := by
  unfold val_main_v85 val_main_v84 val_main_v82 val_main_v81 val_main_v80 val_main_v78 val_main_v77 val_main_v75 val_main_v74 val_main_v73 G
  generalize val_main_v49 (F := Ideal) x0 x1 x3 x4 x5 = p
  generalize val_main_v67 (F := Ideal) x2 x3 x6 = q
  pointwise [val_main_v83, val_main_v79, val_main_v76, val_main_v72, val_main_v71, val_main_v70, val_main_v69, val_main_v68, val_main_v4, val_main_v3, val_main_v2]

/-- The second result of the reference. -/
theorem moved_at (c : Fin 256) (t : Fin 512) :
    val_main_v87 (F := Ideal) x2 x6 (ix3 b c t) = W x2 x6 b ⟨c.val / 128, by omega⟩ ⟨c.val % 128 / 64, by omega⟩ t ⟨c.val % 64, by omega⟩ := by
  rw [← window_at]
  unfold val_main_v87 val_main_v86
  generalize val_main_v23 (F := Ideal) x2 x6 = y
  pointwise
  congr 2
  exact Fin.ext (by show c.val / 64 % 2 = c.val % 128 / 64; omega)

/-- The first result of the reference is the mathematics of the sequence. -/
theorem out_eq (r : Fin 8) (l : Fin 128) :
    val_main_v85 (F := Ideal) x0 x1 x2 x3 x4 x5 x6 x7 x8 (ix3 b r l)
      = three (X x0 x1 x5 hx b) (W x2 x6 b) (Q x3 b) (B x4 b) (G x8 b) (O x7 b) r l := by
  rw [out_at, selected_at, recent_at]
  have q (d : Fin 64) : x3 (ix2 b ⟨r.val / 4 * 256 + r.val % 4 * 64 + d.val, by omega⟩) = Q x3 b r d :=
    congrArg (fun i => x3 (ix2 b i)) (Fin.ext (by show r.val / 4 * 256 + r.val % 4 * 64 + d.val = r.val * 64 + d.val; omega))
  have e1 (t : Fin 2049) : val_main_v35 (F := Ideal) x0 x1 x3 x4 x5 (ix4 b ⟨r.val / 4, by omega⟩ ⟨r.val % 4, by omega⟩ t)
      = masked (B x4 b ⟨r.val / 4, by omega⟩) (Q x3 b r) (X x0 x1 x5 hx b 0 ⟨r.val / 4, by omega⟩) t := by
    rw [masked_at, score_at]
    unfold masked dotp
    simp only [tokens_at x0 x1 x5 hx b, q]
    rfl
  have e2 (t : Fin 512) : val_main_v53 (F := Ideal) x2 x3 x6 (ix4 b ⟨r.val / 4, by omega⟩ ⟨r.val % 4, by omega⟩ t)
      = dotp (Q x3 b r) (W x2 x6 b 0 ⟨r.val / 4, by omega⟩) t := by
    rw [scoreW_at]
    unfold dotp
    simp only [window_at, q]
  simp only [e1, e2, tokens_at x0 x1 x5 hx b, window_at]
  rfl

end Cert.AttSeq

end
-- ==== Proof.OkAttendSampleIdeal.lean ====
/- The page table's words name pages of the cache, so every page window of AttendSampleIdeal's region lies inside the
   cache array: the side condition of the prefetched table. -/
module

public import proofs.«01_k».proof.Defs
public import proofs.«01_k».proof.Proof.Gen.AttendSampleIdeal.Frame.Runs
public import proofs.«01_k».proof.Proof.Gen.Pre_finite_selected
public import Idealize.ShloMosaic.Lib.ReduceAll

@[expose] public section

namespace Cert.OkAttendSampleIdeal

open Cert.AttendSampleIdeal Cert.AttendSampleIdeal.Gen
open Idealize.ShloMosaic Idealize.ShloMosaic.TcCoe

/-- The precondition bounds every word of the page table. -/
theorem word_lt (m : (ℓ : Loc nD τ sig) → Buf (Elt Ideal) ℓ) (h : Cert.Pre_AttendSampleIdeal m) (c : Dev nD) (y : S128x16.Idx) :
    (m ((c : Thread nD τ).loc main_arg0) y).toNat < 2560 := by
  have e := congrFun (h c) y
  simp only [Pre_finite_selected.fn, Pre_finite_selected.fn_part1, Pre_finite_selected.fn_part2, andi] at e
  have e5 := (IntOp.andi_eq_one.1 (IntOp.andi_eq_one.1 (IntOp.andi_eq_one.1 (IntOp.andi_eq_one.1
    (IntOp.andi_eq_one.1 (IntOp.andi_eq_one.1 (IntOp.andi_eq_one.1 e).1).1).1).1).1).1)
  have ofBool_eq_one (p : Bool) : (BitVec.ofBool p = 1#1) ↔ p = true := by cases p <;> decide
  obtain ⟨hge, hlt⟩ := e5
  simp only [cmpi, broadcastInDim, constantI, IntOp.cmpi, ofBool_eq_one] at hge hlt
  simp only [BitVec.sle, BitVec.slt, decide_eq_true_eq, BitVec.toInt, BitVec.toNat_ofNat] at hge hlt
  omega

/-- Words below the number of pages make every page window's block lie inside the cache array. -/
theorem ok_of_lt {F : FTy → Type} [FloatOps F] [Named F] (m : (ℓ : Loc nD τ sig) → Buf (Elt F) ℓ)
    (h : ∀ y : S128x16.Idx, (m (((0 : Dev nD) : Thread nD τ).loc main_arg0) y).toNat < 2560) : Ok m := by
  have ht : ∀ y : S128x16.Idx, ((tbl m 0 : S128x16.Idx → BitVec 32) y).toNat < 2560 := fun y => by
    have e : (tbl m 0 : S128x16.Idx → BitVec 32) y = m (((0 : Dev nD) : Thread nD τ).loc main_arg0) y :=
      congrFun (V_main_arg0 m 0) y
    rw [e]; exact h y
  have key : ∀ (n : ℕ), n < 2560 → ∀ a : Fin 3, ((![n, 0, 0] : Fin 3 → ℕ) a + 1) * S1x256x128.size a ≤ S2560x256x128.size a := by
    intro n hn a
    fin_cases a
    · show (n + 1) * 1 ≤ 2560; omega
    · show (0 + 1) * 256 ≤ 256; omega
    · show (0 + 1) * 128 ≤ 128; omega
  refine ⟨fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩, fun i => ⟨key _ (ht _), Or.inl rfl⟩, fun i => ⟨key _ (ht _), Or.inl rfl⟩,
    fun i => ⟨key _ (ht _), Or.inl rfl⟩⟩

theorem ok_of_pre (m : (ℓ : Loc nD τ sig) → Buf (Elt Ideal) ℓ) (h : Cert.Pre_AttendSampleIdeal m) : Ok m :=
  ok_of_lt m (word_lt m h 0)

end Cert.OkAttendSampleIdeal
-- ==== Proof.AttendSampleHolding.lean ====
/- The arrays of one grid point of the sample attention hold the values of its sequence, which under the precondition are real
   numbers. -/
module

public import proofs.«01_k».proof.Proof.AttendSampleBlocks
public import proofs.«01_k».proof.Proof.AttendSampleRef
public import proofs.«01_k».proof.Proof.OkAttendSampleIdeal
public import proofs.«01_k».proof.Proof.Finite

@[expose] public section

set_option maxRecDepth 16384

noncomputable section

namespace Cert.AttBlocks

open Cert.AttendSampleIdeal Cert.AttendSampleIdeal.Gen
open Idealize.ShloMosaic Idealize.ShloMosaic.TcCoe

variable (m : (ℓ : Loc nD τ sig) → Buf (Elt Ideal) ℓ) (hO : Ok m) (c : Dev nD) (t : Fin (cfgM m hO).N)

/-- The tokens of a sequence at a page's place. -/
theorem X_page (x0 : IVec S128x16 32) (x1 : FVec Ideal S1x2560x128x2x2x64 .f32) (x5 : FVec Ideal S1x256x128 .f32) (hx : ∀ y, (x0 y).toNat < 2560) (b : Fin 128)
    (kv h : Fin 2) (p : Fin 16) (s : Fin 128) (d : Fin 64) :
    AttSeq.X x0 x1 x5 hx b kv h ⟨s.val + 128 * p.val, by omega⟩ d = x1 (ix6 0 ⟨(x0 (ix2 b p)).toNat, hx _⟩ s kv h d) := by
  unfold AttSeq.X
  rw [dif_pos (by show s.val + 128 * p.val < 2048; omega)]
  have key : ∀ (p' : Fin 16) (s' : Fin 128), p' = p → s' = s → x1 (ix6 0 ⟨(x0 (ix2 b p')).toNat, hx _⟩ s' kv h d) = x1 (ix6 0 ⟨(x0 (ix2 b p)).toNat, hx _⟩ s kv h d) := by
    rintro p' s' rfl rfl
    rfl
  exact key _ _ (Fin.ext (by show (s.val + 128 * p.val) / 128 = p.val; omega)) (Fin.ext (by show (s.val + 128 * p.val) % 128 = s.val; omega))

theorem X_new (x0 : IVec S128x16 32) (x1 : FVec Ideal S1x2560x128x2x2x64 .f32) (x5 : FVec Ideal S1x256x128 .f32) (hx : ∀ y, (x0 y).toNat < 2560) (b : Fin 128) (j : Fin 256) :
    AttSeq.X x0 x1 x5 hx b ⟨j.val / 128, by omega⟩ ⟨j.val % 128 / 64, by omega⟩ (Fin.last 2048) ⟨j.val % 64, by omega⟩ = x5 (ix3 0 j b) := by
  unfold AttSeq.X
  rw [dif_neg (by show ¬ 2048 < 2048; omega)]
  exact congrArg (fun i => x5 (ix3 0 i b)) (Fin.ext (by show j.val / 128 * 128 + j.val % 128 / 64 * 64 + j.val % 64 = j.val; omega))

theorem W_new (x2 : FVec Ideal S1x128x512x2x2x64 .f32) (x6 : FVec Ideal S1x256x128 .f32) (b : Fin 128) (j : Fin 256) :
    AttSeq.W x2 x6 b ⟨j.val / 128, by omega⟩ ⟨j.val % 128 / 64, by omega⟩ (Fin.last 511) ⟨j.val % 64, by omega⟩ = x6 (ix3 0 j b) := by
  unfold AttSeq.W
  rw [dif_neg (by show ¬ 511 < 511; omega)]
  exact congrArg (fun i => x6 (ix3 0 i b)) (Fin.ext (by show j.val / 128 * 128 + j.val % 128 / 64 * 64 + j.val % 64 = j.val; omega))

theorem W_old (x2 : FVec Ideal S1x128x512x2x2x64 .f32) (x6 : FVec Ideal S1x256x128 .f32) (b : Fin 128) (kv h : Fin 2) (s : Fin 511) (d : Fin 64) :
    AttSeq.W x2 x6 b kv h s.castSucc d = x2 (ix6 0 b s.succ kv h d) := by
  unfold AttSeq.W
  rw [dif_pos (by show s.val < 511; omega)]
  rfl

/-- What the grid point's arrays hold. -/
theorem holds (hx : ∀ y, ((m ((c : Thread nD τ).loc main_arg0) : S128x16.Idx → BitVec 32) y).toNat < 2560) :
    AttS.Holds (staged m hO c t) (iblk m hO c 16 t) (iblk m hO c 17 t) (iblk m hO c 18 t) (iblk m hO c 19 t) (iblk m hO c 20 t) (iblk m hO c 21 t)
      (iblk m hO c 22 t) (iblk m hO c 23 t)
      (AttSeq.X (m ((c : Thread nD τ).loc main_arg0)) (m ((c : Thread nD τ).loc main_arg1)) (m ((c : Thread nD τ).loc main_arg5)) hx (seqOf m hO t))
      (AttSeq.W (m ((c : Thread nD τ).loc main_arg2)) (m ((c : Thread nD τ).loc main_arg6)) (seqOf m hO t))
      (AttSeq.Q (m ((c : Thread nD τ).loc main_arg3)) (seqOf m hO t)) (AttSeq.B (m ((c : Thread nD τ).loc main_arg4)) (seqOf m hO t))
      (AttSeq.G (m ((c : Thread nD τ).loc main_arg8)) (seqOf m hO t)) (AttSeq.O (m ((c : Thread nD τ).loc main_arg7)) (seqOf m hO t)) where
  page p j s := by
    have hw := word_eq m hO c t p
    have hlt : (word m hO t p).toNat < 2560 := by rw [hw]; exact hx _
    refine (staged_at m hO c t p hlt j s).trans ?_
    rw [AttHost.V_pages, AttHost.pages_at]
    refine Eq.trans ?_ (X_page _ _ _ hx _ _ _ p s _).symm
    exact congrArg (fun q : Fin 2560 => (m ((c : Thread nD τ).loc main_arg1) : S1x2560x128x2x2x64.Idx → EReal)
      (ix6 0 q s ⟨j.val / 128, by omega⟩ ⟨j.val % 128 / 64, by omega⟩ ⟨j.val % 64, by omega⟩)) (Fin.ext (congrArg BitVec.toNat hw))
  new j := by
    rw [newS, AttHost.V_newS, AttHost.newRow_at]
    exact (X_new _ _ _ hx _ j).symm
  window j s := by
    rw [window, AttHost.V_wins, AttHost.wins_at]
    exact (W_old _ _ _ _ _ s _).symm
  newW j := by
    rw [newW, AttHost.V_newW, AttHost.newRow_at]
    exact (W_new _ _ _ j).symm
  newCol j := by
    rw [newCol, AttHost.V_newCol, AttHost.newCol_at]
    exact (W_new _ _ _ j).symm
  queries r l := by
    rw [queries, AttHost.V_qbd, AttHost.qbd_at]
    rfl
  flags r s := by
    rw [flags, AttHost.V_flags, AttHost.flags_at]
    rfl
  given r l := by
    rw [given, V_main_arg7]
    rfl
  gates r s := by
    rw [gates, AttHost.V_gates, AttHost.gates_at]
    rfl

/-- One half is less than the start of a minimum. -/
theorem half_lt_top : AttS.bound < (Ideal.ofBits .f32 0x7F800000#32 : EReal) := by
  have e : (Ideal.ofBits .f32 0x7F800000#32 : EReal) = ⊤ := by
    simp [Ideal.ofBits, Ideal.ieee]
  rw [e]
  unfold AttS.bound
  simp [Ideal.ofBits, Ideal.ieee]
  rw [← EReal.coe_mul]
  exact EReal.coe_lt_top _

/-- Of flags whose least is at most one half, one does not exceed it. -/
theorem some_flag (x4 : FVec Ideal Pre_finite_selected.S256x128 .f32) (k : Fin 256)
    (h : cmpf .ole (Host.reduce FloatOps.minimumf (extractStridedSlice Pre_finite_selected.S256x33 ![0, 0] x4 Pre_finite_selected.Facts.slices_S256x128_S256x33_0_0)
        (constant (F := Ideal) Pre_finite_selected.S_ .f32 0x7F800000#32) Pre_finite_selected.Facts.reducesTo_S256x33_S256_d1 Pre_finite_selected.Facts.h_S_)
      (broadcastInDim Pre_finite_selected.S256 ![] Pre_finite_selected.Facts.bcast_S_S256 (constant (F := Ideal) Pre_finite_selected.S_ .f32 0x3F000000#32)) (ix1 k) = 1#1) :
    ∃ j : Fin 33, ¬ AttS.bound < x4 (ix2 k ⟨j.val, by omega⟩) := by
  by_contra hno
  push Not at hno
  have e : (Host.reduce FloatOps.minimumf (extractStridedSlice Pre_finite_selected.S256x33 ![0, 0] x4 Pre_finite_selected.Facts.slices_S256x128_S256x33_0_0)
      (constant (F := Ideal) Pre_finite_selected.S_ .f32 0x7F800000#32) Pre_finite_selected.Facts.reducesTo_S256x33_S256_d1 Pre_finite_selected.Facts.h_S_
        : FVec Ideal Pre_finite_selected.S256 .f32) (ix1 k)
      = Finset.fold min (Ideal.ofBits .f32 0x7F800000#32 : EReal) (fun j : Fin 33 => (x4 (ix2 k ⟨j.val, by omega⟩) : EReal)) Finset.univ := by
    pointwise
  have hlt : AttS.bound < (Finset.fold min (Ideal.ofBits .f32 0x7F800000#32 : EReal) (fun j : Fin 33 => (x4 (ix2 k ⟨j.val, by omega⟩) : EReal)) Finset.univ) := by
    rw [Finset.lt_fold_min]
    exact ⟨half_lt_top, fun j _ => hno j⟩
  have h2 : Ideal.cmp .ole (Finset.fold min (Ideal.ofBits .f32 0x7F800000#32 : EReal) (fun j : Fin 33 => (x4 (ix2 k ⟨j.val, by omega⟩) : EReal)) Finset.univ) AttS.bound = 1#1 := by
    rw [← e]; exact h
  have hle := not_le.mpr hlt
  simp [Ideal.cmp, hle] at h2

/-- The precondition, array by array. -/
theorem args (h : Cert.Pre_AttendSampleIdeal m) :
    (∀ k : Fin 256, ∃ j : Fin 33, ¬ AttS.bound < (m ((c : Thread nD τ).loc main_arg4) : S256x128.Idx → EReal) (ix2 k ⟨j.val, by omega⟩))
      ∧ (∀ i, Sums.Real (m ((c : Thread nD τ).loc main_arg1) i)) ∧ (∀ i, Sums.Real (m ((c : Thread nD τ).loc main_arg2) i))
      ∧ (∀ i, Sums.Real (m ((c : Thread nD τ).loc main_arg3) i)) ∧ (∀ i, Sums.Real (m ((c : Thread nD τ).loc main_arg5) i))
      ∧ (∀ i, Sums.Real (m ((c : Thread nD τ).loc main_arg6) i)) := by
  have e := congrFun (h c) (fun a => match a with | ⟨0, _⟩ => (0 : Fin 128) | ⟨1, _⟩ => (0 : Fin 16))
  simp only [Pre_finite_selected.fn, Pre_finite_selected.fn_part1, Pre_finite_selected.fn_part2, andi] at e
  obtain ⟨e, e6⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e4⟩ := IntOp.andi_eq_one.1 e
  haveI : Subsingleton Pre_finite_selected.S_.Idx := ⟨fun a b => funext fun k => k.elim0⟩
  refine ⟨fun k => some_flag _ k (Host.reduce_andi_all _ _ _ _ _ e4 (ix1 k)), fun i => Finite.of_lt _ ?_, fun i => Finite.of_lt _ ?_,
    fun i => Finite.of_lt _ ?_, fun i => Finite.of_lt _ ?_, fun i => Finite.of_lt _ ?_⟩
  · exact Host.reduce_andi_all _ _ _ _ _ e1 i
  · exact Host.reduce_andi_all _ _ _ _ _ e2 i
  · exact Host.reduce_andi_all _ _ _ _ _ e3 i
  · exact Host.reduce_andi_all _ _ _ _ _ e5 i
  · exact Host.reduce_andi_all _ _ _ _ _ e6 i

/-- Under the precondition the values of a sequence are real numbers, and some block is selected for every key head. -/
theorem good (h : Cert.Pre_AttendSampleIdeal m) (hx : ∀ y, ((m ((c : Thread nD τ).loc main_arg0) : S128x16.Idx → BitVec 32) y).toNat < 2560) (b : Fin 128) :
    AttS.Good (AttSeq.X (m ((c : Thread nD τ).loc main_arg0)) (m ((c : Thread nD τ).loc main_arg1)) (m ((c : Thread nD τ).loc main_arg5)) hx b)
      (AttSeq.W (m ((c : Thread nD τ).loc main_arg2)) (m ((c : Thread nD τ).loc main_arg6)) b)
      (AttSeq.Q (m ((c : Thread nD τ).loc main_arg3)) b) (AttSeq.B (m ((c : Thread nD τ).loc main_arg4)) b) where
  x kv k s d := by
    unfold AttSeq.X
    split
    · exact (args m c h).2.1 _
    · exact (args m c h).2.2.2.2.1 _
  w kv k s d := by
    unfold AttSeq.W
    split
    · exact (args m c h).2.2.1 _
    · exact (args m c h).2.2.2.2.2 _
  q _ _ := (args m c h).2.2.2.1 _
  some _ := (args m c h).1 _

end Cert.AttBlocks

end
-- ==== Proof.AttendSampleFinal.lean ====
/- The attended array of the sample attention, when its grid is done, holds the reference's first result where the mask is set. -/
module

public import proofs.«01_k».proof.Proof.AttendSampleHolding
public import proofs.«01_k».proof.Proof.AttendSampleTerm
public import Idealize.ShloMosaic.Lib.Decide

@[expose] public section

set_option maxRecDepth 16384

noncomputable section

namespace Cert.AttBlocks

open Cert.AttendSampleIdeal Cert.AttendSampleIdeal.Gen
open Idealize.ShloMosaic Idealize.ShloMosaic.TcCoe

variable (m : (ℓ : Loc nD τ sig) → Buf (Elt Ideal) ℓ) (hO : Ok m) (c : Dev nD)

/-- The reference's first result of the arguments. -/
abbrev ref0 : S128x8x128.Idx → EReal := Cert.AttendSampleReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

set_option maxHeartbeats 4000000 in
/-- The block one grid point writes to output 24. -/
theorem out24_at (h : Cert.Pre_AttendSampleIdeal m) (t : Fin (cfgM m hO).N) (r : Fin 8) (l : Fin 128) (hl : r.val / 4 = l.val / 64) :
    (outsAt0 m hO c t).1 (ix3 0 r l) = ref0 m c (ix3 (seqOf m hO t) r l) :=
  (congrFun (AttS.out24_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0)) (ix3 0 r l)).trans
    ((AttS.attended_eq (holds m hO c t (OkAttendSampleIdeal.word_lt m h c)) (good m c h (OkAttendSampleIdeal.word_lt m h c) (seqOf m hO t)) r l hl).trans
      (AttSeq.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (OkAttendSampleIdeal.word_lt m h c) (seqOf m hO t) r l).symm)

theorem placed24 (t : Fin (cfgM m hO).N) (r : Fin 8) (l : Fin 128) :
    (((cfgM m hO).win 24).blk t).view.emb (ix3 0 r l) = ix3 (seqOf m hO t) r l :=
  layer_at (N := 128) (n := 8) (k := 128) _ _ _ r l (seqOf m hO t).isLt (seq_index m hO t)

theorem covers24 : ((cfgM m hO).win 24).Covers := of_decide_eq_true (by sl_kernel_rfl)

/-- The array of output 24 when the grid is done. -/
theorem final24 (h : Cert.Pre_AttendSampleIdeal m) (i : S128x8x128.Idx) (hi : (i 1).val / 4 = (i 2).val / 64) :
    ((dats m hO 0 c).arrAt 24 (cfgM m hO).N : S128x8x128.Idx → EReal) i = ref0 m c i := by
  revert hi
  refine (dats m hO 0 c).arrAt_forall_of_covers 24 (fun (i : S128x8x128.Idx) (v : EReal) => (i 1).val / 4 = (i 2).val / 64 → v = ref0 m c i) (covers24 m hO) ?_ i
  intro t _ (y : S1x8x128.Idx)
  obtain ⟨r, l, rfl⟩ : ∃ (r : Fin 8) (l : Fin 128), y = ix3 0 r l :=
    ⟨y 1, y 2, funext fun a => match a with | ⟨0, _⟩ => Subsingleton.elim (α := Fin 1) _ _ | ⟨1, _⟩ => rfl | ⟨2, _⟩ => rfl⟩
  have key : ∀ (i' : S128x8x128.Idx) (v v' : EReal), i' = ix3 (seqOf m hO t) r l → v = v' →
      (r.val / 4 = l.val / 64 → v' = ref0 m c (ix3 (seqOf m hO t) r l)) → ((i' 1).val / 4 = (i' 2).val / 64 → v = ref0 m c i') := by
    rintro i' v v' rfl rfl hv
    exact hv
  exact key _ _ _ (placed24 m hO t r l) (congrFun (after0_24 m hO c t) (ix3 0 r l)) (fun hl => out24_at m hO c h t r l hl)

end Cert.AttBlocks

end
-- ==== Proof.AttendSampleMoved.lean ====
/- The window array of the sample attention, when its grid is done, holds the reference's second result. -/
module

public import proofs.«01_k».proof.Proof.AttendSampleHolding
public import proofs.«01_k».proof.Proof.AttendSampleTerm
public import Idealize.ShloMosaic.Lib.Decide

@[expose] public section

set_option maxRecDepth 16384

noncomputable section

namespace Cert.AttBlocks

open Cert.AttendSampleIdeal Cert.AttendSampleIdeal.Gen
open Idealize.ShloMosaic Idealize.ShloMosaic.TcCoe

set_option maxHeartbeats 1000000 in
/-- The block a grid point leaves in output 25 is the moved window of its blocks. -/
theorem moved_after {F : FTy → Type} [FloatOps F] [Named F] (m : (ℓ : Loc nD τ sig) → Buf (Elt F) ℓ) (hO : Ok m) (c : Dev nD) (t : Fin (cfgM m hO).N) : (outsAt0 m hO c t).2 = AttS.moved (iblk m hO c 16 t) (iblk m hO c 21 t) := by
  unfold outsAt0
  dsimp only
  refine Eq.trans (b := out0_A_25 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0)) ?_ ?_
  · congr 1
  · exact (AttS.out25_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (tbl m 0))

variable (m : (ℓ : Loc nD τ sig) → Buf (Elt Ideal) ℓ) (hO : Ok m) (c : Dev nD)

/-- The reference's second result of the arguments. -/
abbrev ref1 : S128x256x512.Idx → EReal := Cert.AttendSampleReferenceIdeal.Read.val_main_v87 (F := Ideal) (m ((c : Thread nD τ).loc main_arg2)) (m ((c : Thread nD τ).loc main_arg6))

/-- What a grid point moves is the reference's window. -/
theorem moved_block (h : Cert.Pre_AttendSampleIdeal m) (t : Fin (cfgM m hO).N) (r : Fin 256) (l : Fin 512) :
    AttS.moved (F := Ideal) (iblk m hO c 16 t) (iblk m hO c 21 t) (ix3 0 r l) = ref1 m c (ix3 (seqOf m hO t) r l) := by
  have e1 := AttS.moved_eq (holds m hO c t (OkAttendSampleIdeal.word_lt m h c)) r l
  have e2 := AttSeq.moved_at (m ((c : Thread nD τ).loc main_arg2)) (m ((c : Thread nD τ).loc main_arg6)) (seqOf m hO t) r l
  exact e1.trans e2.symm

/-- The block one grid point writes to output 25. -/
theorem out25_at (h : Cert.Pre_AttendSampleIdeal m) (t : Fin (cfgM m hO).N) (r : Fin 256) (l : Fin 512) :
    (outsAt0 m hO c t).2 (ix3 0 r l) = ref1 m c (ix3 (seqOf m hO t) r l) :=
  (congrFun (moved_after m hO c t) (ix3 0 r l)).trans (moved_block m hO c h t r l)

theorem placed25 (t : Fin (cfgM m hO).N) (r : Fin 256) (l : Fin 512) :
    (((cfgM m hO).win 25).blk t).view.emb (ix3 0 r l) = ix3 (seqOf m hO t) r l :=
  layer_at (N := 128) (n := 256) (k := 512) _ _ _ r l (seqOf m hO t).isLt (seq_index m hO t)

theorem covers25 : ((cfgM m hO).win 25).Covers := of_decide_eq_true (by sl_kernel_rfl)

/-- The array of output 25 when the grid is done. -/
theorem final25 (h : Cert.Pre_AttendSampleIdeal m) (i : S128x256x512.Idx) :
    ((dats m hO 0 c).arrAt 25 (cfgM m hO).N : S128x256x512.Idx → EReal) i = ref1 m c i := by
  refine (dats m hO 0 c).arrAt_forall_of_covers 25 (fun (i : S128x256x512.Idx) (v : EReal) => v = ref1 m c i) (covers25 m hO) ?_ i
  intro t _ (y : S1x256x512.Idx)
  obtain ⟨r, l, rfl⟩ : ∃ (r : Fin 256) (l : Fin 512), y = ix3 0 r l :=
    ⟨y 1, y 2, funext fun a => match a with | ⟨0, _⟩ => Subsingleton.elim (α := Fin 1) _ _ | ⟨1, _⟩ => rfl | ⟨2, _⟩ => rfl⟩
  have key : ∀ (i' : S128x256x512.Idx) (v v' : EReal), i' = ix3 (seqOf m hO t) r l → v = v' →
      (v' = ref1 m c (ix3 (seqOf m hO t) r l)) → (v = ref1 m c i') := by
    rintro i' v v' rfl rfl hv
    exact hv
  exact key _ _ _ (placed25 m hO t r l) (congrFun (after0_25 m hO c t) (ix3 0 r l)) (out25_at m hO c h t r l)

end Cert.AttBlocks

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_paged
public import proofs.«01_k».proof.Proof.Gen.On_own_half
public import proofs.«01_k».proof.Proof.Gen.ReferenceIdeal.Run
public import proofs.«01_k».proof.Proof.Gen.ReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleReferenceIdeal
public import proofs.«01_k».proof.Proof.Gen.ProjectSampleReferenceIdeal.Run
public import proofs.«01_k».proof.Proof.Gen.ProjectSampleReferenceIdeal.Read
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishReferenceIdeal
public import proofs.«01_k».proof.Proof.Gen.FinishReferenceIdeal.Run
public import proofs.«01_k».proof.Proof.Gen.FinishReferenceIdeal.Read
public import proofs.«01_k».proof.Proof.Gen.FinishSample
public import proofs.«01_k».proof.Proof.Gen.FinishSample.Skeleton
public import proofs.«01_k».proof.Proof.Gen.FinishSample.Launch
public import proofs.«01_k».proof.Proof.Gen.FinishSample.Points
public import proofs.«01_k».proof.Proof.Gen.FinishSample.Frame
public import proofs.«01_k».proof.Proof.Gen.FinishSampleIdeal
public import proofs.«01_k».proof.Proof.Gen.FinishSampleIdeal.Skeleton
public import proofs.«01_k».proof.Proof.Gen.FinishSampleIdeal.Launch
public import proofs.«01_k».proof.Proof.Gen.FinishSampleIdeal.Points
public import proofs.«01_k».proof.Proof.Gen.FinishSampleIdeal.Frame
public import proofs.«01_k».proof.Proof.Gen.FinishSampleReferenceIdeal
public import proofs.«01_k».proof.Proof.Gen.FinishSampleReferenceIdeal.Run
public import proofs.«01_k».proof.Proof.Gen.FinishSampleReferenceIdeal.Read
public import proofs.«01_k».proof.Proof.Gen.AttendSample
public import proofs.«01_k».proof.Proof.Gen.AttendSample.Skeleton
public import proofs.«01_k».proof.Proof.Gen.AttendSample.Launch
public import proofs.«01_k».proof.Proof.Gen.AttendSample.Points
public import proofs.«01_k».proof.Proof.Gen.AttendSample.Frame.Runs
public import proofs.«01_k».proof.Proof.Gen.AttendSampleIdeal
public import proofs.«01_k».proof.Proof.Gen.AttendSampleIdeal.Skeleton
public import proofs.«01_k».proof.Proof.Gen.AttendSampleIdeal.Launch
public import proofs.«01_k».proof.Proof.Gen.AttendSampleIdeal.Points
public import proofs.«01_k».proof.Proof.Gen.AttendSampleIdeal.Frame.Runs
public import proofs.«01_k».proof.Proof.Gen.AttendSampleReferenceIdeal
public import proofs.«01_k».proof.Proof.Gen.AttendSampleReferenceIdeal.Run
public import proofs.«01_k».proof.Proof.Gen.AttendSampleReferenceIdeal.Read
public import proofs.«01_k».proof.Proof.Gen.Pre_finite_selected
public import proofs.«01_k».proof.Proof.Gen.On_own_lanes
public import proofs.«01_k».proof.Proof.OkKernel
public import proofs.«01_k».proof.Proof.OkKernelIdeal
public import proofs.«01_k».proof.Proof.Final
public import proofs.«01_k».proof.Proof.ProjectEqual
public import proofs.«01_k».proof.Proof.ProjectSampleEqual
public import proofs.«01_k».proof.Proof.FinishEqual
public import proofs.«01_k».proof.Proof.FinishSampleEqual
public import proofs.«01_k».proof.Proof.OkAttendSample
public import proofs.«01_k».proof.Proof.AttendSampleFrame
public import proofs.«01_k».proof.Proof.AttendSampleFinal
public import proofs.«01_k».proof.Proof.AttendSampleMoved
public import Idealize.ShloMosaic.Adequacy
public import Idealize.ShloMosaic.Init

@[expose] public section

noncomputable section

namespace Cert.Proof

open Idealize.ShloMosaic Idealize.SL.Sem Cert.Kernel

/-- Where the mask is set, the row and the lane belong to the same key head. -/
theorem same_head (x0 : IVec On_own_half.S128x16 32) (x1 : FVec Ideal On_own_half.S1x2560x128x2x2x64 .f32) (x2 : FVec Ideal On_own_half.S128x512 .bf16)
    (x3 : FVec Ideal On_own_half.S1x2x32x64 .f32) (x4 : FVec Ideal On_own_half.S1x2x32x64x128 .f32) (x5 : FVec Ideal On_own_half.S1x2x128x64 .f32)
    (i : On_own_half.S128x8x128.Idx) (h : (On_own_half.fn (F := Ideal) x0 x1 x2 x3 x4 x5).1 i = 1#1) : (i 1).val / 4 = (i 2).val / 64 := by
  have key : ∀ (r : Fin 8) (l : Fin 128), IntOp.cmpi .eq (IntOp.cmpi .sge (BitVec.ofNat 32 r.val) 4#32) (IntOp.cmpi .sge (BitVec.ofNat 32 l.val) 64#32) = 1#1 →
      r.val / 4 = l.val / 64 := by decide
  exact key (i 1) (i 2) h

/-- The kernel's two arrays end at the reference's two results. -/
theorem algebraic : Cert.algebraic_KernelIdeal_ReferenceIdeal_on_own_half := by
  intro m g m' g' hpre hag
  have hO := OkKernelIdeal.ok_of_pre m hpre
  refine ⟨fun c => Blocks.ref0 m c, fun c => Blocks.ref1 m c, ?_, ?_⟩
  · refine (θ_run _ _ _).mono ?_ (θ_run_and (Cert.KernelIdeal.Gen.run_main m g hO) (Cert.KernelIdeal.Gen.unchanged m g hO))
    rintro r ⟨hr, hu⟩ c
    refine ⟨fun i hi => ?_, fun i _ => ?_, hu c⟩
    · exact (congrFun (Pipeline.FramePost.out_eq hr c 20) i).trans (Blocks.final20 m hO c hpre i (same_head _ _ _ _ _ _ i hi))
    · exact (congrFun (Pipeline.FramePost.out_eq hr c 21) i).trans (Blocks.final21 m hO c hpre i)
  · refine (θ_run _ _ _).mono ?_ (Cert.ReferenceIdeal.Value.run m' g')
    intro r h c
    obtain ⟨h95, h96, hargs⟩ := h c
    obtain ⟨a0, a1, a2, a3, a4, a5⟩ := hag c
    rw [Cert.ReferenceIdeal.Read.val_main_v95_eq, a0, a1, a2, a3, a4, a5] at h95
    rw [Cert.ReferenceIdeal.Read.val_main_v96_eq, a0, a1, a2, a3, a4, a5] at h96
    exact ⟨fun i _ => congrFun h95 i, fun i _ => congrFun h96 i, hargs⟩

/-- Where the sample attention's mask is set, the row and the lane belong to the same key head. -/
theorem same_lanes (x0 : IVec On_own_lanes.S128x16 32) (x1 : FVec Ideal On_own_lanes.S1x2560x128x2x2x64 .f32) (x2 : FVec Ideal On_own_lanes.S1x128x512x2x2x64 .f32)
    (x3 : FVec Ideal On_own_lanes.S128x512 .bf16) (x4 : FVec Ideal On_own_lanes.S256x128 .f32) (x5 x6 : FVec Ideal On_own_lanes.S1x256x128 .f32)
    (x7 : FVec Ideal On_own_lanes.S128x8x128 .f32) (x8 : FVec Ideal On_own_lanes.S128x256 .f32)
    (i : On_own_lanes.S128x8x128.Idx) (h : (On_own_lanes.fn (F := Ideal) x0 x1 x2 x3 x4 x5 x6 x7 x8).1 i = 1#1) : (i 1).val / 4 = (i 2).val / 64 := by
  have key : ∀ (r : Fin 8) (l : Fin 128), IntOp.cmpi .eq (IntOp.cmpi .sge (BitVec.ofNat 32 r.val) 4#32) (IntOp.cmpi .sge (BitVec.ofNat 32 l.val) 64#32) = 1#1 →
      r.val / 4 = l.val / 64 := by decide
  exact key (i 1) (i 2) h

/-- The sample attention's two arrays end at the reference's two results. -/
theorem algebraicAttend : Cert.algebraic_AttendSampleIdeal_AttendSampleReferenceIdeal_on_own_lanes := by
  intro m g m' g' hpre hag
  have hO := OkAttendSampleIdeal.ok_of_pre m hpre
  refine ⟨fun c => AttBlocks.ref0 m c, fun c => AttBlocks.ref1 m c, ?_, ?_⟩
  · refine (θ_run _ _ _).mono ?_ (θ_run_and (Cert.AttendSampleIdeal.Gen.run_main m g hO) (Cert.AttendSampleIdeal.Gen.unchanged m g hO))
    rintro r ⟨hr, hu⟩ c
    refine ⟨fun i hi => ?_, fun i _ => ?_, hu c⟩
    · exact (congrFun (Pipeline.FramePost.out_eq hr c 24) i).trans (AttBlocks.final24 m hO c hpre i (same_lanes _ _ _ _ _ _ _ _ _ i hi))
    · exact (congrFun (Pipeline.FramePost.out_eq hr c 25) i).trans (AttBlocks.final25 m hO c hpre i)
  · refine (θ_run _ _ _).mono ?_ (Cert.AttendSampleReferenceIdeal.Value.run m' g')
    intro r h c
    obtain ⟨h85, h87, hargs⟩ := h c
    obtain ⟨a0, a1, a2, a3, a4, a5, a6, a7, a8⟩ := hag c
    rw [Cert.AttendSampleReferenceIdeal.Read.val_main_v85_eq, a0, a1, a2, a3, a4, a5, a6, a7, a8] at h85
    rw [Cert.AttendSampleReferenceIdeal.Read.val_main_v87_eq, a2, a6] at h87
    exact ⟨fun i _ => congrFun h85 i, fun i _ => congrFun h87 i, hargs⟩

theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  Cert.ProjectSample.Gen.facts, Cert.ProjectSampleIdeal.Gen.facts, Cert.ProjectSampleReferenceIdeal.Gen.facts,
  Cert.Finish.Gen.facts, Cert.FinishIdeal.Gen.facts, Cert.FinishReferenceIdeal.Gen.facts,
  Cert.FinishSample.Gen.facts, Cert.FinishSampleIdeal.Gen.facts, Cert.FinishSampleReferenceIdeal.Gen.facts,
  Cert.AttendSample.Gen.facts, Cert.AttendSampleIdeal.Gen.facts, Cert.AttendSampleReferenceIdeal.Gen.facts,
  Cert.Pre_finite_paged.Gen.facts, Cert.Pre_finite_selected.Gen.facts, Cert.On_own_half.Gen.facts, Cert.On_own_lanes.Gen.facts,
  fun m ρ h => Cert.Kernel.Gen.frame m ρ (OkKernel.ok_of_pre m h),
  fun m ρ h => Cert.KernelIdeal.Gen.frame m ρ (OkKernelIdeal.ok_of_pre m h),
  fun m ρ _ => (θ_run _ _ _).mono (fun r h => ⟨fun c => (h c).2.2, Idealize.ShloMosaic.sem_eq_zero_of_no_sems (by decide) r.2⟩)
    (Cert.ReferenceIdeal.Value.run m ρ),
  fun m ρ _ => Cert.Project.Gen.frame m ρ,
  fun m ρ _ => Cert.ProjectIdeal.Gen.frame m ρ,
  fun m ρ _ => (θ_run _ _ _).mono (fun r h => ⟨fun c => (h c).2.2.2.2.2.2.2.2, Idealize.ShloMosaic.sem_eq_zero_of_no_sems (by decide) r.2⟩)
    (Cert.ProjectReferenceIdeal.Value.run m ρ),
  fun m ρ _ => Cert.ProjectSample.Gen.frame m ρ,
  fun m ρ _ => Cert.ProjectSampleIdeal.Gen.frame m ρ,
  fun m ρ _ => (θ_run _ _ _).mono (fun r h => ⟨fun c => (h c).2.2.2.2.2.2.2.2, Idealize.ShloMosaic.sem_eq_zero_of_no_sems (by decide) r.2⟩)
    (Cert.ProjectSampleReferenceIdeal.Value.run m ρ),
  fun m ρ _ => Cert.Finish.Gen.frame m ρ,
  fun m ρ _ => Cert.FinishIdeal.Gen.frame m ρ,
  fun m ρ _ => (θ_run _ _ _).mono (fun r h => ⟨fun c => (h c).2, Idealize.ShloMosaic.sem_eq_zero_of_no_sems (by decide) r.2⟩)
    (Cert.FinishReferenceIdeal.Value.run m ρ),
  fun m ρ _ => Cert.FinishSample.Gen.frame m ρ,
  fun m ρ _ => Cert.FinishSampleIdeal.Gen.frame m ρ,
  fun m ρ _ => (θ_run _ _ _).mono (fun r h => ⟨fun c => (h c).2.2, Idealize.ShloMosaic.sem_eq_zero_of_no_sems (by decide) r.2⟩)
    (Cert.FinishSampleReferenceIdeal.Value.run m ρ),
  fun m ρ h => Cert.AttendSample.Gen.frame m ρ (OkAttendSample.ok_of_pre m h),
  fun m ρ h => Cert.AttendSampleIdeal.Gen.frame m ρ (OkAttendSampleIdeal.ok_of_pre m h),
  fun m ρ _ => (θ_run _ _ _).mono (fun r h => ⟨fun c => (h c).2.2, Idealize.ShloMosaic.sem_eq_zero_of_no_sems (by decide) r.2⟩)
    (Cert.AttendSampleReferenceIdeal.Value.run m ρ),
  IdealRules.named_const.statement Cert.KernelIdeal.κ "mask" .f32 0xF149F2CA#32 ⊥ rfl,
  algebraic, trivial, ProjectEqual.algebraic, trivial, ProjectSampleEqual.algebraic,
  trivial, FinishEqual.algebraic, trivial, FinishSampleEqual.algebraic,
  IdealRules.named_const.statement Cert.AttendSampleIdeal.κ "mask" .f32 0xF149F2CA#32 ⊥ rfl, algebraicAttend⟩

end Cert.Proof

end
